-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_v202) = v1 c
          ∧ r.2.mem ((c.tc : Thread Cert.ReferenceIdeal.nD Cert.ReferenceIdeal.τ).loc Cert.ReferenceIdeal.main_v198) = v2 c
          ∧ r.2.mem ((c.tc : Thread Cert.ReferenceIdeal.nD Cert.ReferenceIdeal.τ).loc Cert.ReferenceIdeal.main_v194) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_v22) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v3) = v1 c
          ∧ r.2.mem ((c.tc : Thread Cert.Reference3Ideal.nD Cert.Reference3Ideal.τ).loc Cert.Reference3Ideal.main_v8) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)) (v4 : (c : Dev Cert.Kernel8Ideal.nD) → Buf (Elt Ideal) ((c.tc : Thread Cert.Kernel8Ideal.nD Cert.Kernel8Ideal.τ).loc Cert.Kernel8Ideal.main_v2_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_v2_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v86) = v0 c
          ∧ r.2.mem ((c.tc : Thread Cert.Reference8Ideal.nD Cert.Reference8Ideal.τ).loc Cert.Reference8Ideal.main_v62) = v1 c
          ∧ r.2.mem ((c.tc : Thread Cert.Reference8Ideal.nD Cert.Reference8Ideal.τ).loc Cert.Reference8Ideal.main_v39) = v2 c
          ∧ r.2.mem ((c.tc : Thread Cert.Reference8Ideal.nD Cert.Reference8Ideal.τ).loc Cert.Reference8Ideal.main_v84) = v3 c
          ∧ r.2.mem ((c.tc : Thread Cert.Reference8Ideal.nD Cert.Reference8Ideal.τ).loc Cert.Reference8Ideal.main_v63) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_v31) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S24x2064x64 : Shape := ⟨3, ![24, 2064, 64]⟩
abbrev S8x15x64x64 : Shape := ⟨4, ![8, 15, 64, 64]⟩
abbrev S8x2064x64 : Shape := ⟨3, ![8, 2064, 64]⟩
abbrev S_ : Shape := ⟨0, ![]⟩

class Facts : Prop where
  bcast_S_S24x2064x64 : S_.BroadcastsInDim S24x2064x64 (![] : Fin 0 → Fin S24x2064x64.rank)
  reducesTo_S24x2064x64_S_d0_1_2 : S24x2064x64.ReducesTo [0, 1, 2] S_
  h_S_ : 0 < S_.numel
  bcast_S_S8x15x64x64 : S_.BroadcastsInDim S8x15x64x64 (![] : Fin 0 → Fin S8x15x64x64.rank)
  reducesTo_S8x15x64x64_S_d0_1_2_3 : S8x15x64x64.ReducesTo [0, 1, 2, 3] S_
  bcast_S_S8x2064x64 : S_.BroadcastsInDim S8x2064x64 (![] : Fin 0 → Fin S8x2064x64.rank)
  reducesTo_S8x2064x64_S_d0_1_2 : S8x2064x64.ReducesTo [0, 1, 2] S_

variable [Facts]

def fn {F : FTy → Type} [FloatOps F] (main_arg0 : FVec F S24x2064x64 .f32) (main_arg1 : FVec F S8x15x64x64 .f32) (main_arg2 : FVec F S8x2064x64 .f32) : IVec S_ 1 :=
  let main_v0 : FVec F S24x2064x64 .f32 := Host.absf main_arg0
  let main_cst : FVec F S_ .f32 := constant S_ .f32 0x7F800000#32
  let main_v1 : FVec F S24x2064x64 .f32 := broadcastInDim S24x2064x64 ![] bcast_S_S24x2064x64 main_cst
  let main_v2 : IVec S24x2064x64 1 := cmpf .olt main_v0 main_v1
  let main_c : IVec S_ 1 := constantI S_ 1 1#1
  let main_v3 : IVec S_ 1 := (fun x v => Host.reduce IntOp.andi x v reducesTo_S24x2064x64_S_d0_1_2 h_S_) main_v2 main_c
  let main_v4 : FVec F S8x15x64x64 .f32 := Host.absf main_arg1
  let main_cst_0 : FVec F S_ .f32 := constant S_ .f32 0x7F800000#32
  let main_v5 : FVec F S8x15x64x64 .f32 := broadcastInDim S8x15x64x64 ![] bcast_S_S8x15x64x64 main_cst_0
  let main_v6 : IVec S8x15x64x64 1 := cmpf .olt main_v4 main_v5
  let main_c_1 : IVec S_ 1 := constantI S_ 1 1#1
  let main_v7 : IVec S_ 1 := (fun x v => Host.reduce IntOp.andi x v reducesTo_S8x15x64x64_S_d0_1_2_3 h_S_) main_v6 main_c_1
  let main_v8 : IVec S_ 1 := andi main_v3 main_v7
  let main_v9 : FVec F S8x2064x64 .f32 := Host.absf main_arg2
  let main_cst_2 : FVec F S_ .f32 := constant S_ .f32 0x7F800000#32
  let main_v10 : FVec F S8x2064x64 .f32 := broadcastInDim S8x2064x64 ![] bcast_S_S8x2064x64 main_cst_2
  let main_v11 : IVec S8x2064x64 1 := cmpf .olt main_v9 main_v10
  let main_c_3 : IVec S_ 1 := constantI S_ 1 1#1
  let main_v12 : IVec S_ 1 := (fun x v => Host.reduce IntOp.andi x v reducesTo_S8x2064x64_S_d0_1_2 h_S_) main_v11 main_c_3
  let main_v13 : IVec S_ 1 := andi main_v8 main_v12
  main_v13
-- ==== Pre_finite2.lean ====
abbrev S2064x1024 : Shape := ⟨2, ![2064, 1024]⟩
abbrev S1024x2816 : Shape := ⟨2, ![1024, 2816]⟩
abbrev S2816x1024 : Shape := ⟨2, ![2816, 1024]⟩
abbrev S_ : Shape := ⟨0, ![]⟩

class Facts : Prop where
  bcast_S_S2064x1024 : S_.BroadcastsInDim S2064x1024 (![] : Fin 0 → Fin S2064x1024.rank)
  reducesTo_S2064x1024_S_d0_1 : S2064x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2064x1024 1) : IVec S_ 1 :=
  let main_c_5 : IVec S_ 1 := constantI S_ 1 1#1
  let main_v17 : IVec S_ 1 := (fun x v => Host.reduce IntOp.andi x v reducesTo_S2064x1024_S_d0_1 h_S_) main_v16 main_c_5
  let main_v18 : IVec S_ 1 := andi main_v13 main_v17
  main_v18

def fn {F : FTy → Type} [FloatOps F] (main_arg0 : FVec F S2064x1024 .f32) (main_arg1 : FVec F S1024x2816 .f32) (main_arg2 : FVec F S1024x2816 .f32) (main_arg3 : FVec F S2816x1024 .f32) (main_arg4 : FVec F S2064x1024 .f32) : IVec S_ 1 :=
  let main_v0 : FVec F S2064x1024 .f32 := Host.absf main_arg0
  let main_cst : FVec F S_ .f32 := constant S_ .f32 0x7F800000#32
  let main_v1 : FVec F S2064x1024 .f32 := broadcastInDim S2064x1024 ![] bcast_S_S2064x1024 main_cst
  let main_v2 : IVec S2064x1024 1 := cmpf .olt main_v0 main_v1
  let main_c : IVec S_ 1 := constantI S_ 1 1#1
  let main_v3 : IVec S_ 1 := (fun x v => Host.reduce IntOp.andi x v reducesTo_S2064x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2064x1024 .f32 := Host.absf main_arg4
  let main_cst_4 : FVec F S_ .f32 := constant S_ .f32 0x7F800000#32
  let main_v15 : FVec F S2064x1024 .f32 := broadcastInDim S2064x1024 ![] bcast_S_S2064x1024 main_cst_4
  let main_v16 : IVec S2064x1024 1 := cmpf .olt main_v14 main_v15
  fn_part1 (F := F) main_v13 main_v16
-- ==== Kernel.lean ====
abbrev S24x2064x64 : Shape := ⟨3, ![24, 2064, 64]⟩
abbrev S8x15x64x64 : Shape := ⟨4, ![8, 15, 64, 64]⟩
abbrev S8x2064x64 : Shape := ⟨3, ![8, 2064, 64]⟩
abbrev S1x2064x64 : Shape := ⟨3, ![1, 2064, 64]⟩
abbrev S1x15x64x64 : Shape := ⟨4, ![1, 15, 64, 64]⟩
abbrev S3x256x704 : Shape := ⟨3, ![3, 256, 704]⟩
abbrev S1x1x64x64 : Shape := ⟨4, ![1, 1, 64, 64]⟩
abbrev S64x64 : Shape := ⟨2, ![64, 64]⟩
abbrev S1x64x64 : Shape := ⟨3, ![1, 64, 64]⟩
abbrev S1x16x64 : Shape := ⟨3, ![1, 16, 64]⟩
abbrev S16x64 : Shape := ⟨2, ![16, 64]⟩
abbrev S2064x64 : Shape := ⟨2, ![2064, 64]⟩
abbrev S16x16 : Shape := ⟨2, ![16, 16]⟩
abbrev S16 : Shape := ⟨1, ![16]⟩
abbrev S16x1 : Shape := ⟨2, ![16, 1]⟩
abbrev S1x256x64 : Shape := ⟨3, ![1, 256, 64]⟩
abbrev S256x64 : Shape := ⟨2, ![256, 64]⟩
abbrev S1x704x64 : Shape := ⟨3, ![1, 704, 64]⟩
abbrev S704x64 : Shape := ⟨2, ![704, 64]⟩
abbrev S1x256x704 : Shape := ⟨3, ![1, 256, 704]⟩
abbrev S256x704 : Shape := ⟨2, ![256, 704]⟩
abbrev S256x16 : Shape := ⟨2, ![256, 16]⟩
abbrev S256 : Shape := ⟨1, ![256]⟩
abbrev S256x1 : Shape := ⟨2, ![256, 1]⟩

abbrev nBuf : Space → Nat
  | .hbm => 7
  | .vmem => 20
  | .smem => 0
  | _ => 0

abbrev bufTy : (tb : Table) → Fin (tcTables nBuf tb) → BufTy
  | .hbm, ⟨0, _⟩ => ⟨S24x2064x64, .f32⟩
  | .hbm, ⟨1, _⟩ => ⟨S8x15x64x64, .f32⟩
  | .hbm, ⟨2, _⟩ => ⟨S8x2064x64, .f32⟩
  | .hbm, ⟨3, _⟩ => ⟨S8x2064x64, .f32⟩
  | .hbm, ⟨4, _⟩ => ⟨S8x2064x64, .f32⟩
  | .hbm, ⟨5, _⟩ => ⟨S8x2064x64, .f32⟩
  | .hbm, ⟨6, _⟩ => ⟨S8x15x64x64, .f32⟩
  | .local _ .vmem, ⟨0, _⟩ => ⟨S1x2064x64, .f32⟩
  | .local _ .vmem, ⟨1, _⟩ => ⟨S1x2064x64, .f32⟩
  | .local _ .vmem, ⟨2, _⟩ => ⟨S1x2064x64, .f32⟩
  | .local _ .vmem, ⟨3, _⟩ => ⟨S1x2064x64, .f32⟩
  | .local _ .vmem, ⟨4, _⟩ => ⟨S1x2064x64, .f32⟩
  | .local _ .vmem, ⟨5, _⟩ => ⟨S1x2064x64, .f32⟩
  | .local _ .vmem, ⟨6, _⟩ => ⟨S1x15x64x64, .f32⟩
  | .local _ .vmem, ⟨7, _⟩ => ⟨S1x15x64x64, .f32⟩
  | .local _ .vmem, ⟨8, _⟩ => ⟨S1x2064x64, .f32⟩
  | .local _ .vmem, ⟨9, _⟩ => ⟨S1x2064x64, .f32⟩
  | .local _ .vmem, ⟨10, _⟩ => ⟨S1x2064x64, .f32⟩
  | .local _ .vmem, ⟨11, _⟩ => ⟨S1x2064x64, .f32⟩
  | .local _ .vmem, ⟨12, _⟩ => ⟨S1x2064x64, .f32⟩
  | .local _ .vmem, ⟨13, _⟩ => ⟨S1x2064x64, .f32⟩
  | .local _ .vmem, ⟨14, _⟩ => ⟨S1x2064x64, .f32⟩
  | .local _ .vmem, ⟨15, _⟩ => ⟨S1x2064x64, .f32⟩
  | .local _ .vmem, ⟨16, _⟩ => ⟨S1x15x64x64, .f32⟩
  | .local _ .vmem, ⟨17, _⟩ => ⟨S1x15x64x64, .f32⟩
  | .local _ .vmem, ⟨18, _⟩ => ⟨S3x256x704, .f32⟩
  | .local _ .vmem, ⟨19, _⟩ => ⟨S3x256x704, .f32⟩
  | _, _ => ⟨S24x2064x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_1 (i : grid0.Coords) : Fin 3 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2064x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2064x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2064x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x15x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2064x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2064x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2064x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2064x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x15x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S24x2064x64 : Shape := ⟨3, ![24, 2064, 64]⟩
abbrev S8x15x64x64 : Shape := ⟨4, ![8, 15, 64, 64]⟩
abbrev S8x2064x64 : Shape := ⟨3, ![8, 2064, 64]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S8x16x64 : Shape := ⟨3, ![8, 16, 64]⟩
abbrev S8x2048x64 : Shape := ⟨3, ![8, 2048, 64]⟩
abbrev S8x32x64x64 : Shape := ⟨4, ![8, 32, 64, 64]⟩
abbrev S32x8x1 : Shape := ⟨3, ![32, 8, 1]⟩
abbrev S8x32x8x64x64 : Shape := ⟨5, ![8, 32, 8, 64, 64]⟩
abbrev S8x32x64x8x64 : Shape := ⟨5, ![8, 32, 64, 8, 64]⟩
abbrev S8x32x64x512 : Shape := ⟨4, ![8, 32, 64, 512]⟩
abbrev S8x32x512x64 : Shape := ⟨4, ![8, 32, 512, 64]⟩
abbrev S8x32x64x16 : Shape := ⟨4, ![8, 32, 64, 16]⟩
abbrev S8x32x64x528 : Shape := ⟨4, ![8, 32, 64, 528]⟩
abbrev S8x32x64 : Shape := ⟨3, ![8, 32, 64]⟩
abbrev S8x32x64x1 : Shape := ⟨4, ![8, 32, 64, 1]⟩
abbrev S8x16x16 : Shape := ⟨3, ![8, 16, 16]⟩
abbrev S8x16 : Shape := ⟨2, ![8, 16]⟩
abbrev S8x16x1 : Shape := ⟨3, ![8, 16, 1]⟩
abbrev S8x64x16 : Shape := ⟨3, ![8, 64, 16]⟩

abbrev nBuf : Space → Nat
  | .hbm => 267
  | .vmem => 0
  | .smem => 0
  | _ => 0

abbrev hbmTy0_0 (i : Nat) : BufTy := match i % 128 with
  | 0 => ⟨S24x2064x64, .f32⟩
  | 1 => ⟨S8x15x64x64, .f32⟩
  | 2 => ⟨S8x2064x64, .f32⟩
  | 3 => ⟨S8x2064x64, .f32⟩
  | 4 => ⟨S8x2064x64, .f32⟩
  | 5 => ⟨S8x2064x64, .f32⟩
  | 6 => ⟨S32, .i32⟩
  | 7 => ⟨S_, .i32⟩
  | 8 => ⟨S32, .i32⟩
  | 9 => ⟨S32, .i32⟩
  | 10 => ⟨S_, .i32⟩
  | 11 => ⟨S_, .i32⟩
  | 12 => ⟨S_, .i32⟩
  | 13 => ⟨S32, .i32⟩
  | 14 => ⟨S32, .i32⟩
  | 15 => ⟨S_, .i32⟩
  | 16 => ⟨S32, .i32⟩
  | 17 => ⟨S32, .i32⟩
  | 18 => ⟨S32x1, .i32⟩
  | 19 => ⟨S8, .i32⟩
  | 20 => ⟨S1x8, .i32⟩
  | 21 => ⟨S32x8, .i32⟩
  | 22 => ⟨S32x8, .i32⟩
  | 23 => ⟨S32x8, .i32⟩
  | 24 => ⟨S32x1, .i32⟩
  | 25 => ⟨S32x8, .i32⟩
  | 26 => ⟨S32x8, .i32⟩
  | 27 => ⟨S_, .i32⟩
  | 28 => ⟨S32x8, .i32⟩
  | 29 => ⟨S32x8, .i32⟩
  | 30 => ⟨S_, .i32⟩
  | 31 => ⟨S32x8, .i32⟩
  | 32 => ⟨S32x8, .i32⟩
  | 33 => ⟨S8x16x64, .f32⟩
  | 34 => ⟨S8x2048x64, .f32⟩
  | 35 => ⟨S8x32x64x64, .f32⟩
  | 36 => ⟨S8x16x64, .f32⟩
  | 37 => ⟨S8x2048x64, .f32⟩
  | 38 => ⟨S8x32x64x64, .f32⟩
  | 39 => ⟨S8x16x64, .f32⟩
  | 40 => ⟨S8x2048x64, .f32⟩
  | 41 => ⟨S8x32x64x64, .f32⟩
  | 42 => ⟨S_, .i32⟩
  | 43 => ⟨S32x8, .i32⟩
  | 44 => ⟨S32x8, .i1⟩
  | 45 => ⟨S_, .i32⟩
  | 46 => ⟨S32x8, .i32⟩
  | 47 => ⟨S32x8, .i32⟩
  | 48 => ⟨S32x8, .i32⟩
  | 49 => ⟨S32x8x1, .i32⟩
  | 50 => ⟨S8x32x8x64x64, .f32⟩
  | 51 => ⟨S8x32x64x8x64, .f32⟩
  | 52 => ⟨S8x32x64x512, .f32⟩
  | 53 => ⟨S_, .i32⟩
  | 54 => ⟨S32x8, .i32⟩
  | 55 => ⟨S32x8, .i1⟩
  | 56 => ⟨S_, .i32⟩
  | 57 => ⟨S32x8, .i32⟩
  | 58 => ⟨S32x8, .i32⟩
  | 59 => ⟨S32x8, .i32⟩
  | 60 => ⟨S32x8x1, .i32⟩
  | 61 => ⟨S8x32x8x64x64, .f32⟩
  | 62 => ⟨S8x32x512x64, .f32⟩
  | 63 => ⟨S_, .i32⟩
  | 64 => ⟨S32x8, .i32⟩
  | 65 => ⟨S32x8, .i1⟩
  | 66 => ⟨S_, .i32⟩
  | 67 => ⟨S32x8, .i32⟩
  | 68 => ⟨S32x8, .i32⟩
  | 69 => ⟨S32x8, .i32⟩
  | 70 => ⟨S32x8x1, .i32⟩
  | 71 => ⟨S8x32x8x64x64, .f32⟩
  | 72 => ⟨S8x32x512x64, .f32⟩
  | 73 => ⟨S8x32x64x512, .f32⟩
  | 74 => ⟨S_, .f32⟩
  | 75 => ⟨S8x32x64x512, .f32⟩
  | 76 => ⟨S8x32x64x512, .f32⟩
  | 77 => ⟨S8x32x64x512, .f32⟩
  | 78 => ⟨S8x32x64x16, .f32⟩
  | 79 => ⟨S_, .f32⟩
  | 80 => ⟨S8x32x64x16, .f32⟩
  | 81 => ⟨S8x32x64x16, .f32⟩
  | 82 => ⟨S8x32x64x528, .f32⟩
  | 83 => ⟨S_, .f32⟩
  | 84 => ⟨S8x32x64, .f32⟩
  | 85 => ⟨S8x32x64x1, .f32⟩
  | 86 => ⟨S8x32x64x528, .f32⟩
  | 87 => ⟨S8x32x64x528, .i1⟩
  | 88 => ⟨S8x32x64x528, .f32⟩
  | 89 => ⟨S_, .f32⟩
  | 90 => ⟨S8x32x64, .f32⟩
  | 91 => ⟨S_, .f32⟩
  | 92 => ⟨S8x32x64, .f32⟩
  | 93 => ⟨S8x32x64, .f32⟩
  | 94 => ⟨S_, .f32⟩
  | 95 => ⟨S8x32x64, .f32⟩
  | 96 => ⟨S8x32x64, .i1⟩
  | 97 => ⟨S_, .f32⟩
  | 98 => ⟨S8x32x64, .f32⟩
  | 99 => ⟨S8x32x64, .i1⟩
  | 100 => ⟨S_, .f32⟩
  | 101 => ⟨S8x32x64, .f32⟩
  | 102 => ⟨S_, .f32⟩
  | 103 => ⟨S8x32x64, .f32⟩
  | 104 => ⟨S_, .f32⟩
  | 105 => ⟨S8x32x64, .f32⟩
  | 106 => ⟨S8x32x64, .f32⟩
  | 107 => ⟨S8x32x64, .f32⟩
  | 108 => ⟨S8x32x64x1, .f32⟩
  | 109 => ⟨S8x32x64x528, .f32⟩
  | 110 => ⟨S8x32x64x528, .f32⟩
  | 111 => ⟨S8x32x64x528, .f32⟩
  | 112 => ⟨S_, .f32⟩
  | 113 => ⟨S8x32x64, .f32⟩
  | 114 => ⟨S8x32x64x1, .f32⟩
  | 115 => ⟨S8x32x64x528, .f32⟩
  | 116 => ⟨S8x32x64x528, .f32⟩
  | 117 => ⟨S8x32x64x1, .f32⟩
  | 118 => ⟨S_, .f32⟩
  | 119 => ⟨S8x32x64x1, .f32⟩
  | 120 => ⟨S8x32x64x1, .f32⟩
  | 121 => ⟨S8x32x64x512, .f32⟩
  | 122 => ⟨S8x32x64x16, .f32⟩
  | 123 => ⟨S8x32x64x64, .f32⟩
  | 124 => ⟨S8x32x64x64, .f32⟩
  | 125 => ⟨S8x32x64x64, .f32⟩
  | 126 => ⟨S8x16x16, .f32⟩
  | 127 => ⟨S_, .f32⟩
  | _ => ⟨S24x2064x64, .f32⟩

abbrev hbmTy0_1 (i : Nat) : BufTy := match i % 128 with
  | 0 => ⟨S8x16x16, .f32⟩
  | 1 => ⟨S8x16x16, .f32⟩
  | 2 => ⟨S_, .f32⟩
  | 3 => ⟨S8x16, .f32⟩
  | 4 => ⟨S8x16x1, .f32⟩
  | 5 => ⟨S8x16x16, .f32⟩
  | 6 => ⟨S8x16x16, .i1⟩
  | 7 => ⟨S8x16x16, .f32⟩
  | 8 => ⟨S_, .f32⟩
  | 9 => ⟨S8x16, .f32⟩
  | 10 => ⟨S_, .f32⟩
  | 11 => ⟨S8x16, .f32⟩
  | 12 => ⟨S8x16, .f32⟩
  | 13 => ⟨S_, .f32⟩
  | 14 => ⟨S8x16, .f32⟩
  | 15 => ⟨S8x16, .i1⟩
  | 16 => ⟨S_, .f32⟩
  | 17 => ⟨S8x16, .f32⟩
  | 18 => ⟨S8x16, .i1⟩
  | 19 => ⟨S_, .f32⟩
  | 20 => ⟨S8x16, .f32⟩
  | 21 => ⟨S_, .f32⟩
  | 22 => ⟨S8x16, .f32⟩
  | 23 => ⟨S_, .f32⟩
  | 24 => ⟨S8x16, .f32⟩
  | 25 => ⟨S8x16, .f32⟩
  | 26 => ⟨S8x16, .f32⟩
  | 27 => ⟨S8x16x1, .f32⟩
  | 28 => ⟨S8x16x16, .f32⟩
  | 29 => ⟨S8x16x16, .f32⟩
  | 30 => ⟨S8x16x16, .f32⟩
  | 31 => ⟨S_, .f32⟩
  | 32 => ⟨S8x16, .f32⟩
  | 33 => ⟨S8x16x1, .f32⟩
  | 34 => ⟨S8x16x16, .f32⟩
  | 35 => ⟨S8x16x16, .f32⟩
  | 36 => ⟨S8x16x1, .f32⟩
  | 37 => ⟨S_, .f32⟩
  | 38 => ⟨S8x16x1, .f32⟩
  | 39 => ⟨S8x16x1, .f32⟩
  | 40 => ⟨S8x16x64, .f32⟩
  | 41 => ⟨S8x2048x64, .f32⟩
  | 42 => ⟨S8x2064x64, .f32⟩
  | 43 => ⟨S8x16x64, .f32⟩
  | 44 => ⟨S8x2048x64, .f32⟩
  | 45 => ⟨S8x32x64x64, .f32⟩
  | 46 => ⟨S8x64x16, .f32⟩
  | 47 => ⟨S8x16x64, .f32⟩
  | 48 => ⟨S8x16x16, .f32⟩
  | 49 => ⟨S8x16x16, .f32⟩
  | 50 => ⟨S8x16x16, .f32⟩
  | 51 => ⟨S8x16x16, .f32⟩
  | 52 => ⟨S_, .f32⟩
  | 53 => ⟨S8x16, .f32⟩
  | 54 => ⟨S8x16x1, .f32⟩
  | 55 => ⟨S8x16x1, .f32⟩
  | 56 => ⟨S8x16x16, .f32⟩
  | 57 => ⟨S8x16x16, .f32⟩
  | 58 => ⟨S_, .f32⟩
  | 59 => ⟨S8x16, .f32⟩
  | 60 => ⟨S8x16x16, .f32⟩
  | 61 => ⟨S8x16x16, .f32⟩
  | 62 => ⟨S8x16x16, .f32⟩
  | 63 => ⟨S_, .f32⟩
  | 64 => ⟨S8x16x16, .f32⟩
  | 65 => ⟨S8x16x16, .f32⟩
  | 66 => ⟨S8x16x64, .f32⟩
  | 67 => ⟨S8x16x64, .f32⟩
  | 68 => ⟨S8x64x16, .f32⟩
  | 69 => ⟨S8x16x64, .f32⟩
  | 70 => ⟨S8x16x64, .f32⟩
  | 71 => ⟨S8x32x64x16, .f32⟩
  | 72 => ⟨S8x32x64x512, .f32⟩
  | 73 => ⟨S8x32x512x64, .f32⟩
  | 74 => ⟨S8x32x64x512, .f32⟩
  | 75 => ⟨S_, .f32⟩
  | 76 => ⟨S8x32x64x528, .f32⟩
  | 77 => ⟨S_, .f32⟩
  | 78 => ⟨S8x32x64x528, .f32⟩
  | 79 => ⟨S8x32x64x528, .f32⟩
  | 80 => ⟨S8x32x64x528, .f32⟩
  | 81 => ⟨S8x32x64x528, .f32⟩
  | 82 => ⟨S8x32x64x528, .f32⟩
  | 83 => ⟨S_, .f32⟩
  | 84 => ⟨S8x32x64, .f32⟩
  | 85 => ⟨S8x32x64x1, .f32⟩
  | 86 => ⟨S8x32x64x1, .f32⟩
  | 87 => ⟨S8x32x64x528, .f32⟩
  | 88 => ⟨S8x32x64x528, .f32⟩
  | 89 => ⟨S_, .f32⟩
  | 90 => ⟨S8x32x64, .f32⟩
  | 91 => ⟨S8x32x64x528, .f32⟩
  | 92 => ⟨S8x32x64x528, .f32⟩
  | 93 => ⟨S8x32x64x528, .f32⟩
  | 94 => ⟨S8x32x64x512, .f32⟩
  | 95 => ⟨S8x32x64x16, .f32⟩
  | 96 => ⟨S_, .f32⟩
  | 97 => ⟨S8x32x64x16, .f32⟩
  | 98 => ⟨S8x32x64x16, .f32⟩
  | 99 => ⟨S8x16x64, .f32⟩
  | 100 => ⟨S8x16x64, .f32⟩
  | 101 => ⟨S8x32x64x64, .f32⟩
  | 102 => ⟨S_, .f32⟩
  | 103 => ⟨S8x32x64x512, .f32⟩
  | 104 => ⟨S8x32x64x512, .f32⟩
  | 105 => ⟨S8x32x512x64, .f32⟩
  | 106 => ⟨S8x32x64x64, .f32⟩
  | 107 => ⟨S8x32x64x64, .f32⟩
  | 108 => ⟨S8x32x8x64x64, .f32⟩
  | 109 => ⟨S_, .f32⟩
  | 110 => ⟨S8x32x64x64, .f32⟩
  | 111 => ⟨S8x32x64x64, .f32⟩
  | 112 => ⟨S8x32x8x64x64, .f32⟩
  | 113 => ⟨S_, .f32⟩
  | 114 => ⟨S8x32x64x64, .f32⟩
  | 115 => ⟨S8x32x64x64, .f32⟩
  | 116 => ⟨S8x32x64x8x64, .f32⟩
  | 117 => ⟨S8x32x8x64x64, .f32⟩
  | 118 => ⟨S_, .f32⟩
  | 119 => ⟨S8x15x64x64, .f32⟩
  | 120 => ⟨S8x15x64x64, .f32⟩
  | 121 => ⟨S8x2048x64, .f32⟩
  | 122 => ⟨S_, .f32⟩
  | 123 => ⟨S8x2064x64, .f32⟩
  | 124 => ⟨S_, .f32⟩
  | 125 => ⟨S8x2064x64, .f32⟩
  | 126 => ⟨S8x2064x64, .f32⟩
  | 127 => ⟨S8x2048x64, .f32⟩
  | _ => ⟨S24x2064x64, .f32⟩

abbrev hbmTy0_2 (i : Nat) : BufTy := match i % 128 with
  | 0 => ⟨S_, .f32⟩
  | 1 => ⟨S8x2064x64, .f32⟩
  | 2 => ⟨S_, .f32⟩
  | 3 => ⟨S8x2064x64, .f32⟩
  | 4 => ⟨S8x2064x64, .f32⟩
  | 5 => ⟨S8x2048x64, .f32⟩
  | 6 => ⟨S_, .f32⟩
  | 7 => ⟨S8x2064x64, .f32⟩
  | 8 => ⟨S_, .f32⟩
  | 9 => ⟨S8x2064x64, .f32⟩
  | 10 => ⟨S8x2064x64, .f32⟩
  | _ => ⟨S24x2064x64, .f32⟩

abbrev hbmTy (i : Nat) : BufTy := match i / 128 with
  | 0 => hbmTy0_0 i
  | 1 => hbmTy0_1 i
  | 2 => hbmTy0_2 i
  | _ => ⟨S24x2064x64, .f32⟩

abbrev bufTy : (tb : Table) → Fin (tcTables nBuf tb) → BufTy
  | .hbm, ⟨i, _⟩ => hbmTy i
  | _, _ => ⟨S24x2064x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_cst_13 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_cst_17 : Ref sig .tc := ⟨.hbm, 102, rfl⟩
abbrev main_v75 : Ref sig .tc := ⟨.hbm, 103, rfl⟩
abbrev main_cst_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_19 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_20 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_21 : Ref sig .tc := ⟨.hbm, 127, rfl⟩
abbrev main_v96 : Ref sig .tc := ⟨.hbm, 128, rfl⟩
abbrev main_v97 : Ref sig .tc := ⟨.hbm, 129, rfl⟩
abbrev main_cst_22 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_23 : Ref sig .tc := ⟨.hbm, 136, rfl⟩
abbrev main_v103 : Ref sig .tc := ⟨.hbm, 137, rfl⟩
abbrev main_cst_24 : Ref sig .tc := ⟨.hbm, 138, rfl⟩
abbrev main_v104 : Ref sig .tc := ⟨.hbm, 139, rfl⟩
abbrev main_v105 : Ref sig .tc := ⟨.hbm, 140, rfl⟩
abbrev main_cst_25 : Ref sig .tc := ⟨.hbm, 141, rfl⟩
abbrev main_v106 : Ref sig .tc := ⟨.hbm, 142, rfl⟩
abbrev main_v107 : Ref sig .tc := ⟨.hbm, 143, rfl⟩
abbrev main_cst_26 : Ref sig .tc := ⟨.hbm, 144, rfl⟩
abbrev main_v108 : Ref sig .tc := ⟨.hbm, 145, rfl⟩
abbrev main_v109 : Ref sig .tc := ⟨.hbm, 146, rfl⟩
abbrev main_cst_27 : Ref sig .tc := ⟨.hbm, 147, rfl⟩
abbrev main_v110 : Ref sig .tc := ⟨.hbm, 148, rfl⟩
abbrev main_cst_28 : Ref sig .tc := ⟨.hbm, 149, rfl⟩
abbrev main_v111 : Ref sig .tc := ⟨.hbm, 150, rfl⟩
abbrev main_cst_29 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_30 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_31 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_32 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_33 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_34 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_cst_35 : Ref sig .tc := ⟨.hbm, 203, rfl⟩
abbrev main_v158 : Ref sig .tc := ⟨.hbm, 204, rfl⟩
abbrev main_cst_36 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_cst_37 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_38 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_cst_39 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_cst_40 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_cst_41 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_cst_42 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_cst_43 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_cst_44 : Ref sig .tc := ⟨.hbm, 250, rfl⟩
abbrev main_v196 : Ref sig .tc := ⟨.hbm, 251, rfl⟩
abbrev main_cst_45 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_cst_46 : Ref sig .tc := ⟨.hbm, 256, rfl⟩
abbrev main_v200 : Ref sig .tc := ⟨.hbm, 257, rfl⟩
abbrev main_cst_47 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_cst_48 : Ref sig .tc := ⟨.hbm, 262, rfl⟩
abbrev main_v204 : Ref sig .tc := ⟨.hbm, 263, rfl⟩
abbrev main_cst_49 : Ref sig .tc := ⟨.hbm, 264, rfl⟩
abbrev main_v205 : Ref sig .tc := ⟨.hbm, 265, rfl⟩
abbrev main_v206 : Ref sig .tc := ⟨.hbm, 266, rfl⟩

abbrev nD : Nat := 1
abbrev τ : Topo := Topo.v7x

variable {F : FTy → Type} [FloatOps F]

def κ : String → Option EReal := fun
  | "mask" => some ⊥
  | _ => none
-- ==== Kernel2.lean ====
abbrev S2064x1024 : Shape := ⟨2, ![2064, 1024]⟩
abbrev S1024x2816 : Shape := ⟨2, ![1024, 2816]⟩
abbrev S2816x1024 : Shape := ⟨2, ![2816, 1024]⟩
abbrev S2064x2816 : Shape := ⟨2, ![2064, 2816]⟩
abbrev S2064x256 : Shape := ⟨2, ![2064, 256]⟩
abbrev S256x1024 : Shape := ⟨2, ![256, 1024]⟩
abbrev S688x1024 : Shape := ⟨2, ![688, 1024]⟩
abbrev S688x256 : Shape := ⟨2, ![688, 256]⟩

abbrev nBuf : Space → Nat
  | .hbm => 20
  | .vmem => 22
  | .smem => 0
  | _ => 0

abbrev bufTy : (tb : Table) → Fin (tcTables nBuf tb) → BufTy
  | .hbm, ⟨0, _⟩ => ⟨S2064x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2064x1024, .f32⟩
  | .hbm, ⟨5, _⟩ => ⟨S2064x2816, .f32⟩
  | .hbm, ⟨6, _⟩ => ⟨S2064x2816, .bf16⟩
  | .hbm, ⟨7, _⟩ => ⟨S2064x2816, .f32⟩
  | .hbm, ⟨8, _⟩ => ⟨S2064x2816, .bf16⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S2064x1024, .bf16⟩
  | .hbm, ⟨14, _⟩ => ⟨S2064x1024, .bf16⟩
  | .hbm, ⟨15, _⟩ => ⟨S2816x1024, .bf16⟩
  | .hbm, ⟨16, _⟩ => ⟨S2064x1024, .f32⟩
  | .hbm, ⟨17, _⟩ => ⟨S2816x1024, .bf16⟩
  | .hbm, ⟨18, _⟩ => ⟨S2816x1024, .bf16⟩
  | .hbm, ⟨19, _⟩ => ⟨S2816x1024, .bf16⟩
  | .local _ .vmem, ⟨0, _⟩ => ⟨S2064x1024, .bf16⟩
  | .local _ .vmem, ⟨1, _⟩ => ⟨S2064x1024, .bf16⟩
  | .local _ .vmem, ⟨2, _⟩ => ⟨S2064x256, .bf16⟩
  | .local _ .vmem, ⟨3, _⟩ => ⟨S2064x256, .bf16⟩
  | .local _ .vmem, ⟨4, _⟩ => ⟨S2064x256, .bf16⟩
  | .local _ .vmem, ⟨5, _⟩ => ⟨S2064x256, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S2064x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_26 : BitVec 32 := 0#32
  let v49 : BitVec 1 := Scalar.cmpi .ne v48 c0_i32_26
  v49

def k0_cond2 (i : grid0.Coords) : BitVec 1 :=
  let arg0 : BitVec 32 := BitVec.ofNat 32 (i 0).val
  let c0_i32_27 : BitVec 32 := 0#32
  let v50 : BitVec 1 := Scalar.cmpi .ne arg0 c0_i32_27
  let v51 : BitVec 32 := Scalar.extui v50
  let c0_i32_28 : BitVec 32 := 0#32
  let v52 : BitVec 1 := Scalar.cmpi .ne v51 c0_i32_28
  v52

def k0_cond3 (i : grid0.Coords) : BitVec 1 :=
  let arg0 : BitVec 32 := BitVec.ofNat 32 (i 0).val
  let c0_i32_62 : BitVec 32 := 0#32
  let v106 : BitVec 1 := Scalar.cmpi .eq arg0 c0_i32_62
  let v107 : BitVec 32 := Scalar.extui v106
  let c0_i32_63 : BitVec 32 := 0#32
  let v108 : BitVec 1 := Scalar.cmpi .ne v107 c0_i32_63
  v108

def k0_cond4 (i : grid0.Coords) : BitVec 1 :=
  let arg0 : BitVec 32 := BitVec.ofNat 32 (i 0).val
  let c0_i32_64 : BitVec 32 := 0#32
  let v109 : BitVec 1 := Scalar.cmpi .ne arg0 c0_i32_64
  let v110 : BitVec 32 := Scalar.extui v109
  let c0_i32_65 : BitVec 32 := 0#32
  let v111 : BitVec 1 := Scalar.cmpi .ne v110 c0_i32_65
  v111

def k0_cond5 (i : grid0.Coords) : BitVec 1 :=
  let arg0 : BitVec 32 := BitVec.ofNat 32 (i 0).val
  let c0_i32_99 : BitVec 32 := 0#32
  let v165 : BitVec 1 := Scalar.cmpi .eq arg0 c0_i32_99
  let v166 : BitVec 32 := Scalar.extui v165
  let c0_i32_100 : BitVec 32 := 0#32
  let v167 : BitVec 1 := Scalar.cmpi .ne v166 c0_i32_100
  v167

def k0_cond6 (i : grid0.Coords) : BitVec 1 :=
  let arg0 : BitVec 32 := BitVec.ofNat 32 (i 0).val
  let c0_i32_101 : BitVec 32 := 0#32
  let v168 : BitVec 1 := Scalar.cmpi .ne arg0 c0_i32_101
  let v169 : BitVec 32 := Scalar.extui v168
  let c0_i32_102 : BitVec 32 := 0#32
  let v170 : BitVec 1 := Scalar.cmpi .ne v169 c0_i32_102
  v170

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2064x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2064x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2064x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2064x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2064x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S2064x1024 : Shape := ⟨2, ![2064, 1024]⟩
abbrev S1024x2816 : Shape := ⟨2, ![1024, 2816]⟩
abbrev S2816x1024 : Shape := ⟨2, ![2816, 1024]⟩
abbrev S2064x2816 : Shape := ⟨2, ![2064, 2816]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2064x1024, .f32⟩
  | .hbm, ⟨5, _⟩ => ⟨S2064x2816, .f32⟩
  | .hbm, ⟨6, _⟩ => ⟨S2064x2816, .f32⟩
  | .hbm, ⟨7, _⟩ => ⟨S2064x2816, .f32⟩
  | .hbm, ⟨8, _⟩ => ⟨S_, .f32⟩
  | .hbm, ⟨9, _⟩ => ⟨S2064x2816, .f32⟩
  | .hbm, ⟨10, _⟩ => ⟨S2064x2816, .f32⟩
  | .hbm, ⟨11, _⟩ => ⟨S_, .f32⟩
  | .hbm, ⟨12, _⟩ => ⟨S2064x2816, .f32⟩
  | .hbm, ⟨13, _⟩ => ⟨S2064x2816, .f32⟩
  | .hbm, ⟨14, _⟩ => ⟨S_, .f32⟩
  | .hbm, ⟨15, _⟩ => ⟨S2064x2816, .f32⟩
  | .hbm, ⟨16, _⟩ => ⟨S2064x2816, .f32⟩
  | .hbm, ⟨17, _⟩ => ⟨S2064x2816, .f32⟩
  | .hbm, ⟨18, _⟩ => ⟨S2064x2816, .f32⟩
  | .hbm, ⟨19, _⟩ => ⟨S2064x2816, .f32⟩
  | .hbm, ⟨20, _⟩ => ⟨S2064x2816, .f32⟩
  | .hbm, ⟨21, _⟩ => ⟨S2064x1024, .f32⟩
  | .hbm, ⟨22, _⟩ => ⟨S1024x2816, .f32⟩
  | .hbm, ⟨23, _⟩ => ⟨S2816x1024, .f32⟩
  | .hbm, ⟨24, _⟩ => ⟨S2064x2816, .f32⟩
  | .hbm, ⟨25, _⟩ => ⟨S2064x2816, .f32⟩
  | .hbm, ⟨26, _⟩ => ⟨S2064x2816, .f32⟩
  | .hbm, ⟨27, _⟩ => ⟨S2816x1024, .f32⟩
  | .hbm, ⟨28, _⟩ => ⟨S1024x2816, .f32⟩
  | .hbm, ⟨29, _⟩ => ⟨S2064x1024, .f32⟩
  | .hbm, ⟨30, _⟩ => ⟨S2064x2816, .f32⟩
  | .hbm, ⟨31, _⟩ => ⟨S2064x2816, .f32⟩
  | .hbm, ⟨32, _⟩ => ⟨S2064x2816, .f32⟩
  | .hbm, ⟨33, _⟩ => ⟨S2064x2816, .f32⟩
  | .hbm, ⟨34, _⟩ => ⟨S2816x1024, .f32⟩
  | .hbm, ⟨35, _⟩ => ⟨S1024x2816, .f32⟩
  | .hbm, ⟨36, _⟩ => ⟨S2064x1024, .f32⟩
  | .hbm, ⟨37, _⟩ => ⟨S2064x1024, .f32⟩
  | .hbm, ⟨38, _⟩ => ⟨S2816x1024, .f32⟩
  | .hbm, ⟨39, _⟩ => ⟨S2816x1024, .bf16⟩
  | .hbm, ⟨40, _⟩ => ⟨S2816x1024, .f32⟩
  | .hbm, ⟨41, _⟩ => ⟨S2816x1024, .bf16⟩
  | .hbm, ⟨42, _⟩ => ⟨S2816x1024, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Kernel3.lean ====
abbrev S2064x1024 : Shape := ⟨2, ![2064, 1024]⟩
abbrev S1024x2816 : Shape := ⟨2, ![1024, 2816]⟩
abbrev S2816x1024 : Shape := ⟨2, ![2816, 1024]⟩
abbrev S2064x2816 : Shape := ⟨2, ![2064, 2816]⟩
abbrev S256x1024 : Shape := ⟨2, ![256, 1024]⟩
abbrev S2064x256 : Shape := ⟨2, ![2064, 256]⟩
abbrev S688x1024 : Shape := ⟨2, ![688, 1024]⟩
abbrev S688x256 : Shape := ⟨2, ![688, 256]⟩

abbrev nBuf : Space → Nat
  | .hbm => 13
  | .vmem => 12
  | .smem => 0
  | _ => 0

abbrev bufTy : (tb : Table) → Fin (tcTables nBuf tb) → BufTy
  | .hbm, ⟨0, _⟩ => ⟨S2064x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S2064x1024, .bf16⟩
  | .hbm, ⟨9, _⟩ => ⟨S2816x1024, .bf16⟩
  | .hbm, ⟨10, _⟩ => ⟨S2064x2816, .bf16⟩
  | .hbm, ⟨11, _⟩ => ⟨S2064x2816, .bf16⟩
  | .hbm, ⟨12, _⟩ => ⟨S2064x1024, .f32⟩
  | .local _ .vmem, ⟨0, _⟩ => ⟨S2064x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S2064x256, .bf16⟩
  | .local _ .vmem, ⟨8, _⟩ => ⟨S2064x256, .bf16⟩
  | .local _ .vmem, ⟨9, _⟩ => ⟨S2064x256, .bf16⟩
  | .local _ .vmem, ⟨10, _⟩ => ⟨S2064x256, .bf16⟩
  | .local _ .vmem, ⟨11, _⟩ => ⟨S2064x1024, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_13 : BitVec 32 := 0#32
  let v21 : BitVec 1 := Scalar.cmpi .ne v20 c0_i32_13
  v21

def k0_cond2 (i : grid0.Coords) : BitVec 1 :=
  let arg0 : BitVec 32 := BitVec.ofNat 32 (i 0).val
  let c0_i32_14 : BitVec 32 := 0#32
  let v22 : BitVec 1 := Scalar.cmpi .ne arg0 c0_i32_14
  let v23 : BitVec 32 := Scalar.extui v22
  let c0_i32_15 : BitVec 32 := 0#32
  let v24 : BitVec 1 := Scalar.cmpi .ne v23 c0_i32_15
  v24

def k0_cond3 (i : grid0.Coords) : BitVec 1 :=
  let arg0 : BitVec 32 := BitVec.ofNat 32 (i 0).val
  let c0_i32_30 : BitVec 32 := 0#32
  let v44 : BitVec 1 := Scalar.cmpi .eq arg0 c0_i32_30
  let v45 : BitVec 32 := Scalar.extui v44
  let c0_i32_31 : BitVec 32 := 0#32
  let v46 : BitVec 1 := Scalar.cmpi .ne v45 c0_i32_31
  v46

def k0_cond4 (i : grid0.Coords) : BitVec 1 :=
  let arg0 : BitVec 32 := BitVec.ofNat 32 (i 0).val
  let c0_i32_32 : BitVec 32 := 0#32
  let v47 : BitVec 1 := Scalar.cmpi .ne arg0 c0_i32_32
  let v48 : BitVec 32 := Scalar.extui v47
  let c0_i32_33 : BitVec 32 := 0#32
  let v49 : BitVec 1 := Scalar.cmpi .ne v48 c0_i32_33
  v49

def k0_cond5 (i : grid0.Coords) : BitVec 1 :=
  let arg0 : BitVec 32 := BitVec.ofNat 32 (i 0).val
  let c0_i32_48 : BitVec 32 := 0#32
  let v69 : BitVec 1 := Scalar.cmpi .eq arg0 c0_i32_48
  let v70 : BitVec 32 := Scalar.extui v69
  let c0_i32_49 : BitVec 32 := 0#32
  let v71 : BitVec 1 := Scalar.cmpi .ne v70 c0_i32_49
  v71

def k0_cond6 (i : grid0.Coords) : BitVec 1 :=
  let arg0 : BitVec 32 := BitVec.ofNat 32 (i 0).val
  let c0_i32_50 : BitVec 32 := 0#32
  let v72 : BitVec 1 := Scalar.cmpi .ne arg0 c0_i32_50
  let v73 : BitVec 32 := Scalar.extui v72
  let c0_i32_51 : BitVec 32 := 0#32
  let v74 : BitVec 1 := Scalar.cmpi .ne v73 c0_i32_51
  v74

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2064x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2064x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2064x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2064x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S2064x1024 : Shape := ⟨2, ![2064, 1024]⟩
abbrev S1024x2816 : Shape := ⟨2, ![1024, 2816]⟩
abbrev S2816x1024 : Shape := ⟨2, ![2816, 1024]⟩
abbrev S2064x2816 : Shape := ⟨2, ![2064, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2064x2816, .f32⟩
  | .hbm, ⟨5, _⟩ => ⟨S2064x2816, .bf16⟩
  | .hbm, ⟨6, _⟩ => ⟨S2064x2816, .f32⟩
  | .hbm, ⟨7, _⟩ => ⟨S2064x2816, .bf16⟩
  | .hbm, ⟨8, _⟩ => ⟨S2064x2816, .f32⟩
  | .hbm, ⟨9, _⟩ => ⟨S2064x2816, .f32⟩
  | .hbm, ⟨10, _⟩ => ⟨S2064x2816, .f32⟩
  | .hbm, ⟨11, _⟩ => ⟨S_, .f32⟩
  | .hbm, ⟨12, _⟩ => ⟨S2064x2816, .f32⟩
  | .hbm, ⟨13, _⟩ => ⟨S2064x2816, .f32⟩
  | .hbm, ⟨14, _⟩ => ⟨S_, .f32⟩
  | .hbm, ⟨15, _⟩ => ⟨S2064x2816, .f32⟩
  | .hbm, ⟨16, _⟩ => ⟨S2064x2816, .f32⟩
  | .hbm, ⟨17, _⟩ => ⟨S2064x2816, .f32⟩
  | .hbm, ⟨18, _⟩ => ⟨S2064x2816, .f32⟩
  | .hbm, ⟨19, _⟩ => ⟨S2064x2816, .f32⟩
  | .hbm, ⟨20, _⟩ => ⟨S2064x1024, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel4.lean ====
abbrev S2064x1024 : Shape := ⟨2, ![2064, 1024]⟩
abbrev S1024x2048 : Shape := ⟨2, ![1024, 2048]⟩
abbrev S8x2064x64 : Shape := ⟨3, ![8, 2064, 64]⟩
abbrev S2064x512 : Shape := ⟨2, ![2064, 512]⟩
abbrev S1024x8x256 : Shape := ⟨3, ![1024, 8, 256]⟩
abbrev S8x1024x256 : Shape := ⟨3, ![8, 1024, 256]⟩
abbrev S4x2064x64 : Shape := ⟨3, ![4, 2064, 64]⟩
abbrev S2064x256 : Shape := ⟨2, ![2064, 256]⟩
abbrev S1x1024x256 : Shape := ⟨3, ![1, 1024, 256]⟩
abbrev S1024x256 : Shape := ⟨2, ![1024, 256]⟩
abbrev S1x2064x64 : Shape := ⟨3, ![1, 2064, 64]⟩
abbrev S2064x64 : Shape := ⟨2, ![2064, 64]⟩
abbrev S688x256 : Shape := ⟨2, ![688, 256]⟩
abbrev S688x1024 : Shape := ⟨2, ![688, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2064x1024, .f32⟩
  | .hbm, ⟨1, _⟩ => ⟨S1024x2048, .f32⟩
  | .hbm, ⟨2, _⟩ => ⟨S8x2064x64, .f32⟩
  | .hbm, ⟨3, _⟩ => ⟨S8x2064x64, .f32⟩
  | .hbm, ⟨4, _⟩ => ⟨S8x2064x64, .f32⟩
  | .hbm, ⟨5, _⟩ => ⟨S2064x512, .f32⟩
  | .hbm, ⟨6, _⟩ => ⟨S2064x1024, .bf16⟩
  | .hbm, ⟨7, _⟩ => ⟨S1024x8x256, .f32⟩
  | .hbm, ⟨8, _⟩ => ⟨S8x1024x256, .f32⟩
  | .hbm, ⟨9, _⟩ => ⟨S8x1024x256, .bf16⟩
  | .hbm, ⟨10, _⟩ => ⟨S2064x1024, .f32⟩
  | .hbm, ⟨11, _⟩ => ⟨S8x1024x256, .bf16⟩
  | .local _ .vmem, ⟨0, _⟩ => ⟨S4x2064x64, .f32⟩
  | .local _ .vmem, ⟨1, _⟩ => ⟨S4x2064x64, .f32⟩
  | .local _ .vmem, ⟨2, _⟩ => ⟨S4x2064x64, .f32⟩
  | .local _ .vmem, ⟨3, _⟩ => ⟨S4x2064x64, .f32⟩
  | .local _ .vmem, ⟨4, _⟩ => ⟨S4x2064x64, .f32⟩
  | .local _ .vmem, ⟨5, _⟩ => ⟨S4x2064x64, .f32⟩
  | .local _ .vmem, ⟨6, _⟩ => ⟨S2064x256, .f32⟩
  | .local _ .vmem, ⟨7, _⟩ => ⟨S2064x256, .f32⟩
  | .local _ .vmem, ⟨8, _⟩ => ⟨S2064x1024, .bf16⟩
  | .local _ .vmem, ⟨9, _⟩ => ⟨S1x1024x256, .bf16⟩
  | .local _ .vmem, ⟨10, _⟩ => ⟨S1x1024x256, .bf16⟩
  | .local _ .vmem, ⟨11, _⟩ => ⟨S2064x1024, .f32⟩
  | .local _ .vmem, ⟨12, _⟩ => ⟨S1x1024x256, .bf16⟩
  | .local _ .vmem, ⟨13, _⟩ => ⟨S1x1024x256, .bf16⟩
  | .local _ .vmem, ⟨14, _⟩ => ⟨S1024x256, .f32⟩
  | .local _ .vmem, ⟨15, _⟩ => ⟨S2064x256, .bf16⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def k0_cond5 (i : grid0.Coords) : BitVec 1 :=
  let arg0 : BitVec 32 := BitVec.ofNat 32 (i 0).val
  let c0_i32_16 : BitVec 32 := 0#32
  let v28 : BitVec 1 := Scalar.cmpi .eq arg0 c0_i32_16
  let v29 : BitVec 32 := Scalar.extui v28
  let c0_i32_17 : BitVec 32 := 0#32
  let v30 : BitVec 1 := Scalar.cmpi .ne v29 c0_i32_17
  v30

def k0_cond6 (i : grid0.Coords) : BitVec 1 :=
  let arg0 : BitVec 32 := BitVec.ofNat 32 (i 0).val
  let c0_i32_18 : BitVec 32 := 0#32
  let v31 : BitVec 1 := Scalar.cmpi .ne arg0 c0_i32_18
  let v32 : BitVec 32 := Scalar.extui v31
  let c0_i32_19 : BitVec 32 := 0#32
  let v33 : BitVec 1 := Scalar.cmpi .ne v32 c0_i32_19
  v33

def k0_cond7 (i : grid0.Coords) : BitVec 1 :=
  let arg0 : BitVec 32 := BitVec.ofNat 32 (i 0).val
  let c0_i32_32 : BitVec 32 := 0#32
  let v46 : BitVec 1 := Scalar.cmpi .eq arg0 c0_i32_32
  let v47 : BitVec 32 := Scalar.extui v46
  let c0_i32_33 : BitVec 32 := 0#32
  let v48 : BitVec 1 := Scalar.cmpi .ne v47 c0_i32_33
  v48

def k0_cond8 (i : grid0.Coords) : BitVec 1 :=
  let arg0 : BitVec 32 := BitVec.ofNat 32 (i 0).val
  let c0_i32_34 : BitVec 32 := 0#32
  let v49 : BitVec 1 := Scalar.cmpi .ne arg0 c0_i32_34
  let v50 : BitVec 32 := Scalar.extui v49
  let c0_i32_35 : BitVec 32 := 0#32
  let v51 : BitVec 1 := Scalar.cmpi .ne v50 c0_i32_35
  v51

def k0_cond9 (i : grid0.Coords) : BitVec 1 :=
  let arg0 : BitVec 32 := BitVec.ofNat 32 (i 0).val
  let c0_i32_48 : BitVec 32 := 0#32
  let v64 : BitVec 1 := Scalar.cmpi .eq arg0 c0_i32_48
  let v65 : BitVec 32 := Scalar.extui v64
  let c0_i32_49 : BitVec 32 := 0#32
  let v66 : BitVec 1 := Scalar.cmpi .ne v65 c0_i32_49
  v66

def k0_cond10 (i : grid0.Coords) : BitVec 1 :=
  let arg0 : BitVec 32 := BitVec.ofNat 32 (i 0).val
  let c0_i32_50 : BitVec 32 := 0#32
  let v67 : BitVec 1 := Scalar.cmpi .ne arg0 c0_i32_50
  let v68 : BitVec 32 := Scalar.extui v67
  let c0_i32_51 : BitVec 32 := 0#32
  let v69 : BitVec 1 := Scalar.cmpi .ne v68 c0_i32_51
  v69

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![v2.toNat, c0_i32_1.toNat, c0_i32_2.toNat]

def cc0_transform_1 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![v2.toNat, c0_i32_0.toNat, c0_i32_1.toNat]

def cc0_transform_2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 2 → Nat :=
  let arg0 : BitVec 32 := BitVec.ofNat 32 (i 0).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2064x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2064x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2064x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2064x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2064x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2064x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S2064x1024 : Shape := ⟨2, ![2064, 1024]⟩
abbrev S1024x2048 : Shape := ⟨2, ![1024, 2048]⟩
abbrev S8x2064x64 : Shape := ⟨3, ![8, 2064, 64]⟩
abbrev S2064x512 : Shape := ⟨2, ![2064, 512]⟩
abbrev S2064x2048 : Shape := ⟨2, ![2064, 2048]⟩
abbrev S2064x8x64 : Shape := ⟨3, ![2064, 8, 64]⟩
abbrev S_ : Shape := ⟨0, ![]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 40
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x2048, .f32⟩
  | .hbm, ⟨2, _⟩ => ⟨S8x2064x64, .f32⟩
  | .hbm, ⟨3, _⟩ => ⟨S8x2064x64, .f32⟩
  | .hbm, ⟨4, _⟩ => ⟨S8x2064x64, .f32⟩
  | .hbm, ⟨5, _⟩ => ⟨S2064x512, .f32⟩
  | .hbm, ⟨6, _⟩ => ⟨S2064x2048, .f32⟩
  | .hbm, ⟨7, _⟩ => ⟨S2064x512, .f32⟩
  | .hbm, ⟨8, _⟩ => ⟨S2064x8x64, .f32⟩
  | .hbm, ⟨9, _⟩ => ⟨S8x2064x64, .f32⟩
  | .hbm, ⟨10, _⟩ => ⟨S2064x512, .f32⟩
  | .hbm, ⟨11, _⟩ => ⟨S2064x8x64, .f32⟩
  | .hbm, ⟨12, _⟩ => ⟨S8x2064x64, .f32⟩
  | .hbm, ⟨13, _⟩ => ⟨S2064x512, .f32⟩
  | .hbm, ⟨14, _⟩ => ⟨S2064x8x64, .f32⟩
  | .hbm, ⟨15, _⟩ => ⟨S8x2064x64, .f32⟩
  | .hbm, ⟨16, _⟩ => ⟨S2064x512, .f32⟩
  | .hbm, ⟨17, _⟩ => ⟨S_, .f32⟩
  | .hbm, ⟨18, _⟩ => ⟨S2064x2048, .f32⟩
  | .hbm, ⟨19, _⟩ => ⟨S2064x8x64, .f32⟩
  | .hbm, ⟨20, _⟩ => ⟨S2064x512, .f32⟩
  | .hbm, ⟨21, _⟩ => ⟨S_, .f32⟩
  | .hbm, ⟨22, _⟩ => ⟨S2064x2048, .f32⟩
  | .hbm, ⟨23, _⟩ => ⟨S2064x2048, .f32⟩
  | .hbm, ⟨24, _⟩ => ⟨S2064x8x64, .f32⟩
  | .hbm, ⟨25, _⟩ => ⟨S2064x512, .f32⟩
  | .hbm, ⟨26, _⟩ => ⟨S_, .f32⟩
  | .hbm, ⟨27, _⟩ => ⟨S2064x2048, .f32⟩
  | .hbm, ⟨28, _⟩ => ⟨S2064x2048, .f32⟩
  | .hbm, ⟨29, _⟩ => ⟨S2064x8x64, .f32⟩
  | .hbm, ⟨30, _⟩ => ⟨S2064x512, .f32⟩
  | .hbm, ⟨31, _⟩ => ⟨S_, .f32⟩
  | .hbm, ⟨32, _⟩ => ⟨S2064x2048, .f32⟩
  | .hbm, ⟨33, _⟩ => ⟨S2064x2048, .f32⟩
  | .hbm, ⟨34, _⟩ => ⟨S2048x1024, .f32⟩
  | .hbm, ⟨35, _⟩ => ⟨S1024x2048, .f32⟩
  | .hbm, ⟨36, _⟩ => ⟨S2064x1024, .f32⟩
  | .hbm, ⟨37, _⟩ => ⟨S1024x8x256, .f32⟩
  | .hbm, ⟨38, _⟩ => ⟨S8x1024x256, .f32⟩
  | .hbm, ⟨39, _⟩ => ⟨S8x1024x256, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel5.lean ====
abbrev S2064x1024 : Shape := ⟨2, ![2064, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S24x2064x64 : Shape := ⟨3, ![24, 2064, 64]⟩
abbrev S1x1024x256 : Shape := ⟨3, ![1, 1024, 256]⟩
abbrev S4x2064x64 : Shape := ⟨3, ![4, 2064, 64]⟩
abbrev S688x1024 : Shape := ⟨2, ![688, 1024]⟩
abbrev S1024x256 : Shape := ⟨2, ![1024, 256]⟩
abbrev S688x256 : Shape := ⟨2, ![688, 256]⟩
abbrev S688x64 : Shape := ⟨2, ![688, 64]⟩
abbrev S1x688x64 : Shape := ⟨3, ![1, 688, 64]⟩

abbrev nBuf : Space → Nat
  | .hbm => 7
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S1024x2048, .f32⟩
  | .hbm, ⟨2, _⟩ => ⟨S2064x1024, .bf16⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S24x2064x64, .f32⟩
  | .local _ .vmem, ⟨0, _⟩ => ⟨S2064x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S4x2064x64, .f32⟩
  | .local _ .vmem, ⟨4, _⟩ => ⟨S4x2064x64, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2064x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2064x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S2064x1024 : Shape := ⟨2, ![2064, 1024]⟩
abbrev S1024x2048 : Shape := ⟨2, ![1024, 2048]⟩
abbrev S2064x2048 : Shape := ⟨2, ![2064, 2048]⟩
abbrev S2064x512 : Shape := ⟨2, ![2064, 512]⟩
abbrev S2064x8x64 : Shape := ⟨3, ![2064, 8, 64]⟩
abbrev S8x2064x64 : Shape := ⟨3, ![8, 2064, 64]⟩
abbrev S24x2064x64 : Shape := ⟨3, ![24, 2064, 64]⟩

abbrev nBuf : Space → Nat
  | .hbm => 14
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x2048, .f32⟩
  | .hbm, ⟨2, _⟩ => ⟨S2064x2048, .f32⟩
  | .hbm, ⟨3, _⟩ => ⟨S2064x512, .f32⟩
  | .hbm, ⟨4, _⟩ => ⟨S2064x8x64, .f32⟩
  | .hbm, ⟨5, _⟩ => ⟨S8x2064x64, .f32⟩
  | .hbm, ⟨6, _⟩ => ⟨S2064x512, .f32⟩
  | .hbm, ⟨7, _⟩ => ⟨S2064x8x64, .f32⟩
  | .hbm, ⟨8, _⟩ => ⟨S8x2064x64, .f32⟩
  | .hbm, ⟨9, _⟩ => ⟨S2064x512, .f32⟩
  | .hbm, ⟨10, _⟩ => ⟨S2064x8x64, .f32⟩
  | .hbm, ⟨11, _⟩ => ⟨S8x2064x64, .f32⟩
  | .hbm, ⟨12, _⟩ => ⟨S2064x512, .f32⟩
  | .hbm, ⟨13, _⟩ => ⟨S24x2064x64, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel6.lean ====
abbrev S2064x1024 : Shape := ⟨2, ![2064, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S2064x512 : Shape := ⟨2, ![2064, 512]⟩
abbrev S1x1024x256 : Shape := ⟨3, ![1, 1024, 256]⟩
abbrev S2064x256 : Shape := ⟨2, ![2064, 256]⟩
abbrev S688x1024 : Shape := ⟨2, ![688, 1024]⟩
abbrev S1024x256 : Shape := ⟨2, ![1024, 256]⟩
abbrev S688x256 : Shape := ⟨2, ![688, 256]⟩

abbrev nBuf : Space → Nat
  | .hbm => 7
  | .vmem => 5
  | .smem => 0
  | _ => 0

abbrev bufTy : (tb : Table) → Fin (tcTables nBuf tb) → BufTy
  | .hbm, ⟨0, _⟩ => ⟨S2064x1024, .f32⟩
  | .hbm, ⟨1, _⟩ => ⟨S1024x2048, .f32⟩
  | .hbm, ⟨2, _⟩ => ⟨S2064x1024, .bf16⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S2064x512, .f32⟩
  | .local _ .vmem, ⟨0, _⟩ => ⟨S2064x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S2064x256, .f32⟩
  | .local _ .vmem, ⟨4, _⟩ => ⟨S2064x256, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2064x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2064x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S2064x1024 : Shape := ⟨2, ![2064, 1024]⟩
abbrev S1024x2048 : Shape := ⟨2, ![1024, 2048]⟩
abbrev S2064x2048 : Shape := ⟨2, ![2064, 2048]⟩
abbrev S2064x512 : Shape := ⟨2, ![2064, 512]⟩
abbrev S2064x8x64 : Shape := ⟨3, ![2064, 8, 64]⟩
abbrev S8x2064x64 : Shape := ⟨3, ![8, 2064, 64]⟩

abbrev nBuf : Space → Nat
  | .hbm => 13
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S1024x2048, .f32⟩
  | .hbm, ⟨2, _⟩ => ⟨S2064x2048, .f32⟩
  | .hbm, ⟨3, _⟩ => ⟨S2064x512, .f32⟩
  | .hbm, ⟨4, _⟩ => ⟨S2064x8x64, .f32⟩
  | .hbm, ⟨5, _⟩ => ⟨S8x2064x64, .f32⟩
  | .hbm, ⟨6, _⟩ => ⟨S2064x512, .f32⟩
  | .hbm, ⟨7, _⟩ => ⟨S2064x8x64, .f32⟩
  | .hbm, ⟨8, _⟩ => ⟨S8x2064x64, .f32⟩
  | .hbm, ⟨9, _⟩ => ⟨S2064x512, .f32⟩
  | .hbm, ⟨10, _⟩ => ⟨S2064x8x64, .f32⟩
  | .hbm, ⟨11, _⟩ => ⟨S8x2064x64, .f32⟩
  | .hbm, ⟨12, _⟩ => ⟨S2064x512, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel7.lean ====
abbrev S8x2064x64 : Shape := ⟨3, ![8, 2064, 64]⟩
abbrev S2064x512 : Shape := ⟨2, ![2064, 512]⟩
abbrev S1x512 : Shape := ⟨2, ![1, 512]⟩
abbrev S1024x1024 : Shape := ⟨2, ![1024, 1024]⟩
abbrev S2064x1024 : Shape := ⟨2, ![2064, 1024]⟩
abbrev S8x688x64 : Shape := ⟨3, ![8, 688, 64]⟩
abbrev S688x512 : Shape := ⟨2, ![688, 512]⟩
abbrev S688x1024 : Shape := ⟨2, ![688, 1024]⟩
abbrev S1x688x64 : Shape := ⟨3, ![1, 688, 64]⟩
abbrev S688x64 : Shape := ⟨2, ![688, 64]⟩
abbrev S688 : Shape := ⟨1, ![688]⟩
abbrev S688x1 : Shape := ⟨2, ![688, 1]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8x2064x64, .f32⟩
  | .hbm, ⟨1, _⟩ => ⟨S2064x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S1024x1024, .bf16⟩
  | .hbm, ⟨6, _⟩ => ⟨S2064x1024, .f32⟩
  | .local _ .vmem, ⟨0, _⟩ => ⟨S8x688x64, .f32⟩
  | .local _ .vmem, ⟨1, _⟩ => ⟨S8x688x64, .f32⟩
  | .local _ .vmem, ⟨2, _⟩ => ⟨S688x512, .f32⟩
  | .local _ .vmem, ⟨3, _⟩ => ⟨S688x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S688x1024, .f32⟩
  | .local _ .vmem, ⟨8, _⟩ => ⟨S688x1024, .f32⟩
  | _, _ => ⟨S8x2064x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x688x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S8x2064x64 : Shape := ⟨3, ![8, 2064, 64]⟩
abbrev S2064x512 : Shape := ⟨2, ![2064, 512]⟩
abbrev S1x512 : Shape := ⟨2, ![1, 512]⟩
abbrev S1024x1024 : Shape := ⟨2, ![1024, 1024]⟩
abbrev S2064x8x64 : Shape := ⟨3, ![2064, 8, 64]⟩
abbrev S512 : Shape := ⟨1, ![512]⟩
abbrev S_ : Shape := ⟨0, ![]⟩
abbrev S2064 : Shape := ⟨1, ![2064]⟩
abbrev S2064x1 : Shape := ⟨2, ![2064, 1]⟩
abbrev S2064x1024 : Shape := ⟨2, ![2064, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x2064x64, .f32⟩
  | .hbm, ⟨1, _⟩ => ⟨S2064x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S2064x8x64, .f32⟩
  | .hbm, ⟨6, _⟩ => ⟨S2064x512, .f32⟩
  | .hbm, ⟨7, _⟩ => ⟨S512, .f32⟩
  | .hbm, ⟨8, _⟩ => ⟨S2064x512, .f32⟩
  | .hbm, ⟨9, _⟩ => ⟨S_, .f32⟩
  | .hbm, ⟨10, _⟩ => ⟨S2064, .f32⟩
  | .hbm, ⟨11, _⟩ => ⟨S2064x1, .f32⟩
  | .hbm, ⟨12, _⟩ => ⟨S_, .f32⟩
  | .hbm, ⟨13, _⟩ => ⟨S2064x1, .f32⟩
  | .hbm, ⟨14, _⟩ => ⟨S2064x1, .f32⟩
  | .hbm, ⟨15, _⟩ => ⟨S_, .f32⟩
  | .hbm, ⟨16, _⟩ => ⟨S2064x1, .f32⟩
  | .hbm, ⟨17, _⟩ => ⟨S2064x1, .f32⟩
  | .hbm, ⟨18, _⟩ => ⟨S2064x1, .f32⟩
  | .hbm, ⟨19, _⟩ => ⟨S2064x512, .f32⟩
  | .hbm, ⟨20, _⟩ => ⟨S2064x512, .f32⟩
  | .hbm, ⟨21, _⟩ => ⟨S1x512, .f32⟩
  | .hbm, ⟨22, _⟩ => ⟨S2064x512, .f32⟩
  | .hbm, ⟨23, _⟩ => ⟨S2064x512, .f32⟩
  | .hbm, ⟨24, _⟩ => ⟨S512, .f32⟩
  | .hbm, ⟨25, _⟩ => ⟨S2064x512, .f32⟩
  | .hbm, ⟨26, _⟩ => ⟨S_, .f32⟩
  | .hbm, ⟨27, _⟩ => ⟨S2064, .f32⟩
  | .hbm, ⟨28, _⟩ => ⟨S2064x1, .f32⟩
  | .hbm, ⟨29, _⟩ => ⟨S_, .f32⟩
  | .hbm, ⟨30, _⟩ => ⟨S2064x1, .f32⟩
  | .hbm, ⟨31, _⟩ => ⟨S2064x1, .f32⟩
  | .hbm, ⟨32, _⟩ => ⟨S_, .f32⟩
  | .hbm, ⟨33, _⟩ => ⟨S2064x1, .f32⟩
  | .hbm, ⟨34, _⟩ => ⟨S2064x1, .f32⟩
  | .hbm, ⟨35, _⟩ => ⟨S2064x1, .f32⟩
  | .hbm, ⟨36, _⟩ => ⟨S2064x512, .f32⟩
  | .hbm, ⟨37, _⟩ => ⟨S2064x512, .f32⟩
  | .hbm, ⟨38, _⟩ => ⟨S1x512, .f32⟩
  | .hbm, ⟨39, _⟩ => ⟨S2064x512, .f32⟩
  | .hbm, ⟨40, _⟩ => ⟨S2064x512, .f32⟩
  | .hbm, ⟨41, _⟩ => ⟨S2064x1024, .f32⟩
  | .hbm, ⟨42, _⟩ => ⟨S2064x1024, .f32⟩
  | _, _ => ⟨S8x2064x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel8.lean ====
abbrev S2064x1024 : Shape := ⟨2, ![2064, 1024]⟩
abbrev S8x2064x64 : Shape := ⟨3, ![8, 2064, 64]⟩
abbrev S2064x512 : Shape := ⟨2, ![2064, 512]⟩
abbrev S1x512 : Shape := ⟨2, ![1, 512]⟩
abbrev S1024x1024 : Shape := ⟨2, ![1024, 1024]⟩
abbrev S688x1024 : Shape := ⟨2, ![688, 1024]⟩
abbrev S8x688x64 : Shape := ⟨3, ![8, 688, 64]⟩
abbrev S688x512 : Shape := ⟨2, ![688, 512]⟩
abbrev S1x688x64 : Shape := ⟨3, ![1, 688, 64]⟩
abbrev S688x64 : Shape := ⟨2, ![688, 64]⟩
abbrev S688 : Shape := ⟨1, ![688]⟩
abbrev S688x1 : Shape := ⟨2, ![688, 1]⟩
abbrev S512x1024 : Shape := ⟨2, ![512, 1024]⟩
abbrev S512 : Shape := ⟨1, ![512]⟩

abbrev nBuf : Space → Nat
  | .hbm => 13
  | .vmem => 16
  | .smem => 0
  | _ => 0

abbrev bufTy : (tb : Table) → Fin (tcTables nBuf tb) → BufTy
  | .hbm, ⟨0, _⟩ => ⟨S2064x1024, .f32⟩
  | .hbm, ⟨1, _⟩ => ⟨S8x2064x64, .f32⟩
  | .hbm, ⟨2, _⟩ => ⟨S2064x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S2064x1024, .bf16⟩
  | .hbm, ⟨7, _⟩ => ⟨S1024x1024, .bf16⟩
  | .hbm, ⟨8, _⟩ => ⟨S8x2064x64, .f32⟩
  | .hbm, ⟨9, _⟩ => ⟨S2064x512, .f32⟩
  | .hbm, ⟨10, _⟩ => ⟨S1024x1024, .f32⟩
  | .hbm, ⟨11, _⟩ => ⟨S1x512, .f32⟩
  | .hbm, ⟨12, _⟩ => ⟨S1x512, .f32⟩
  | .local _ .vmem, ⟨0, _⟩ => ⟨S688x1024, .bf16⟩
  | .local _ .vmem, ⟨1, _⟩ => ⟨S688x1024, .bf16⟩
  | .local _ .vmem, ⟨2, _⟩ => ⟨S8x688x64, .f32⟩
  | .local _ .vmem, ⟨3, _⟩ => ⟨S8x688x64, .f32⟩
  | .local _ .vmem, ⟨4, _⟩ => ⟨S688x512, .f32⟩
  | .local _ .vmem, ⟨5, _⟩ => ⟨S688x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S8x688x64, .f32⟩
  | .local _ .vmem, ⟨10, _⟩ => ⟨S8x688x64, .f32⟩
  | .local _ .vmem, ⟨11, _⟩ => ⟨S688x512, .f32⟩
  | .local _ .vmem, ⟨12, _⟩ => ⟨S688x512, .f32⟩
  | .local _ .vmem, ⟨13, _⟩ => ⟨S1024x1024, .f32⟩
  | .local _ .vmem, ⟨14, _⟩ => ⟨S1x512, .f32⟩
  | .local _ .vmem, ⟨15, _⟩ => ⟨S1x512, .f32⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x688x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x688x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S688x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S2064x1024 : Shape := ⟨2, ![2064, 1024]⟩
abbrev S8x2064x64 : Shape := ⟨3, ![8, 2064, 64]⟩
abbrev S2064x512 : Shape := ⟨2, ![2064, 512]⟩
abbrev S1x512 : Shape := ⟨2, ![1, 512]⟩
abbrev S1024x1024 : Shape := ⟨2, ![1024, 1024]⟩
abbrev S2064x8x64 : Shape := ⟨3, ![2064, 8, 64]⟩
abbrev S512 : Shape := ⟨1, ![512]⟩
abbrev S_ : Shape := ⟨0, ![]⟩
abbrev S2064 : Shape := ⟨1, ![2064]⟩
abbrev S2064x1 : Shape := ⟨2, ![2064, 1]⟩

abbrev nBuf : Space → Nat
  | .hbm => 111
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S8x2064x64, .f32⟩
  | .hbm, ⟨2, _⟩ => ⟨S2064x512, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S2064x8x64, .f32⟩
  | .hbm, ⟨7, _⟩ => ⟨S2064x512, .f32⟩
  | .hbm, ⟨8, _⟩ => ⟨S512, .f32⟩
  | .hbm, ⟨9, _⟩ => ⟨S2064x512, .f32⟩
  | .hbm, ⟨10, _⟩ => ⟨S_, .f32⟩
  | .hbm, ⟨11, _⟩ => ⟨S2064, .f32⟩
  | .hbm, ⟨12, _⟩ => ⟨S2064x1, .f32⟩
  | .hbm, ⟨13, _⟩ => ⟨S_, .f32⟩
  | .hbm, ⟨14, _⟩ => ⟨S2064x1, .f32⟩
  | .hbm, ⟨15, _⟩ => ⟨S2064x1, .f32⟩
  | .hbm, ⟨16, _⟩ => ⟨S_, .f32⟩
  | .hbm, ⟨17, _⟩ => ⟨S2064x1, .f32⟩
  | .hbm, ⟨18, _⟩ => ⟨S2064x1, .f32⟩
  | .hbm, ⟨19, _⟩ => ⟨S2064x1, .f32⟩
  | .hbm, ⟨20, _⟩ => ⟨S2064x1, .f32⟩
  | .hbm, ⟨21, _⟩ => ⟨S_, .f32⟩
  | .hbm, ⟨22, _⟩ => ⟨S2064x1, .f32⟩
  | .hbm, ⟨23, _⟩ => ⟨S2064x1, .f32⟩
  | .hbm, ⟨24, _⟩ => ⟨S2064x512, .f32⟩
  | .hbm, ⟨25, _⟩ => ⟨S2064x512, .f32⟩
  | .hbm, ⟨26, _⟩ => ⟨S1x512, .f32⟩
  | .hbm, ⟨27, _⟩ => ⟨S2064x512, .f32⟩
  | .hbm, ⟨28, _⟩ => ⟨S2064x512, .f32⟩
  | .hbm, ⟨29, _⟩ => ⟨S512, .f32⟩
  | .hbm, ⟨30, _⟩ => ⟨S2064x512, .f32⟩
  | .hbm, ⟨31, _⟩ => ⟨S_, .f32⟩
  | .hbm, ⟨32, _⟩ => ⟨S2064, .f32⟩
  | .hbm, ⟨33, _⟩ => ⟨S2064x1, .f32⟩
  | .hbm, ⟨34, _⟩ => ⟨S_, .f32⟩
  | .hbm, ⟨35, _⟩ => ⟨S2064x1, .f32⟩
  | .hbm, ⟨36, _⟩ => ⟨S2064x1, .f32⟩
  | .hbm, ⟨37, _⟩ => ⟨S_, .f32⟩
  | .hbm, ⟨38, _⟩ => ⟨S2064x1, .f32⟩
  | .hbm, ⟨39, _⟩ => ⟨S2064x1, .f32⟩
  | .hbm, ⟨40, _⟩ => ⟨S2064x1, .f32⟩
  | .hbm, ⟨41, _⟩ => ⟨S2064x1, .f32⟩
  | .hbm, ⟨42, _⟩ => ⟨S_, .f32⟩
  | .hbm, ⟨43, _⟩ => ⟨S2064x1, .f32⟩
  | .hbm, ⟨44, _⟩ => ⟨S2064x1, .f32⟩
  | .hbm, ⟨45, _⟩ => ⟨S2064x512, .f32⟩
  | .hbm, ⟨46, _⟩ => ⟨S2064x512, .f32⟩
  | .hbm, ⟨47, _⟩ => ⟨S1x512, .f32⟩
  | .hbm, ⟨48, _⟩ => ⟨S2064x512, .f32⟩
  | .hbm, ⟨49, _⟩ => ⟨S2064x512, .f32⟩
  | .hbm, ⟨50, _⟩ => ⟨S2064x1024, .f32⟩
  | .hbm, ⟨51, _⟩ => ⟨S2064x1024, .f32⟩
  | .hbm, ⟨52, _⟩ => ⟨S1024x1024, .f32⟩
  | .hbm, ⟨53, _⟩ => ⟨S1024x1024, .f32⟩
  | .hbm, ⟨54, _⟩ => ⟨S2064x1024, .f32⟩
  | .hbm, ⟨55, _⟩ => ⟨S2064x512, .f32⟩
  | .hbm, ⟨56, _⟩ => ⟨S2064x512, .f32⟩
  | .hbm, ⟨57, _⟩ => ⟨S2064x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S2064x512, .f32⟩
  | .hbm, ⟨62, _⟩ => ⟨S2064x512, .f32⟩
  | .hbm, ⟨63, _⟩ => ⟨S_, .f32⟩
  | .hbm, ⟨64, _⟩ => ⟨S512, .f32⟩
  | .hbm, ⟨65, _⟩ => ⟨S2064x512, .f32⟩
  | .hbm, ⟨66, _⟩ => ⟨S_, .f32⟩
  | .hbm, ⟨67, _⟩ => ⟨S2064, .f32⟩
  | .hbm, ⟨68, _⟩ => ⟨S2064x1, .f32⟩
  | .hbm, ⟨69, _⟩ => ⟨S2064x512, .f32⟩
  | .hbm, ⟨70, _⟩ => ⟨S2064x512, .f32⟩
  | .hbm, ⟨71, _⟩ => ⟨S2064x1, .f32⟩
  | .hbm, ⟨72, _⟩ => ⟨S_, .f32⟩
  | .hbm, ⟨73, _⟩ => ⟨S2064x1, .f32⟩
  | .hbm, ⟨74, _⟩ => ⟨S2064x1, .f32⟩
  | .hbm, ⟨75, _⟩ => ⟨S_, .f32⟩
  | .hbm, ⟨76, _⟩ => ⟨S2064, .f32⟩
  | .hbm, ⟨77, _⟩ => ⟨S2064x512, .f32⟩
  | .hbm, ⟨78, _⟩ => ⟨S2064x512, .f32⟩
  | .hbm, ⟨79, _⟩ => ⟨S2064x512, .f32⟩
  | .hbm, ⟨80, _⟩ => ⟨S2064x512, .f32⟩
  | .hbm, ⟨81, _⟩ => ⟨S2064x512, .f32⟩
  | .hbm, ⟨82, _⟩ => ⟨S1x512, .f32⟩
  | .hbm, ⟨83, _⟩ => ⟨S2064x512, .f32⟩
  | .hbm, ⟨84, _⟩ => ⟨S_, .f32⟩
  | .hbm, ⟨85, _⟩ => ⟨S512, .f32⟩
  | .hbm, ⟨86, _⟩ => ⟨S1x512, .f32⟩
  | .hbm, ⟨87, _⟩ => ⟨S2064x512, .f32⟩
  | .hbm, ⟨88, _⟩ => ⟨S2064x512, .f32⟩
  | .hbm, ⟨89, _⟩ => ⟨S_, .f32⟩
  | .hbm, ⟨90, _⟩ => ⟨S512, .f32⟩
  | .hbm, ⟨91, _⟩ => ⟨S2064x512, .f32⟩
  | .hbm, ⟨92, _⟩ => ⟨S_, .f32⟩
  | .hbm, ⟨93, _⟩ => ⟨S2064, .f32⟩
  | .hbm, ⟨94, _⟩ => ⟨S2064x1, .f32⟩
  | .hbm, ⟨95, _⟩ => ⟨S2064x512, .f32⟩
  | .hbm, ⟨96, _⟩ => ⟨S2064x512, .f32⟩
  | .hbm, ⟨97, _⟩ => ⟨S2064x1, .f32⟩
  | .hbm, ⟨98, _⟩ => ⟨S_, .f32⟩
  | .hbm, ⟨99, _⟩ => ⟨S2064x1, .f32⟩
  | .hbm, ⟨100, _⟩ => ⟨S2064x1, .f32⟩
  | .hbm, ⟨101, _⟩ => ⟨S_, .f32⟩
  | .hbm, ⟨102, _⟩ => ⟨S2064, .f32⟩
  | .hbm, ⟨103, _⟩ => ⟨S2064x512, .f32⟩
  | .hbm, ⟨104, _⟩ => ⟨S2064x512, .f32⟩
  | .hbm, ⟨105, _⟩ => ⟨S2064x512, .f32⟩
  | .hbm, ⟨106, _⟩ => ⟨S2064x512, .f32⟩
  | .hbm, ⟨107, _⟩ => ⟨S2064x512, .f32⟩
  | .hbm, ⟨108, _⟩ => ⟨S1x512, .f32⟩
  | .hbm, ⟨109, _⟩ => ⟨S2064x8x64, .f32⟩
  | .hbm, ⟨110, _⟩ => ⟨S8x2064x64, .f32⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_13 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_cst_16 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]
-- ==== Kernel9.lean ====
abbrev S2064x1024 : Shape := ⟨2, ![2064, 1024]⟩
abbrev S1x1024 : Shape := ⟨2, ![1, 1024]⟩
abbrev S688x1024 : Shape := ⟨2, ![688, 1024]⟩
abbrev S688 : Shape := ⟨1, ![688]⟩
abbrev S688x1 : Shape := ⟨2, ![688, 1]⟩

abbrev nBuf : Space → Nat
  | .hbm => 6
  | .vmem => 10
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S1x1024, .f32⟩
  | .hbm, ⟨3, _⟩ => ⟨S1x1024, .f32⟩
  | .hbm, ⟨4, _⟩ => ⟨S2064x1024, .f32⟩
  | .hbm, ⟨5, _⟩ => ⟨S2064x1024, .bf16⟩
  | .local _ .vmem, ⟨0, _⟩ => ⟨S688x1024, .f32⟩
  | .local _ .vmem, ⟨1, _⟩ => ⟨S688x1024, .f32⟩
  | .local _ .vmem, ⟨2, _⟩ => ⟨S688x1024, .f32⟩
  | .local _ .vmem, ⟨3, _⟩ => ⟨S688x1024, .f32⟩
  | .local _ .vmem, ⟨4, _⟩ => ⟨S1x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .bf16⟩
  | .local _ .vmem, ⟨9, _⟩ => ⟨S688x1024, .bf16⟩
  | _, _ => ⟨S2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S2064x1024 : Shape := ⟨2, ![2064, 1024]⟩
abbrev S1x1024 : Shape := ⟨2, ![1, 1024]⟩
abbrev S1024 : Shape := ⟨1, ![1024]⟩
abbrev S_ : Shape := ⟨0, ![]⟩
abbrev S2064 : Shape := ⟨1, ![2064]⟩
abbrev S2064x1 : Shape := ⟨2, ![2064, 1]⟩

abbrev nBuf : Space → Nat
  | .hbm => 43
  | .vmem => 0
  | .smem => 0
  | _ => 0

abbrev bufTy : (tb : Table) → Fin (tcTables nBuf tb) → BufTy
  | .hbm, ⟨0, _⟩ => ⟨S2064x1024, .f32⟩
  | .hbm, ⟨1, _⟩ => ⟨S2064x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S2064x1024, .f32⟩
  | .hbm, ⟨6, _⟩ => ⟨S_, .f32⟩
  | .hbm, ⟨7, _⟩ => ⟨S2064, .f32⟩
  | .hbm, ⟨8, _⟩ => ⟨S2064x1, .f32⟩
  | .hbm, ⟨9, _⟩ => ⟨S_, .f32⟩
  | .hbm, ⟨10, _⟩ => ⟨S2064x1, .f32⟩
  | .hbm, ⟨11, _⟩ => ⟨S2064x1, .f32⟩
  | .hbm, ⟨12, _⟩ => ⟨S_, .f32⟩
  | .hbm, ⟨13, _⟩ => ⟨S2064x1, .f32⟩
  | .hbm, ⟨14, _⟩ => ⟨S2064x1, .f32⟩
  | .hbm, ⟨15, _⟩ => ⟨S2064x1, .f32⟩
  | .hbm, ⟨16, _⟩ => ⟨S2064x1024, .f32⟩
  | .hbm, ⟨17, _⟩ => ⟨S2064x1024, .f32⟩
  | .hbm, ⟨18, _⟩ => ⟨S1x1024, .f32⟩
  | .hbm, ⟨19, _⟩ => ⟨S2064x1024, .f32⟩
  | .hbm, ⟨20, _⟩ => ⟨S2064x1024, .f32⟩
  | .hbm, ⟨21, _⟩ => ⟨S_, .f32⟩
  | .hbm, ⟨22, _⟩ => ⟨S2064x1024, .f32⟩
  | .hbm, ⟨23, _⟩ => ⟨S2064x1024, .f32⟩
  | .hbm, ⟨24, _⟩ => ⟨S2064x1024, .f32⟩
  | .hbm, ⟨25, _⟩ => ⟨S1024, .f32⟩
  | .hbm, ⟨26, _⟩ => ⟨S2064x1024, .f32⟩
  | .hbm, ⟨27, _⟩ => ⟨S_, .f32⟩
  | .hbm, ⟨28, _⟩ => ⟨S2064, .f32⟩
  | .hbm, ⟨29, _⟩ => ⟨S2064x1, .f32⟩
  | .hbm, ⟨30, _⟩ => ⟨S_, .f32⟩
  | .hbm, ⟨31, _⟩ => ⟨S2064x1, .f32⟩
  | .hbm, ⟨32, _⟩ => ⟨S2064x1, .f32⟩
  | .hbm, ⟨33, _⟩ => ⟨S_, .f32⟩
  | .hbm, ⟨34, _⟩ => ⟨S2064x1, .f32⟩
  | .hbm, ⟨35, _⟩ => ⟨S2064x1, .f32⟩
  | .hbm, ⟨36, _⟩ => ⟨S2064x1, .f32⟩
  | .hbm, ⟨37, _⟩ => ⟨S2064x1024, .f32⟩
  | .hbm, ⟨38, _⟩ => ⟨S2064x1024, .f32⟩
  | .hbm, ⟨39, _⟩ => ⟨S1x1024, .f32⟩
  | .hbm, ⟨40, _⟩ => ⟨S2064x1024, .f32⟩
  | .hbm, ⟨41, _⟩ => ⟨S2064x1024, .f32⟩
  | .hbm, ⟨42, _⟩ => ⟨S2064x1024, .bf16⟩
  | _, _ => ⟨S2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.Dense.lean ====
/- The attention of one head and its gradient, over the reals and in ordinary indices: 2048 tokens on a grid of 32
   rows of 64, in front of them 16 meta tokens. A token's query meets the keys of eight grid rows and the meta keys. -/
module

public import Idealize.ShloMosaic.Lib.Pointwise
public import Idealize.ShloMosaic.Lib.ValueIdx

@[expose] public section

noncomputable section

namespace Cert.NA

open Finset

/-- One head's arguments: queries, keys, values and the cotangent of the output, by row and lane, and the bias
    slab by row distance, query column and key column. -/
structure Head where
  q : ℕ → ℕ → ℝ
  k : ℕ → ℕ → ℝ
  v : ℕ → ℕ → ℝ
  o : ℕ → ℕ → ℝ
  S : ℕ → ℕ → ℕ → ℝ

/-- The first of the eight grid rows that row `r`'s queries meet. -/
def rs (r : ℕ) : ℕ := min (r - 4) 24

/-- Token `u`'s key is among those that token `t`'s query meets. -/
def Win (t u : ℕ) : Prop := rs (t / 64) ≤ u / 64 ∧ u / 64 < rs (t / 64) + 8

instance (t u : ℕ) : Decidable (Win t u) := inferInstanceAs (Decidable (_ ∧ _))

namespace Head

variable (H : Head)

/-- A token's logit at a token it meets. -/
def ls (t u : ℕ) : ℝ :=
  (∑ d ∈ range 64, H.q (16 + t) d * H.k (16 + u) d) * (1 / 8) + H.S (u / 64 + 7 - t / 64) (t % 64) (u % 64)

/-- A token's logit at a meta key. -/
def lm (t a : ℕ) : ℝ := (∑ d ∈ range 64, H.q (16 + t) d * H.k a d) * (1 / 8)

/-- A token's unnormalised weight at a token. -/
def W (t u : ℕ) : ℝ := if Win t u then Real.exp (H.ls t u) else 0

/-- The normaliser of a token's weights. -/
def Z (t : ℕ) : ℝ := ∑ u ∈ range 2048, H.W t u + ∑ a ∈ range 16, Real.exp (H.lm t a)

/-- A token's probabilities at the tokens and at the meta keys. -/
def P (t u : ℕ) : ℝ := H.W t u / H.Z t
def Pm (t a : ℕ) : ℝ := Real.exp (H.lm t a) / H.Z t

/-- The cotangent of a probability. -/
def dp (t u : ℕ) : ℝ := ∑ d ∈ range 64, H.o (16 + t) d * H.v (16 + u) d
def dpm (t a : ℕ) : ℝ := ∑ d ∈ range 64, H.o (16 + t) d * H.v a d

/-- The mean of a token's cotangents under its probabilities. -/
def mean (t : ℕ) : ℝ := ∑ u ∈ range 2048, H.P t u * H.dp t u + ∑ a ∈ range 16, H.Pm t a * H.dpm t a

/-- The cotangent of a logit. -/
def D (t u : ℕ) : ℝ := H.P t u * (H.dp t u - H.mean t)
def Dm (t a : ℕ) : ℝ := H.Pm t a * (H.dpm t a - H.mean t)

/-- The meta queries meet the meta keys only. -/
def lmm (b a : ℕ) : ℝ := (∑ d ∈ range 64, H.q b d * H.k a d) * (1 / 8)
def Pmm (b a : ℕ) : ℝ := Real.exp (H.lmm b a) / ∑ a' ∈ range 16, Real.exp (H.lmm b a')
def dpmm (b a : ℕ) : ℝ := ∑ d ∈ range 64, H.o b d * H.v a d
def Dmm (b a : ℕ) : ℝ := H.Pmm b a * (H.dpmm b a - ∑ a' ∈ range 16, H.Pmm b a' * H.dpmm b a') * (1 / 8)

/-- The gradients of the queries, keys, values and bias slab. -/
def dqTok (t d : ℕ) : ℝ :=
  (∑ u ∈ range 2048, H.D t u * H.k (16 + u) d + ∑ a ∈ range 16, H.Dm t a * H.k a d) * (1 / 8)
def dqMeta (b d : ℕ) : ℝ := ∑ a ∈ range 16, H.Dmm b a * H.k a d
def dkTok (u d : ℕ) : ℝ := ∑ t ∈ range 2048, H.D t u * (H.q (16 + t) d * (1 / 8))
def dkMeta (a d : ℕ) : ℝ :=
  ∑ b ∈ range 16, H.Dmm b a * H.q b d + ∑ t ∈ range 2048, H.Dm t a * (H.q (16 + t) d * (1 / 8))
def dvTok (u d : ℕ) : ℝ := ∑ t ∈ range 2048, H.P t u * H.o (16 + t) d
def dvMeta (a d : ℕ) : ℝ := ∑ b ∈ range 16, H.Pmm b a * H.o b d + ∑ t ∈ range 2048, H.Pm t a * H.o (16 + t) d
def dS (δ w c : ℕ) : ℝ :=
  ∑ r ∈ range 32, ∑ ρ ∈ range 32, if ρ + 7 = r + δ then H.D (64 * r + w) (64 * ρ + c) else 0

theorem W_nonneg (t u : ℕ) : 0 ≤ H.W t u := by unfold W; split_ifs <;> positivity

theorem meta_pos (t : ℕ) : 0 < ∑ a ∈ range 16, Real.exp (H.lm t a) :=
  Finset.sum_pos (fun _ _ => Real.exp_pos _) ⟨0, by simp⟩

theorem Z_pos (t : ℕ) : 0 < H.Z t :=
  add_pos_of_nonneg_of_pos (Finset.sum_nonneg fun _ _ => H.W_nonneg _ _) (H.meta_pos t)

theorem W_dead {t u : ℕ} (h : ¬ Win t u) : H.W t u = 0 := if_neg h
theorem P_dead {t u : ℕ} (h : ¬ Win t u) : H.P t u = 0 := by rw [P, H.W_dead h, zero_div]
theorem D_dead {t u : ℕ} (h : ¬ Win t u) : H.D t u = 0 := by rw [D, H.P_dead h, zero_mul]

end Head

/-- A sum over a window is the sum over the whole range of a function that vanishes outside. -/
theorem sum_window (f : ℕ → ℝ) (a n N : ℕ) (h : a + n ≤ N) (hz : ∀ u < N, (u < a ∨ a + n ≤ u) → f u = 0) :
    ∑ j ∈ range n, f (a + j) = ∑ u ∈ range N, f u := by
  have h1 : ∑ j ∈ range n, f (a + j) = ∑ u ∈ Ico a (a + n), f u := by
    rw [Finset.sum_Ico_eq_sum_range, Nat.add_sub_cancel_left]
  rw [h1]
  refine Finset.sum_subset (fun u hu => ?_) (fun u hu hn => ?_)
  · rw [Finset.mem_Ico] at hu; rw [Finset.mem_range]; omega
  · rw [Finset.mem_range] at hu; rw [Finset.mem_Ico] at hn
    exact hz u hu (by omega)

/-- A sum in consecutive blocks. -/
theorem sum_blocks (f : ℕ → ℝ) (B n : ℕ) :
    ∑ t ∈ range (n * B), f t = ∑ g ∈ range B, ∑ i ∈ range n, f (n * g + i) := by
  induction B with
  | zero => simp
  | succ B ih => rw [Nat.mul_succ, Finset.sum_range_add, ih, Finset.sum_range_succ]

/-- The sum over a window of consecutive grid rows of a function of a token's key that vanishes off its eight rows. -/
theorem sum_rows (f : ℕ → ℝ) (t s n : ℕ) (hs : s ≤ rs (t / 64)) (hn : rs (t / 64) + 8 ≤ s + n) (hN : s + n ≤ 32)
    (hz : ∀ u, ¬ Win t u → f u = 0) : ∑ j ∈ range (64 * n), f (64 * s + j) = ∑ u ∈ range 2048, f u := by
  refine sum_window f (64 * s) (64 * n) 2048 (by omega) fun u hu h => hz u fun hw => ?_
  unfold Win at hw
  omega

end Cert.NA

end
-- ==== Proof.Real.lean ====
/- Extended reals that are reals: sums, quotients and exponentials of coerced reals are coerced reals. -/
module

public import Idealize.ShloMosaic.Lib.Pointwise
public import Idealize.ShloMosaic.Lib.ValueIdx
public import Idealize.ShloMosaic.Lib.IdealHost

@[expose] public section

noncomputable section

namespace Cert.NA

open Finset Idealize.ShloMosaic

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of `n` extended reals whose terms are the reals `f 0, f 1, …`. -/
theorem sum_real {n : ℕ} {g : Fin n → EReal} (f : ℕ → ℝ) (h : ∀ k : Fin n, g k = ((f k.val : ℝ) : EReal)) :
    ∑ k, g k = ((∑ j ∈ range n, f j : ℝ) : EReal) := by
  rw [Finset.sum_congr rfl fun k _ => h k, coe_sum, Fin.sum_univ_eq_sum_range]

theorem div_real (x y : ℝ) (hy : y ≠ 0) : Ideal.div (x : EReal) (y : EReal) = ((x / y : ℝ) : EReal) := by
  rw [Ideal.div_coe hy, ← EReal.coe_mul, mul_one_div]

theorem one_div_real (y : ℝ) (hy : y ≠ 0) : Ideal.div 1 (y : EReal) = ((1 / y : ℝ) : EReal) := by
  rw [show (1 : EReal) = ((1 : ℝ) : EReal) from rfl, div_real 1 y hy]

theorem exp_sub_real (x M : ℝ) :
    Ideal.exp ((x : EReal) - (M : EReal)) = ((Real.exp x * Real.exp (-M) : ℝ) : EReal) := by
  rw [← EReal.coe_sub, ← Real.exp_add, ← sub_eq_add_neg]; rfl

theorem exp_bot_sub (M : ℝ) : Ideal.exp ((⊥ : EReal) - (M : EReal)) = ((0 : ℝ) : EReal) := by
  rw [EReal.bot_sub]; rfl

/-- The f32 pattern of one eighth. -/
theorem eighth : Ideal.ofBits .f32 0x3E000000#32 = (((1 / 8 : ℝ)) : EReal) := by
  simp [Ideal.ofBits, Ideal.ieee, -EReal.coe_mul]; norm_num

/-- The f32 pattern of minus infinity. -/
theorem minus_infinity : Ideal.ofBits .f32 0xFF800000#32 = (⊥ : EReal) := by
  simp [Ideal.ofBits, Ideal.ieee]

theorem fold_max_ne_top {n : ℕ} (i : EReal) (g : Fin n → EReal) (hi : i ≠ ⊤) (h : ∀ k, g k ≠ ⊤) :
    Finset.univ.fold max i g ≠ ⊤ := by
  rw [← lt_top_iff_ne_top, Finset.fold_max_lt]
  exact ⟨lt_top_iff_ne_top.mpr hi, fun k _ => lt_top_iff_ne_top.mpr (h k)⟩

theorem le_fold_max {n : ℕ} (i : EReal) (g : Fin n → EReal) (k : Fin n) : g k ≤ Finset.univ.fold max i g :=
  Finset.le_fold_max _ |>.mpr (Or.inr ⟨k, Finset.mem_univ k, le_rfl⟩)

/-- The maximum of extended reals none of which is `⊤` and one of which is a real is a real. -/
theorem fold_max_real {n : ℕ} (i : EReal) (g : Fin n → EReal) (hi : i ≠ ⊤) (h : ∀ k, g k ≠ ⊤) (k : Fin n) (x : ℝ)
    (hk : g k = x) : ∃ M : ℝ, Finset.univ.fold max i g = (M : EReal) := by
  have h1 := fold_max_ne_top i g hi h
  have h2 : Finset.univ.fold max i g ≠ ⊥ := fun hb => by
    have := le_fold_max i g k
    rw [hb, hk] at this
    exact absurd this (by simp)
  exact ⟨_, (EReal.coe_toReal h1 h2).symm⟩

/-- The larger of an extended real that is not `⊤` and a real is a real. -/
theorem max_real (a : EReal) (x : ℝ) (ha : a ≠ ⊤) : ∃ M : ℝ, max a (x : EReal) = (M : EReal) := by
  rcases le_total a (x : EReal) with h | h
  · exact ⟨x, max_eq_right h⟩
  · rw [max_eq_left h]
    refine ⟨a.toReal, (EReal.coe_toReal ha fun hb => ?_).symm⟩
    rw [hb] at h; exact absurd h (by simp)

end Cert.NA

end
-- ==== Proof.Block.lean ====
/- One block of the kernel: 256 queries against a window of 704 keys and the 16 meta keys. Where the block's inputs
   hold the head's reals, its probabilities, cotangents and products hold the dense attention's. -/
module

public import proofs.«01_k».proof.Proof.Gen.KernelIdeal.Skeleton
public import proofs.«01_k».proof.Proof.Dense
public import proofs.«01_k».proof.Proof.Real

@[expose] public section

set_option maxRecDepth 16384

noncomputable section

namespace Cert.NA

open Finset Idealize.ShloMosaic Cert.KernelIdeal Cert.KernelIdeal.Gen

variable [Cert.KernelIdeal.Facts]

/-- The block's inputs hold the head's reals: its queries are tokens `256 g + i`, its keys tokens `64 s + j`. -/
structure Ins (H : Head) (g s : ℕ) (qs : FVec Ideal S256x64 .bf16) (kk vv : FVec Ideal S704x64 .bf16)
    (ob : FVec Ideal S256x64 .bf16) (km vm : FVec Ideal S16x64 .bf16) (b : Vec Ideal S1x256x704 .f32) : Prop where
  hg : g < 8
  hs : s ≤ 21
  hq : ∀ (i : Fin 256) (d : Fin 64), qs (ix2 i d) = ((H.q (16 + (256 * g + i)) d * (1 / 8) : ℝ) : EReal)
  hk : ∀ (j : Fin 704) (d : Fin 64), kk (ix2 j d) = ((H.k (16 + (64 * s + j)) d : ℝ) : EReal)
  hv : ∀ (j : Fin 704) (d : Fin 64), vv (ix2 j d) = ((H.v (16 + (64 * s + j)) d : ℝ) : EReal)
  ho : ∀ (i : Fin 256) (d : Fin 64), ob (ix2 i d) = ((H.o (16 + (256 * g + i)) d : ℝ) : EReal)
  hkm : ∀ (a : Fin 16) (d : Fin 64), km (ix2 a d) = ((H.k a d : ℝ) : EReal)
  hvm : ∀ (a : Fin 16) (d : Fin 64), vm (ix2 a d) = ((H.v a d : ℝ) : EReal)
  hb : ∀ (i : Fin 256) (j : Fin 704), b (ix3 0 i j) = if Win (256 * g + i) (64 * s + j) then
    ((H.S ((64 * s + j) / 64 + 7 - (256 * g + i) / 64) ((256 * g + i) % 64) ((64 * s + j) % 64) : ℝ) : EReal) else ⊥
  hw : ∀ (i : Fin 256), s ≤ rs ((256 * g + i) / 64) ∧ rs ((256 * g + i) / 64) + 8 ≤ s + 11

namespace Ins

variable {H : Head} {g s : ℕ} {qs : FVec Ideal S256x64 .bf16} {kk vv : FVec Ideal S704x64 .bf16}
  {ob : FVec Ideal S256x64 .bf16} {km vm : FVec Ideal S16x64 .bf16} {b : Vec Ideal S1x256x704 .f32}

theorem logit (I : Ins H g s qs kk vv ob km vm b) (i : Fin 256) (j : Fin 704) :
    k0_pay126 qs kk b (ix2 i j)
      = if Win (256 * g + i) (64 * s + j) then ((H.ls (256 * g + i) (64 * s + j) : ℝ) : EReal) else ⊥ := by
  pointwise [k0_pay126]
  rw [I.hb, sum_real (fun d => H.q (16 + (256 * g + i)) d * H.k (16 + (64 * s + j)) d * (1 / 8))
    (fun d => by rw [I.hq, I.hk, ← EReal.coe_mul]; congr 1; ring)]
  split_ifs
  · rw [← EReal.coe_add, Head.ls, Finset.sum_mul]
  · rw [EReal.add_bot]

theorem logit_meta (I : Ins H g s qs kk vv ob km vm b) (i : Fin 256) (a : Fin 16) :
    k0_pay127 km qs (ix2 i a) = ((H.lm (256 * g + i) a : ℝ) : EReal) := by
  pointwise [k0_pay127]
  rw [sum_real (fun d => H.q (16 + (256 * g + i)) d * H.k a d * (1 / 8))
    (fun d => by rw [I.hq, I.hkm, ← EReal.coe_mul]; congr 1; ring), Head.lm, Finset.sum_mul]

theorem top (I : Ins H g s qs kk vv ob km vm b) (i : Fin 256) :
    ∃ M : ℝ, k0_pay128 km qs kk b (ix2 i 0) = (M : EReal) := by
  have h1 : ∀ j : Fin 704, k0_pay126 qs kk b (ix2 i j) ≠ ⊤ := fun j => by
    rw [I.logit]; split_ifs <;> simp
  have h2 : ∀ a : Fin 16, k0_pay127 km qs (ix2 i a) ≠ ⊤ := fun a => by rw [I.logit_meta]; simp
  pointwise [k0_pay128]
  rw [minus_infinity]
  obtain ⟨m, hm⟩ := fold_max_real ⊥ _ (by simp) h2 0 _ (I.logit_meta i 0)
  rw [hm]
  exact max_real _ m (fold_max_ne_top ⊥ _ (by simp) h1)

/-- The row's maximum. -/
def M (I : Ins H g s qs kk vv ob km vm b) (i : Fin 256) : ℝ := (I.top i).choose

theorem hM (I : Ins H g s qs kk vv ob km vm b) (i : Fin 256) : k0_pay128 km qs kk b (ix2 i 0) = (I.M i : EReal) :=
  (I.top i).choose_spec

theorem weight (I : Ins H g s qs kk vv ob km vm b) (i : Fin 256) (j : Fin 704) :
    k0_pay129 km qs kk b (ix2 i j) = ((H.W (256 * g + i) (64 * s + j) * Real.exp (-I.M i) : ℝ) : EReal) := by
  pointwise [k0_pay129]
  rw [I.hM, I.logit, Head.W]
  split_ifs
  · exact exp_sub_real _ _
  · rw [exp_bot_sub, zero_mul]

theorem weight_meta (I : Ins H g s qs kk vv ob km vm b) (i : Fin 256) (a : Fin 16) :
    k0_pay130 km qs kk b (ix2 i a) = ((Real.exp (H.lm (256 * g + i) a) * Real.exp (-I.M i) : ℝ) : EReal) := by
  pointwise [k0_pay130]
  rw [I.hM, I.logit_meta]
  exact exp_sub_real _ _

/-- The window holds every key that the query meets, so a sum over it is the sum over all tokens. -/
theorem window (I : Ins H g s qs kk vv ob km vm b) (i : Fin 256) (f : ℕ → ℝ)
    (hz : ∀ u, ¬ Win (256 * g + i) u → f u = 0) : ∑ j ∈ range 704, f (64 * s + j) = ∑ u ∈ range 2048, f u :=
  sum_rows f _ s 11 (I.hw i).1 (I.hw i).2 (by have := I.hs; omega) hz

theorem norm (I : Ins H g s qs kk vv ob km vm b) (i : Fin 256) :
    k0_pay131 km qs kk b (ix2 i 0) = ((1 / (H.Z (256 * g + i) * Real.exp (-I.M i)) : ℝ) : EReal) := by
  pointwise [k0_pay131]
  rw [sum_real (fun j => H.W (256 * g + i) (64 * s + j) * Real.exp (-I.M i)) (I.weight i),
    sum_real (fun a => Real.exp (H.lm (256 * g + i) a) * Real.exp (-I.M i)) (I.weight_meta i),
    ← EReal.coe_add, ← Finset.sum_mul, ← Finset.sum_mul, ← add_mul,
    I.window i (fun u => H.W (256 * g + i) u) (fun u h => H.W_dead h)]
  exact one_div_real _ (mul_pos (H.Z_pos _) (Real.exp_pos _)).ne'

theorem prob (I : Ins H g s qs kk vv ob km vm b) (i : Fin 256) (j : Fin 704) :
    k0_pay132 km qs kk b (ix2 i j) = ((H.P (256 * g + i) (64 * s + j) : ℝ) : EReal) := by
  pointwise [k0_pay132]
  rw [I.weight, I.norm, ← EReal.coe_mul, Head.P]
  have := (H.Z_pos (256 * g + i)).ne'; have := (Real.exp_pos (-I.M i)).ne'
  congr 1; field_simp

theorem prob_meta (I : Ins H g s qs kk vv ob km vm b) (i : Fin 256) (a : Fin 16) :
    k0_pay133 km qs kk b (ix2 i a) = ((H.Pm (256 * g + i) a : ℝ) : EReal) := by
  pointwise [k0_pay133]
  rw [I.weight_meta, I.norm, ← EReal.coe_mul, Head.Pm]
  have := (H.Z_pos (256 * g + i)).ne'; have := (Real.exp_pos (-I.M i)).ne'
  congr 1; field_simp

theorem cot (I : Ins H g s qs kk vv ob km vm b) (i : Fin 256) (j : Fin 704) :
    k0_pay134 vv ob (ix2 i j) = ((H.dp (256 * g + i) (64 * s + j) : ℝ) : EReal) := by
  pointwise [k0_pay134]
  exact sum_real (fun d => H.o (16 + (256 * g + i)) d * H.v (16 + (64 * s + j)) d)
    (fun d => by rw [I.ho, I.hv, ← EReal.coe_mul])

theorem cot_meta (I : Ins H g s qs kk vv ob km vm b) (i : Fin 256) (a : Fin 16) :
    k0_pay135 vm ob (ix2 i a) = ((H.dpm (256 * g + i) a : ℝ) : EReal) := by
  pointwise [k0_pay135]
  exact sum_real (fun d => H.o (16 + (256 * g + i)) d * H.v a d) (fun d => by rw [I.ho, I.hvm, ← EReal.coe_mul])

theorem mean (I : Ins H g s qs kk vv ob km vm b) (i : Fin 256) :
    k0_pay136 km vm qs kk vv ob b (ix2 i 0) = ((H.mean (256 * g + i) : ℝ) : EReal) := by
  pointwise [k0_pay136]
  rw [sum_real (fun j => H.P (256 * g + i) (64 * s + j) * H.dp (256 * g + i) (64 * s + j))
      (fun j => by rw [I.prob, I.cot, ← EReal.coe_mul]),
    sum_real (fun a => H.Pm (256 * g + i) a * H.dpm (256 * g + i) a)
      (fun a => by rw [I.prob_meta, I.cot_meta, ← EReal.coe_mul]), ← EReal.coe_add,
    I.window i (fun u => H.P (256 * g + i) u * H.dp (256 * g + i) u) (fun u h => by rw [H.P_dead h, zero_mul])]
  rfl

theorem grad (I : Ins H g s qs kk vv ob km vm b) (i : Fin 256) (j : Fin 704) :
    k0_pay137 km vm qs kk vv ob b (ix2 i j) = ((H.D (256 * g + i) (64 * s + j) : ℝ) : EReal) := by
  pointwise [k0_pay137]
  rw [I.prob, I.cot, I.mean, ← EReal.coe_sub, ← EReal.coe_mul]
  rfl

theorem grad_meta (I : Ins H g s qs kk vv ob km vm b) (i : Fin 256) (a : Fin 16) :
    k0_pay138 km vm qs kk vv ob b (ix2 i a) = ((H.Dm (256 * g + i) a : ℝ) : EReal) := by
  pointwise [k0_pay138]
  rw [I.prob_meta, I.cot_meta, I.mean, ← EReal.coe_sub, ← EReal.coe_mul]
  rfl

/-- The block's rows of the queries' gradient. -/
theorem dq (I : Ins H g s qs kk vv ob km vm b) (i : Fin 256) (d : Fin 64) :
    k0_pay143 km kk (k0_pay137 km vm qs kk vv ob b) (k0_pay138 km vm qs kk vv ob b) (ix3 0 i d)
      = ((H.dqTok (256 * g + i) d : ℝ) : EReal) := by
  pointwise [k0_pay143, k0_pay141, k0_pay142]
  rw [sum_real (fun j => H.D (256 * g + i) (64 * s + j) * H.k (16 + (64 * s + j)) d)
      (fun j => by rw [I.grad, I.hk, ← EReal.coe_mul]),
    sum_real (fun a => H.Dm (256 * g + i) a * H.k a d) (fun a => by rw [I.grad_meta, I.hkm, ← EReal.coe_mul]),
    I.window i (fun u => H.D (256 * g + i) u * H.k (16 + u) d) (fun u h => by rw [H.D_dead h, zero_mul]),
    eighth, ← EReal.coe_add, ← EReal.coe_mul]
  rfl

/-- What the block adds to the keys' gradient, -/
theorem dk (I : Ins H g s qs kk vv ob km vm b) (old : Vec Ideal S1x704x64 .f32) (j : Fin 704) (d : Fin 64) :
    k0_pay144 qs (k0_pay137 km vm qs kk vv ob b) old (ix3 0 j d) = old (ix3 0 j d)
      + ((∑ i ∈ range 256, H.D (256 * g + i) (64 * s + j) * (H.q (16 + (256 * g + i)) d * (1 / 8)) : ℝ) : EReal) := by
  pointwise [k0_pay144, k0_pay141]
  rw [sum_real (fun i => H.D (256 * g + i) (64 * s + j) * (H.q (16 + (256 * g + i)) d * (1 / 8)))
    (fun i => by rw [I.grad, I.hq, ← EReal.coe_mul])]

/-- to the values' gradient, -/
theorem dv (I : Ins H g s qs kk vv ob km vm b) (old : Vec Ideal S1x704x64 .f32) (j : Fin 704) (d : Fin 64) :
    k0_pay145 ob (k0_pay132 km qs kk b) old (ix3 0 j d) = old (ix3 0 j d)
      + ((∑ i ∈ range 256, H.P (256 * g + i) (64 * s + j) * H.o (16 + (256 * g + i)) d : ℝ) : EReal) := by
  pointwise [k0_pay145]
  rw [sum_real (fun i => H.P (256 * g + i) (64 * s + j) * H.o (16 + (256 * g + i)) d)
    (fun i => by rw [I.prob, I.ho, ← EReal.coe_mul])]

/-- to the meta keys' gradient, -/
theorem dkm (I : Ins H g s qs kk vv ob km vm b) (old : FVec Ideal S16x64 .f32) (a : Fin 16) (d : Fin 64) :
    k0_pay146 old qs (k0_pay138 km vm qs kk vv ob b) (ix2 a d) = old (ix2 a d)
      + ((∑ i ∈ range 256, H.Dm (256 * g + i) a * (H.q (16 + (256 * g + i)) d * (1 / 8)) : ℝ) : EReal) := by
  pointwise [k0_pay146, k0_pay142]
  rw [sum_real (fun i => H.Dm (256 * g + i) a * (H.q (16 + (256 * g + i)) d * (1 / 8)))
    (fun i => by rw [I.grad_meta, I.hq, ← EReal.coe_mul])]

/-- to the meta values' gradient, -/
theorem dvm (I : Ins H g s qs kk vv ob km vm b) (old : FVec Ideal S16x64 .f32) (a : Fin 16) (d : Fin 64) :
    k0_pay148 old ob (k0_pay147 (k0_pay133 km qs kk b)) (ix2 a d) = old (ix2 a d)
      + ((∑ i ∈ range 256, H.Pm (256 * g + i) a * H.o (16 + (256 * g + i)) d : ℝ) : EReal) := by
  pointwise [k0_pay148, k0_pay147]
  rw [sum_real (fun i => H.Pm (256 * g + i) a * H.o (16 + (256 * g + i)) d)
    (fun i => by rw [I.prob_meta, I.ho, ← EReal.coe_mul])]

/-- and to its type's tile of the bias gradient. -/
theorem db (I : Ins H g s qs kk vv ob km vm b) (old : Vec Ideal S1x256x704 .f32) (i : Fin 256) (j : Fin 704) :
    k0_pay140 (k0_pay137 km vm qs kk vv ob b) (k0_pay139 old) (ix3 0 i j)
      = old (ix3 0 i j) + ((H.D (256 * g + i) (64 * s + j) : ℝ) : EReal) := by
  pointwise [k0_pay140, k0_pay139]
  rw [I.grad]

end Ins

end Cert.NA

end
-- ==== Proof.Meta.lean ====
/- The meta queries, which meet the meta keys only: their probabilities, the cotangents of their logits, and what they
   give to the gradients of the meta rows. -/
module

public import proofs.«01_k».proof.Proof.Block

@[expose] public section

set_option maxRecDepth 16384

noncomputable section

namespace Cert.NA

open Finset Idealize.ShloMosaic Cert.KernelIdeal Cert.KernelIdeal.Gen

variable [Cert.KernelIdeal.Facts]

theorem Head.smm_pos (H : Head) (b : ℕ) : 0 < ∑ a ∈ range 16, Real.exp (H.lmm b a) :=
  Finset.sum_pos (fun _ _ => Real.exp_pos _) ⟨0, by simp⟩

/-- The meta rows as loaded hold the head's reals. -/
structure InsM (H : Head) (X0 X1 X2 X4 : Vec Ideal S1x16x64 .f32) : Prop where
  hq : ∀ (a : Fin 16) (d : Fin 64), X0 (ix3 0 a d) = ((H.q a d : ℝ) : EReal)
  hk : ∀ (a : Fin 16) (d : Fin 64), X1 (ix3 0 a d) = ((H.k a d : ℝ) : EReal)
  hv : ∀ (a : Fin 16) (d : Fin 64), X2 (ix3 0 a d) = ((H.v a d : ℝ) : EReal)
  ho : ∀ (a : Fin 16) (d : Fin 64), X4 (ix3 0 a d) = ((H.o a d : ℝ) : EReal)

namespace InsM

variable {H : Head} {X0 X1 X2 X4 : Vec Ideal S1x16x64 .f32}

theorem km (I : InsM H X0 X1 X2 X4) (a : Fin 16) (d : Fin 64) : k0_pay109 X1 (ix2 a d) = ((H.k a d : ℝ) : EReal) := by
  pointwise [k0_pay109]; exact I.hk a d

theorem vm (I : InsM H X0 X1 X2 X4) (a : Fin 16) (d : Fin 64) : k0_pay110 X2 (ix2 a d) = ((H.v a d : ℝ) : EReal) := by
  pointwise [k0_pay110]; exact I.hv a d

theorem qm (I : InsM H X0 X1 X2 X4) (a : Fin 16) (d : Fin 64) : k0_pay114 X0 (ix2 a d) = ((H.q a d : ℝ) : EReal) := by
  pointwise [k0_pay114]; exact I.hq a d

theorem om (I : InsM H X0 X1 X2 X4) (a : Fin 16) (d : Fin 64) : k0_pay115 X4 (ix2 a d) = ((H.o a d : ℝ) : EReal) := by
  pointwise [k0_pay115]; exact I.ho a d

theorem weight (I : InsM H X0 X1 X2 X4) (b : Fin 16) :
    ∃ M : ℝ, ∀ a : Fin 16, k0_pay116 X1 X0 (ix2 b a) = ((Real.exp (H.lmm b a) * Real.exp (-M) : ℝ) : EReal) := by
  have hl : ∀ a : Fin 16, (∑ d : Fin 64, k0_pay114 X0 (ix2 b d) * k0_pay109 X1 (ix2 a d)) * Ideal.ofBits .f32 0x3E000000#32
      = ((H.lmm b a : ℝ) : EReal) := fun a => by
    rw [sum_real (fun d => H.q b d * H.k a d) (fun d => by rw [I.qm, I.km, ← EReal.coe_mul]), eighth, ← EReal.coe_mul,
      Head.lmm]
  obtain ⟨M, hM⟩ := fold_max_real ⊥ (fun a : Fin 16 => ((H.lmm b a : ℝ) : EReal)) (by simp)
    (fun a => EReal.coe_ne_top _) 0 _ rfl
  refine ⟨M, fun a => ?_⟩
  pointwise [k0_pay116]
  simp only [hl]
  rw [minus_infinity, hM]
  exact exp_sub_real _ _

theorem prob (I : InsM H X0 X1 X2 X4) (b a : Fin 16) :
    k0_pay117 (k0_pay116 X1 X0) (ix2 b a) = ((H.Pmm b a : ℝ) : EReal) := by
  obtain ⟨M, hM⟩ := I.weight b
  pointwise [k0_pay117]
  rw [sum_real (fun a => Real.exp (H.lmm b a) * Real.exp (-M)) hM, hM, ← Finset.sum_mul,
    div_real _ _ (mul_pos (H.smm_pos b) (Real.exp_pos _)).ne', Head.Pmm]
  have := (H.smm_pos b).ne'; have := (Real.exp_pos (-M)).ne'
  congr 1; field_simp

theorem grad (I : InsM H X0 X1 X2 X4) (b a : Fin 16) :
    k0_pay118 (k0_pay110 X2) (k0_pay115 X4) (k0_pay116 X1 X0) (ix2 b a) = ((H.Dmm b a : ℝ) : EReal) := by
  have hd : ∀ a : Fin 16, (∑ d : Fin 64, k0_pay115 X4 (ix2 b d) * k0_pay110 X2 (ix2 a d)) = ((H.dpmm b a : ℝ) : EReal) :=
    fun a => by
      rw [sum_real (fun d => H.o b d * H.v a d) (fun d => by rw [I.om, I.vm, ← EReal.coe_mul]), Head.dpmm]
  pointwise [k0_pay118]
  simp only [hd, I.prob]
  rw [sum_real (fun a => H.Pmm b a * H.dpmm b a) (fun a => (EReal.coe_mul _ _).symm), eighth, ← EReal.coe_sub, ← EReal.coe_mul, ← EReal.coe_mul]
  rfl

theorem dq (I : InsM H X0 X1 X2 X4) (b : Fin 16) (d : Fin 64) :
    k0_pay119 (k0_pay109 X1) (k0_pay110 X2) (k0_pay115 X4) (k0_pay116 X1 X0) (ix3 0 b d)
      = ((H.dqMeta b d : ℝ) : EReal) := by
  pointwise [k0_pay119]
  rw [sum_real (fun a => H.Dmm b a * H.k a d) (fun a => by rw [I.grad, I.km, ← EReal.coe_mul])]
  rfl

theorem dk (I : InsM H X0 X1 X2 X4) (a : Fin 16) (d : Fin 64) :
    k0_pay120 (k0_pay110 X2) (k0_pay114 X0) (k0_pay115 X4) (k0_pay116 X1 X0) (ix2 a d)
      = ((∑ b ∈ range 16, H.Dmm b a * H.q b d : ℝ) : EReal) := by
  pointwise [k0_pay120]
  exact sum_real (fun b => H.Dmm b a * H.q b d) (fun b => by rw [I.grad, I.qm, ← EReal.coe_mul])

theorem dv (I : InsM H X0 X1 X2 X4) (a : Fin 16) (d : Fin 64) :
    k0_pay121 (k0_pay115 X4) (k0_pay116 X1 X0) (ix2 a d) = ((∑ b ∈ range 16, H.Pmm b a * H.o b d : ℝ) : EReal) := by
  pointwise [k0_pay121]
  exact sum_real (fun b => H.Pmm b a * H.o b d) (fun b => by rw [I.prob, I.om, ← EReal.coe_mul])

end InsM

end Cert.NA

end
-- ==== Proof.Pieces.lean ====
/- What a buffer holds after stores of unit-stride rectangles, read at ordinary indices: the last store that holds the
   index decides. -/
module

public import Idealize.ShloMosaic.Lib.Pointwise
public import Idealize.ShloMosaic.Lib.ValueIdx

@[expose] public section

noncomputable section

namespace Cert.NA

open Finset Idealize.ShloMosaic

variable {Val : EltTy → Type} [∀ e, Nonempty (Val e)] {e : EltTy}

/-- An index inside the last store's rectangle holds that store's value there. -/
theorem canon_hit3 {n0 n1 n2 s0 s1 s2 : ℕ} (o0 o1 o2 : ℕ) (inb) (w) (L) (i0 : Fin s0) (i1 : Fin s1) (i2 : Fin s2)
    (j0 : Fin n0) (j1 : Fin n1) (j2 : Fin n2) (h0 : (j0 : ℕ) = o0 + i0) (h1 : (j1 : ℕ) = o1 + i1)
    (h2 : (j2 : ℕ) = o2 + i2) :
    View.canon (Val := Val) (e := e) (s := ⟨3, ![n0, n1, n2]⟩)
      (⟨Rect.unit ![o0, o1, o2] ![s0, s1, s2] inb, w⟩ :: L) (ix3 j0 j1 j2) = w (ix3 i0 i1 i2) := by
  have h : (ix3 j0 j1 j2 : Shape.Idx ⟨3, ![n0, n1, n2]⟩)
      = (Rect.unit (s := ⟨3, ![n0, n1, n2]⟩) ![o0, o1, o2] ![s0, s1, s2] inb).emb (ix3 i0 i1 i2) := by
    funext a
    refine Fin.ext ?_
    match a with
    | 0 => exact h0.trans (by simp [Rect.emb, Rect.unit])
    | 1 => exact h1.trans (by simp [Rect.emb, Rect.unit])
    | 2 => exact h2.trans (by simp [Rect.emb, Rect.unit])
  rw [h, View.canon_cons_emb]

/-- An index outside the last store's rectangle holds what the earlier stores left. -/
theorem canon_miss3 {n0 n1 n2 s0 s1 s2 : ℕ} (o0 o1 o2 : ℕ) (inb) (w) (L)
    (j0 : Fin n0) (j1 : Fin n1) (j2 : Fin n2)
    (h : ¬ ((o0 ≤ j0 ∧ (j0 : ℕ) < o0 + s0) ∧ (o1 ≤ j1 ∧ (j1 : ℕ) < o1 + s1) ∧ (o2 ≤ j2 ∧ (j2 : ℕ) < o2 + s2))) :
    View.canon (Val := Val) (e := e) (s := ⟨3, ![n0, n1, n2]⟩)
      (⟨Rect.unit ![o0, o1, o2] ![s0, s1, s2] inb, w⟩ :: L) (ix3 j0 j1 j2) = View.canon L (ix3 j0 j1 j2) := by
  refine View.canon_cons_of_not_mem _ _ fun hm => h ?_
  rw [Rect.mem_set_unit] at hm
  exact ⟨hm 0, hm 1, hm 2⟩

/-- A read of a rectangle of stored contents reads them at the rectangle's indices. -/
theorem read_stored {sig : RefSig} {κ : Kind} {sp : Space} {n0 n1 n2 s0 s1 s2 : ℕ}
    (v : View sig κ sp ⟨3, ![n0, n1, n2]⟩ e) (L : List (View.Piece Val ⟨3, ![n0, n1, n2]⟩ e)) (o0 o1 o2 : ℕ) (inb)
    (i0 : Fin s0) (i1 : Fin s1) (i2 : Fin s2) (j0 : Fin n0) (j1 : Fin n1) (j2 : Fin n2) (h0 : (j0 : ℕ) = o0 + i0)
    (h1 : (j1 : ℕ) = o1 + i1) (h2 : (j2 : ℕ) = o2 + i2) :
    v.readCov L (Rect.unit (s := ⟨3, ![n0, n1, n2]⟩) ![o0, o1, o2] ![s0, s1, s2] inb).toLoadRect (ix3 i0 i1 i2)
      = View.canon L (ix3 j0 j1 j2) := by
  rw [View.readCov_eq_canon']
  refine congrArg (View.canon L) ?_
  funext a
  refine Fin.ext ?_
  match a with
  | 0 => exact Eq.trans (by simp [LoadRect.idx, Rect.toLoadRect, Rect.unit]) h0.symm
  | 1 => exact Eq.trans (by simp [LoadRect.idx, Rect.toLoadRect, Rect.unit]) h1.symm
  | 2 => exact Eq.trans (by simp [LoadRect.idx, Rect.toLoadRect, Rect.unit]) h2.symm

theorem canon_hit4 {n0 n1 n2 n3 s0 s1 s2 s3 : ℕ} (o0 o1 o2 o3 : ℕ) (inb) (w) (L) (i0 : Fin s0) (i1 : Fin s1)
    (i2 : Fin s2) (i3 : Fin s3) (j0 : Fin n0) (j1 : Fin n1) (j2 : Fin n2) (j3 : Fin n3) (h0 : (j0 : ℕ) = o0 + i0)
    (h1 : (j1 : ℕ) = o1 + i1) (h2 : (j2 : ℕ) = o2 + i2) (h3 : (j3 : ℕ) = o3 + i3) :
    View.canon (Val := Val) (e := e) (s := ⟨4, ![n0, n1, n2, n3]⟩)
      (⟨Rect.unit ![o0, o1, o2, o3] ![s0, s1, s2, s3] inb, w⟩ :: L) (ix4 j0 j1 j2 j3) = w (ix4 i0 i1 i2 i3) := by
  have h : (ix4 j0 j1 j2 j3 : Shape.Idx ⟨4, ![n0, n1, n2, n3]⟩)
      = (Rect.unit (s := ⟨4, ![n0, n1, n2, n3]⟩) ![o0, o1, o2, o3] ![s0, s1, s2, s3] inb).emb (ix4 i0 i1 i2 i3) := by
    funext a
    refine Fin.ext ?_
    match a with
    | 0 => exact h0.trans (by simp [Rect.emb, Rect.unit])
    | 1 => exact h1.trans (by simp [Rect.emb, Rect.unit])
    | 2 => exact h2.trans (by simp [Rect.emb, Rect.unit])
    | 3 => exact h3.trans (by simp [Rect.emb, Rect.unit])
  rw [h, View.canon_cons_emb]

theorem canon_miss4 {n0 n1 n2 n3 s0 s1 s2 s3 : ℕ} (o0 o1 o2 o3 : ℕ) (inb) (w) (L)
    (j0 : Fin n0) (j1 : Fin n1) (j2 : Fin n2) (j3 : Fin n3) (h : ¬ (o1 ≤ j1 ∧ (j1 : ℕ) < o1 + s1)) :
    View.canon (Val := Val) (e := e) (s := ⟨4, ![n0, n1, n2, n3]⟩)
      (⟨Rect.unit ![o0, o1, o2, o3] ![s0, s1, s2, s3] inb, w⟩ :: L) (ix4 j0 j1 j2 j3)
        = View.canon L (ix4 j0 j1 j2 j3) := by
  refine View.canon_cons_of_not_mem _ _ fun hm => h ?_
  rw [Rect.mem_set_unit] at hm
  exact hm 1

end Cert.NA
-- ==== Proof.Loads.lean ====
/- What the kernel's loads and its bias scratch hold, in terms of the head's reals. -/
module

public import proofs.«01_k».proof.Proof.Meta
public import Idealize.ShloMosaic.Lib.WholeRead
public import proofs.«01_k».proof.Proof.Pieces
public import proofs.«01_k».proof.Proof.Gen.KernelIdeal.Frame

@[expose] public section

set_option maxRecDepth 16384

noncomputable section

namespace Cert.NA

open Finset Idealize.ShloMosaic Cert.KernelIdeal Cert.KernelIdeal.Gen

variable [Cert.KernelIdeal.Facts]

/-- The kernel's input blocks hold one head's reals. -/
structure Holds (H : Head) (x0 x1 x2 : Vec Ideal S1x2064x64 .f32) (x3 : Vec Ideal S1x15x64x64 .f32)
    (x4 : Vec Ideal S1x2064x64 .f32) : Prop where
  hq : ∀ (n : Fin 2064) (d : Fin 64), x0 (ix3 0 n d) = ((H.q n d : ℝ) : EReal)
  hk : ∀ (n : Fin 2064) (d : Fin 64), x1 (ix3 0 n d) = ((H.k n d : ℝ) : EReal)
  hv : ∀ (n : Fin 2064) (d : Fin 64), x2 (ix3 0 n d) = ((H.v n d : ℝ) : EReal)
  hS : ∀ (δ : Fin 15) (w e : Fin 64), x3 (ix4 0 δ w e) = ((H.S δ w e : ℝ) : EReal)
  ho : ∀ (n : Fin 2064) (d : Fin 64), x4 (ix3 0 n d) = ((H.o n d : ℝ) : EReal)

section Loads

variable {m : Memref sig .tc .vmem S1x2064x64 .f32} (h : m.IsWhole) {x : Vec Ideal S1x2064x64 .f32} {f : ℕ → ℕ → ℝ}

/-- A load of `n` rows from row `o`. -/
theorem load_rows (hx : ∀ (n : Fin 2064) (d : Fin 64), x (ix3 0 n d) = ((f n d : ℝ) : EReal)) (o n : ℕ)
    (inb) (i : Fin n) (d : Fin 64) :
    View.readAt (Elt Ideal) m.view (Rect.unit (s := S1x2064x64) ![0, o, 0] ![1, n, 64] inb).toLoadRect (h.unread x)
      (ix3 (0 : Fin 1) i d) = ((f (o + i) d : ℝ) : EReal) := by
  have h1 : o + n ≤ 2064 := inb 1
  refine (Memref.IsWhole.readAt_unread h x _ _).trans (Eq.trans (congrArg x ?_) (hx ⟨o + i, by omega⟩ d))
  funext a
  refine Fin.ext ?_
  match a with
  | 0 => simp [LoadRect.idx, Rect.toLoadRect, Rect.unit, ix3]
  | 1 => simp [LoadRect.idx, Rect.toLoadRect, Rect.unit, ix3]
  | 2 => simp [LoadRect.idx, Rect.toLoadRect, Rect.unit, ix3]

theorem load_q (hx : ∀ (n : Fin 2064) (d : Fin 64), x (ix3 0 n d) = ((f n d : ℝ) : EReal)) (o g : ℕ) (e : o = 16 + 256 * g)
    (inb) (i : Fin 256) (d : Fin 64) :
    k0_pay122 (View.readAt (Elt Ideal) m.view (Rect.unit (s := S1x2064x64) ![0, o, 0] ![1, 256, 64] inb).toLoadRect (h.unread x))
      (ix2 i d) = ((f (16 + (256 * g + i)) d * (1 / 8) : ℝ) : EReal) := by
  pointwise [k0_pay122]
  rw [load_rows h hx, eighth, ← EReal.coe_mul, e, Nat.add_assoc]

theorem load_o (hx : ∀ (n : Fin 2064) (d : Fin 64), x (ix3 0 n d) = ((f n d : ℝ) : EReal)) (o g : ℕ) (e : o = 16 + 256 * g)
    (inb) (i : Fin 256) (d : Fin 64) :
    k0_pay125 (View.readAt (Elt Ideal) m.view (Rect.unit (s := S1x2064x64) ![0, o, 0] ![1, 256, 64] inb).toLoadRect (h.unread x))
      (ix2 i d) = ((f (16 + (256 * g + i)) d : ℝ) : EReal) := by
  pointwise [k0_pay125]
  rw [load_rows h hx, e, Nat.add_assoc]

theorem load_k (hx : ∀ (n : Fin 2064) (d : Fin 64), x (ix3 0 n d) = ((f n d : ℝ) : EReal)) (o s : ℕ) (e : o = 16 + 64 * s)
    (inb) (j : Fin 704) (d : Fin 64) :
    k0_pay123 (View.readAt (Elt Ideal) m.view (Rect.unit (s := S1x2064x64) ![0, o, 0] ![1, 704, 64] inb).toLoadRect (h.unread x))
      (ix2 j d) = ((f (16 + (64 * s + j)) d : ℝ) : EReal) := by
  pointwise [k0_pay123]
  rw [load_rows h hx, e, Nat.add_assoc]

theorem load_meta (hx : ∀ (n : Fin 2064) (d : Fin 64), x (ix3 0 n d) = ((f n d : ℝ) : EReal))
    (inb) (a : Fin 16) (d : Fin 64) :
    View.readAt (Elt Ideal) m.view (Rect.unit (s := S1x2064x64) ![0, 0, 0] ![1, 16, 64] inb).toLoadRect (h.unread x)
      (ix3 (0 : Fin 1) a d) = ((f a d : ℝ) : EReal) := by
  rw [load_rows h hx, Nat.zero_add]

end Loads

/-- The first grid row of block `g`'s window, and the type of its bias tile. -/
def st (g : ℕ) : ℕ := min (4 * g - 4) 21
def ty (g : ℕ) : ℕ := if g = 0 then 0 else if g = 7 then 2 else 1

/-- The tiles of the bias scratch, the last store first: type, block row, block column, and the slab's row distance. -/
def tiles : List (Fin 3 × Fin 4 × Fin 11 × Fin 15) :=
    [(2, 3, 10, 7), (2, 3, 9, 6), (2, 3, 8, 5), (2, 3, 7, 4), (2, 3, 6, 3), (2, 3, 5, 2), (2, 3, 4, 1), (2, 3, 3, 0),
    (2, 2, 10, 8), (2, 2, 9, 7), (2, 2, 8, 6), (2, 2, 7, 5), (2, 2, 6, 4), (2, 2, 5, 3), (2, 2, 4, 2), (2, 2, 3, 1),
    (2, 1, 10, 9), (2, 1, 9, 8), (2, 1, 8, 7), (2, 1, 7, 6), (2, 1, 6, 5), (2, 1, 5, 4), (2, 1, 4, 3), (2, 1, 3, 2),
    (2, 0, 10, 10), (2, 0, 9, 9), (2, 0, 8, 8), (2, 0, 7, 7), (2, 0, 6, 6), (2, 0, 5, 5), (2, 0, 4, 4),
    (2, 0, 3, 3), (1, 3, 10, 10), (1, 3, 9, 9), (1, 3, 8, 8), (1, 3, 7, 7), (1, 3, 6, 6), (1, 3, 5, 5),
    (1, 3, 4, 4), (1, 3, 3, 3), (1, 2, 9, 10), (1, 2, 8, 9), (1, 2, 7, 8), (1, 2, 6, 7), (1, 2, 5, 6), (1, 2, 4, 5),
    (1, 2, 3, 4), (1, 2, 2, 3), (1, 1, 8, 10), (1, 1, 7, 9), (1, 1, 6, 8), (1, 1, 5, 7), (1, 1, 4, 6), (1, 1, 3, 5),
    (1, 1, 2, 4), (1, 1, 1, 3), (1, 0, 7, 10), (1, 0, 6, 9), (1, 0, 5, 8), (1, 0, 4, 7), (1, 0, 3, 6), (1, 0, 2, 5),
    (1, 0, 1, 4), (1, 0, 0, 3), (0, 3, 7, 11), (0, 3, 6, 10), (0, 3, 5, 9), (0, 3, 4, 8), (0, 3, 3, 7),
    (0, 3, 2, 6), (0, 3, 1, 5), (0, 3, 0, 4), (0, 2, 7, 12), (0, 2, 6, 11), (0, 2, 5, 10), (0, 2, 4, 9),
    (0, 2, 3, 8), (0, 2, 2, 7), (0, 2, 1, 6), (0, 2, 0, 5), (0, 1, 7, 13), (0, 1, 6, 12), (0, 1, 5, 11),
    (0, 1, 4, 10), (0, 1, 3, 9), (0, 1, 2, 8), (0, 1, 1, 7), (0, 1, 0, 6), (0, 0, 7, 14), (0, 0, 6, 13),
    (0, 0, 5, 12), (0, 0, 4, 11), (0, 0, 3, 10), (0, 0, 2, 9), (0, 0, 1, 8), (0, 0, 0, 7)]

/-- A block's grid row meets a window's grid row where the scratch has a tile, and the tile is the slab's at their
    distance. -/
theorem tiles_find : ∀ g : Fin 8, ∀ a : Fin 4, ∀ b : Fin 11,
    ((tiles.find? fun x => decide (x.1.val = ty g ∧ x.2.1 = a ∧ x.2.2.1 = b)).map fun x => x.2.2.2.val)
      = if rs (4 * g + a) ≤ st g + b ∧ st g + b < rs (4 * g + a) + 8 then some (st g + b + 7 - (4 * g + a)) else none := by
  decide +kernel

section Bias

variable {m : Memref sig .tc .vmem S1x15x64x64 .f32} (h : m.IsWhole) {x : Vec Ideal S1x15x64x64 .f32}

/-- The slab's tile at a row distance, as loaded and stored. -/
def slab (h : m.IsWhole) (x : Vec Ideal S1x15x64x64 .f32) (δ : Fin 15) : FVec Ideal S1x64x64 .f32 :=
  shapeCast S1x64x64 (shapeCast S64x64 (View.readAt (Elt Ideal) m.view
    (Rect.unit (s := S1x15x64x64) ![0, δ.val, 0, 0] S1x1x64x64.size (by
      intro a; match a with
      | 0 => exact Nat.le_refl _
      | 1 => exact δ.isLt
      | 2 => exact Nat.le_refl _
      | 3 => exact Nat.le_refl _)).toLoadRect (h.unread x)) shapeCasts_S1x1x64x64_S64x64) shapeCasts_S64x64_S1x64x64

theorem slab_cast (X : Vec Ideal S1x1x64x64 .f32) (w e : Fin 64) :
    shapeCast S1x64x64 (shapeCast S64x64 X shapeCasts_S1x1x64x64_S64x64) shapeCasts_S64x64_S1x64x64 (ix3 0 w e)
      = X (ix4 0 0 w e) := by
  pointwise []

theorem slab_apply {f : ℕ → ℕ → ℕ → ℝ}
    (hx : ∀ (δ : Fin 15) (w e : Fin 64), x (ix4 0 δ w e) = ((f δ w e : ℝ) : EReal)) (δ : Fin 15) (w e : Fin 64) :
    slab h x δ (ix3 0 w e) = ((f δ w e : ℝ) : EReal) := by
  refine (slab_cast _ w e).trans ((Memref.IsWhole.readAt_unread h x _ _).trans (Eq.trans (congrArg x ?_) (hx δ w e)))
  funext a
  refine Fin.ext ?_
  match a with
  | 0 => simp [LoadRect.idx, Rect.toLoadRect, Rect.unit, ix4]
  | 1 => simp [LoadRect.idx, Rect.toLoadRect, Rect.unit, ix4]
  | 2 => simp [LoadRect.idx, Rect.toLoadRect, Rect.unit, ix4]
  | 3 => simp [LoadRect.idx, Rect.toLoadRect, Rect.unit, ix4]

/-- One tile's store. -/
def tile (w : Fin 15 → FVec Ideal S1x64x64 .f32) (p : Fin 3 × Fin 4 × Fin 11 × Fin 15) :
    View.Piece (Elt Ideal) S3x256x704 .f32 :=
  ⟨Rect.unit (s := S3x256x704) ![p.1.val, 64 * p.2.1.val, 64 * p.2.2.1.val] S1x64x64.size (by
      intro a; match a with
      | 0 => exact p.1.isLt
      | 1 => show 64 * p.2.1.val + 64 ≤ 256; omega
      | 2 => show 64 * p.2.2.1.val + 64 ≤ 704; omega), w p.2.2.2⟩

/-- What tiles over a fill hold: the last tile's value where there is one, the fill elsewhere. -/
theorem canon_tiles (w : Fin 15 → FVec Ideal S1x64x64 .f32) (fill : View.Piece (Elt Ideal) S3x256x704 .f32)
    (T : List (Fin 3 × Fin 4 × Fin 11 × Fin 15)) (t : Fin 3) (a : Fin 4) (b : Fin 11) (i : Fin 256) (j : Fin 704)
    (k l : Fin 64) (hi : i.val = 64 * a.val + k.val) (hj : j.val = 64 * b.val + l.val) :
    View.canon (T.map (tile w) ++ [fill]) (ix3 t i j)
      = match (T.find? fun x => decide (x.1.val = t.val ∧ x.2.1 = a ∧ x.2.2.1 = b)).map fun x => x.2.2.2 with
        | some δ => w δ (ix3 0 k l)
        | none => View.canon [fill] (ix3 t i j) := by
  induction T with
  | nil => rfl
  | cons p T ih =>
    by_cases hp : p.1.val = t.val ∧ p.2.1 = a ∧ p.2.2.1 = b
    · rw [List.find?_cons_of_pos (by simpa using hp)]
      obtain ⟨h0, h1, h2⟩ := hp
      exact canon_hit3 _ _ _ _ _ _ 0 k l t i j (by simp [h0]) (by rw [hi, h1]) (by rw [hj, h2])
    · rw [List.find?_cons_of_neg (by simpa using hp), ← ih]
      refine canon_miss3 _ _ _ _ _ _ t i j fun hm => hp ⟨by omega, Fin.ext (by omega), Fin.ext (by omega)⟩

end Bias

end Cert.NA

end
-- ==== Proof.Inputs.lean ====
/- The eight blocks of one head: each block's loads hold the head's reals, and what the blocks' stores leave in the
   gradients' buffers is, store after store, the sum over the blocks done. -/
module

public import proofs.«01_k».proof.Proof.Loads

@[expose] public section

set_option maxRecDepth 16384

noncomputable section

namespace Cert.NA

open Finset Idealize.ShloMosaic Cert.KernelIdeal Cert.KernelIdeal.Gen

variable [Cert.KernelIdeal.Facts]

/-- The fill is minus infinity. -/
theorem fill_apply (j : S3x256x704.Idx) : k0_pay2 (F := Ideal) j = (⊥ : EReal) := by
  pointwise [k0_pay2]
  exact IdealRules.named_const.ideal_named_scalar _ _ _ _ rfl

/-- Off the rows of its window a block's logits have no cotangent. -/
theorem Ins.dead {H : Head} {g s : ℕ} {qs : FVec Ideal S256x64 .bf16} {kk vv : FVec Ideal S704x64 .bf16}
    {ob : FVec Ideal S256x64 .bf16} {km vm : FVec Ideal S16x64 .bf16} {b : Vec Ideal S1x256x704 .f32}
    (I : Ins H g s qs kk vv ob km vm b) (u : ℕ) (hu : u < 64 * s ∨ 64 * s + 704 ≤ u) (i : ℕ) (hi : i < 256) :
    ¬ Win (256 * g + i) u := fun h => by
  have h1 := I.hw ⟨i, hi⟩
  unfold Win at h
  simp only at h1
  omega

/-- One block's share of a key's gradient and of a value's, and of the meta rows'. -/
def Head.dkB (H : Head) (g u d : ℕ) : ℝ :=
  ∑ i ∈ range 256, H.D (256 * g + i) u * (H.q (16 + (256 * g + i)) d * (1 / 8))
def Head.dvB (H : Head) (g u d : ℕ) : ℝ := ∑ i ∈ range 256, H.P (256 * g + i) u * H.o (16 + (256 * g + i)) d
def Head.dkmB (H : Head) (g a d : ℕ) : ℝ :=
  ∑ i ∈ range 256, H.Dm (256 * g + i) a * (H.q (16 + (256 * g + i)) d * (1 / 8))
def Head.dvmB (H : Head) (g a d : ℕ) : ℝ := ∑ i ∈ range 256, H.Pm (256 * g + i) a * H.o (16 + (256 * g + i)) d

/-- One block's share of the bias scratch's tile of type `t`. -/
def Head.dbB (H : Head) (g t i j : ℕ) : ℝ := if ty g = t then H.D (256 * g + i) (64 * st g + j) else 0

theorem Head.dkB_dead {H : Head} {g s : ℕ} {qs : FVec Ideal S256x64 .bf16} {kk vv : FVec Ideal S704x64 .bf16}
    {ob : FVec Ideal S256x64 .bf16} {km vm : FVec Ideal S16x64 .bf16} {b : Vec Ideal S1x256x704 .f32}
    (I : Ins H g s qs kk vv ob km vm b) (u d : ℕ) (hu : u < 64 * s ∨ 64 * s + 704 ≤ u) : H.dkB g u d = 0 :=
  Finset.sum_eq_zero fun i hi => by rw [H.D_dead (I.dead u hu i (Finset.mem_range.mp hi)), zero_mul]

theorem Head.dvB_dead {H : Head} {g s : ℕ} {qs : FVec Ideal S256x64 .bf16} {kk vv : FVec Ideal S704x64 .bf16}
    {ob : FVec Ideal S256x64 .bf16} {km vm : FVec Ideal S16x64 .bf16} {b : Vec Ideal S1x256x704 .f32}
    (I : Ins H g s qs kk vv ob km vm b) (u d : ℕ) (hu : u < 64 * s ∨ 64 * s + 704 ≤ u) : H.dvB g u d = 0 :=
  Finset.sum_eq_zero fun i hi => by rw [H.P_dead (I.dead u hu i (Finset.mem_range.mp hi)), zero_mul]

/-- A block's read, addition and store of the rows of its window, on a buffer that holds the sum over the blocks
    before: the buffer then holds the sum with the block's share. -/
theorem chain_rows (f : ℕ → ℕ → ℕ → ℝ) (g s o : ℕ) (e : o = 16 + 64 * s)
    (v : View sig .tc .vmem S1x2064x64 .f32) (L : List (View.Piece (Elt Ideal) S1x2064x64 .f32)) (inb inb')
    (w : Vec Ideal S1x704x64 .f32)
    (hw : ∀ (j : Fin 704) (d : Fin 64), w (ix3 0 j d)
      = v.readCov L (Rect.unit (s := S1x2064x64) ![0, o, 0] ![1, 704, 64] inb').toLoadRect (ix3 (0 : Fin 1) j d)
        + ((f g (64 * s + j) d : ℝ) : EReal))
    (hz : ∀ u d, (u < 64 * s ∨ 64 * s + 704 ≤ u) → f g u d = 0)
    (hL : ∀ (u : Fin 2048) (d : Fin 64), View.canon L (ix3 (0 : Fin 1) (⟨16 + u, by omega⟩ : Fin 2064) d)
      = ((∑ g' ∈ range g, f g' u d : ℝ) : EReal)) (u : Fin 2048) (d : Fin 64) :
    View.canon (⟨Rect.unit (s := S1x2064x64) ![0, o, 0] ![1, 704, 64] inb, w⟩ :: L)
      (ix3 (0 : Fin 1) (⟨16 + u, by omega⟩ : Fin 2064) d) = ((∑ g' ∈ range (g + 1), f g' u d : ℝ) : EReal) := by
  rw [Finset.sum_range_succ]
  by_cases h : 64 * s ≤ u.val ∧ u.val < 64 * s + 704
  · have hu : u.val = 64 * s + (u.val - 64 * s) := by omega
    refine (canon_hit3 _ _ _ _ _ _ (0 : Fin 1) (⟨u.val - 64 * s, by omega⟩ : Fin 704) d (0 : Fin 1)
      (⟨16 + u.val, by omega⟩ : Fin 2064) d rfl (show 16 + u.val = o + (u.val - 64 * s) by omega) (by simp)).trans ?_
    rw [hw, read_stored v L _ _ _ _ (0 : Fin 1) (⟨u.val - 64 * s, by omega⟩ : Fin 704) d (0 : Fin 1)
      (⟨16 + u.val, by omega⟩ : Fin 2064) d rfl (show 16 + u.val = o + (u.val - 64 * s) by omega) (by simp), hL,
      ← EReal.coe_add, ← hu]
  · refine (canon_miss3 _ _ _ _ _ _ (0 : Fin 1) (⟨16 + u.val, by omega⟩ : Fin 2064) d fun hm => h ?_).trans ?_
    · obtain ⟨_, h1, _⟩ := hm
      change o ≤ 16 + u.val ∧ 16 + u.val < o + 704 at h1
      omega
    · rw [hL, hz u d (by omega), add_zero]

/-- The same of a block's tile of the bias scratch. -/
theorem chain_bias (H : Head) (g : ℕ) (t : Fin 3) (ht : t.val = ty g) (t0 : ℕ) (e : t0 = t.val)
    (v : View sig .tc .vmem S3x256x704 .f32) (L : List (View.Piece (Elt Ideal) S3x256x704 .f32)) (inb inb')
    (w : Vec Ideal S1x256x704 .f32)
    (hw : ∀ (i : Fin 256) (j : Fin 704), w (ix3 0 i j)
      = v.readCov L (Rect.unit (s := S3x256x704) ![t0, 0, 0] ![1, 256, 704] inb').toLoadRect (ix3 (0 : Fin 1) i j)
        + ((H.D (256 * g + i) (64 * st g + j) : ℝ) : EReal))
    (hL : ∀ (t : Fin 3) (i : Fin 256) (j : Fin 704), View.canon L (ix3 t i j)
      = ((∑ g' ∈ range g, H.dbB g' t i j : ℝ) : EReal)) (t' : Fin 3) (i : Fin 256) (j : Fin 704) :
    View.canon (⟨Rect.unit (s := S3x256x704) ![t0, 0, 0] ![1, 256, 704] inb, w⟩ :: L) (ix3 t' i j)
      = ((∑ g' ∈ range (g + 1), H.dbB g' t' i j : ℝ) : EReal) := by
  rw [Finset.sum_range_succ]
  by_cases h : t' = t
  · subst h
    refine (canon_hit3 _ _ _ _ _ _ (0 : Fin 1) i j _ _ _ (by simp [e]) (by simp) (by simp)).trans ?_
    rw [hw, read_stored v L _ _ _ _ (0 : Fin 1) i j t' i j (by simp [e]) (by simp) (by simp), hL, ← EReal.coe_add,
      Head.dbB, if_pos ht.symm]
  · refine (canon_miss3 _ _ _ _ _ _ _ _ _ fun hm => h (Fin.ext (by omega))).trans ?_
    rw [hL, Head.dbB, if_neg (fun h2 => h (Fin.ext (by omega))), add_zero]

variable (c : Dev nD) (i : grid0.Coords) (arg1 : Memref sig .tc .vmem S1x2064x64 .f32) (harg1 : arg1.IsWhole) (arg2 : Memref sig .tc .vmem S1x2064x64 .f32) (harg2 : arg2.IsWhole) (arg3 : Memref sig .tc .vmem S1x2064x64 .f32) (harg3 : arg3.IsWhole) (arg4 : Memref sig .tc .vmem S1x15x64x64 .f32) (harg4 : arg4.IsWhole) (arg5 : Memref sig .tc .vmem S1x2064x64 .f32) (harg5 : arg5.IsWhole) (arg6 : Memref sig .tc .vmem S1x2064x64 .f32) (harg6 : arg6.IsWhole) (arg7 : Memref sig .tc .vmem S1x2064x64 .f32) (harg7 : arg7.IsWhole) (arg8 : Memref sig .tc .vmem S1x2064x64 .f32) (harg8 : arg8.IsWhole) (arg9 : Memref sig .tc .vmem S1x15x64x64 .f32) (harg9 : arg9.IsWhole) (arg10 : Memref sig .tc .vmem S3x256x704 .f32) (harg10 : arg10.IsWhole) (arg11 : Memref sig .tc .vmem S3x256x704 .f32) (harg11 : arg11.IsWhole)
    (x0 : Vec Ideal S1x2064x64 .f32) (x1 : Vec Ideal S1x2064x64 .f32) (x2 : Vec Ideal S1x2064x64 .f32) (x3 : Vec Ideal S1x15x64x64 .f32) (x4 : Vec Ideal S1x2064x64 .f32)
    {H : Head}

section Bias

/-- The bias scratch's stores are the tiles over the fill. -/
theorem bias_list : kernelRun0_A.sl.HS0_97 c arg4 harg4 x3 = tiles.map (tile (slab harg4 x3))
    ++ [⟨Rect.unit (s := S3x256x704) ![0, 0, 0] S3x256x704.size inb_S3x256x704_S3x256x704_0_0_0,
      (k0_pay2 (F := Ideal) : Vec Ideal S3x256x704 .f32)⟩] := rfl

theorem bias_apply (hS : ∀ (δ : Fin 15) (w e : Fin 64), x3 (ix4 0 δ w e) = ((H.S δ w e : ℝ) : EReal))
    (g : Fin 8) (t : Fin 3) (ht : t.val = ty g) (i : Fin 256) (j : Fin 704) :
    View.canon (kernelRun0_A.sl.HS0_97 c arg4 harg4 x3) (ix3 t i j) = if Win (256 * g + i) (64 * st g + j) then
      ((H.S ((64 * st g + j) / 64 + 7 - (256 * g + i) / 64) ((256 * g + i) % 64) ((64 * st g + j) % 64) : ℝ) : EReal)
      else ⊥ := by
  have hf := tiles_find g (⟨i.val / 64, by omega⟩ : Fin 4) (⟨j.val / 64, by omega⟩ : Fin 11)
  rw [bias_list, canon_tiles (slab harg4 x3) _ tiles t (⟨i.val / 64, by omega⟩ : Fin 4) (⟨j.val / 64, by omega⟩ : Fin 11) i j
    (⟨i.val % 64, by omega⟩ : Fin 64) (⟨j.val % 64, by omega⟩ : Fin 64) (by simp only; omega) (by simp only; omega), ht]
  have e1 : (256 * g.val + i.val) / 64 = 4 * g.val + i.val / 64 := by omega
  have e2 : (64 * st g + j.val) / 64 = st g + j.val / 64 := by omega
  have e3 : (256 * g.val + i.val) % 64 = i.val % 64 := by omega
  have e4 : (64 * st g + j.val) % 64 = j.val % 64 := by omega
  have hW : Win (256 * g.val + i.val) (64 * st g + j.val) ↔ rs (4 * g.val + i.val / 64) ≤ st g + j.val / 64
      ∧ st g + j.val / 64 < rs (4 * g.val + i.val / 64) + 8 := by
    unfold Win; rw [e1, e2]
  rw [e1, e2, e3, e4]
  generalize (tiles.find? fun x => decide (x.1.val = ty g ∧ x.2.1 = (⟨i.val / 64, by omega⟩ : Fin 4)
    ∧ x.2.2.1 = (⟨j.val / 64, by omega⟩ : Fin 11))) = o at hf ⊢
  simp only at hf
  by_cases h : Win (256 * g.val + i.val) (64 * st g + j.val)
  · rw [if_pos h]
    rw [if_pos (hW.mp h)] at hf
    cases o with
    | none => cases hf
    | some p =>
      have : p.2.2.2.val = st g + j.val / 64 + 7 - (4 * g.val + i.val / 64) := by simpa using hf
      rw [← this]
      exact slab_apply harg4 hS _ _ _
  · rw [if_neg h]
    rw [if_neg (fun h2 => h (hW.mpr h2))] at hf
    cases o with
    | none => exact (canon_hit3 _ _ _ _ _ _ t i j t i j (by simp) (by simp) (by simp)).trans (fill_apply _)
    | some p => cases hf

end Bias

variable (hH : Holds H x0 x1 x2 x3 x4)

include hH

theorem insM : InsM H (View.readAt (Elt Ideal) arg1.view (Rect.unit (s := S1x2064x64) ![0, 0, 0] S1x16x64.size inb_S1x2064x64_S1x16x64_0_0_0).toLoadRect (harg1.unread x0))
    (View.readAt (Elt Ideal) arg2.view (Rect.unit (s := S1x2064x64) ![0, 0, 0] S1x16x64.size inb_S1x2064x64_S1x16x64_0_0_0).toLoadRect (harg2.unread x1))
    (View.readAt (Elt Ideal) arg3.view (Rect.unit (s := S1x2064x64) ![0, 0, 0] S1x16x64.size inb_S1x2064x64_S1x16x64_0_0_0).toLoadRect (harg3.unread x2))
    (View.readAt (Elt Ideal) arg5.view (Rect.unit (s := S1x2064x64) ![0, 0, 0] S1x16x64.size inb_S1x2064x64_S1x16x64_0_0_0).toLoadRect (harg5.unread x4)) where
  hq := load_meta harg1 hH.hq _
  hk := load_meta harg2 hH.hk _
  hv := load_meta harg3 hH.hv _
  ho := load_meta harg5 hH.ho _

theorem ins0 : Ins H 0 0 (kernelRun0_A.sl.v541 c arg1 harg1 x0) (kernelRun0_A.sl.v544 c arg2 harg2 x1)
    (kernelRun0_A.sl.v547 c arg3 harg3 x2) (kernelRun0_A.sl.v550 c arg5 harg5 x4) (kernelRun0_A.sl.v486 c arg2 harg2 x1)
    (kernelRun0_A.sl.v489 c arg3 harg3 x2) (kernelRun0_A.sl.v551 c arg4 harg4 arg10 x3) where
  hg := by norm_num
  hs := by norm_num
  hq := load_q harg1 hH.hq 16 0 rfl _
  hk := load_k harg2 hH.hk 16 0 rfl _
  hv := load_k harg3 hH.hv 16 0 rfl _
  ho := load_o harg5 hH.ho 16 0 rfl _
  hkm := (insM arg1 harg1 arg2 harg2 arg3 harg3 arg5 harg5 x0 x1 x2 x3 x4 hH).km
  hvm := (insM arg1 harg1 arg2 harg2 arg3 harg3 arg5 harg5 x0 x1 x2 x3 x4 hH).vm
  hb := fun i j => (read_stored arg10.view _ _ _ _ _ (0 : Fin 1) i j (0 : Fin 3) i j rfl (by simp) (by simp)).trans
    (bias_apply c arg4 harg4 x3 hH.hS 0 0 rfl i j)
  hw := fun i => by unfold rs; omega

theorem ins1 : Ins H 1 0 (kernelRun0_A.sl.v633 c arg1 harg1 x0) (kernelRun0_A.sl.v544 c arg2 harg2 x1)
    (kernelRun0_A.sl.v547 c arg3 harg3 x2) (kernelRun0_A.sl.v642 c arg5 harg5 x4) (kernelRun0_A.sl.v486 c arg2 harg2 x1)
    (kernelRun0_A.sl.v489 c arg3 harg3 x2) (kernelRun0_A.sl.v643 c arg4 harg4 arg10 x3) where
  hg := by norm_num
  hs := by norm_num
  hq := load_q harg1 hH.hq 272 1 rfl _
  hk := load_k harg2 hH.hk 16 0 rfl _
  hv := load_k harg3 hH.hv 16 0 rfl _
  ho := load_o harg5 hH.ho 272 1 rfl _
  hkm := (insM arg1 harg1 arg2 harg2 arg3 harg3 arg5 harg5 x0 x1 x2 x3 x4 hH).km
  hvm := (insM arg1 harg1 arg2 harg2 arg3 harg3 arg5 harg5 x0 x1 x2 x3 x4 hH).vm
  hb := fun i j => (read_stored arg10.view _ _ _ _ _ (0 : Fin 1) i j (1 : Fin 3) i j rfl (by simp) (by simp)).trans
    (bias_apply c arg4 harg4 x3 hH.hS 1 1 rfl i j)
  hw := fun i => by unfold rs; omega

theorem ins2 : Ins H 2 4 (kernelRun0_A.sl.v725 c arg1 harg1 x0) (kernelRun0_A.sl.v728 c arg2 harg2 x1)
    (kernelRun0_A.sl.v731 c arg3 harg3 x2) (kernelRun0_A.sl.v734 c arg5 harg5 x4) (kernelRun0_A.sl.v486 c arg2 harg2 x1)
    (kernelRun0_A.sl.v489 c arg3 harg3 x2) (kernelRun0_A.sl.v643 c arg4 harg4 arg10 x3) where
  hg := by norm_num
  hs := by norm_num
  hq := load_q harg1 hH.hq 528 2 rfl _
  hk := load_k harg2 hH.hk 272 4 rfl _
  hv := load_k harg3 hH.hv 272 4 rfl _
  ho := load_o harg5 hH.ho 528 2 rfl _
  hkm := (insM arg1 harg1 arg2 harg2 arg3 harg3 arg5 harg5 x0 x1 x2 x3 x4 hH).km
  hvm := (insM arg1 harg1 arg2 harg2 arg3 harg3 arg5 harg5 x0 x1 x2 x3 x4 hH).vm
  hb := fun i j => (read_stored arg10.view _ _ _ _ _ (0 : Fin 1) i j (1 : Fin 3) i j rfl (by simp) (by simp)).trans
    (bias_apply c arg4 harg4 x3 hH.hS 2 1 rfl i j)
  hw := fun i => by unfold rs; omega

theorem ins3 : Ins H 3 8 (kernelRun0_A.sl.v817 c arg1 harg1 x0) (kernelRun0_A.sl.v820 c arg2 harg2 x1)
    (kernelRun0_A.sl.v823 c arg3 harg3 x2) (kernelRun0_A.sl.v826 c arg5 harg5 x4) (kernelRun0_A.sl.v486 c arg2 harg2 x1)
    (kernelRun0_A.sl.v489 c arg3 harg3 x2) (kernelRun0_A.sl.v643 c arg4 harg4 arg10 x3) where
  hg := by norm_num
  hs := by norm_num
  hq := load_q harg1 hH.hq 784 3 rfl _
  hk := load_k harg2 hH.hk 528 8 rfl _
  hv := load_k harg3 hH.hv 528 8 rfl _
  ho := load_o harg5 hH.ho 784 3 rfl _
  hkm := (insM arg1 harg1 arg2 harg2 arg3 harg3 arg5 harg5 x0 x1 x2 x3 x4 hH).km
  hvm := (insM arg1 harg1 arg2 harg2 arg3 harg3 arg5 harg5 x0 x1 x2 x3 x4 hH).vm
  hb := fun i j => (read_stored arg10.view _ _ _ _ _ (0 : Fin 1) i j (1 : Fin 3) i j rfl (by simp) (by simp)).trans
    (bias_apply c arg4 harg4 x3 hH.hS 3 1 rfl i j)
  hw := fun i => by unfold rs; omega

theorem ins4 : Ins H 4 12 (kernelRun0_A.sl.v909 c arg1 harg1 x0) (kernelRun0_A.sl.v912 c arg2 harg2 x1)
    (kernelRun0_A.sl.v915 c arg3 harg3 x2) (kernelRun0_A.sl.v918 c arg5 harg5 x4) (kernelRun0_A.sl.v486 c arg2 harg2 x1)
    (kernelRun0_A.sl.v489 c arg3 harg3 x2) (kernelRun0_A.sl.v643 c arg4 harg4 arg10 x3) where
  hg := by norm_num
  hs := by norm_num
  hq := load_q harg1 hH.hq 1040 4 rfl _
  hk := load_k harg2 hH.hk 784 12 rfl _
  hv := load_k harg3 hH.hv 784 12 rfl _
  ho := load_o harg5 hH.ho 1040 4 rfl _
  hkm := (insM arg1 harg1 arg2 harg2 arg3 harg3 arg5 harg5 x0 x1 x2 x3 x4 hH).km
  hvm := (insM arg1 harg1 arg2 harg2 arg3 harg3 arg5 harg5 x0 x1 x2 x3 x4 hH).vm
  hb := fun i j => (read_stored arg10.view _ _ _ _ _ (0 : Fin 1) i j (1 : Fin 3) i j rfl (by simp) (by simp)).trans
    (bias_apply c arg4 harg4 x3 hH.hS 4 1 rfl i j)
  hw := fun i => by unfold rs; omega

theorem ins5 : Ins H 5 16 (kernelRun0_A.sl.v1001 c arg1 harg1 x0) (kernelRun0_A.sl.v1004 c arg2 harg2 x1)
    (kernelRun0_A.sl.v1007 c arg3 harg3 x2) (kernelRun0_A.sl.v1010 c arg5 harg5 x4) (kernelRun0_A.sl.v486 c arg2 harg2 x1)
    (kernelRun0_A.sl.v489 c arg3 harg3 x2) (kernelRun0_A.sl.v643 c arg4 harg4 arg10 x3) where
  hg := by norm_num
  hs := by norm_num
  hq := load_q harg1 hH.hq 1296 5 rfl _
  hk := load_k harg2 hH.hk 1040 16 rfl _
  hv := load_k harg3 hH.hv 1040 16 rfl _
  ho := load_o harg5 hH.ho 1296 5 rfl _
  hkm := (insM arg1 harg1 arg2 harg2 arg3 harg3 arg5 harg5 x0 x1 x2 x3 x4 hH).km
  hvm := (insM arg1 harg1 arg2 harg2 arg3 harg3 arg5 harg5 x0 x1 x2 x3 x4 hH).vm
  hb := fun i j => (read_stored arg10.view _ _ _ _ _ (0 : Fin 1) i j (1 : Fin 3) i j rfl (by simp) (by simp)).trans
    (bias_apply c arg4 harg4 x3 hH.hS 5 1 rfl i j)
  hw := fun i => by unfold rs; omega

theorem ins6 : Ins H 6 20 (kernelRun0_A.sl.v1093 c arg1 harg1 x0) (kernelRun0_A.sl.v1096 c arg2 harg2 x1)
    (kernelRun0_A.sl.v1099 c arg3 harg3 x2) (kernelRun0_A.sl.v1102 c arg5 harg5 x4) (kernelRun0_A.sl.v486 c arg2 harg2 x1)
    (kernelRun0_A.sl.v489 c arg3 harg3 x2) (kernelRun0_A.sl.v643 c arg4 harg4 arg10 x3) where
  hg := by norm_num
  hs := by norm_num
  hq := load_q harg1 hH.hq 1552 6 rfl _
  hk := load_k harg2 hH.hk 1296 20 rfl _
  hv := load_k harg3 hH.hv 1296 20 rfl _
  ho := load_o harg5 hH.ho 1552 6 rfl _
  hkm := (insM arg1 harg1 arg2 harg2 arg3 harg3 arg5 harg5 x0 x1 x2 x3 x4 hH).km
  hvm := (insM arg1 harg1 arg2 harg2 arg3 harg3 arg5 harg5 x0 x1 x2 x3 x4 hH).vm
  hb := fun i j => (read_stored arg10.view _ _ _ _ _ (0 : Fin 1) i j (1 : Fin 3) i j rfl (by simp) (by simp)).trans
    (bias_apply c arg4 harg4 x3 hH.hS 6 1 rfl i j)
  hw := fun i => by unfold rs; omega

theorem ins7 : Ins H 7 21 (kernelRun0_A.sl.v1185 c arg1 harg1 x0) (kernelRun0_A.sl.v1188 c arg2 harg2 x1)
    (kernelRun0_A.sl.v1191 c arg3 harg3 x2) (kernelRun0_A.sl.v1194 c arg5 harg5 x4) (kernelRun0_A.sl.v486 c arg2 harg2 x1)
    (kernelRun0_A.sl.v489 c arg3 harg3 x2) (kernelRun0_A.sl.v1195 c arg4 harg4 arg10 x3) where
  hg := by norm_num
  hs := by norm_num
  hq := load_q harg1 hH.hq 1808 7 rfl _
  hk := load_k harg2 hH.hk 1360 21 rfl _
  hv := load_k harg3 hH.hv 1360 21 rfl _
  ho := load_o harg5 hH.ho 1808 7 rfl _
  hkm := (insM arg1 harg1 arg2 harg2 arg3 harg3 arg5 harg5 x0 x1 x2 x3 x4 hH).km
  hvm := (insM arg1 harg1 arg2 harg2 arg3 harg3 arg5 harg5 x0 x1 x2 x3 x4 hH).vm
  hb := fun i j => (read_stored arg10.view _ _ _ _ _ (0 : Fin 1) i j (2 : Fin 3) i j rfl (by simp) (by simp)).trans
    (bias_apply c arg4 harg4 x3 hH.hS 7 2 rfl i j)
  hw := fun i => by unfold rs; omega

end Cert.NA

end
-- ==== Proof.Tiles.lean ====
/- What one head's run leaves in its four output blocks: the gradients of the queries, the keys, the values and the
   bias slab. -/
module

public import proofs.«01_k».proof.Proof.Inputs

@[expose] public section

set_option maxRecDepth 16384

noncomputable section

namespace Cert.NA

open Finset Idealize.ShloMosaic Cert.KernelIdeal Cert.KernelIdeal.Gen

variable [Cert.KernelIdeal.Facts]

/-- The rows of the gradients: the meta rows, then the tokens. -/
def Head.dqRow (H : Head) (n d : ℕ) : ℝ := if n < 16 then H.dqMeta n d else H.dqTok (n - 16) d
def Head.dkRow (H : Head) (n d : ℕ) : ℝ := if n < 16 then H.dkMeta n d else H.dkTok (n - 16) d
def Head.dvRow (H : Head) (n d : ℕ) : ℝ := if n < 16 then H.dvMeta n d else H.dvTok (n - 16) d

theorem dkTok_blocks (H : Head) (u d : ℕ) : ∑ g ∈ range 8, H.dkB g u d = H.dkTok u d :=
  (sum_blocks (fun t => H.D t u * (H.q (16 + t) d * (1 / 8))) 8 256).symm
theorem dvTok_blocks (H : Head) (u d : ℕ) : ∑ g ∈ range 8, H.dvB g u d = H.dvTok u d :=
  (sum_blocks (fun t => H.P t u * H.o (16 + t) d) 8 256).symm
theorem dkMeta_blocks (H : Head) (a d : ℕ) :
    ∑ b ∈ range 16, H.Dmm b a * H.q b d + ∑ g ∈ range 8, H.dkmB g a d = H.dkMeta a d :=
  congrArg _ (sum_blocks (fun t => H.Dm t a * (H.q (16 + t) d * (1 / 8))) 8 256).symm
theorem dvMeta_blocks (H : Head) (a d : ℕ) :
    ∑ b ∈ range 16, H.Pmm b a * H.o b d + ∑ g ∈ range 8, H.dvmB g a d = H.dvMeta a d :=
  congrArg _ (sum_blocks (fun t => H.Pm t a * H.o (16 + t) d) 8 256).symm

/-- A store of rows that hold `f`, over stores that hold `f` on the rows left. -/
theorem rows_cons (f : ℕ → ℕ → ℝ) (P : ℕ → Prop) (o n : ℕ) (inb) (w : Vec Ideal ⟨3, ![1, n, 64]⟩ .f32)
    (L : List (View.Piece (Elt Ideal) S1x2064x64 .f32))
    (hw : ∀ (i : Fin n) (d : Fin 64), w (ix3 (0 : Fin 1) i d) = ((f (o + i) d : ℝ) : EReal))
    (hL : ∀ (r : Fin 2064) (d : Fin 64), (P r ∧ ¬ (o ≤ r.val ∧ r.val < o + n)) →
      View.canon L (ix3 (0 : Fin 1) r d) = ((f r d : ℝ) : EReal)) (r : Fin 2064) (d : Fin 64) (hr : P r) :
    View.canon (⟨Rect.unit (s := S1x2064x64) ![0, o, 0] ![1, n, 64] inb, w⟩ :: L) (ix3 (0 : Fin 1) r d)
      = ((f r d : ℝ) : EReal) := by
  by_cases h : o ≤ r.val ∧ r.val < o + n
  · have e : r.val = o + (r.val - o) := by omega
    refine (canon_hit3 _ _ _ _ _ _ (0 : Fin 1) (⟨r.val - o, by omega⟩ : Fin n) d (0 : Fin 1) r d rfl e (by simp)).trans ?_
    rw [hw]
    change ((f (o + (r.val - o)) d : ℝ) : EReal) = _
    rw [← e]
  · exact (canon_miss3 _ _ _ _ _ _ (0 : Fin 1) r d fun hm => h hm.2.1).trans (hL r d ⟨hr, h⟩)

theorem row_meta {f g : ℕ → ℕ → ℝ} (a : ℕ) (ha : a < 16) (d : ℕ) :
    (fun n d => if n < 16 then f n d else g (n - 16) d) (0 + a) d = f a d := by
  simp only [Nat.zero_add]; exact if_pos ha

theorem row_tok {f g : ℕ → ℕ → ℝ} (t d : ℕ) : (fun n d => if n < 16 then f n d else g (n - 16) d) (16 + t) d = g t d := by
  simp only [Nat.add_sub_cancel_left]; exact if_neg (by omega)

/-- One 64 by 64 tile of the bias scratch, as the last part reads it. -/
def readTile (v : View sig .tc .vmem S3x256x704 .f32) (L : List (View.Piece (Elt Ideal) S3x256x704 .f32))
    (p : Fin 3 × Fin 4 × Fin 11) : FVec Ideal S64x64 .f32 :=
  shapeCast S64x64 (v.readCov L (Rect.unit (s := S3x256x704) ![p.1.val, 64 * p.2.1.val, 64 * p.2.2.val] S1x64x64.size (by
      intro a; match a with
      | 0 => exact p.1.isLt
      | 1 => show 64 * p.2.1.val + 64 ≤ 256; omega
      | 2 => show 64 * p.2.2.val + 64 ≤ 704; omega)).toLoadRect) shapeCasts_S1x64x64_S64x64

/-- The tiles of a list, summed in order. -/
def sumTiles (v : View sig .tc .vmem S3x256x704 .f32) (L : List (View.Piece (Elt Ideal) S3x256x704 .f32))
    (p : Fin 3 × Fin 4 × Fin 11) (T : List (Fin 3 × Fin 4 × Fin 11)) : FVec Ideal S64x64 .f32 :=
  T.foldl (fun s q => addf s (readTile v L q)) (readTile v L p)

theorem cast_64 (X : Vec Ideal S1x64x64 .f32) (w c : Fin 64) :
    shapeCast S64x64 X shapeCasts_S1x64x64_S64x64 (ix2 w c) = X (ix3 0 w c) := by
  pointwise []

theorem cast_tile (X : FVec Ideal S64x64 .f32) (w c : Fin 64) :
    shapeCast S1x1x64x64 X shapeCasts_S64x64_S1x1x64x64 (ix4 0 0 w c) = X (ix2 w c) := by
  pointwise []

/-- The real a tile's entry holds: the sum over the blocks of the tile's type. -/
def Head.tileSum (H : Head) (w c : ℕ) (p : Fin 3 × Fin 4 × Fin 11) : ℝ :=
  ∑ g ∈ range 8, if ty g = p.1.val then H.D (64 * (4 * g + p.2.1.val) + w) (64 * (st g + p.2.2.val) + c) else 0

section Tiles

variable {H : Head} (v : View sig .tc .vmem S3x256x704 .f32) (L : List (View.Piece (Elt Ideal) S3x256x704 .f32))
  (hL : ∀ (t : Fin 3) (i : Fin 256) (j : Fin 704), View.canon L (ix3 t i j)
    = ((∑ g' ∈ range 8, H.dbB g' t i j : ℝ) : EReal))

include hL

theorem readTile_apply (p : Fin 3 × Fin 4 × Fin 11) (w c : Fin 64) :
    readTile v L p (ix2 w c) = ((H.tileSum w c p : ℝ) : EReal) := by
  refine (cast_64 _ w c).trans ?_
  rw [read_stored v L _ _ _ _ (0 : Fin 1) w c p.1 (⟨64 * p.2.1.val + w, by omega⟩ : Fin 256)
    (⟨64 * p.2.2.val + c, by omega⟩ : Fin 704) (by simp) rfl rfl, hL]
  congr 1
  refine Finset.sum_congr rfl fun g _ => ?_
  simp only [Head.dbB]
  congr 2 <;> ring

theorem sumTiles_apply (p : Fin 3 × Fin 4 × Fin 11) (T : List (Fin 3 × Fin 4 × Fin 11)) (w c : Fin 64) :
    sumTiles v L p T (ix2 w c) = (((((p :: T).map (H.tileSum w c)).sum : ℝ)) : EReal) := by
  have key : ∀ (T : List (Fin 3 × Fin 4 × Fin 11)) (s : FVec Ideal S64x64 .f32) (x : ℝ), s (ix2 w c) = (x : EReal) →
      T.foldl (fun s q => addf s (readTile v L q)) s (ix2 w c) = ((x + (T.map (H.tileSum w c)).sum : ℝ) : EReal) := by
    intro T
    induction T with
    | nil => intro s x h; simpa using h
    | cons q T ih =>
      intro s x h
      rw [List.foldl_cons, ih _ (x + H.tileSum w c q) ?_]
      · congr 1; rw [List.map_cons, List.sum_cons]; ring
      · rw [EReal.coe_add, ← h, ← readTile_apply v L hL q w c]; rfl
  rw [List.map_cons, List.sum_cons]
  exact key T _ _ (readTile_apply v L hL p w c)

end Tiles

/-- The slab's gradient, row by row of the grid. -/
theorem Head.dS_rows (H : Head) (δ w c : ℕ) (hw : w < 64) (hc : c < 64) : H.dS δ w c = ∑ r ∈ range 32,
    if 7 ≤ r + δ ∧ rs r ≤ r + δ - 7 ∧ r + δ - 7 < rs r + 8 then H.D (64 * r + w) (64 * (r + δ - 7) + c) else 0 := by
  unfold Head.dS
  refine Finset.sum_congr rfl fun r hr => ?_
  have hr := Finset.mem_range.mp hr
  by_cases h : 7 ≤ r + δ ∧ rs r ≤ r + δ - 7 ∧ r + δ - 7 < rs r + 8
  · rw [if_pos h, Finset.sum_eq_single (r + δ - 7), if_pos (by omega)]
    · exact fun ρ _ hne => if_neg (by omega)
    · intro hn; rw [Finset.mem_range] at hn; unfold rs at h; omega
  · rw [if_neg h]
    refine Finset.sum_eq_zero fun ρ _ => ?_
    split_ifs with h2
    · refine H.D_dead fun hwin => h ?_
      unfold Win at hwin
      have e1 : (64 * r + w) / 64 = r := by omega
      have e2 : (64 * ρ + c) / 64 = ρ := by omega
      rw [e1, e2] at hwin
      omega
    · rfl

theorem slab_sum_0 (H : Head) (w c : ℕ) (hw : w < 64) (hc : c < 64) : ((((2, 3, 3) :: [] : List (Fin 3 × Fin 4 × Fin 11)).map
    (H.tileSum w c)).sum : ℝ) = H.dS 0 w c := by
  rw [H.dS_rows _ _ _ hw hc]
  simp only [List.map_cons, List.map_nil, List.sum_cons, List.sum_nil, Head.tileSum, Finset.sum_range_succ,
    Finset.sum_range_zero]
  norm_num [ty, st, rs]
  try ring

theorem slab_sum_1 (H : Head) (w c : ℕ) (hw : w < 64) (hc : c < 64) : ((((2, 2, 3) :: [(2, 3, 4)] : List (Fin 3 × Fin 4 × Fin 11)).map
    (H.tileSum w c)).sum : ℝ) = H.dS 1 w c := by
  rw [H.dS_rows _ _ _ hw hc]
  simp only [List.map_cons, List.map_nil, List.sum_cons, List.sum_nil, Head.tileSum, Finset.sum_range_succ,
    Finset.sum_range_zero]
  norm_num [ty, st, rs]
  try ring

theorem slab_sum_2 (H : Head) (w c : ℕ) (hw : w < 64) (hc : c < 64) : ((((2, 1, 3) :: [(2, 2, 4), (2, 3, 5)] : List (Fin 3 × Fin 4 × Fin 11)).map
    (H.tileSum w c)).sum : ℝ) = H.dS 2 w c := by
  rw [H.dS_rows _ _ _ hw hc]
  simp only [List.map_cons, List.map_nil, List.sum_cons, List.sum_nil, Head.tileSum, Finset.sum_range_succ,
    Finset.sum_range_zero]
  norm_num [ty, st, rs]
  try ring

theorem slab_sum_3 (H : Head) (w c : ℕ) (hw : w < 64) (hc : c < 64) : ((((1, 0, 0) :: [(1, 1, 1), (1, 2, 2), (1, 3, 3), (2, 0, 3), (2, 1, 4), (2, 2, 5), (2, 3, 6)] : List (Fin 3 × Fin 4 × Fin 11)).map
    (H.tileSum w c)).sum : ℝ) = H.dS 3 w c := by
  rw [H.dS_rows _ _ _ hw hc]
  simp only [List.map_cons, List.map_nil, List.sum_cons, List.sum_nil, Head.tileSum, Finset.sum_range_succ,
    Finset.sum_range_zero]
  norm_num [ty, st, rs]
  try ring

theorem slab_sum_4 (H : Head) (w c : ℕ) (hw : w < 64) (hc : c < 64) : ((((0, 3, 0) :: [(1, 0, 1), (1, 1, 2), (1, 2, 3), (1, 3, 4), (2, 0, 4), (2, 1, 5), (2, 2, 6), (2, 3, 7)] : List (Fin 3 × Fin 4 × Fin 11)).map
    (H.tileSum w c)).sum : ℝ) = H.dS 4 w c := by
  rw [H.dS_rows _ _ _ hw hc]
  simp only [List.map_cons, List.map_nil, List.sum_cons, List.sum_nil, Head.tileSum, Finset.sum_range_succ,
    Finset.sum_range_zero]
  norm_num [ty, st, rs]
  try ring

theorem slab_sum_5 (H : Head) (w c : ℕ) (hw : w < 64) (hc : c < 64) : ((((0, 2, 0) :: [(0, 3, 1), (1, 0, 2), (1, 1, 3), (1, 2, 4), (1, 3, 5), (2, 0, 5), (2, 1, 6), (2, 2, 7), (2, 3, 8)] : List (Fin 3 × Fin 4 × Fin 11)).map
    (H.tileSum w c)).sum : ℝ) = H.dS 5 w c := by
  rw [H.dS_rows _ _ _ hw hc]
  simp only [List.map_cons, List.map_nil, List.sum_cons, List.sum_nil, Head.tileSum, Finset.sum_range_succ,
    Finset.sum_range_zero]
  norm_num [ty, st, rs]
  try ring

theorem slab_sum_6 (H : Head) (w c : ℕ) (hw : w < 64) (hc : c < 64) : ((((0, 1, 0) :: [(0, 2, 1), (0, 3, 2), (1, 0, 3), (1, 1, 4), (1, 2, 5), (1, 3, 6), (2, 0, 6), (2, 1, 7), (2, 2, 8),
      (2, 3, 9)] : List (Fin 3 × Fin 4 × Fin 11)).map
    (H.tileSum w c)).sum : ℝ) = H.dS 6 w c := by
  rw [H.dS_rows _ _ _ hw hc]
  simp only [List.map_cons, List.map_nil, List.sum_cons, List.sum_nil, Head.tileSum, Finset.sum_range_succ,
    Finset.sum_range_zero]
  norm_num [ty, st, rs]
  try ring

theorem slab_sum_7 (H : Head) (w c : ℕ) (hw : w < 64) (hc : c < 64) : ((((0, 0, 0) :: [(0, 1, 1), (0, 2, 2), (0, 3, 3), (1, 0, 4), (1, 1, 5), (1, 2, 6), (1, 3, 7), (2, 0, 7), (2, 1, 8),
      (2, 2, 9), (2, 3, 10)] : List (Fin 3 × Fin 4 × Fin 11)).map
    (H.tileSum w c)).sum : ℝ) = H.dS 7 w c := by
  rw [H.dS_rows _ _ _ hw hc]
  simp only [List.map_cons, List.map_nil, List.sum_cons, List.sum_nil, Head.tileSum, Finset.sum_range_succ,
    Finset.sum_range_zero]
  norm_num [ty, st, rs]
  try ring

theorem slab_sum_8 (H : Head) (w c : ℕ) (hw : w < 64) (hc : c < 64) : ((((0, 0, 1) :: [(0, 1, 2), (0, 2, 3), (0, 3, 4), (1, 0, 5), (1, 1, 6), (1, 2, 7), (1, 3, 8), (2, 0, 8), (2, 1, 9),
      (2, 2, 10)] : List (Fin 3 × Fin 4 × Fin 11)).map
    (H.tileSum w c)).sum : ℝ) = H.dS 8 w c := by
  rw [H.dS_rows _ _ _ hw hc]
  simp only [List.map_cons, List.map_nil, List.sum_cons, List.sum_nil, Head.tileSum, Finset.sum_range_succ,
    Finset.sum_range_zero]
  norm_num [ty, st, rs]
  try ring

theorem slab_sum_9 (H : Head) (w c : ℕ) (hw : w < 64) (hc : c < 64) : ((((0, 0, 2) :: [(0, 1, 3), (0, 2, 4), (0, 3, 5), (1, 0, 6), (1, 1, 7), (1, 2, 8), (1, 3, 9), (2, 0, 9), (2, 1, 10)] : List (Fin 3 × Fin 4 × Fin 11)).map
    (H.tileSum w c)).sum : ℝ) = H.dS 9 w c := by
  rw [H.dS_rows _ _ _ hw hc]
  simp only [List.map_cons, List.map_nil, List.sum_cons, List.sum_nil, Head.tileSum, Finset.sum_range_succ,
    Finset.sum_range_zero]
  norm_num [ty, st, rs]
  try ring

theorem slab_sum_10 (H : Head) (w c : ℕ) (hw : w < 64) (hc : c < 64) : ((((0, 0, 3) :: [(0, 1, 4), (0, 2, 5), (0, 3, 6), (1, 0, 7), (1, 1, 8), (1, 2, 9), (1, 3, 10), (2, 0, 10)] : List (Fin 3 × Fin 4 × Fin 11)).map
    (H.tileSum w c)).sum : ℝ) = H.dS 10 w c := by
  rw [H.dS_rows _ _ _ hw hc]
  simp only [List.map_cons, List.map_nil, List.sum_cons, List.sum_nil, Head.tileSum, Finset.sum_range_succ,
    Finset.sum_range_zero]
  norm_num [ty, st, rs]
  try ring

theorem slab_sum_11 (H : Head) (w c : ℕ) (hw : w < 64) (hc : c < 64) : ((((0, 0, 4) :: [(0, 1, 5), (0, 2, 6), (0, 3, 7)] : List (Fin 3 × Fin 4 × Fin 11)).map
    (H.tileSum w c)).sum : ℝ) = H.dS 11 w c := by
  rw [H.dS_rows _ _ _ hw hc]
  simp only [List.map_cons, List.map_nil, List.sum_cons, List.sum_nil, Head.tileSum, Finset.sum_range_succ,
    Finset.sum_range_zero]
  norm_num [ty, st, rs]
  try ring

theorem slab_sum_12 (H : Head) (w c : ℕ) (hw : w < 64) (hc : c < 64) : ((((0, 0, 5) :: [(0, 1, 6), (0, 2, 7)] : List (Fin 3 × Fin 4 × Fin 11)).map
    (H.tileSum w c)).sum : ℝ) = H.dS 12 w c := by
  rw [H.dS_rows _ _ _ hw hc]
  simp only [List.map_cons, List.map_nil, List.sum_cons, List.sum_nil, Head.tileSum, Finset.sum_range_succ,
    Finset.sum_range_zero]
  norm_num [ty, st, rs]
  try ring

theorem slab_sum_13 (H : Head) (w c : ℕ) (hw : w < 64) (hc : c < 64) : ((((0, 0, 6) :: [(0, 1, 7)] : List (Fin 3 × Fin 4 × Fin 11)).map
    (H.tileSum w c)).sum : ℝ) = H.dS 13 w c := by
  rw [H.dS_rows _ _ _ hw hc]
  simp only [List.map_cons, List.map_nil, List.sum_cons, List.sum_nil, Head.tileSum, Finset.sum_range_succ,
    Finset.sum_range_zero]
  norm_num [ty, st, rs]
  try ring

theorem slab_sum_14 (H : Head) (w c : ℕ) (hw : w < 64) (hc : c < 64) : ((((0, 0, 7) :: [] : List (Fin 3 × Fin 4 × Fin 11)).map
    (H.tileSum w c)).sum : ℝ) = H.dS 14 w c := by
  rw [H.dS_rows _ _ _ hw hc]
  simp only [List.map_cons, List.map_nil, List.sum_cons, List.sum_nil, Head.tileSum, Finset.sum_range_succ,
    Finset.sum_range_zero]
  norm_num [ty, st, rs]
  try ring

end Cert.NA

end
-- ==== Proof.Stores.lean ====
/- What one head's run leaves in its four output blocks: the gradients of the queries, the keys, the values and the
   bias slab, store after store. -/
module

public import proofs.«01_k».proof.Proof.Tiles

@[expose] public section

set_option maxRecDepth 16384

noncomputable section

namespace Cert.NA

open Finset Idealize.ShloMosaic Cert.KernelIdeal Cert.KernelIdeal.Gen

variable [Cert.KernelIdeal.Facts]

theorem tok_row {H : Head} (g i d : ℕ) :
    ((H.dqRow (16 + 256 * g + i) d : ℝ) : EReal) = ((H.dqTok (256 * g + i) d : ℝ) : EReal) := by
  rw [Head.dqRow, if_neg (by omega), Nat.add_assoc, Nat.add_sub_cancel_left]

theorem meta_row {H : Head} (a : Fin 16) (d : ℕ) :
    ((H.dqRow (0 + a.val) d : ℝ) : EReal) = ((H.dqMeta a d : ℝ) : EReal) := by
  rw [Head.dqRow, if_pos (by omega), Nat.zero_add]

theorem meta_cast (X : FVec Ideal S16x64 .f32) (a : Fin 16) (d : Fin 64) :
    shapeCast S1x16x64 X shapeCasts_S16x64_S1x16x64 (ix3 0 a d) = X (ix2 a d) := by
  pointwise []

/-- A store of one row distance's tile, over stores that hold the distances left. -/
theorem slab_cons (H : Head) (o : ℕ) (inb) (W : Vec Ideal S1x1x64x64 .f32)
    (L : List (View.Piece (Elt Ideal) S1x15x64x64 .f32))
    (hw : ∀ w e : Fin 64, W (ix4 0 0 w e) = ((H.dS o w e : ℝ) : EReal)) {δ : Fin 15} {w e : Fin 64}
    (hL : δ.val ≠ o → View.canon L (ix4 (0 : Fin 1) δ w e) = ((H.dS δ w e : ℝ) : EReal)) :
    View.canon (⟨Rect.unit (s := S1x15x64x64) ![0, o, 0, 0] ![1, 1, 64, 64] inb, W⟩ :: L) (ix4 (0 : Fin 1) δ w e)
      = ((H.dS δ w e : ℝ) : EReal) := by
  by_cases h : δ.val = o
  · refine (canon_hit4 _ _ _ _ _ _ _ (0 : Fin 1) (0 : Fin 1) w e (0 : Fin 1) δ w e rfl (by simp [h]) (by simp)
      (by simp)).trans ?_
    rw [hw, h]
  · exact (canon_miss4 _ _ _ _ _ _ _ (0 : Fin 1) δ w e fun hm => h (by omega)).trans (hL h)

/-- The zero fills. -/
theorem zero_rows (r : Fin 2064) (d : Fin 64) :
    View.canon (kernelRun0_A.sl.H6_1 (F := Ideal)) (ix3 (0 : Fin 1) r d) = ((0 : ℝ) : EReal) := by
  refine (canon_hit3 _ _ _ _ _ _ (0 : Fin 1) r d (0 : Fin 1) r d rfl (by simp) (by simp)).trans ?_
  change k0_pay111 (ix3 (0 : Fin 1) r d) = _
  pointwise [k0_pay111]
  rfl

theorem zero_bias (t : Fin 3) (i : Fin 256) (j : Fin 704) :
    View.canon (kernelRun0_A.sl.HS1_1 (F := Ideal)) (ix3 t i j) = ((0 : ℝ) : EReal) := by
  refine (canon_hit3 _ _ _ _ _ _ t i j t i j (by simp) (by simp) (by simp)).trans ?_
  change k0_pay113 (ix3 t i j) = _
  pointwise [k0_pay113]
  rfl

variable (c : Dev nD) (i : grid0.Coords) (arg1 : Memref sig .tc .vmem S1x2064x64 .f32) (harg1 : arg1.IsWhole) (arg2 : Memref sig .tc .vmem S1x2064x64 .f32) (harg2 : arg2.IsWhole) (arg3 : Memref sig .tc .vmem S1x2064x64 .f32) (harg3 : arg3.IsWhole) (arg4 : Memref sig .tc .vmem S1x15x64x64 .f32) (harg4 : arg4.IsWhole) (arg5 : Memref sig .tc .vmem S1x2064x64 .f32) (harg5 : arg5.IsWhole) (arg6 : Memref sig .tc .vmem S1x2064x64 .f32) (harg6 : arg6.IsWhole) (arg7 : Memref sig .tc .vmem S1x2064x64 .f32) (harg7 : arg7.IsWhole) (arg8 : Memref sig .tc .vmem S1x2064x64 .f32) (harg8 : arg8.IsWhole) (arg9 : Memref sig .tc .vmem S1x15x64x64 .f32) (harg9 : arg9.IsWhole) (arg10 : Memref sig .tc .vmem S3x256x704 .f32) (harg10 : arg10.IsWhole) (arg11 : Memref sig .tc .vmem S3x256x704 .f32) (harg11 : arg11.IsWhole)
    (x0 : Vec Ideal S1x2064x64 .f32) (x1 : Vec Ideal S1x2064x64 .f32) (x2 : Vec Ideal S1x2064x64 .f32) (x3 : Vec Ideal S1x15x64x64 .f32) (x4 : Vec Ideal S1x2064x64 .f32)
    {H : Head} (hH : Holds H x0 x1 x2 x3 x4)

include c arg1 harg1 arg2 harg2 arg3 harg3 arg4 harg4 arg5 harg5 arg6 harg6 arg7 harg7 arg8 harg8 arg9 harg9 arg10 harg10 arg11 harg11 x0 x1 x2 x3 x4 hH

theorem dk0 (u : Fin 2048) (d : Fin 64) : View.canon (kernelRun0_A.sl.H6_2 c arg1 harg1 arg2 harg2 arg3 harg3 arg4 harg4 arg5 harg5 arg7 arg10 x0 x1 x2 x3 x4)
    (ix3 (0 : Fin 1) (⟨16 + u, by omega⟩ : Fin 2064) d) = ((∑ g' ∈ range (0 + 1), H.dkB g' u d : ℝ) : EReal) :=
  chain_rows H.dkB 0 0 16 rfl arg7.view _ _ _ _ (fun j d => (ins0 c arg1 harg1 arg2 harg2 arg3 harg3 arg4 harg4 arg5 harg5 arg10 x0 x1 x2 x3 x4 hH).dk _ j d)
    (fun u d hu => Head.dkB_dead (ins0 c arg1 harg1 arg2 harg2 arg3 harg3 arg4 harg4 arg5 harg5 arg10 x0 x1 x2 x3 x4 hH) u d hu) (fun u d => (zero_rows _ d).trans (by simp)) u d

theorem dv0 (u : Fin 2048) (d : Fin 64) : View.canon (kernelRun0_A.sl.H7_2 c arg1 harg1 arg2 harg2 arg4 harg4 arg5 harg5 arg8 arg10 x0 x1 x3 x4)
    (ix3 (0 : Fin 1) (⟨16 + u, by omega⟩ : Fin 2064) d) = ((∑ g' ∈ range (0 + 1), H.dvB g' u d : ℝ) : EReal) :=
  chain_rows H.dvB 0 0 16 rfl arg8.view _ _ _ _ (fun j d => (ins0 c arg1 harg1 arg2 harg2 arg3 harg3 arg4 harg4 arg5 harg5 arg10 x0 x1 x2 x3 x4 hH).dv _ j d)
    (fun u d hu => Head.dvB_dead (ins0 c arg1 harg1 arg2 harg2 arg3 harg3 arg4 harg4 arg5 harg5 arg10 x0 x1 x2 x3 x4 hH) u d hu) (fun u d => (zero_rows _ d).trans (by simp)) u d

theorem db0 (t : Fin 3) (i : Fin 256) (j : Fin 704) : View.canon (kernelRun0_A.sl.HS1_2 c arg1 harg1 arg2 harg2 arg3 harg3 arg4 harg4 arg5 harg5 arg10 arg11 x0 x1 x2 x3 x4) (ix3 t i j)
    = ((∑ g' ∈ range (0 + 1), H.dbB g' t i j : ℝ) : EReal) :=
  chain_bias H 0 0 rfl 0 rfl arg11.view _ _ _ _ (fun i j => (ins0 c arg1 harg1 arg2 harg2 arg3 harg3 arg4 harg4 arg5 harg5 arg10 x0 x1 x2 x3 x4 hH).db _ i j) (fun t i j => (zero_bias t i j).trans (by simp)) t i j

theorem dkm0 (a : Fin 16) (d : Fin 64) : (kernelRun0_A.sl.v625 c arg1 harg1 arg2 harg2 arg3 harg3 arg4 harg4 arg5 harg5 arg10 x0 x1 x2 x3 x4) (ix2 a d)
    = ((∑ b ∈ range 16, H.Dmm b a * H.q b d + ∑ g' ∈ range (0 + 1), H.dkmB g' a d : ℝ) : EReal) := by
  refine ((ins0 c arg1 harg1 arg2 harg2 arg3 harg3 arg4 harg4 arg5 harg5 arg10 x0 x1 x2 x3 x4 hH).dkm _ a d).trans ?_
  rw [Finset.sum_range_succ (fun g' => H.dkmB g' a d), ← add_assoc, EReal.coe_add]
  refine congrArg₂ (· + ·) ?_ rfl
  exact ((insM arg1 harg1 arg2 harg2 arg3 harg3 arg5 harg5 x0 x1 x2 x3 x4 hH).dk a d).trans (by simp)

theorem dvm0 (a : Fin 16) (d : Fin 64) : (kernelRun0_A.sl.v628 c arg1 harg1 arg2 harg2 arg4 harg4 arg5 harg5 arg10 x0 x1 x3 x4) (ix2 a d)
    = ((∑ b ∈ range 16, H.Pmm b a * H.o b d + ∑ g' ∈ range (0 + 1), H.dvmB g' a d : ℝ) : EReal) := by
  refine ((ins0 c arg1 harg1 arg2 harg2 arg3 harg3 arg4 harg4 arg5 harg5 arg10 x0 x1 x2 x3 x4 hH).dvm _ a d).trans ?_
  rw [Finset.sum_range_succ (fun g' => H.dvmB g' a d), ← add_assoc, EReal.coe_add]
  refine congrArg₂ (· + ·) ?_ rfl
  exact ((insM arg1 harg1 arg2 harg2 arg3 harg3 arg5 harg5 x0 x1 x2 x3 x4 hH).dv a d).trans (by simp)

theorem dk1 (u : Fin 2048) (d : Fin 64) : View.canon (kernelRun0_A.sl.H6_3 c arg1 harg1 arg2 harg2 arg3 harg3 arg4 harg4 arg5 harg5 arg7 arg10 x0 x1 x2 x3 x4)
    (ix3 (0 : Fin 1) (⟨16 + u, by omega⟩ : Fin 2064) d) = ((∑ g' ∈ range (1 + 1), H.dkB g' u d : ℝ) : EReal) :=
  chain_rows H.dkB 1 0 16 rfl arg7.view _ _ _ _ (fun j d => (ins1 c arg1 harg1 arg2 harg2 arg3 harg3 arg4 harg4 arg5 harg5 arg10 x0 x1 x2 x3 x4 hH).dk _ j d)
    (fun u d hu => Head.dkB_dead (ins1 c arg1 harg1 arg2 harg2 arg3 harg3 arg4 harg4 arg5 harg5 arg10 x0 x1 x2 x3 x4 hH) u d hu) (dk0 c arg1 harg1 arg2 harg2 arg3 harg3 arg4 harg4 arg5 harg5 arg6 harg6 arg7 harg7 arg8 harg8 arg9 harg9 arg10 harg10 arg11 harg11 x0 x1 x2 x3 x4 hH) u d

theorem dv1 (u : Fin 2048) (d : Fin 64) : View.canon (kernelRun0_A.sl.H7_3 c arg1 harg1 arg2 harg2 arg4 harg4 arg5 harg5 arg8 arg10 x0 x1 x3 x4)
    (ix3 (0 : Fin 1) (⟨16 + u, by omega⟩ : Fin 2064) d) = ((∑ g' ∈ range (1 + 1), H.dvB g' u d : ℝ) : EReal) :=
  chain_rows H.dvB 1 0 16 rfl arg8.view _ _ _ _ (fun j d => (ins1 c arg1 harg1 arg2 harg2 arg3 harg3 arg4 harg4 arg5 harg5 arg10 x0 x1 x2 x3 x4 hH).dv _ j d)
    (fun u d hu => Head.dvB_dead (ins1 c arg1 harg1 arg2 harg2 arg3 harg3 arg4 harg4 arg5 harg5 arg10 x0 x1 x2 x3 x4 hH) u d hu) (dv0 c arg1 harg1 arg2 harg2 arg3 harg3 arg4 harg4 arg5 harg5 arg6 harg6 arg7 harg7 arg8 harg8 arg9 harg9 arg10 harg10 arg11 harg11 x0 x1 x2 x3 x4 hH) u d

theorem db1 (t : Fin 3) (i : Fin 256) (j : Fin 704) : View.canon (kernelRun0_A.sl.HS1_3 c arg1 harg1 arg2 harg2 arg3 harg3 arg4 harg4 arg5 harg5 arg10 arg11 x0 x1 x2 x3 x4) (ix3 t i j)
    = ((∑ g' ∈ range (1 + 1), H.dbB g' t i j : ℝ) : EReal) :=
  chain_bias H 1 1 rfl 1 rfl arg11.view _ _ _ _ (fun i j => (ins1 c arg1 harg1 arg2 harg2 arg3 harg3 arg4 harg4 arg5 harg5 arg10 x0 x1 x2 x3 x4 hH).db _ i j) (db0 c arg1 harg1 arg2 harg2 arg3 harg3 arg4 harg4 arg5 harg5 arg6 harg6 arg7 harg7 arg8 harg8 arg9 harg9 arg10 harg10 arg11 harg11 x0 x1 x2 x3 x4 hH) t i j

theorem dkm1 (a : Fin 16) (d : Fin 64) : (kernelRun0_A.sl.v717 c arg1 harg1 arg2 harg2 arg3 harg3 arg4 harg4 arg5 harg5 arg10 x0 x1 x2 x3 x4) (ix2 a d)
    = ((∑ b ∈ range 16, H.Dmm b a * H.q b d + ∑ g' ∈ range (1 + 1), H.dkmB g' a d : ℝ) : EReal) := by
  refine ((ins1 c arg1 harg1 arg2 harg2 arg3 harg3 arg4 harg4 arg5 harg5 arg10 x0 x1 x2 x3 x4 hH).dkm _ a d).trans ?_
  rw [Finset.sum_range_succ (fun g' => H.dkmB g' a d), ← add_assoc, EReal.coe_add]
  refine congrArg₂ (· + ·) ?_ rfl
  exact dkm0 c arg1 harg1 arg2 harg2 arg3 harg3 arg4 harg4 arg5 harg5 arg6 harg6 arg7 harg7 arg8 harg8 arg9 harg9 arg10 harg10 arg11 harg11 x0 x1 x2 x3 x4 hH a d

theorem dvm1 (a : Fin 16) (d : Fin 64) : (kernelRun0_A.sl.v720 c arg1 harg1 arg2 harg2 arg4 harg4 arg5 harg5 arg10 x0 x1 x3 x4) (ix2 a d)
    = ((∑ b ∈ range 16, H.Pmm b a * H.o b d + ∑ g' ∈ range (1 + 1), H.dvmB g' a d : ℝ) : EReal) := by
  refine ((ins1 c arg1 harg1 arg2 harg2 arg3 harg3 arg4 harg4 arg5 harg5 arg10 x0 x1 x2 x3 x4 hH).dvm _ a d).trans ?_
  rw [Finset.sum_range_succ (fun g' => H.dvmB g' a d), ← add_assoc, EReal.coe_add]
  refine congrArg₂ (· + ·) ?_ rfl
  exact dvm0 c arg1 harg1 arg2 harg2 arg3 harg3 arg4 harg4 arg5 harg5 arg6 harg6 arg7 harg7 arg8 harg8 arg9 harg9 arg10 harg10 arg11 harg11 x0 x1 x2 x3 x4 hH a d

theorem dk2 (u : Fin 2048) (d : Fin 64) : View.canon (kernelRun0_A.sl.H6_4 c arg1 harg1 arg2 harg2 arg3 harg3 arg4 harg4 arg5 harg5 arg7 arg10 x0 x1 x2 x3 x4)
    (ix3 (0 : Fin 1) (⟨16 + u, by omega⟩ : Fin 2064) d) = ((∑ g' ∈ range (2 + 1), H.dkB g' u d : ℝ) : EReal) :=
  chain_rows H.dkB 2 4 272 rfl arg7.view _ _ _ _ (fun j d => (ins2 c arg1 harg1 arg2 harg2 arg3 harg3 arg4 harg4 arg5 harg5 arg10 x0 x1 x2 x3 x4 hH).dk _ j d)
    (fun u d hu => Head.dkB_dead (ins2 c arg1 harg1 arg2 harg2 arg3 harg3 arg4 harg4 arg5 harg5 arg10 x0 x1 x2 x3 x4 hH) u d hu) (dk1 c arg1 harg1 arg2 harg2 arg3 harg3 arg4 harg4 arg5 harg5 arg6 harg6 arg7 harg7 arg8 harg8 arg9 harg9 arg10 harg10 arg11 harg11 x0 x1 x2 x3 x4 hH) u d

theorem dv2 (u : Fin 2048) (d : Fin 64) : View.canon (kernelRun0_A.sl.H7_4 c arg1 harg1 arg2 harg2 arg4 harg4 arg5 harg5 arg8 arg10 x0 x1 x3 x4)
    (ix3 (0 : Fin 1) (⟨16 + u, by omega⟩ : Fin 2064) d) = ((∑ g' ∈ range (2 + 1), H.dvB g' u d : ℝ) : EReal) :=
  chain_rows H.dvB 2 4 272 rfl arg8.view _ _ _ _ (fun j d => (ins2 c arg1 harg1 arg2 harg2 arg3 harg3 arg4 harg4 arg5 harg5 arg10 x0 x1 x2 x3 x4 hH).dv _ j d)
    (fun u d hu => Head.dvB_dead (ins2 c arg1 harg1 arg2 harg2 arg3 harg3 arg4 harg4 arg5 harg5 arg10 x0 x1 x2 x3 x4 hH) u d hu) (dv1 c arg1 harg1 arg2 harg2 arg3 harg3 arg4 harg4 arg5 harg5 arg6 harg6 arg7 harg7 arg8 harg8 arg9 harg9 arg10 harg10 arg11 harg11 x0 x1 x2 x3 x4 hH) u d

theorem db2 (t : Fin 3) (i : Fin 256) (j : Fin 704) : View.canon (kernelRun0_A.sl.HS1_4 c arg1 harg1 arg2 harg2 arg3 harg3 arg4 harg4 arg5 harg5 arg10 arg11 x0 x1 x2 x3 x4) (ix3 t i j)
    = ((∑ g' ∈ range (2 + 1), H.dbB g' t i j : ℝ) : EReal) :=
  chain_bias H 2 1 rfl 1 rfl arg11.view _ _ _ _ (fun i j => (ins2 c arg1 harg1 arg2 harg2 arg3 harg3 arg4 harg4 arg5 harg5 arg10 x0 x1 x2 x3 x4 hH).db _ i j) (db1 c arg1 harg1 arg2 harg2 arg3 harg3 arg4 harg4 arg5 harg5 arg6 harg6 arg7 harg7 arg8 harg8 arg9 harg9 arg10 harg10 arg11 harg11 x0 x1 x2 x3 x4 hH) t i j

theorem dkm2 (a : Fin 16) (d : Fin 64) : (kernelRun0_A.sl.v809 c arg1 harg1 arg2 harg2 arg3 harg3 arg4 harg4 arg5 harg5 arg10 x0 x1 x2 x3 x4) (ix2 a d)
    = ((∑ b ∈ range 16, H.Dmm b a * H.q b d + ∑ g' ∈ range (2 + 1), H.dkmB g' a d : ℝ) : EReal) := by
  refine ((ins2 c arg1 harg1 arg2 harg2 arg3 harg3 arg4 harg4 arg5 harg5 arg10 x0 x1 x2 x3 x4 hH).dkm _ a d).trans ?_
  rw [Finset.sum_range_succ (fun g' => H.dkmB g' a d), ← add_assoc, EReal.coe_add]
  refine congrArg₂ (· + ·) ?_ rfl
  exact dkm1 c arg1 harg1 arg2 harg2 arg3 harg3 arg4 harg4 arg5 harg5 arg6 harg6 arg7 harg7 arg8 harg8 arg9 harg9 arg10 harg10 arg11 harg11 x0 x1 x2 x3 x4 hH a d

theorem dvm2 (a : Fin 16) (d : Fin 64) : (kernelRun0_A.sl.v812 c arg1 harg1 arg2 harg2 arg4 harg4 arg5 harg5 arg10 x0 x1 x3 x4) (ix2 a d)
    = ((∑ b ∈ range 16, H.Pmm b a * H.o b d + ∑ g' ∈ range (2 + 1), H.dvmB g' a d : ℝ) : EReal) := by
  refine ((ins2 c arg1 harg1 arg2 harg2 arg3 harg3 arg4 harg4 arg5 harg5 arg10 x0 x1 x2 x3 x4 hH).dvm _ a d).trans ?_
  rw [Finset.sum_range_succ (fun g' => H.dvmB g' a d), ← add_assoc, EReal.coe_add]
  refine congrArg₂ (· + ·) ?_ rfl
  exact dvm1 c arg1 harg1 arg2 harg2 arg3 harg3 arg4 harg4 arg5 harg5 arg6 harg6 arg7 harg7 arg8 harg8 arg9 harg9 arg10 harg10 arg11 harg11 x0 x1 x2 x3 x4 hH a d

theorem dk3 (u : Fin 2048) (d : Fin 64) : View.canon (kernelRun0_A.sl.H6_5 c arg1 harg1 arg2 harg2 arg3 harg3 arg4 harg4 arg5 harg5 arg7 arg10 x0 x1 x2 x3 x4)
    (ix3 (0 : Fin 1) (⟨16 + u, by omega⟩ : Fin 2064) d) = ((∑ g' ∈ range (3 + 1), H.dkB g' u d : ℝ) : EReal) :=
  chain_rows H.dkB 3 8 528 rfl arg7.view _ _ _ _ (fun j d => (ins3 c arg1 harg1 arg2 harg2 arg3 harg3 arg4 harg4 arg5 harg5 arg10 x0 x1 x2 x3 x4 hH).dk _ j d)
    (fun u d hu => Head.dkB_dead (ins3 c arg1 harg1 arg2 harg2 arg3 harg3 arg4 harg4 arg5 harg5 arg10 x0 x1 x2 x3 x4 hH) u d hu) (dk2 c arg1 harg1 arg2 harg2 arg3 harg3 arg4 harg4 arg5 harg5 arg6 harg6 arg7 harg7 arg8 harg8 arg9 harg9 arg10 harg10 arg11 harg11 x0 x1 x2 x3 x4 hH) u d

theorem dv3 (u : Fin 2048) (d : Fin 64) : View.canon (kernelRun0_A.sl.H7_5 c arg1 harg1 arg2 harg2 arg4 harg4 arg5 harg5 arg8 arg10 x0 x1 x3 x4)
    (ix3 (0 : Fin 1) (⟨16 + u, by omega⟩ : Fin 2064) d) = ((∑ g' ∈ range (3 + 1), H.dvB g' u d : ℝ) : EReal) :=
  chain_rows H.dvB 3 8 528 rfl arg8.view _ _ _ _ (fun j d => (ins3 c arg1 harg1 arg2 harg2 arg3 harg3 arg4 harg4 arg5 harg5 arg10 x0 x1 x2 x3 x4 hH).dv _ j d)
    (fun u d hu => Head.dvB_dead (ins3 c arg1 harg1 arg2 harg2 arg3 harg3 arg4 harg4 arg5 harg5 arg10 x0 x1 x2 x3 x4 hH) u d hu) (dv2 c arg1 harg1 arg2 harg2 arg3 harg3 arg4 harg4 arg5 harg5 arg6 harg6 arg7 harg7 arg8 harg8 arg9 harg9 arg10 harg10 arg11 harg11 x0 x1 x2 x3 x4 hH) u d

theorem db3 (t : Fin 3) (i : Fin 256) (j : Fin 704) : View.canon (kernelRun0_A.sl.HS1_5 c arg1 harg1 arg2 harg2 arg3 harg3 arg4 harg4 arg5 harg5 arg10 arg11 x0 x1 x2 x3 x4) (ix3 t i j)
    = ((∑ g' ∈ range (3 + 1), H.dbB g' t i j : ℝ) : EReal) :=
  chain_bias H 3 1 rfl 1 rfl arg11.view _ _ _ _ (fun i j => (ins3 c arg1 harg1 arg2 harg2 arg3 harg3 arg4 harg4 arg5 harg5 arg10 x0 x1 x2 x3 x4 hH).db _ i j) (db2 c arg1 harg1 arg2 harg2 arg3 harg3 arg4 harg4 arg5 harg5 arg6 harg6 arg7 harg7 arg8 harg8 arg9 harg9 arg10 harg10 arg11 harg11 x0 x1 x2 x3 x4 hH) t i j

theorem dkm3 (a : Fin 16) (d : Fin 64) : (kernelRun0_A.sl.v901 c arg1 harg1 arg2 harg2 arg3 harg3 arg4 harg4 arg5 harg5 arg10 x0 x1 x2 x3 x4) (ix2 a d)
    = ((∑ b ∈ range 16, H.Dmm b a * H.q b d + ∑ g' ∈ range (3 + 1), H.dkmB g' a d : ℝ) : EReal) := by
  refine ((ins3 c arg1 harg1 arg2 harg2 arg3 harg3 arg4 harg4 arg5 harg5 arg10 x0 x1 x2 x3 x4 hH).dkm _ a d).trans ?_
  rw [Finset.sum_range_succ (fun g' => H.dkmB g' a d), ← add_assoc, EReal.coe_add]
  refine congrArg₂ (· + ·) ?_ rfl
  exact dkm2 c arg1 harg1 arg2 harg2 arg3 harg3 arg4 harg4 arg5 harg5 arg6 harg6 arg7 harg7 arg8 harg8 arg9 harg9 arg10 harg10 arg11 harg11 x0 x1 x2 x3 x4 hH a d

theorem dvm3 (a : Fin 16) (d : Fin 64) : (kernelRun0_A.sl.v904 c arg1 harg1 arg2 harg2 arg4 harg4 arg5 harg5 arg10 x0 x1 x3 x4) (ix2 a d)
    = ((∑ b ∈ range 16, H.Pmm b a * H.o b d + ∑ g' ∈ range (3 + 1), H.dvmB g' a d : ℝ) : EReal) := by
  refine ((ins3 c arg1 harg1 arg2 harg2 arg3 harg3 arg4 harg4 arg5 harg5 arg10 x0 x1 x2 x3 x4 hH).dvm _ a d).trans ?_
  rw [Finset.sum_range_succ (fun g' => H.dvmB g' a d), ← add_assoc, EReal.coe_add]
  refine congrArg₂ (· + ·) ?_ rfl
  exact dvm2 c arg1 harg1 arg2 harg2 arg3 harg3 arg4 harg4 arg5 harg5 arg6 harg6 arg7 harg7 arg8 harg8 arg9 harg9 arg10 harg10 arg11 harg11 x0 x1 x2 x3 x4 hH a d

theorem dk4 (u : Fin 2048) (d : Fin 64) : View.canon (kernelRun0_A.sl.H6_6 c arg1 harg1 arg2 harg2 arg3 harg3 arg4 harg4 arg5 harg5 arg7 arg10 x0 x1 x2 x3 x4)
    (ix3 (0 : Fin 1) (⟨16 + u, by omega⟩ : Fin 2064) d) = ((∑ g' ∈ range (4 + 1), H.dkB g' u d : ℝ) : EReal) :=
  chain_rows H.dkB 4 12 784 rfl arg7.view _ _ _ _ (fun j d => (ins4 c arg1 harg1 arg2 harg2 arg3 harg3 arg4 harg4 arg5 harg5 arg10 x0 x1 x2 x3 x4 hH).dk _ j d)
    (fun u d hu => Head.dkB_dead (ins4 c arg1 harg1 arg2 harg2 arg3 harg3 arg4 harg4 arg5 harg5 arg10 x0 x1 x2 x3 x4 hH) u d hu) (dk3 c arg1 harg1 arg2 harg2 arg3 harg3 arg4 harg4 arg5 harg5 arg6 harg6 arg7 harg7 arg8 harg8 arg9 harg9 arg10 harg10 arg11 harg11 x0 x1 x2 x3 x4 hH) u d

theorem dv4 (u : Fin 2048) (d : Fin 64) : View.canon (kernelRun0_A.sl.H7_6 c arg1 harg1 arg2 harg2 arg4 harg4 arg5 harg5 arg8 arg10 x0 x1 x3 x4)
    (ix3 (0 : Fin 1) (⟨16 + u, by omega⟩ : Fin 2064) d) = ((∑ g' ∈ range (4 + 1), H.dvB g' u d : ℝ) : EReal) :=
  chain_rows H.dvB 4 12 784 rfl arg8.view _ _ _ _ (fun j d => (ins4 c arg1 harg1 arg2 harg2 arg3 harg3 arg4 harg4 arg5 harg5 arg10 x0 x1 x2 x3 x4 hH).dv _ j d)
    (fun u d hu => Head.dvB_dead (ins4 c arg1 harg1 arg2 harg2 arg3 harg3 arg4 harg4 arg5 harg5 arg10 x0 x1 x2 x3 x4 hH) u d hu) (dv3 c arg1 harg1 arg2 harg2 arg3 harg3 arg4 harg4 arg5 harg5 arg6 harg6 arg7 harg7 arg8 harg8 arg9 harg9 arg10 harg10 arg11 harg11 x0 x1 x2 x3 x4 hH) u d

theorem db4 (t : Fin 3) (i : Fin 256) (j : Fin 704) : View.canon (kernelRun0_A.sl.HS1_6 c arg1 harg1 arg2 harg2 arg3 harg3 arg4 harg4 arg5 harg5 arg10 arg11 x0 x1 x2 x3 x4) (ix3 t i j)
    = ((∑ g' ∈ range (4 + 1), H.dbB g' t i j : ℝ) : EReal) :=
  chain_bias H 4 1 rfl 1 rfl arg11.view _ _ _ _ (fun i j => (ins4 c arg1 harg1 arg2 harg2 arg3 harg3 arg4 harg4 arg5 harg5 arg10 x0 x1 x2 x3 x4 hH).db _ i j) (db3 c arg1 harg1 arg2 harg2 arg3 harg3 arg4 harg4 arg5 harg5 arg6 harg6 arg7 harg7 arg8 harg8 arg9 harg9 arg10 harg10 arg11 harg11 x0 x1 x2 x3 x4 hH) t i j

theorem dkm4 (a : Fin 16) (d : Fin 64) : (kernelRun0_A.sl.v993 c arg1 harg1 arg2 harg2 arg3 harg3 arg4 harg4 arg5 harg5 arg10 x0 x1 x2 x3 x4) (ix2 a d)
    = ((∑ b ∈ range 16, H.Dmm b a * H.q b d + ∑ g' ∈ range (4 + 1), H.dkmB g' a d : ℝ) : EReal) := by
  refine ((ins4 c arg1 harg1 arg2 harg2 arg3 harg3 arg4 harg4 arg5 harg5 arg10 x0 x1 x2 x3 x4 hH).dkm _ a d).trans ?_
  rw [Finset.sum_range_succ (fun g' => H.dkmB g' a d), ← add_assoc, EReal.coe_add]
  refine congrArg₂ (· + ·) ?_ rfl
  exact dkm3 c arg1 harg1 arg2 harg2 arg3 harg3 arg4 harg4 arg5 harg5 arg6 harg6 arg7 harg7 arg8 harg8 arg9 harg9 arg10 harg10 arg11 harg11 x0 x1 x2 x3 x4 hH a d

theorem dvm4 (a : Fin 16) (d : Fin 64) : (kernelRun0_A.sl.v996 c arg1 harg1 arg2 harg2 arg4 harg4 arg5 harg5 arg10 x0 x1 x3 x4) (ix2 a d)
    = ((∑ b ∈ range 16, H.Pmm b a * H.o b d + ∑ g' ∈ range (4 + 1), H.dvmB g' a d : ℝ) : EReal) := by
  refine ((ins4 c arg1 harg1 arg2 harg2 arg3 harg3 arg4 harg4 arg5 harg5 arg10 x0 x1 x2 x3 x4 hH).dvm _ a d).trans ?_
  rw [Finset.sum_range_succ (fun g' => H.dvmB g' a d), ← add_assoc, EReal.coe_add]
  refine congrArg₂ (· + ·) ?_ rfl
  exact dvm3 c arg1 harg1 arg2 harg2 arg3 harg3 arg4 harg4 arg5 harg5 arg6 harg6 arg7 harg7 arg8 harg8 arg9 harg9 arg10 harg10 arg11 harg11 x0 x1 x2 x3 x4 hH a d

theorem dk5 (u : Fin 2048) (d : Fin 64) : View.canon (kernelRun0_A.sl.H6_7 c arg1 harg1 arg2 harg2 arg3 harg3 arg4 harg4 arg5 harg5 arg7 arg10 x0 x1 x2 x3 x4)
    (ix3 (0 : Fin 1) (⟨16 + u, by omega⟩ : Fin 2064) d) = ((∑ g' ∈ range (5 + 1), H.dkB g' u d : ℝ) : EReal) :=
  chain_rows H.dkB 5 16 1040 rfl arg7.view _ _ _ _ (fun j d => (ins5 c arg1 harg1 arg2 harg2 arg3 harg3 arg4 harg4 arg5 harg5 arg10 x0 x1 x2 x3 x4 hH).dk _ j d)
    (fun u d hu => Head.dkB_dead (ins5 c arg1 harg1 arg2 harg2 arg3 harg3 arg4 harg4 arg5 harg5 arg10 x0 x1 x2 x3 x4 hH) u d hu) (dk4 c arg1 harg1 arg2 harg2 arg3 harg3 arg4 harg4 arg5 harg5 arg6 harg6 arg7 harg7 arg8 harg8 arg9 harg9 arg10 harg10 arg11 harg11 x0 x1 x2 x3 x4 hH) u d

theorem dv5 (u : Fin 2048) (d : Fin 64) : View.canon (kernelRun0_A.sl.H7_7 c arg1 harg1 arg2 harg2 arg4 harg4 arg5 harg5 arg8 arg10 x0 x1 x3 x4)
    (ix3 (0 : Fin 1) (⟨16 + u, by omega⟩ : Fin 2064) d) = ((∑ g' ∈ range (5 + 1), H.dvB g' u d : ℝ) : EReal) :=
  chain_rows H.dvB 5 16 1040 rfl arg8.view _ _ _ _ (fun j d => (ins5 c arg1 harg1 arg2 harg2 arg3 harg3 arg4 harg4 arg5 harg5 arg10 x0 x1 x2 x3 x4 hH).dv _ j d)
    (fun u d hu => Head.dvB_dead (ins5 c arg1 harg1 arg2 harg2 arg3 harg3 arg4 harg4 arg5 harg5 arg10 x0 x1 x2 x3 x4 hH) u d hu) (dv4 c arg1 harg1 arg2 harg2 arg3 harg3 arg4 harg4 arg5 harg5 arg6 harg6 arg7 harg7 arg8 harg8 arg9 harg9 arg10 harg10 arg11 harg11 x0 x1 x2 x3 x4 hH) u d

theorem db5 (t : Fin 3) (i : Fin 256) (j : Fin 704) : View.canon (kernelRun0_A.sl.HS1_7 c arg1 harg1 arg2 harg2 arg3 harg3 arg4 harg4 arg5 harg5 arg10 arg11 x0 x1 x2 x3 x4) (ix3 t i j)
    = ((∑ g' ∈ range (5 + 1), H.dbB g' t i j : ℝ) : EReal) :=
  chain_bias H 5 1 rfl 1 rfl arg11.view _ _ _ _ (fun i j => (ins5 c arg1 harg1 arg2 harg2 arg3 harg3 arg4 harg4 arg5 harg5 arg10 x0 x1 x2 x3 x4 hH).db _ i j) (db4 c arg1 harg1 arg2 harg2 arg3 harg3 arg4 harg4 arg5 harg5 arg6 harg6 arg7 harg7 arg8 harg8 arg9 harg9 arg10 harg10 arg11 harg11 x0 x1 x2 x3 x4 hH) t i j

theorem dkm5 (a : Fin 16) (d : Fin 64) : (kernelRun0_A.sl.v1085 c arg1 harg1 arg2 harg2 arg3 harg3 arg4 harg4 arg5 harg5 arg10 x0 x1 x2 x3 x4) (ix2 a d)
    = ((∑ b ∈ range 16, H.Dmm b a * H.q b d + ∑ g' ∈ range (5 + 1), H.dkmB g' a d : ℝ) : EReal) := by
  refine ((ins5 c arg1 harg1 arg2 harg2 arg3 harg3 arg4 harg4 arg5 harg5 arg10 x0 x1 x2 x3 x4 hH).dkm _ a d).trans ?_
  rw [Finset.sum_range_succ (fun g' => H.dkmB g' a d), ← add_assoc, EReal.coe_add]
  refine congrArg₂ (· + ·) ?_ rfl
  exact dkm4 c arg1 harg1 arg2 harg2 arg3 harg3 arg4 harg4 arg5 harg5 arg6 harg6 arg7 harg7 arg8 harg8 arg9 harg9 arg10 harg10 arg11 harg11 x0 x1 x2 x3 x4 hH a d

theorem dvm5 (a : Fin 16) (d : Fin 64) : (kernelRun0_A.sl.v1088 c arg1 harg1 arg2 harg2 arg4 harg4 arg5 harg5 arg10 x0 x1 x3 x4) (ix2 a d)
    = ((∑ b ∈ range 16, H.Pmm b a * H.o b d + ∑ g' ∈ range (5 + 1), H.dvmB g' a d : ℝ) : EReal) := by
  refine ((ins5 c arg1 harg1 arg2 harg2 arg3 harg3 arg4 harg4 arg5 harg5 arg10 x0 x1 x2 x3 x4 hH).dvm _ a d).trans ?_
  rw [Finset.sum_range_succ (fun g' => H.dvmB g' a d), ← add_assoc, EReal.coe_add]
  refine congrArg₂ (· + ·) ?_ rfl
  exact dvm4 c arg1 harg1 arg2 harg2 arg3 harg3 arg4 harg4 arg5 harg5 arg6 harg6 arg7 harg7 arg8 harg8 arg9 harg9 arg10 harg10 arg11 harg11 x0 x1 x2 x3 x4 hH a d

theorem dk6 (u : Fin 2048) (d : Fin 64) : View.canon (kernelRun0_A.sl.H6_8 c arg1 harg1 arg2 harg2 arg3 harg3 arg4 harg4 arg5 harg5 arg7 arg10 x0 x1 x2 x3 x4)
    (ix3 (0 : Fin 1) (⟨16 + u, by omega⟩ : Fin 2064) d) = ((∑ g' ∈ range (6 + 1), H.dkB g' u d : ℝ) : EReal) :=
  chain_rows H.dkB 6 20 1296 rfl arg7.view _ _ _ _ (fun j d => (ins6 c arg1 harg1 arg2 harg2 arg3 harg3 arg4 harg4 arg5 harg5 arg10 x0 x1 x2 x3 x4 hH).dk _ j d)
    (fun u d hu => Head.dkB_dead (ins6 c arg1 harg1 arg2 harg2 arg3 harg3 arg4 harg4 arg5 harg5 arg10 x0 x1 x2 x3 x4 hH) u d hu) (dk5 c arg1 harg1 arg2 harg2 arg3 harg3 arg4 harg4 arg5 harg5 arg6 harg6 arg7 harg7 arg8 harg8 arg9 harg9 arg10 harg10 arg11 harg11 x0 x1 x2 x3 x4 hH) u d

theorem dv6 (u : Fin 2048) (d : Fin 64) : View.canon (kernelRun0_A.sl.H7_8 c arg1 harg1 arg2 harg2 arg4 harg4 arg5 harg5 arg8 arg10 x0 x1 x3 x4)
    (ix3 (0 : Fin 1) (⟨16 + u, by omega⟩ : Fin 2064) d) = ((∑ g' ∈ range (6 + 1), H.dvB g' u d : ℝ) : EReal) :=
  chain_rows H.dvB 6 20 1296 rfl arg8.view _ _ _ _ (fun j d => (ins6 c arg1 harg1 arg2 harg2 arg3 harg3 arg4 harg4 arg5 harg5 arg10 x0 x1 x2 x3 x4 hH).dv _ j d)
    (fun u d hu => Head.dvB_dead (ins6 c arg1 harg1 arg2 harg2 arg3 harg3 arg4 harg4 arg5 harg5 arg10 x0 x1 x2 x3 x4 hH) u d hu) (dv5 c arg1 harg1 arg2 harg2 arg3 harg3 arg4 harg4 arg5 harg5 arg6 harg6 arg7 harg7 arg8 harg8 arg9 harg9 arg10 harg10 arg11 harg11 x0 x1 x2 x3 x4 hH) u d

theorem db6 (t : Fin 3) (i : Fin 256) (j : Fin 704) : View.canon (kernelRun0_A.sl.HS1_8 c arg1 harg1 arg2 harg2 arg3 harg3 arg4 harg4 arg5 harg5 arg10 arg11 x0 x1 x2 x3 x4) (ix3 t i j)
    = ((∑ g' ∈ range (6 + 1), H.dbB g' t i j : ℝ) : EReal) :=
  chain_bias H 6 1 rfl 1 rfl arg11.view _ _ _ _ (fun i j => (ins6 c arg1 harg1 arg2 harg2 arg3 harg3 arg4 harg4 arg5 harg5 arg10 x0 x1 x2 x3 x4 hH).db _ i j) (db5 c arg1 harg1 arg2 harg2 arg3 harg3 arg4 harg4 arg5 harg5 arg6 harg6 arg7 harg7 arg8 harg8 arg9 harg9 arg10 harg10 arg11 harg11 x0 x1 x2 x3 x4 hH) t i j

theorem dkm6 (a : Fin 16) (d : Fin 64) : (kernelRun0_A.sl.v1177 c arg1 harg1 arg2 harg2 arg3 harg3 arg4 harg4 arg5 harg5 arg10 x0 x1 x2 x3 x4) (ix2 a d)
    = ((∑ b ∈ range 16, H.Dmm b a * H.q b d + ∑ g' ∈ range (6 + 1), H.dkmB g' a d : ℝ) : EReal) := by
  refine ((ins6 c arg1 harg1 arg2 harg2 arg3 harg3 arg4 harg4 arg5 harg5 arg10 x0 x1 x2 x3 x4 hH).dkm _ a d).trans ?_
  rw [Finset.sum_range_succ (fun g' => H.dkmB g' a d), ← add_assoc, EReal.coe_add]
  refine congrArg₂ (· + ·) ?_ rfl
  exact dkm5 c arg1 harg1 arg2 harg2 arg3 harg3 arg4 harg4 arg5 harg5 arg6 harg6 arg7 harg7 arg8 harg8 arg9 harg9 arg10 harg10 arg11 harg11 x0 x1 x2 x3 x4 hH a d

theorem dvm6 (a : Fin 16) (d : Fin 64) : (kernelRun0_A.sl.v1180 c arg1 harg1 arg2 harg2 arg4 harg4 arg5 harg5 arg10 x0 x1 x3 x4) (ix2 a d)
    = ((∑ b ∈ range 16, H.Pmm b a * H.o b d + ∑ g' ∈ range (6 + 1), H.dvmB g' a d : ℝ) : EReal) := by
  refine ((ins6 c arg1 harg1 arg2 harg2 arg3 harg3 arg4 harg4 arg5 harg5 arg10 x0 x1 x2 x3 x4 hH).dvm _ a d).trans ?_
  rw [Finset.sum_range_succ (fun g' => H.dvmB g' a d), ← add_assoc, EReal.coe_add]
  refine congrArg₂ (· + ·) ?_ rfl
  exact dvm5 c arg1 harg1 arg2 harg2 arg3 harg3 arg4 harg4 arg5 harg5 arg6 harg6 arg7 harg7 arg8 harg8 arg9 harg9 arg10 harg10 arg11 harg11 x0 x1 x2 x3 x4 hH a d

theorem dk7 (u : Fin 2048) (d : Fin 64) : View.canon (kernelRun0_A.sl.H6_9 c arg1 harg1 arg2 harg2 arg3 harg3 arg4 harg4 arg5 harg5 arg7 arg10 x0 x1 x2 x3 x4)
    (ix3 (0 : Fin 1) (⟨16 + u, by omega⟩ : Fin 2064) d) = ((∑ g' ∈ range (7 + 1), H.dkB g' u d : ℝ) : EReal) :=
  chain_rows H.dkB 7 21 1360 rfl arg7.view _ _ _ _ (fun j d => (ins7 c arg1 harg1 arg2 harg2 arg3 harg3 arg4 harg4 arg5 harg5 arg10 x0 x1 x2 x3 x4 hH).dk _ j d)
    (fun u d hu => Head.dkB_dead (ins7 c arg1 harg1 arg2 harg2 arg3 harg3 arg4 harg4 arg5 harg5 arg10 x0 x1 x2 x3 x4 hH) u d hu) (dk6 c arg1 harg1 arg2 harg2 arg3 harg3 arg4 harg4 arg5 harg5 arg6 harg6 arg7 harg7 arg8 harg8 arg9 harg9 arg10 harg10 arg11 harg11 x0 x1 x2 x3 x4 hH) u d

theorem dv7 (u : Fin 2048) (d : Fin 64) : View.canon (kernelRun0_A.sl.H7_9 c arg1 harg1 arg2 harg2 arg4 harg4 arg5 harg5 arg8 arg10 x0 x1 x3 x4)
    (ix3 (0 : Fin 1) (⟨16 + u, by omega⟩ : Fin 2064) d) = ((∑ g' ∈ range (7 + 1), H.dvB g' u d : ℝ) : EReal) :=
  chain_rows H.dvB 7 21 1360 rfl arg8.view _ _ _ _ (fun j d => (ins7 c arg1 harg1 arg2 harg2 arg3 harg3 arg4 harg4 arg5 harg5 arg10 x0 x1 x2 x3 x4 hH).dv _ j d)
    (fun u d hu => Head.dvB_dead (ins7 c arg1 harg1 arg2 harg2 arg3 harg3 arg4 harg4 arg5 harg5 arg10 x0 x1 x2 x3 x4 hH) u d hu) (dv6 c arg1 harg1 arg2 harg2 arg3 harg3 arg4 harg4 arg5 harg5 arg6 harg6 arg7 harg7 arg8 harg8 arg9 harg9 arg10 harg10 arg11 harg11 x0 x1 x2 x3 x4 hH) u d

theorem db7 (t : Fin 3) (i : Fin 256) (j : Fin 704) : View.canon (kernelRun0_A.sl.HS1_9 c arg1 harg1 arg2 harg2 arg3 harg3 arg4 harg4 arg5 harg5 arg10 arg11 x0 x1 x2 x3 x4) (ix3 t i j)
    = ((∑ g' ∈ range (7 + 1), H.dbB g' t i j : ℝ) : EReal) :=
  chain_bias H 7 2 rfl 2 rfl arg11.view _ _ _ _ (fun i j => (ins7 c arg1 harg1 arg2 harg2 arg3 harg3 arg4 harg4 arg5 harg5 arg10 x0 x1 x2 x3 x4 hH).db _ i j) (db6 c arg1 harg1 arg2 harg2 arg3 harg3 arg4 harg4 arg5 harg5 arg6 harg6 arg7 harg7 arg8 harg8 arg9 harg9 arg10 harg10 arg11 harg11 x0 x1 x2 x3 x4 hH) t i j

theorem dkm7 (a : Fin 16) (d : Fin 64) : (kernelRun0_A.sl.v1269 c arg1 harg1 arg2 harg2 arg3 harg3 arg4 harg4 arg5 harg5 arg10 x0 x1 x2 x3 x4) (ix2 a d)
    = ((∑ b ∈ range 16, H.Dmm b a * H.q b d + ∑ g' ∈ range (7 + 1), H.dkmB g' a d : ℝ) : EReal) := by
  refine ((ins7 c arg1 harg1 arg2 harg2 arg3 harg3 arg4 harg4 arg5 harg5 arg10 x0 x1 x2 x3 x4 hH).dkm _ a d).trans ?_
  rw [Finset.sum_range_succ (fun g' => H.dkmB g' a d), ← add_assoc, EReal.coe_add]
  refine congrArg₂ (· + ·) ?_ rfl
  exact dkm6 c arg1 harg1 arg2 harg2 arg3 harg3 arg4 harg4 arg5 harg5 arg6 harg6 arg7 harg7 arg8 harg8 arg9 harg9 arg10 harg10 arg11 harg11 x0 x1 x2 x3 x4 hH a d

theorem dvm7 (a : Fin 16) (d : Fin 64) : (kernelRun0_A.sl.v1272 c arg1 harg1 arg2 harg2 arg4 harg4 arg5 harg5 arg10 x0 x1 x3 x4) (ix2 a d)
    = ((∑ b ∈ range 16, H.Pmm b a * H.o b d + ∑ g' ∈ range (7 + 1), H.dvmB g' a d : ℝ) : EReal) := by
  refine ((ins7 c arg1 harg1 arg2 harg2 arg3 harg3 arg4 harg4 arg5 harg5 arg10 x0 x1 x2 x3 x4 hH).dvm _ a d).trans ?_
  rw [Finset.sum_range_succ (fun g' => H.dvmB g' a d), ← add_assoc, EReal.coe_add]
  refine congrArg₂ (· + ·) ?_ rfl
  exact dvm6 c arg1 harg1 arg2 harg2 arg3 harg3 arg4 harg4 arg5 harg5 arg6 harg6 arg7 harg7 arg8 harg8 arg9 harg9 arg10 harg10 arg11 harg11 x0 x1 x2 x3 x4 hH a d

/-- The queries' gradient. -/
theorem dq_out (r : Fin 2064) (d : Fin 64) : View.canon (kernelRun0_A c i arg1 harg1 arg2 harg2 arg3 harg3 arg4 harg4 arg5 harg5 arg6 harg6 arg7 harg7 arg8 harg8 arg9 harg9 arg10 harg10 arg11 harg11 x0 x1 x2 x3 x4).1 (ix3 (0 : Fin 1) r d)
    = ((H.dqRow r d : ℝ) : EReal) := by
  refine rows_cons H.dqRow (fun _ => True) 1808 256 _ _ _ (fun i d => ((ins7 c arg1 harg1 arg2 harg2 arg3 harg3 arg4 harg4 arg5 harg5 arg10 x0 x1 x2 x3 x4 hH).dq i d).trans (tok_row 7 i d).symm) ?_ r d trivial
  refine fun r d hr => rows_cons H.dqRow (fun n => True ∧ ¬(1808 ≤ n ∧ n < 1808 + 256)) 1552 256 _ _ _ (fun i d => ((ins6 c arg1 harg1 arg2 harg2 arg3 harg3 arg4 harg4 arg5 harg5 arg10 x0 x1 x2 x3 x4 hH).dq i d).trans (tok_row 6 i d).symm) ?_ r d hr
  refine fun r d hr => rows_cons H.dqRow (fun n => (True ∧ ¬(1808 ≤ n ∧ n < 1808 + 256)) ∧ ¬(1552 ≤ n ∧ n < 1552 + 256)) 1296 256 _ _ _ (fun i d => ((ins5 c arg1 harg1 arg2 harg2 arg3 harg3 arg4 harg4 arg5 harg5 arg10 x0 x1 x2 x3 x4 hH).dq i d).trans (tok_row 5 i d).symm) ?_ r d hr
  refine fun r d hr => rows_cons H.dqRow (fun n => ((True ∧ ¬(1808 ≤ n ∧ n < 1808 + 256)) ∧ ¬(1552 ≤ n ∧ n < 1552 + 256)) ∧ ¬(1296 ≤ n ∧ n < 1296 + 256)) 1040 256 _ _ _ (fun i d => ((ins4 c arg1 harg1 arg2 harg2 arg3 harg3 arg4 harg4 arg5 harg5 arg10 x0 x1 x2 x3 x4 hH).dq i d).trans (tok_row 4 i d).symm) ?_ r d hr
  refine fun r d hr => rows_cons H.dqRow (fun n => (((True ∧ ¬(1808 ≤ n ∧ n < 1808 + 256)) ∧ ¬(1552 ≤ n ∧ n < 1552 + 256)) ∧ ¬(1296 ≤ n ∧ n < 1296 + 256)) ∧ ¬(1040 ≤ n ∧ n < 1040 + 256)) 784 256 _ _ _ (fun i d => ((ins3 c arg1 harg1 arg2 harg2 arg3 harg3 arg4 harg4 arg5 harg5 arg10 x0 x1 x2 x3 x4 hH).dq i d).trans (tok_row 3 i d).symm) ?_ r d hr
  refine fun r d hr => rows_cons H.dqRow (fun n => ((((True ∧ ¬(1808 ≤ n ∧ n < 1808 + 256)) ∧ ¬(1552 ≤ n ∧ n < 1552 + 256)) ∧ ¬(1296 ≤ n ∧ n < 1296 + 256)) ∧ ¬(1040 ≤ n ∧ n < 1040 + 256)) ∧ ¬(784 ≤ n ∧ n < 784 + 256)) 528 256 _ _ _ (fun i d => ((ins2 c arg1 harg1 arg2 harg2 arg3 harg3 arg4 harg4 arg5 harg5 arg10 x0 x1 x2 x3 x4 hH).dq i d).trans (tok_row 2 i d).symm) ?_ r d hr
  refine fun r d hr => rows_cons H.dqRow (fun n => (((((True ∧ ¬(1808 ≤ n ∧ n < 1808 + 256)) ∧ ¬(1552 ≤ n ∧ n < 1552 + 256)) ∧ ¬(1296 ≤ n ∧ n < 1296 + 256)) ∧ ¬(1040 ≤ n ∧ n < 1040 + 256)) ∧ ¬(784 ≤ n ∧ n < 784 + 256)) ∧ ¬(528 ≤ n ∧ n < 528 + 256)) 272 256 _ _ _ (fun i d => ((ins1 c arg1 harg1 arg2 harg2 arg3 harg3 arg4 harg4 arg5 harg5 arg10 x0 x1 x2 x3 x4 hH).dq i d).trans (tok_row 1 i d).symm) ?_ r d hr
  refine fun r d hr => rows_cons H.dqRow (fun n => ((((((True ∧ ¬(1808 ≤ n ∧ n < 1808 + 256)) ∧ ¬(1552 ≤ n ∧ n < 1552 + 256)) ∧ ¬(1296 ≤ n ∧ n < 1296 + 256)) ∧ ¬(1040 ≤ n ∧ n < 1040 + 256)) ∧ ¬(784 ≤ n ∧ n < 784 + 256)) ∧ ¬(528 ≤ n ∧ n < 528 + 256)) ∧ ¬(272 ≤ n ∧ n < 272 + 256)) 16 256 _ _ _ (fun i d => ((ins0 c arg1 harg1 arg2 harg2 arg3 harg3 arg4 harg4 arg5 harg5 arg10 x0 x1 x2 x3 x4 hH).dq i d).trans (tok_row 0 i d).symm) ?_ r d hr
  refine fun r d hr => rows_cons H.dqRow (fun n => (((((((True ∧ ¬(1808 ≤ n ∧ n < 1808 + 256)) ∧ ¬(1552 ≤ n ∧ n < 1552 + 256)) ∧ ¬(1296 ≤ n ∧ n < 1296 + 256)) ∧ ¬(1040 ≤ n ∧ n < 1040 + 256)) ∧ ¬(784 ≤ n ∧ n < 784 + 256)) ∧ ¬(528 ≤ n ∧ n < 528 + 256)) ∧ ¬(272 ≤ n ∧ n < 272 + 256)) ∧ ¬(16 ≤ n ∧ n < 16 + 256)) 0 16 _ _ _ (fun i d => ((insM arg1 harg1 arg2 harg2 arg3 harg3 arg5 harg5 x0 x1 x2 x3 x4 hH).dq i d).trans (meta_row i d).symm) ?_ r d hr
  exact fun r d hr => absurd hr (by have := r.isLt; omega)

theorem dk_out (r : Fin 2064) (d : Fin 64) : View.canon (kernelRun0_A c i arg1 harg1 arg2 harg2 arg3 harg3 arg4 harg4 arg5 harg5 arg6 harg6 arg7 harg7 arg8 harg8 arg9 harg9 arg10 harg10 arg11 harg11 x0 x1 x2 x3 x4).2.1 (ix3 (0 : Fin 1) r d)
    = ((H.dkRow r d : ℝ) : EReal) := by
  refine rows_cons H.dkRow (fun _ => True) 0 16 _ _ _ (fun a d => (meta_cast _ a d).trans
    ((dkm7 c arg1 harg1 arg2 harg2 arg3 harg3 arg4 harg4 arg5 harg5 arg6 harg6 arg7 harg7 arg8 harg8 arg9 harg9 arg10 harg10 arg11 harg11 x0 x1 x2 x3 x4 hH a d).trans ?_)) (fun r d hr => ?_) r d trivial
  · rw [dkMeta_blocks, Head.dkRow, if_pos (by omega), Nat.zero_add]
  · have h16 : 16 ≤ r.val := by omega
    have e : r = (⟨16 + (r.val - 16), by omega⟩ : Fin 2064) := Fin.ext (by simp only; omega)
    have h := dk7 c arg1 harg1 arg2 harg2 arg3 harg3 arg4 harg4 arg5 harg5 arg6 harg6 arg7 harg7 arg8 harg8 arg9 harg9 arg10 harg10 arg11 harg11 x0 x1 x2 x3 x4 hH (⟨r.val - 16, by omega⟩ : Fin 2048) d
    rw [dkTok_blocks] at h
    rw [Head.dkRow, if_neg (by omega)]
    exact (congrArg (fun r => View.canon (kernelRun0_A.sl.H6_9 c arg1 harg1 arg2 harg2 arg3 harg3 arg4 harg4 arg5 harg5 arg7 arg10 x0 x1 x2 x3 x4) (ix3 (0 : Fin 1) r d)) e).trans h

theorem dv_out (r : Fin 2064) (d : Fin 64) : View.canon (kernelRun0_A c i arg1 harg1 arg2 harg2 arg3 harg3 arg4 harg4 arg5 harg5 arg6 harg6 arg7 harg7 arg8 harg8 arg9 harg9 arg10 harg10 arg11 harg11 x0 x1 x2 x3 x4).2.2.1 (ix3 (0 : Fin 1) r d)
    = ((H.dvRow r d : ℝ) : EReal) := by
  refine rows_cons H.dvRow (fun _ => True) 0 16 _ _ _ (fun a d => (meta_cast _ a d).trans
    ((dvm7 c arg1 harg1 arg2 harg2 arg3 harg3 arg4 harg4 arg5 harg5 arg6 harg6 arg7 harg7 arg8 harg8 arg9 harg9 arg10 harg10 arg11 harg11 x0 x1 x2 x3 x4 hH a d).trans ?_)) (fun r d hr => ?_) r d trivial
  · rw [dvMeta_blocks, Head.dvRow, if_pos (by omega), Nat.zero_add]
  · have h16 : 16 ≤ r.val := by omega
    have e : r = (⟨16 + (r.val - 16), by omega⟩ : Fin 2064) := Fin.ext (by simp only; omega)
    have h := dv7 c arg1 harg1 arg2 harg2 arg3 harg3 arg4 harg4 arg5 harg5 arg6 harg6 arg7 harg7 arg8 harg8 arg9 harg9 arg10 harg10 arg11 harg11 x0 x1 x2 x3 x4 hH (⟨r.val - 16, by omega⟩ : Fin 2048) d
    rw [dvTok_blocks] at h
    rw [Head.dvRow, if_neg (by omega)]
    exact (congrArg (fun r => View.canon (kernelRun0_A.sl.H7_9 c arg1 harg1 arg2 harg2 arg4 harg4 arg5 harg5 arg8 arg10 x0 x1 x3 x4) (ix3 (0 : Fin 1) r d)) e).trans h

theorem db_all : ∀ (t : Fin 3) (i : Fin 256) (j : Fin 704), View.canon (kernelRun0_A.sl.HS1_9 c arg1 harg1 arg2 harg2 arg3 harg3 arg4 harg4 arg5 harg5 arg10 arg11 x0 x1 x2 x3 x4) (ix3 t i j)
    = ((∑ g' ∈ range 8, H.dbB g' t i j : ℝ) : EReal) := db7 c arg1 harg1 arg2 harg2 arg3 harg3 arg4 harg4 arg5 harg5 arg6 harg6 arg7 harg7 arg8 harg8 arg9 harg9 arg10 harg10 arg11 harg11 x0 x1 x2 x3 x4 hH

/-- The slab's gradient. -/
theorem dS_out (δ : Fin 15) (w e : Fin 64) : View.canon (kernelRun0_A c i arg1 harg1 arg2 harg2 arg3 harg3 arg4 harg4 arg5 harg5 arg6 harg6 arg7 harg7 arg8 harg8 arg9 harg9 arg10 harg10 arg11 harg11 x0 x1 x2 x3 x4).2.2.2.1 (ix4 (0 : Fin 1) δ w e)
    = ((H.dS δ w e : ℝ) : EReal) := by
  refine slab_cons H 14 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (0, 0, 7) [] w e).trans (congrArg _ (slab_sum_14 H w e w.isLt e.isLt)))) (fun hn14 => ?_)
  refine slab_cons H 13 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (0, 0, 6) [(0, 1, 7)] w e).trans (congrArg _ (slab_sum_13 H w e w.isLt e.isLt)))) (fun hn13 => ?_)
  refine slab_cons H 12 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (0, 0, 5) [(0, 1, 6), (0, 2, 7)] w e).trans (congrArg _ (slab_sum_12 H w e w.isLt e.isLt)))) (fun hn12 => ?_)
  refine slab_cons H 11 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (0, 0, 4) [(0, 1, 5), (0, 2, 6), (0, 3, 7)] w e).trans (congrArg _ (slab_sum_11 H w e w.isLt e.isLt)))) (fun hn11 => ?_)
  refine slab_cons H 10 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (0, 0, 3) [(0, 1, 4), (0, 2, 5), (0, 3, 6), (1, 0, 7), (1, 1, 8), (1, 2, 9), (1, 3, 10), (2, 0, 10)] w e).trans (congrArg _ (slab_sum_10 H w e w.isLt e.isLt)))) (fun hn10 => ?_)
  refine slab_cons H 9 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (0, 0, 2) [(0, 1, 3), (0, 2, 4), (0, 3, 5), (1, 0, 6), (1, 1, 7), (1, 2, 8), (1, 3, 9), (2, 0, 9), (2, 1, 10)] w e).trans (congrArg _ (slab_sum_9 H w e w.isLt e.isLt)))) (fun hn9 => ?_)
  refine slab_cons H 8 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (0, 0, 1) [(0, 1, 2), (0, 2, 3), (0, 3, 4), (1, 0, 5), (1, 1, 6), (1, 2, 7), (1, 3, 8), (2, 0, 8), (2, 1, 9),
      (2, 2, 10)] w e).trans (congrArg _ (slab_sum_8 H w e w.isLt e.isLt)))) (fun hn8 => ?_)
  refine slab_cons H 7 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (0, 0, 0) [(0, 1, 1), (0, 2, 2), (0, 3, 3), (1, 0, 4), (1, 1, 5), (1, 2, 6), (1, 3, 7), (2, 0, 7), (2, 1, 8),
      (2, 2, 9), (2, 3, 10)] w e).trans (congrArg _ (slab_sum_7 H w e w.isLt e.isLt)))) (fun hn7 => ?_)
  refine slab_cons H 6 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (0, 1, 0) [(0, 2, 1), (0, 3, 2), (1, 0, 3), (1, 1, 4), (1, 2, 5), (1, 3, 6), (2, 0, 6), (2, 1, 7), (2, 2, 8),
      (2, 3, 9)] w e).trans (congrArg _ (slab_sum_6 H w e w.isLt e.isLt)))) (fun hn6 => ?_)
  refine slab_cons H 5 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (0, 2, 0) [(0, 3, 1), (1, 0, 2), (1, 1, 3), (1, 2, 4), (1, 3, 5), (2, 0, 5), (2, 1, 6), (2, 2, 7), (2, 3, 8)] w e).trans (congrArg _ (slab_sum_5 H w e w.isLt e.isLt)))) (fun hn5 => ?_)
  refine slab_cons H 4 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (0, 3, 0) [(1, 0, 1), (1, 1, 2), (1, 2, 3), (1, 3, 4), (2, 0, 4), (2, 1, 5), (2, 2, 6), (2, 3, 7)] w e).trans (congrArg _ (slab_sum_4 H w e w.isLt e.isLt)))) (fun hn4 => ?_)
  refine slab_cons H 3 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (1, 0, 0) [(1, 1, 1), (1, 2, 2), (1, 3, 3), (2, 0, 3), (2, 1, 4), (2, 2, 5), (2, 3, 6)] w e).trans (congrArg _ (slab_sum_3 H w e w.isLt e.isLt)))) (fun hn3 => ?_)
  refine slab_cons H 2 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (2, 1, 3) [(2, 2, 4), (2, 3, 5)] w e).trans (congrArg _ (slab_sum_2 H w e w.isLt e.isLt)))) (fun hn2 => ?_)
  refine slab_cons H 1 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (2, 2, 3) [(2, 3, 4)] w e).trans (congrArg _ (slab_sum_1 H w e w.isLt e.isLt)))) (fun hn1 => ?_)
  refine slab_cons H 0 _ _ _ (fun w e => (cast_tile _ w e).trans ((sumTiles_apply arg11.view _
    (db_all c arg1 harg1 arg2 harg2 arg3 harg3 arg4 harg4 arg5 harg5 arg6 harg6 arg7 harg7 arg8 harg8 arg9 harg9 arg10 harg10 arg11 harg11 x0 x1 x2 x3 x4 hH) (2, 3, 3) [] w e).trans (congrArg _ (slab_sum_0 H w e w.isLt e.isLt)))) (fun hn0 => ?_)
  have := δ.isLt
  omega

end Cert.NA

end
-- ==== Proof.Heads.lean ====
/- The kernel's result arrays after the run: head by head, the gradients of the attention of that head's reals. -/
module

public import proofs.«01_k».proof.Proof.Stores
public import proofs.«01_k».proof.Proof.Gen.KernelIdeal.Value

@[expose] public section

set_option maxRecDepth 16384

noncomputable section

namespace Cert.NA

open Finset Idealize.ShloMosaic Idealize.ShloMosaic.TcCoe Cert.KernelIdeal Cert.KernelIdeal.Gen

/-- Head `h` of the argument arrays. -/
def headOf (A0 : Vec Ideal S24x2064x64 .f32) (A1 : Vec Ideal S8x15x64x64 .f32) (A2 : Vec Ideal S8x2064x64 .f32) (h : Fin 8) :
    Head where
  q n d := (A0 (ix3 (Fin.ofNat 24 h) (Fin.ofNat 2064 n) (Fin.ofNat 64 d))).toReal
  k n d := (A0 (ix3 (Fin.ofNat 24 (h + 8)) (Fin.ofNat 2064 n) (Fin.ofNat 64 d))).toReal
  v n d := (A0 (ix3 (Fin.ofNat 24 (h + 16)) (Fin.ofNat 2064 n) (Fin.ofNat 64 d))).toReal
  o n d := (A2 (ix3 h (Fin.ofNat 2064 n) (Fin.ofNat 64 d))).toReal
  S δ w e := (A1 (ix4 h (Fin.ofNat 15 δ) (Fin.ofNat 64 w) (Fin.ofNat 64 e))).toReal

/-- Every entry of an array is real. -/
def AllReal {s : Shape} (A : Vec Ideal s .f32) : Prop := ∀ i, A i = (((A i).toReal : ℝ) : EReal)

section Blocks

variable (m : (ℓ : Loc nD τ sig) → Buf (Elt Ideal) ℓ)

/-- The head a grid point computes. -/
def hd (t : Fin cfg0.N) : Fin 8 := t

theorem idx0 : ∀ t : Fin cfg0.N, win0_0.index t (0 : Fin 3) = t.val + 0 ∧ win0_0.index t (1 : Fin 3) = 0
    ∧ win0_0.index t (2 : Fin 3) = 0 := (by decide +kernel : ∀ t : Fin grid0.N, _)
theorem idx1 : ∀ t : Fin cfg0.N, win0_1.index t (0 : Fin 3) = t.val + 8 ∧ win0_1.index t (1 : Fin 3) = 0
    ∧ win0_1.index t (2 : Fin 3) = 0 := (by decide +kernel : ∀ t : Fin grid0.N, _)
theorem idx2 : ∀ t : Fin cfg0.N, win0_2.index t (0 : Fin 3) = t.val + 16 ∧ win0_2.index t (1 : Fin 3) = 0
    ∧ win0_2.index t (2 : Fin 3) = 0 := (by decide +kernel : ∀ t : Fin grid0.N, _)
theorem idx4 : ∀ t : Fin cfg0.N, win0_4.index t (0 : Fin 3) = t.val + 0 ∧ win0_4.index t (1 : Fin 3) = 0
    ∧ win0_4.index t (2 : Fin 3) = 0 := (by decide +kernel : ∀ t : Fin grid0.N, _)
theorem idx5 : ∀ t : Fin cfg0.N, win0_5.index t (0 : Fin 3) = t.val + 0 ∧ win0_5.index t (1 : Fin 3) = 0
    ∧ win0_5.index t (2 : Fin 3) = 0 := (by decide +kernel : ∀ t : Fin grid0.N, _)
theorem idx6 : ∀ t : Fin cfg0.N, win0_6.index t (0 : Fin 3) = t.val + 0 ∧ win0_6.index t (1 : Fin 3) = 0
    ∧ win0_6.index t (2 : Fin 3) = 0 := (by decide +kernel : ∀ t : Fin grid0.N, _)
theorem idx7 : ∀ t : Fin cfg0.N, win0_7.index t (0 : Fin 3) = t.val + 0 ∧ win0_7.index t (1 : Fin 3) = 0
    ∧ win0_7.index t (2 : Fin 3) = 0 := (by decide +kernel : ∀ t : Fin grid0.N, _)
theorem idx3 : ∀ t : Fin cfg0.N, win0_3.index t (0 : Fin 4) = t.val ∧ win0_3.index t (1 : Fin 4) = 0
    ∧ win0_3.index t (2 : Fin 4) = 0 ∧ win0_3.index t (3 : Fin 4) = 0 := (by decide +kernel : ∀ t : Fin grid0.N, _)
theorem idx8 : ∀ t : Fin cfg0.N, win0_8.index t (0 : Fin 4) = t.val ∧ win0_8.index t (1 : Fin 4) = 0
    ∧ win0_8.index t (2 : Fin 4) = 0 ∧ win0_8.index t (3 : Fin 4) = 0 := (by decide +kernel : ∀ t : Fin grid0.N, _)

/-- Where an element of a grid point's block sits in its array. -/
theorem emb0 (t : Fin cfg0.N) (n : Fin 2064) (d : Fin 64) :
    ((cfg0.win 0).blk t).view.emb (ix3 (0 : Fin 1) n d) = ix3 (Fin.ofNat 24 (hd t)) n d := by
  obtain ⟨e0, e1, e2⟩ := idx0 t
  have ht : t.val < 8 := t.isLt
  funext a; apply Fin.ext
  match a with
  | ⟨0, _⟩ =>
    show win0_0.index t (0 : Fin 3) * 1 + 1 * 0 = _
    show _ = (t.val + 0) % 24; omega
  | ⟨1, _⟩ => show win0_0.index t (1 : Fin 3) * 2064 + 1 * n.val = n.val; omega
  | ⟨2, _⟩ => show win0_0.index t (2 : Fin 3) * 64 + 1 * d.val = d.val; omega
theorem emb1 (t : Fin cfg0.N) (n : Fin 2064) (d : Fin 64) :
    ((cfg0.win 1).blk t).view.emb (ix3 (0 : Fin 1) n d) = ix3 (Fin.ofNat 24 (hd t + 8)) n d := by
  obtain ⟨e0, e1, e2⟩ := idx1 t
  have ht : t.val < 8 := t.isLt
  funext a; apply Fin.ext
  match a with
  | ⟨0, _⟩ =>
    show win0_1.index t (0 : Fin 3) * 1 + 1 * 0 = _
    show _ = (t.val + 8) % 24; omega
  | ⟨1, _⟩ => show win0_1.index t (1 : Fin 3) * 2064 + 1 * n.val = n.val; omega
  | ⟨2, _⟩ => show win0_1.index t (2 : Fin 3) * 64 + 1 * d.val = d.val; omega
theorem emb2 (t : Fin cfg0.N) (n : Fin 2064) (d : Fin 64) :
    ((cfg0.win 2).blk t).view.emb (ix3 (0 : Fin 1) n d) = ix3 (Fin.ofNat 24 (hd t + 16)) n d := by
  obtain ⟨e0, e1, e2⟩ := idx2 t
  have ht : t.val < 8 := t.isLt
  funext a; apply Fin.ext
  match a with
  | ⟨0, _⟩ =>
    show win0_2.index t (0 : Fin 3) * 1 + 1 * 0 = _
    show _ = (t.val + 16) % 24; omega
  | ⟨1, _⟩ => show win0_2.index t (1 : Fin 3) * 2064 + 1 * n.val = n.val; omega
  | ⟨2, _⟩ => show win0_2.index t (2 : Fin 3) * 64 + 1 * d.val = d.val; omega
theorem emb4 (t : Fin cfg0.N) (n : Fin 2064) (d : Fin 64) :
    ((cfg0.win 4).blk t).view.emb (ix3 (0 : Fin 1) n d) = ix3 (hd t) n d := by
  obtain ⟨e0, e1, e2⟩ := idx4 t
  have ht : t.val < 8 := t.isLt
  funext a; apply Fin.ext
  match a with
  | ⟨0, _⟩ =>
    show win0_4.index t (0 : Fin 3) * 1 + 1 * 0 = _
    show _ = t.val; omega
  | ⟨1, _⟩ => show win0_4.index t (1 : Fin 3) * 2064 + 1 * n.val = n.val; omega
  | ⟨2, _⟩ => show win0_4.index t (2 : Fin 3) * 64 + 1 * d.val = d.val; omega
theorem emb5 (t : Fin cfg0.N) (n : Fin 2064) (d : Fin 64) :
    ((cfg0.win 5).blk t).view.emb (ix3 (0 : Fin 1) n d) = ix3 (hd t) n d := by
  obtain ⟨e0, e1, e2⟩ := idx5 t
  have ht : t.val < 8 := t.isLt
  funext a; apply Fin.ext
  match a with
  | ⟨0, _⟩ =>
    show win0_5.index t (0 : Fin 3) * 1 + 1 * 0 = _
    show _ = t.val; omega
  | ⟨1, _⟩ => show win0_5.index t (1 : Fin 3) * 2064 + 1 * n.val = n.val; omega
  | ⟨2, _⟩ => show win0_5.index t (2 : Fin 3) * 64 + 1 * d.val = d.val; omega
theorem emb6 (t : Fin cfg0.N) (n : Fin 2064) (d : Fin 64) :
    ((cfg0.win 6).blk t).view.emb (ix3 (0 : Fin 1) n d) = ix3 (hd t) n d := by
  obtain ⟨e0, e1, e2⟩ := idx6 t
  have ht : t.val < 8 := t.isLt
  funext a; apply Fin.ext
  match a with
  | ⟨0, _⟩ =>
    show win0_6.index t (0 : Fin 3) * 1 + 1 * 0 = _
    show _ = t.val; omega
  | ⟨1, _⟩ => show win0_6.index t (1 : Fin 3) * 2064 + 1 * n.val = n.val; omega
  | ⟨2, _⟩ => show win0_6.index t (2 : Fin 3) * 64 + 1 * d.val = d.val; omega
theorem emb7 (t : Fin cfg0.N) (n : Fin 2064) (d : Fin 64) :
    ((cfg0.win 7).blk t).view.emb (ix3 (0 : Fin 1) n d) = ix3 (hd t) n d := by
  obtain ⟨e0, e1, e2⟩ := idx7 t
  have ht : t.val < 8 := t.isLt
  funext a; apply Fin.ext
  match a with
  | ⟨0, _⟩ =>
    show win0_7.index t (0 : Fin 3) * 1 + 1 * 0 = _
    show _ = t.val; omega
  | ⟨1, _⟩ => show win0_7.index t (1 : Fin 3) * 2064 + 1 * n.val = n.val; omega
  | ⟨2, _⟩ => show win0_7.index t (2 : Fin 3) * 64 + 1 * d.val = d.val; omega
theorem emb3 (t : Fin cfg0.N) (δ : Fin 15) (w e : Fin 64) :
    ((cfg0.win 3).blk t).view.emb (ix4 (0 : Fin 1) δ w e) = ix4 (hd t) δ w e := by
  obtain ⟨e0, e1, e2, e3⟩ := idx3 t
  funext a; apply Fin.ext
  match a with
  | ⟨0, _⟩ => show win0_3.index t (0 : Fin 4) * 1 + 1 * 0 = t.val; omega
  | ⟨1, _⟩ => show win0_3.index t (1 : Fin 4) * 15 + 1 * δ.val = δ.val; omega
  | ⟨2, _⟩ => show win0_3.index t (2 : Fin 4) * 64 + 1 * w.val = w.val; omega
  | ⟨3, _⟩ => show win0_3.index t (3 : Fin 4) * 64 + 1 * e.val = e.val; omega
theorem emb8 (t : Fin cfg0.N) (δ : Fin 15) (w e : Fin 64) :
    ((cfg0.win 8).blk t).view.emb (ix4 (0 : Fin 1) δ w e) = ix4 (hd t) δ w e := by
  obtain ⟨e0, e1, e2, e3⟩ := idx8 t
  funext a; apply Fin.ext
  match a with
  | ⟨0, _⟩ => show win0_8.index t (0 : Fin 4) * 1 + 1 * 0 = t.val; omega
  | ⟨1, _⟩ => show win0_8.index t (1 : Fin 4) * 15 + 1 * δ.val = δ.val; omega
  | ⟨2, _⟩ => show win0_8.index t (2 : Fin 4) * 64 + 1 * w.val = w.val; omega
  | ⟨3, _⟩ => show win0_8.index t (3 : Fin 4) * 64 + 1 * e.val = e.val; omega

variable (c : Dev nD)

/-- Head `h` of the arguments as launched. -/
abbrev headAt (h : Fin 8) : Head :=
  headOf (m ((c : Thread nD τ).loc main_arg0)) (m ((c : Thread nD τ).loc main_arg1)) (m ((c : Thread nD τ).loc main_arg2)) h

variable (r0 : AllReal (m ((c : Thread nD τ).loc main_arg0))) (r1 : AllReal (m ((c : Thread nD τ).loc main_arg1)))
  (r2 : AllReal (m ((c : Thread nD τ).loc main_arg2)))

include r0 r1 r2 in
/-- A grid point's input blocks hold its head's reals. -/
theorem holds_blocks (t : Fin cfg0.N) :
    Holds (headAt m c (hd t)) (iblk m c 0 t) (iblk m c 1 t) (iblk m c 2 t) (iblk m c 3 t) (iblk m c 4 t) where
  hq n d := by
    show m ((c : Thread nD τ).loc main_arg0) (((cfg0.win 0).blk t).view.emb (ix3 (0 : Fin 1) n d)) = _
    rw [emb0, r0]; simp only [headAt, headOf, Fin.ofNat_val_eq_self]
  hk n d := by
    show m ((c : Thread nD τ).loc main_arg0) (((cfg0.win 1).blk t).view.emb (ix3 (0 : Fin 1) n d)) = _
    rw [emb1, r0]; simp only [headAt, headOf, Fin.ofNat_val_eq_self]
  hv n d := by
    show m ((c : Thread nD τ).loc main_arg0) (((cfg0.win 2).blk t).view.emb (ix3 (0 : Fin 1) n d)) = _
    rw [emb2, r0]; simp only [headAt, headOf, Fin.ofNat_val_eq_self]
  ho n d := by
    show m ((c : Thread nD τ).loc main_arg2) (((cfg0.win 4).blk t).view.emb (ix3 (0 : Fin 1) n d)) = _
    rw [emb4, r2]; simp only [headAt, headOf, Fin.ofNat_val_eq_self]
  hS δ w e := by
    show m ((c : Thread nD τ).loc main_arg1) (((cfg0.win 3).blk t).view.emb (ix4 (0 : Fin 1) δ w e)) = _
    rw [emb3, r1]; simp only [headAt, headOf, Fin.ofNat_val_eq_self]

include r0 r1 r2 in
/-- The array of dq after the run. -/
theorem dq_array (h : Fin 8) (n : Fin 2064) (d : Fin 64) :
    (dats m 0 c).arrAt 5 cfg0.N (ix3 h n d) = (((headAt m c h).dqRow n d : ℝ) : EReal) := by
  have e := congrFun ((Value.blocks5 m c h (flush0_5 h)).trans (Value.flushed5_A m c h)) (ix3 (0 : Fin 1) n d)
  refine (congrArg ((dats m 0 c).arrAt 5 cfg0.N) (emb5 h n d)).symm.trans (Eq.trans e ?_)
  refine (congrFun (View.read_writes_junk_eq_canon _ _) _).trans ?_
  exact dq_out c _ _ _ _ _ _ _ _ _ _ _ _ _ _ _ _ _ _ _ _ _ _ _ _ _ _ _ _ (holds_blocks m c r0 r1 r2 h) n d

include r0 r1 r2 in
/-- The array of dk after the run. -/
theorem dk_array (h : Fin 8) (n : Fin 2064) (d : Fin 64) :
    (dats m 0 c).arrAt 6 cfg0.N (ix3 h n d) = (((headAt m c h).dkRow n d : ℝ) : EReal) := by
  have e := congrFun ((Value.blocks6 m c h (flush0_6 h)).trans (Value.flushed6_A m c h)) (ix3 (0 : Fin 1) n d)
  refine (congrArg ((dats m 0 c).arrAt 6 cfg0.N) (emb6 h n d)).symm.trans (Eq.trans e ?_)
  refine (congrFun (View.read_writes_junk_eq_canon _ _) _).trans ?_
  exact dk_out c _ _ _ _ _ _ _ _ _ _ _ _ _ _ _ _ _ _ _ _ _ _ _ _ _ _ _ _ (holds_blocks m c r0 r1 r2 h) n d

include r0 r1 r2 in
/-- The array of dv after the run. -/
theorem dv_array (h : Fin 8) (n : Fin 2064) (d : Fin 64) :
    (dats m 0 c).arrAt 7 cfg0.N (ix3 h n d) = (((headAt m c h).dvRow n d : ℝ) : EReal) := by
  have e := congrFun ((Value.blocks7 m c h (flush0_7 h)).trans (Value.flushed7_A m c h)) (ix3 (0 : Fin 1) n d)
  refine (congrArg ((dats m 0 c).arrAt 7 cfg0.N) (emb7 h n d)).symm.trans (Eq.trans e ?_)
  refine (congrFun (View.read_writes_junk_eq_canon _ _) _).trans ?_
  exact dv_out c _ _ _ _ _ _ _ _ _ _ _ _ _ _ _ _ _ _ _ _ _ _ _ _ _ _ _ _ (holds_blocks m c r0 r1 r2 h) n d

include r0 r1 r2 in
/-- The array of the bias slab's gradient after the run. -/
theorem dS_array (h : Fin 8) (δ : Fin 15) (w e : Fin 64) :
    (dats m 0 c).arrAt 8 cfg0.N (ix4 h δ w e) = (((headAt m c h).dS δ w e : ℝ) : EReal) := by
  have e1 := congrFun ((Value.blocks8 m c h (flush0_8 h)).trans (Value.flushed8_A m c h)) (ix4 (0 : Fin 1) δ w e)
  refine (congrArg ((dats m 0 c).arrAt 8 cfg0.N) (emb8 h δ w e)).symm.trans (Eq.trans e1 ?_)
  refine (congrFun (View.read_writes_junk_eq_canon _ _) _).trans ?_
  exact dS_out c _ _ _ _ _ _ _ _ _ _ _ _ _ _ _ _ _ _ _ _ _ _ _ _ _ _ _ _ (holds_blocks m c r0 r1 r2 h) δ w e

end Blocks

end Cert.NA

end
-- ==== Proof.Finite.lean ====
/- The precondition: every element of the three arguments is below infinity in absolute value, so it is a real number. -/
module

public import proofs.«01_k».proof.Pre_finite
public import proofs.«01_k».proof.Proof.Heads
public import Idealize.ShloMosaic.Lib.ReduceAll

@[expose] public section

set_option maxRecDepth 16384

noncomputable section

namespace Cert.NA

open Idealize.ShloMosaic

/-- The shape relations of the printed precondition. -/
instance finite_facts : Cert.Pre_finite.Facts where
  bcast_S_S24x2064x64 := by decide
  reducesTo_S24x2064x64_S_d0_1_2 := by decide
  h_S_ := by decide
  bcast_S_S8x15x64x64 := by decide
  reducesTo_S8x15x64x64_S_d0_1_2_3 := by decide
  bcast_S_S8x2064x64 := by decide
  reducesTo_S8x2064x64_S_d0_1_2 := by decide

theorem plus_infinity : Ideal.ofBits .f32 0x7F800000#32 = (⊤ : EReal) := by
  simp [Ideal.ofBits, Ideal.ieee]

/-- An extended real whose absolute value compares below infinity is a real. -/
theorem real_of_below (x : EReal)
    (e : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have h : Ideal.cmp .olt (max x (-x)) (Ideal.ofBits .f32 0x7F800000#32) = 1#1 := e
  rw [plus_infinity] at h
  have hlt : max x (-x) < ⊤ := by
    by_contra hn
    have : max x (-x) = ⊤ := not_lt_top_iff.mp hn
    rw [this] at h
    simp [Ideal.cmp] at h
  refine (EReal.coe_toReal ?_ ?_).symm
  · rintro rfl; simp at hlt
  · rintro rfl; simp at hlt

instance : Subsingleton Cert.Pre_finite.S_.Idx := ⟨fun a b => funext fun i => i.elim0⟩

/-- Arguments of which the precondition holds hold reals only. -/
theorem allReal_of_finite (A0 : FVec Ideal Cert.Pre_finite.S24x2064x64 .f32) (A1 : FVec Ideal Cert.Pre_finite.S8x15x64x64 .f32)
    (A2 : FVec Ideal Cert.Pre_finite.S8x2064x64 .f32) (e : Cert.Pre_finite.fn (F := Ideal) A0 A1 A2 = fun _ => 1#1) :
    AllReal A0 ∧ AllReal A1 ∧ AllReal A2 := by
  have e0 := congrFun e (fun i => i.elim0)
  obtain ⟨e01, e2⟩ := IntOp.andi_eq_one.1 e0
  obtain ⟨e0, e1⟩ := IntOp.andi_eq_one.1 e01
  exact ⟨fun i => real_of_below _ (Host.reduce_andi_all _ _ _ _ _ e0 i), fun i => real_of_below _ (Host.reduce_andi_all _ _ _ _ _ e1 i),
    fun i => real_of_below _ (Host.reduce_andi_all _ _ _ _ _ e2 i)⟩

end Cert.NA

end
-- ==== Proof.RefIndex.lean ====
/- The reference's tables of grid rows: what its gathers read and where its scatters add. -/
module

public import proofs.«01_k».proof.Proof.Dense
public import proofs.«01_k».proof.Proof.Real
public import proofs.«01_k».proof.Proof.Gen.ReferenceIdeal.Read

@[expose] public section

set_option maxRecDepth 16384

noncomputable section

namespace Cert.NA

open Finset Idealize.ShloMosaic Cert.ReferenceIdeal Cert.ReferenceIdeal.Read Cert.ReferenceIdeal.Gen

/-- The key row table. -/
theorem key_rows : ∀ (r : Fin 32) (k : Fin 8), (val_main_v43 (F := Ideal) (ix3 r k (0 : Fin 1))).toInt = ((rs r + k : ℕ) : ℤ) := by
  intro r k
  pointwise [val_main_v43, val_main_v42, val_main_v41, val_main_v40, val_main_v39, val_main_v38, val_main_c_6, val_main_c_7, val_main_v12, val_main_v11, val_main_v10, val_main_v9, val_main_v8, val_main_v7, val_main_v6, val_main_call0_v4, val_main_call0_v3, val_main_call0_v2, val_main_call0_v1, val_main_call0_v0, val_main_v5, val_main_v4, val_main_v3, val_main_c, val_main_c_0, val_main_c_1]
  revert r k
  decide +kernel

/-- The value row table. -/
theorem value_rows : ∀ (r : Fin 32) (k : Fin 8), (val_main_v51 (F := Ideal) (ix3 r k (0 : Fin 1))).toInt = ((rs r + k : ℕ) : ℤ) := by
  intro r k
  pointwise [val_main_v51, val_main_v50, val_main_v49, val_main_v48, val_main_v47, val_main_v46, val_main_c_8, val_main_c_9, val_main_v12, val_main_v11, val_main_v10, val_main_v9, val_main_v8, val_main_v7, val_main_v6, val_main_call0_v4, val_main_call0_v3, val_main_call0_v2, val_main_call0_v1, val_main_call0_v0, val_main_v5, val_main_v4, val_main_v3, val_main_c, val_main_c_0, val_main_c_1]
  revert r k
  decide +kernel

/-- The row distance table. -/
theorem distances : ∀ (r : Fin 32) (k : Fin 8), (val_main_v34 (F := Ideal) (ix3 r k (0 : Fin 1))).toInt = ((rs r + k + 7 - r : ℕ) : ℤ) := by
  intro r k
  pointwise [val_main_v34, val_main_v33, val_main_v32, val_main_v31, val_main_v30, val_main_v29, val_main_v19, val_main_v18, val_main_v17, val_main_v16, val_main_v15, val_main_v14, val_main_v13, val_main_c_2, val_main_c_3, val_main_c_4, val_main_c_5, val_main_v12, val_main_v11, val_main_v10, val_main_v9, val_main_v8, val_main_v7, val_main_v6, val_main_call0_v4, val_main_call0_v3, val_main_call0_v2, val_main_call0_v1, val_main_call0_v0, val_main_v5, val_main_v4, val_main_v3, val_main_c, val_main_c_0, val_main_c_1]
  revert r k
  decide +kernel

theorem rs_le (r : ℕ) : rs r ≤ 24 := by unfold rs; omega
theorem rs_ge (r : ℕ) (h : r < 32) : r ≤ rs r + 7 := by unfold rs; omega
theorem rs_near (r : ℕ) : rs r ≤ r := by unfold rs; omega

/-- A gather of rows reads the row its table names. -/
theorem gather32 (y : FVec Ideal S8x32x64x64 .f32) (idx : IVec S32x8x1 32) (h : Fin 8) (r : Fin 32) (k : Fin 8) (w e : Fin 64)
    (n : ℕ) (hn : (idx (ix3 r k (0 : Fin 1))).toInt = (n : ℤ)) (hN : n < 32) :
    Host.gather gather_S8x32x64x64_S32x8x1_S8x32x8x64x64_034_1_n_n_1_2_816464 y idx (ix5 h r k w e) = y (ix4 h ⟨n, hN⟩ w e) := by
  have e1 : (gather_S8x32x64x64_S32x8x1_S8x32x8x64x64_034_1_n_n_1_2_816464).siIdx (ix5 h r k w e) ⟨0, by decide⟩ = ix3 r k (0 : Fin 1) := by
    funext a
    match a with
    | 0 => rfl
    | 1 => rfl
    | 2 => rfl
  unfold Host.gather
  refine congrArg y (funext fun a => Fin.ext ?_)
  match a with
  | 0 => show 0 + 0 + h.val = h.val; omega
  | 1 =>
    have e2 : (idx ((gather_S8x32x64x64_S32x8x1_S8x32x8x64x64_034_1_n_n_1_2_816464).siIdx (ix5 h r k w e) ⟨0, by decide⟩)).toInt.toNat = n := by rw [e1, hn]; rfl
    show min (idx ((gather_S8x32x64x64_S32x8x1_S8x32x8x64x64_034_1_n_n_1_2_816464).siIdx (ix5 h r k w e) ⟨0, by decide⟩)).toInt.toNat 31 + 0 + 0 = n
    rw [e2]; omega
  | 2 => show 0 + 0 + w.val = w.val; omega
  | 3 => show 0 + 0 + e.val = e.val; omega

theorem lands32 (idx : IVec S32x8x1 32) (h : Fin 8) (r : Fin 32) (k : Fin 8) (w e : Fin 64) (n : ℕ)
    (hn : (idx (ix3 r k (0 : Fin 1))).toInt = (n : ℤ)) (hN : n < 32) :
    (scatter_S8x32x64x64_S32x8x1_S8x32x8x64x64_034_1_1_2).resultIdx? (ix5 h r k w e) idx = some (ix4 h ⟨n, hN⟩ w e) := by
  have e1 : (scatter_S8x32x64x64_S32x8x1_S8x32x8x64x64_034_1_1_2).siIdx (ix5 h r k w e) ⟨0, by decide⟩ = ix3 r k (0 : Fin 1) := by
    funext a
    match a with
    | 0 => rfl
    | 1 => rfl
    | 2 => rfl
  have s : ∀ a : Fin 4, (scatter_S8x32x64x64_S32x8x1_S8x32x8x64x64_034_1_1_2).start (ix5 h r k w e) idx a + (scatter_S8x32x64x64_S32x8x1_S8x32x8x64x64_034_1_1_2).window (ix5 h r k w e) a
      = ((ix4 h (⟨n, hN⟩ : Fin 32) w e a).val : ℤ) := by
    intro a
    match a with
    | 0 => show (0 : ℤ) + (h.val : ℤ) = h.val; omega
    | 1 => show (idx _).toInt + ((0 : ℕ) : ℤ) = n; rw [Nat.cast_zero, add_zero, ← hn, ← e1]; rfl
    | 2 => show (0 : ℤ) + (w.val : ℤ) = w.val; omega
    | 3 => show (0 : ℤ) + (e.val : ℤ) = e.val; omega
  unfold ScatterDims.resultIdx?
  rw [dif_pos]
  · refine congrArg some (funext fun a => Fin.ext ?_)
    show (_ : ℤ).toNat = _
    rw [s]; rfl
  · intro a
    rw [s]
    exact ⟨by omega, by have := (ix4 h (⟨n, hN⟩ : Fin 32) w e a).isLt; exact_mod_cast this⟩

/-- A scatter that adds rows into zeros: a row of the result is the sum of the updates whose table entry names it. -/
theorem scatter32 (x : FVec Ideal S8x32x64x64 .f32) (idx : IVec S32x8x1 32) (u : FVec Ideal S8x32x8x64x64 .f32) (T : ℕ → ℕ → ℕ)
    (hT : ∀ (r : Fin 32) (k : Fin 8), (idx (ix3 r k (0 : Fin 1))).toInt = (T r k : ℤ)) (hN : ∀ (r : Fin 32) (k : Fin 8), T r k < 32)
    (f : ℕ → ℕ → ℝ) (h : Fin 8) (n : Fin 32) (w e : Fin 64) (hx : x (ix4 h n w e) = 0)
    (hu : ∀ (r : Fin 32) (k : Fin 8), u (ix5 h r k w e) = ((f r k : ℝ) : EReal)) :
    Host.scatterAdd scatter_S8x32x64x64_S32x8x1_S8x32x8x64x64_034_1_1_2 x idx u (ix4 h n w e)
      = ((∑ r ∈ range 32, ∑ k ∈ range 8, (if T r k = n.val then f r k else 0) : ℝ) : EReal) := by
  have e0 : Host.scatterAdd scatter_S8x32x64x64_S32x8x1_S8x32x8x64x64_034_1_1_2 x idx u (ix4 h n w e)
      = x (ix4 h n w e) + ∑ j with (scatter_S8x32x64x64_S32x8x1_S8x32x8x64x64_034_1_1_2).resultIdx? j idx = some (ix4 h n w e), u j := rfl
  have e1 : (∑ j with (scatter_S8x32x64x64_S32x8x1_S8x32x8x64x64_034_1_1_2).resultIdx? j idx = some (ix4 h n w e), u j)
      = ∑ p : Fin 32 × Fin 8 with T p.1 p.2 = n.val, u (ix5 h p.1 p.2 w e) := by
    have key : ∀ j : S8x32x8x64x64.Idx, (scatter_S8x32x64x64_S32x8x1_S8x32x8x64x64_034_1_1_2).resultIdx? j idx = some (ix4 h n w e) →
        T (j 1) (j 2) = n.val ∧ j = ix5 h (j 1) (j 2) w e := by
      intro j hj
      rw [eq_ix5 j, lands32 idx (j 0) (j 1) (j 2) (j 3) (j 4) (T (j 1) (j 2)) (hT _ _) (hN _ _)] at hj
      have hj' := Option.some.inj hj
      have a0 := congrFun hj' 0
      have a1 := congrFun hj' 1
      have a2 := congrFun hj' 2
      have a3 := congrFun hj' 3
      change j 0 = h at a0
      change (⟨T (j 1) (j 2), _⟩ : Fin 32) = n at a1
      change j 3 = w at a2
      change j 4 = e at a3
      refine ⟨congrArg Fin.val a1, ?_⟩
      rw [← a0, ← a2, ← a3]
      exact eq_ix5 j
    refine Finset.sum_nbij' (fun j => (j 1, j 2)) (fun p => ix5 h p.1 p.2 w e) ?_ ?_ ?_ ?_ ?_
    · intro j hj
      exact Finset.mem_filter.mpr ⟨Finset.mem_univ _, (key j (Finset.mem_filter.mp hj).2).1⟩
    · intro p hp
      refine Finset.mem_filter.mpr ⟨Finset.mem_univ _, ?_⟩
      rw [lands32 idx h p.1 p.2 w e (T p.1 p.2) (hT _ _) (hN _ _)]
      exact congrArg (fun z => some (ix4 h z w e)) (Fin.ext (Finset.mem_filter.mp hp).2)
    · intro j hj
      exact (key j (Finset.mem_filter.mp hj).2).2.symm
    · intro p _
      rfl
    · intro j hj
      exact congrArg u (key j (Finset.mem_filter.mp hj).2).2
  rw [e0, e1, hx, zero_add, Finset.sum_filter, Fintype.sum_prod_type]
  refine sum_real (fun r => ∑ k ∈ range 8, (if T r k = n.val then f r k else 0)) fun r => ?_
  refine sum_real (fun k => (if T r k = n.val then f r k else 0)) fun k => ?_
  show (if T r k = n.val then u (ix5 h r k w e) else 0) = _
  by_cases c : T r k = n.val
  · rw [if_pos c, if_pos c, hu]
  · rw [if_neg c, if_neg c]; rfl

/-- A gather of rows reads the row its table names. -/
theorem gather15 (y : FVec Ideal S8x15x64x64 .f32) (idx : IVec S32x8x1 32) (h : Fin 8) (r : Fin 32) (k : Fin 8) (w e : Fin 64)
    (n : ℕ) (hn : (idx (ix3 r k (0 : Fin 1))).toInt = (n : ℤ)) (hN : n < 15) :
    Host.gather gather_S8x15x64x64_S32x8x1_S8x32x8x64x64_034_1_n_n_1_2_816464 y idx (ix5 h r k w e) = y (ix4 h ⟨n, hN⟩ w e) := by
  have e1 : (gather_S8x15x64x64_S32x8x1_S8x32x8x64x64_034_1_n_n_1_2_816464).siIdx (ix5 h r k w e) ⟨0, by decide⟩ = ix3 r k (0 : Fin 1) := by
    funext a
    match a with
    | 0 => rfl
    | 1 => rfl
    | 2 => rfl
  unfold Host.gather
  refine congrArg y (funext fun a => Fin.ext ?_)
  match a with
  | 0 => show 0 + 0 + h.val = h.val; omega
  | 1 =>
    have e2 : (idx ((gather_S8x15x64x64_S32x8x1_S8x32x8x64x64_034_1_n_n_1_2_816464).siIdx (ix5 h r k w e) ⟨0, by decide⟩)).toInt.toNat = n := by rw [e1, hn]; rfl
    show min (idx ((gather_S8x15x64x64_S32x8x1_S8x32x8x64x64_034_1_n_n_1_2_816464).siIdx (ix5 h r k w e) ⟨0, by decide⟩)).toInt.toNat 14 + 0 + 0 = n
    rw [e2]; omega
  | 2 => show 0 + 0 + w.val = w.val; omega
  | 3 => show 0 + 0 + e.val = e.val; omega

theorem lands15 (idx : IVec S32x8x1 32) (h : Fin 8) (r : Fin 32) (k : Fin 8) (w e : Fin 64) (n : ℕ)
    (hn : (idx (ix3 r k (0 : Fin 1))).toInt = (n : ℤ)) (hN : n < 15) :
    (scatter_S8x15x64x64_S32x8x1_S8x32x8x64x64_034_1_1_2).resultIdx? (ix5 h r k w e) idx = some (ix4 h ⟨n, hN⟩ w e) := by
  have e1 : (scatter_S8x15x64x64_S32x8x1_S8x32x8x64x64_034_1_1_2).siIdx (ix5 h r k w e) ⟨0, by decide⟩ = ix3 r k (0 : Fin 1) := by
    funext a
    match a with
    | 0 => rfl
    | 1 => rfl
    | 2 => rfl
  have s : ∀ a : Fin 4, (scatter_S8x15x64x64_S32x8x1_S8x32x8x64x64_034_1_1_2).start (ix5 h r k w e) idx a + (scatter_S8x15x64x64_S32x8x1_S8x32x8x64x64_034_1_1_2).window (ix5 h r k w e) a
      = ((ix4 h (⟨n, hN⟩ : Fin 15) w e a).val : ℤ) := by
    intro a
    match a with
    | 0 => show (0 : ℤ) + (h.val : ℤ) = h.val; omega
    | 1 => show (idx _).toInt + ((0 : ℕ) : ℤ) = n; rw [Nat.cast_zero, add_zero, ← hn, ← e1]; rfl
    | 2 => show (0 : ℤ) + (w.val : ℤ) = w.val; omega
    | 3 => show (0 : ℤ) + (e.val : ℤ) = e.val; omega
  unfold ScatterDims.resultIdx?
  rw [dif_pos]
  · refine congrArg some (funext fun a => Fin.ext ?_)
    show (_ : ℤ).toNat = _
    rw [s]; rfl
  · intro a
    rw [s]
    exact ⟨by omega, by have := (ix4 h (⟨n, hN⟩ : Fin 15) w e a).isLt; exact_mod_cast this⟩

/-- A scatter that adds rows into zeros: a row of the result is the sum of the updates whose table entry names it. -/
theorem scatter15 (x : FVec Ideal S8x15x64x64 .f32) (idx : IVec S32x8x1 32) (u : FVec Ideal S8x32x8x64x64 .f32) (T : ℕ → ℕ → ℕ)
    (hT : ∀ (r : Fin 32) (k : Fin 8), (idx (ix3 r k (0 : Fin 1))).toInt = (T r k : ℤ)) (hN : ∀ (r : Fin 32) (k : Fin 8), T r k < 15)
    (f : ℕ → ℕ → ℝ) (h : Fin 8) (n : Fin 15) (w e : Fin 64) (hx : x (ix4 h n w e) = 0)
    (hu : ∀ (r : Fin 32) (k : Fin 8), u (ix5 h r k w e) = ((f r k : ℝ) : EReal)) :
    Host.scatterAdd scatter_S8x15x64x64_S32x8x1_S8x32x8x64x64_034_1_1_2 x idx u (ix4 h n w e)
      = ((∑ r ∈ range 32, ∑ k ∈ range 8, (if T r k = n.val then f r k else 0) : ℝ) : EReal) := by
  have e0 : Host.scatterAdd scatter_S8x15x64x64_S32x8x1_S8x32x8x64x64_034_1_1_2 x idx u (ix4 h n w e)
      = x (ix4 h n w e) + ∑ j with (scatter_S8x15x64x64_S32x8x1_S8x32x8x64x64_034_1_1_2).resultIdx? j idx = some (ix4 h n w e), u j := rfl
  have e1 : (∑ j with (scatter_S8x15x64x64_S32x8x1_S8x32x8x64x64_034_1_1_2).resultIdx? j idx = some (ix4 h n w e), u j)
      = ∑ p : Fin 32 × Fin 8 with T p.1 p.2 = n.val, u (ix5 h p.1 p.2 w e) := by
    have key : ∀ j : S8x32x8x64x64.Idx, (scatter_S8x15x64x64_S32x8x1_S8x32x8x64x64_034_1_1_2).resultIdx? j idx = some (ix4 h n w e) →
        T (j 1) (j 2) = n.val ∧ j = ix5 h (j 1) (j 2) w e := by
      intro j hj
      rw [eq_ix5 j, lands15 idx (j 0) (j 1) (j 2) (j 3) (j 4) (T (j 1) (j 2)) (hT _ _) (hN _ _)] at hj
      have hj' := Option.some.inj hj
      have a0 := congrFun hj' 0
      have a1 := congrFun hj' 1
      have a2 := congrFun hj' 2
      have a3 := congrFun hj' 3
      change j 0 = h at a0
      change (⟨T (j 1) (j 2), _⟩ : Fin 15) = n at a1
      change j 3 = w at a2
      change j 4 = e at a3
      refine ⟨congrArg Fin.val a1, ?_⟩
      rw [← a0, ← a2, ← a3]
      exact eq_ix5 j
    refine Finset.sum_nbij' (fun j => (j 1, j 2)) (fun p => ix5 h p.1 p.2 w e) ?_ ?_ ?_ ?_ ?_
    · intro j hj
      exact Finset.mem_filter.mpr ⟨Finset.mem_univ _, (key j (Finset.mem_filter.mp hj).2).1⟩
    · intro p hp
      refine Finset.mem_filter.mpr ⟨Finset.mem_univ _, ?_⟩
      rw [lands15 idx h p.1 p.2 w e (T p.1 p.2) (hT _ _) (hN _ _)]
      exact congrArg (fun z => some (ix4 h z w e)) (Fin.ext (Finset.mem_filter.mp hp).2)
    · intro j hj
      exact (key j (Finset.mem_filter.mp hj).2).2.symm
    · intro p _
      rfl
    · intro j hj
      exact congrArg u (key j (Finset.mem_filter.mp hj).2).2
  rw [e0, e1, hx, zero_add, Finset.sum_filter, Fintype.sum_prod_type]
  refine sum_real (fun r => ∑ k ∈ range 8, (if T r k = n.val then f r k else 0)) fun r => ?_
  refine sum_real (fun k => (if T r k = n.val then f r k else 0)) fun k => ?_
  show (if T r k = n.val then u (ix5 h r k w e) else 0) = _
  by_cases c : T r k = n.val
  · rw [if_pos c, if_pos c, hu]
  · rw [if_neg c, if_neg c]; rfl

end Cert.NA

end
-- ==== Proof.RefRow.lean ====
/- A token's row of the reference: the 512 logits of its window and the 16 at the meta keys, joined; their softmax; and
   the gradient of the joined row, over the reals. -/
module

public import proofs.«01_k».proof.Proof.Dense

@[expose] public section

noncomputable section

namespace Cert.NA

open Finset

namespace Head

variable (H : Head)

/-- The joined row: window first, then the meta keys. -/
def joined (f g : ℕ → ℕ → ℝ) (t j : ℕ) : ℝ := if j < 512 then f t (64 * rs (t / 64) + j) else g t (j - 512)

theorem joined_window (f g : ℕ → ℕ → ℝ) (t j : ℕ) (h : j < 512) : joined f g t j = f t (64 * rs (t / 64) + j) := if_pos h

theorem joined_meta (f g : ℕ → ℕ → ℝ) (t a : ℕ) : joined f g t (512 + a) = g t a := by
  unfold joined; rw [if_neg (by omega), Nat.add_sub_cancel_left]

theorem joined_map (F : ℝ → ℝ → ℝ) (f g f' g' : ℕ → ℕ → ℝ) (t j : ℕ) :
    F (joined f g t j) (joined f' g' t j) = joined (fun t u => F (f t u) (f' t u)) (fun t u => F (g t u) (g' t u)) t j := by
  unfold joined; split_ifs <;> rfl

theorem sum_joined (f g : ℕ → ℕ → ℝ) (t : ℕ) (ht : t < 2048) (hz : ∀ u, ¬ Win t u → f t u = 0) :
    ∑ j ∈ range 528, joined f g t j = ∑ u ∈ range 2048, f t u + ∑ a ∈ range 16, g t a := by
  rw [show (528 : ℕ) = 512 + 16 from rfl, Finset.sum_range_add]
  have e1 : ∑ j ∈ range 512, joined f g t j = ∑ u ∈ range 2048, f t u := by
    rw [Finset.sum_congr rfl fun j hj => joined_window f g t j (Finset.mem_range.mp hj)]
    exact sum_rows (f t) t (rs (t / 64)) 8 le_rfl le_rfl (by unfold rs; omega) hz
  rw [e1, Finset.sum_congr rfl fun a _ => joined_meta f g t a]

/-- The joined logits, their exponentials, the joined cotangents, and the joined gradient. -/
def L (t j : ℕ) : ℝ := joined H.ls H.lm t j
def X (t j : ℕ) : ℝ := joined H.dp H.dpm t j

theorem win_of (t j : ℕ) (h : j < 512) : Win t (64 * rs (t / 64) + j) := by unfold Win; omega

theorem exp_L (t j : ℕ) : Real.exp (H.L t j) = joined H.W (fun t a => Real.exp (H.lm t a)) t j := by
  unfold L joined
  split_ifs with h
  · rw [W, if_pos (win_of t j h)]
  · rfl

theorem sum_exp (t : ℕ) (ht : t < 2048) : ∑ j ∈ range 528, Real.exp (H.L t j) = H.Z t := by
  rw [Finset.sum_congr rfl fun j _ => H.exp_L t j, sum_joined _ _ t ht fun u h => H.W_dead h]; rfl

theorem prob_joined (t j : ℕ) : Real.exp (H.L t j) / H.Z t = joined H.P H.Pm t j := by
  rw [exp_L]; unfold joined; split_ifs <;> rfl

theorem mean_joined (t : ℕ) (ht : t < 2048) :
    ∑ j ∈ range 528, Real.exp (H.L t j) / H.Z t * H.X t j = H.mean t := by
  rw [Finset.sum_congr rfl fun j _ => by rw [H.prob_joined t j, X, joined_map (fun a b => a * b)],
    sum_joined _ _ t ht fun u h => by rw [H.P_dead h, zero_mul]]
  rfl

theorem grad_joined (t j : ℕ) : Real.exp (H.L t j) / H.Z t * (H.X t j - H.mean t) = joined H.D H.Dm t j := by
  rw [prob_joined, X]; unfold joined; split_ifs <;> rfl

end Head

/-- The gradient of a quotient by a sum, as the reference writes it. -/
theorem quotient_grad (n : ℕ) (l x : ℕ → ℝ) (c Z : ℝ) (hc : c ≠ 0) (hZ : Z ≠ 0) (j : ℕ) :
    (x j / (Z * c) + -∑ i ∈ range n, x i * (1 / (Z * c * (Z * c))) * (Real.exp (l i) * c)) * (Real.exp (l j) * c)
      = Real.exp (l j) / Z * (x j - ∑ i ∈ range n, Real.exp (l i) / Z * x i) := by
  have e : ∑ i ∈ range n, x i * (1 / (Z * c * (Z * c))) * (Real.exp (l i) * c)
      = (∑ i ∈ range n, Real.exp (l i) / Z * x i) * (1 / (Z * c)) := by
    rw [Finset.sum_mul]
    refine Finset.sum_congr rfl fun i _ => ?_
    field_simp
  rw [e]
  generalize ∑ i ∈ range n, Real.exp (l i) / Z * x i = s
  field_simp
  ring

end Cert.NA

end
-- ==== Proof.RefRead.lean ====
/- The reference's arrays up to the gradients of the logits, head by head in that head's reals. -/
module

public import proofs.«01_k».proof.Proof.RefIndex
public import proofs.«01_k».proof.Proof.RefRow

@[expose] public section

set_option maxRecDepth 16384

noncomputable section

namespace Cert.NA

open Finset Idealize.ShloMosaic Cert.ReferenceIdeal Cert.ReferenceIdeal.Read Cert.ReferenceIdeal.Gen

/-- Head `h` of the reference's arguments holds one head's reals. -/
structure Args (H : Head) (h : Fin 8) (x0 : Vec Ideal S24x2064x64 .f32) (x1 : Vec Ideal S8x15x64x64 .f32)
    (x2 : Vec Ideal S8x2064x64 .f32) : Prop where
  hq : ∀ (a : ℕ) (ha : a < 24) (n : ℕ) (hn : n < 2064) (d : Fin 64), a = h.val →
    x0 (ix3 ⟨a, ha⟩ ⟨n, hn⟩ d) = ((H.q n d : ℝ) : EReal)
  hk : ∀ (a : ℕ) (ha : a < 24) (n : ℕ) (hn : n < 2064) (d : Fin 64), a = 8 + h.val →
    x0 (ix3 ⟨a, ha⟩ ⟨n, hn⟩ d) = ((H.k n d : ℝ) : EReal)
  hv : ∀ (a : ℕ) (ha : a < 24) (n : ℕ) (hn : n < 2064) (d : Fin 64), a = 16 + h.val →
    x0 (ix3 ⟨a, ha⟩ ⟨n, hn⟩ d) = ((H.v n d : ℝ) : EReal)
  hS : ∀ (n : ℕ) (hn : n < 15) (w e : Fin 64), x1 (ix4 h ⟨n, hn⟩ w e) = ((H.S n w e : ℝ) : EReal)
  ho : ∀ (n : ℕ) (hn : n < 2064) (d : Fin 64), x2 (ix3 h ⟨n, hn⟩ d) = ((H.o n d : ℝ) : EReal)

section

variable {H : Head} {h : Fin 8} {x0 : Vec Ideal S24x2064x64 .f32} {x1 : Vec Ideal S8x15x64x64 .f32}
  {x2 : Vec Ideal S8x2064x64 .f32} (A : Args H h x0 x1 x2)
include A

/-! ### The tokens and the meta rows -/

theorem q_tok (r : Fin 32) (w d : Fin 64) :
    val_main_v22 (F := Ideal) x0 (ix4 h r w d) = ((H.q (16 + (64 * r + w)) d : ℝ) : EReal) := by
  pointwise [val_main_v22, val_main_v21, val_main_v0]
  rw [A.hq _ _ _ _ _ rfl, Nat.mul_comm r.val 64]

theorem k_tok (r : Fin 32) (w d : Fin 64) :
    val_main_v25 (F := Ideal) x0 (ix4 h r w d) = ((H.k (16 + (64 * r + w)) d : ℝ) : EReal) := by
  pointwise [val_main_v25, val_main_v24, val_main_v1]
  rw [A.hk _ _ _ _ _ rfl, Nat.mul_comm r.val 64]

theorem v_tok (r : Fin 32) (w d : Fin 64) :
    val_main_v28 (F := Ideal) x0 (ix4 h r w d) = ((H.v (16 + (64 * r + w)) d : ℝ) : EReal) := by
  pointwise [val_main_v28, val_main_v27, val_main_v2]
  rw [A.hv _ _ _ _ _ rfl, Nat.mul_comm r.val 64]

theorem o_tok (r : Fin 32) (w d : Fin 64) :
    val_main_v131 (F := Ideal) x2 (ix4 h r w d) = ((H.o (16 + (64 * r + w)) d : ℝ) : EReal) := by
  pointwise [val_main_v131, val_main_v130]
  rw [A.ho, Nat.mul_comm r.val 64]

theorem q_meta (a : Fin 16) (d : Fin 64) : val_main_v20 (F := Ideal) x0 (ix3 h a d) = ((H.q a d : ℝ) : EReal) := by
  pointwise [val_main_v20, val_main_v0]
  rw [A.hq _ _ _ _ _ rfl]

theorem k_meta (a : Fin 16) (d : Fin 64) : val_main_v23 (F := Ideal) x0 (ix3 h a d) = ((H.k a d : ℝ) : EReal) := by
  pointwise [val_main_v23, val_main_v1]
  rw [A.hk _ _ _ _ _ rfl]

theorem v_meta (a : Fin 16) (d : Fin 64) : val_main_v26 (F := Ideal) x0 (ix3 h a d) = ((H.v a d : ℝ) : EReal) := by
  pointwise [val_main_v26, val_main_v2]
  rw [A.hv _ _ _ _ _ rfl]

theorem o_meta (a : Fin 16) (d : Fin 64) : val_main_v129 (F := Ideal) x2 (ix3 h a d) = ((H.o a d : ℝ) : EReal) := by
  pointwise [val_main_v129]
  rw [A.ho]

/-! ### The windows -/

theorem k_win (r : Fin 32) (j : Fin 512) (d : Fin 64) :
    val_main_v45 (F := Ideal) x0 (ix4 h r j d) = ((H.k (16 + (64 * rs r + j)) d : ℝ) : EReal) := by
  pointwise [val_main_v45]
  unfold val_main_v44
  rw [gather32 _ _ h r _ _ d (rs r + j / 64) (key_rows r _) (by have := rs_le r; omega), k_tok A]
  show ((H.k (16 + (64 * (rs r + j / 64) + j % 64)) d : ℝ) : EReal) = _
  rw [show 64 * (rs r + j / 64) + j % 64 = 64 * rs r + j from by omega]

theorem v_win (r : Fin 32) (j : Fin 512) (d : Fin 64) :
    val_main_v53 (F := Ideal) x0 (ix4 h r j d) = ((H.v (16 + (64 * rs r + j)) d : ℝ) : EReal) := by
  pointwise [val_main_v53]
  unfold val_main_v52
  rw [gather32 _ _ h r _ _ d (rs r + j / 64) (value_rows r _) (by have := rs_le r; omega), v_tok A]
  show ((H.v (16 + (64 * (rs r + j / 64) + j % 64)) d : ℝ) : EReal) = _
  rw [show 64 * (rs r + j / 64) + j % 64 = 64 * rs r + j from by omega]

theorem bias_win (r : Fin 32) (w : Fin 64) (j : Fin 512) :
    val_main_v37 (F := Ideal) x1 (ix4 h r w j) = ((H.S (rs r + j / 64 + 7 - r) w (j % 64) : ℝ) : EReal) := by
  pointwise [val_main_v37, val_main_v36]
  unfold val_main_v35
  rw [gather15 _ _ h r _ _ _ (rs r + j / 64 + 7 - r) (distances r _) (by have := rs_near r; omega), A.hS]

/-! ### The logits -/

theorem logit_win (r : Fin 32) (w : Fin 64) (j : Fin 512) :
    val_main_v57 (F := Ideal) x0 x1 (ix4 h r w j) = ((H.ls (64 * r + w) (64 * rs r + j) : ℝ) : EReal) := by
  pointwise [val_main_v57, val_main_v56, val_main_v55, val_main_v54, val_main_cst]
  rw [sum_real (fun d => H.q (16 + (64 * r + w)) d * H.k (16 + (64 * rs r + j)) d)
    (fun d => by rw [q_tok A, k_win A, ← EReal.coe_mul]), eighth, bias_win A, ← EReal.coe_mul, ← EReal.coe_add]
  unfold Head.ls
  rw [show (64 * rs r + j : ℕ) / 64 + 7 - (64 * r + w) / 64 = rs r + j / 64 + 7 - r from by omega,
    show (64 * r.val + w.val) % 64 = w from by omega, show (64 * rs r + j.val) % 64 = j % 64 from by omega]

theorem logit_meta (r : Fin 32) (w : Fin 64) (a : Fin 16) :
    val_main_v60 (F := Ideal) x0 (ix4 h r w a) = ((H.lm (64 * r + w) a : ℝ) : EReal) := by
  pointwise [val_main_v60, val_main_v59, val_main_v58, val_main_cst_10]
  rw [sum_real (fun d => H.q (16 + (64 * r + w)) d * H.k a d) (fun d => by rw [q_tok A, k_meta A, ← EReal.coe_mul]),
    eighth, ← EReal.coe_mul]
  rfl

theorem logit (r : Fin 32) (w : Fin 64) (j : Fin 528) :
    val_main_v61 (F := Ideal) x0 x1 (ix4 h r w j) = ((H.L (64 * r + w) j : ℝ) : EReal) := by
  pointwise [val_main_v61]
  unfold Head.L Head.joined
  rw [show (64 * r.val + w.val) / 64 = r from by omega]
  by_cases c : j.val < 512
  · rw [dif_pos c, if_pos c, logit_win A]
  · rw [dif_neg c, if_neg c, logit_meta A]

omit A in
theorem fold_row (y : FVec Ideal S8x32x64x528 .f32) (z : FVec Ideal S_ .f32) (r : Fin 32) (w : Fin 64) :
    Host.reduce FloatOps.maximumf y z reducesTo_S8x32x64x528_S8x32x64_d3 h_S_ (ix3 h r w)
      = Finset.univ.fold max (z (Shape.Idx.first h_S_)) (fun j => y (ix4 h r w j)) := by
  pointwise []

omit A in
theorem no_floor (i : S8x32x64.Idx) : val_main_v68 (F := Ideal) i = (⊥ : EReal) := by
  pointwise [val_main_v68, val_main_cst_13]
  exact minus_infinity

omit A in
theorem no_start (i : S_.Idx) : val_main_cst_11 (F := Ideal) i = (⊥ : EReal) := by
  pointwise [val_main_cst_11]
  exact minus_infinity

/-- The largest logit of a row is a real. -/
theorem row_max (r : Fin 32) (w : Fin 64) : ∃ M : ℝ, val_main_v69 (F := Ideal) x0 x1 (ix3 h r w) = ((M : ℝ) : EReal) := by
  have e : ∀ j : Fin 528, val_main_v61 (F := Ideal) x0 x1 (ix4 h r w j) = ((H.L (64 * r + w) j : ℝ) : EReal) := logit A r w
  have m : ∃ M : ℝ, val_main_v62 (F := Ideal) x0 x1 (ix3 h r w) = ((M : ℝ) : EReal) := by
    unfold val_main_v62
    generalize val_main_v61 (F := Ideal) x0 x1 = y at e ⊢
    rw [fold_row, no_start]
    exact fold_max_real (⊥ : EReal) (fun j : Fin 528 => y (ix4 h r w j)) (by decide)
      (fun j => by rw [e]; exact EReal.coe_ne_top _) 0 _ (e 0)
  obtain ⟨M, hM⟩ := m
  rw [val_main_v69_apply, hM, no_floor]
  exact max_real _ _ (by decide)

/-- The exponentials of a row and their sum, up to one positive factor. -/
theorem row_exp (r : Fin 32) (w : Fin 64) : ∃ c : ℝ, c ≠ 0 ∧
    (∀ j : Fin 528, val_main_v82 (F := Ideal) x0 x1 (ix4 h r w j) = ((Real.exp (H.L (64 * r + w) j) * c : ℝ) : EReal)) ∧
    val_main_v83 (F := Ideal) x0 x1 (ix3 h r w) = ((H.Z (64 * r + w) * c : ℝ) : EReal) := by
  obtain ⟨M, hM⟩ := row_max A r w
  have e : ∀ j : Fin 528, val_main_v82 (F := Ideal) x0 x1 (ix4 h r w j)
      = ((Real.exp (H.L (64 * r + w) j) * Real.exp (-M) : ℝ) : EReal) := by
    intro j
    pointwise [val_main_v82, val_main_v81, val_main_v80, val_main_v79]
    rw [logit A, hM, exp_sub_real]
  refine ⟨Real.exp (-M), Real.exp_ne_zero _, e, ?_⟩
  pointwise [val_main_v83, val_main_cst_19]
  rw [sum_real (fun j => Real.exp (H.L (64 * r + w) j) * Real.exp (-M)) e, ← Finset.sum_mul,
    H.sum_exp _ (by omega)]

theorem prob (r : Fin 32) (w : Fin 64) (j : Fin 528) :
    val_main_v86 (F := Ideal) x0 x1 (ix4 h r w j) = ((Head.joined H.P H.Pm (64 * r + w) j : ℝ) : EReal) := by
  obtain ⟨c, hc, e, s⟩ := row_exp A r w
  have hZ := (H.Z_pos (64 * r + w)).ne'
  pointwise [val_main_v86, val_main_v85, val_main_v84]
  rw [e, s, div_real _ _ (mul_ne_zero hZ hc), ← Head.prob_joined]
  congr 1
  field_simp

theorem prob_win (r : Fin 32) (w : Fin 64) (j : Fin 512) :
    val_main_v90 (F := Ideal) x0 x1 (ix4 h r w j) = ((H.P (64 * r + w) (64 * rs r + j) : ℝ) : EReal) := by
  pointwise [val_main_v90]
  rw [prob A]
  show ((Head.joined H.P H.Pm (64 * r + w) j : ℝ) : EReal) = _
  rw [Head.joined_window _ _ _ _ j.isLt, show (64 * r.val + w.val) / 64 = r from by omega]

theorem prob_meta (r : Fin 32) (w : Fin 64) (a : Fin 16) :
    val_main_v91 (F := Ideal) x0 x1 (ix4 h r w a) = ((H.Pm (64 * r + w) a : ℝ) : EReal) := by
  pointwise [val_main_v91]
  rw [prob A]
  show ((Head.joined H.P H.Pm (64 * r + w) (512 + a) : ℝ) : EReal) = _
  rw [Head.joined_meta]

/-! ### The gradients of the logits -/

theorem dprob_win (r : Fin 32) (w : Fin 64) (j : Fin 512) :
    val_main_v157 (F := Ideal) x0 x2 (ix4 h r w j) = ((H.dp (64 * r + w) (64 * rs r + j) : ℝ) : EReal) := by
  pointwise [val_main_v157]
  exact sum_real (fun d => H.o (16 + (64 * r + w)) d * H.v (16 + (64 * rs r + j)) d)
    (fun d => by rw [o_tok A, v_win A, ← EReal.coe_mul])

theorem dprob_meta (r : Fin 32) (w : Fin 64) (a : Fin 16) :
    val_main_v154 (F := Ideal) x0 x2 (ix4 h r w a) = ((H.dpm (64 * r + w) a : ℝ) : EReal) := by
  pointwise [val_main_v154]
  exact sum_real (fun d => H.o (16 + (64 * r + w)) d * H.v a d) (fun d => by rw [o_tok A, v_meta A, ← EReal.coe_mul])

theorem dprob (r : Fin 32) (w : Fin 64) (j : Fin 528) :
    val_main_v160 (F := Ideal) x0 x2 (ix4 h r w j) = ((H.X (64 * r + w) j : ℝ) : EReal) := by
  pointwise [val_main_v160, val_main_v159, val_main_v158, val_main_cst_35, val_main_cst_36]
  unfold Head.X Head.joined
  rw [show (64 * r.val + w.val) / 64 = r from by omega]
  by_cases c : j.val < 512
  · rw [dif_neg (by omega), dif_pos c, if_pos c, dprob_win A, zero_add]
  · rw [dif_pos (by omega), dif_neg c, if_neg c, dprob_meta A, add_zero]

theorem dlogit (r : Fin 32) (w : Fin 64) (j : Fin 528) :
    val_main_v172 (F := Ideal) x0 x1 x2 (ix4 h r w j) = ((Head.joined H.D H.Dm (64 * r + w) j : ℝ) : EReal) := by
  obtain ⟨c, hc, e, s⟩ := row_exp A r w
  have hZ := (H.Z_pos (64 * r + w)).ne'
  have hs := mul_ne_zero hZ hc
  have sq : val_main_v89 (F := Ideal) x0 x1 (ix4 h r w (0 : Fin 1))
      = ((1 / (H.Z (64 * r + w) * c * (H.Z (64 * r + w) * c)) : ℝ) : EReal) := by
    pointwise [val_main_v89, val_main_v88, val_main_v87, val_main_v84, val_main_cst_20]
    rw [s, ← EReal.coe_mul]
    exact one_div_real _ (mul_ne_zero hs hs)
  have m : ∀ i : Fin 528, val_main_v163 (F := Ideal) x0 x1 x2 (ix4 h r w i)
      = ((H.X (64 * r + w) i * (1 / (H.Z (64 * r + w) * c * (H.Z (64 * r + w) * c)))
          * (Real.exp (H.L (64 * r + w) i) * c) : ℝ) : EReal) := by
    intro i
    pointwise [val_main_v163, val_main_v162, val_main_v161]
    rw [dprob A, sq, e, ← EReal.coe_mul, ← EReal.coe_mul]
  have n : val_main_v164 (F := Ideal) x0 x1 x2 (ix3 h r w)
      = ((∑ i ∈ range 528, H.X (64 * r + w) i * (1 / (H.Z (64 * r + w) * c * (H.Z (64 * r + w) * c)))
          * (Real.exp (H.L (64 * r + w) i) * c) : ℝ) : EReal) := by
    pointwise [val_main_v164, val_main_cst_37]
    exact sum_real (fun i => H.X (64 * r + w) i * (1 / (H.Z (64 * r + w) * c * (H.Z (64 * r + w) * c)))
          * (Real.exp (H.L (64 * r + w) i) * c)) m
  pointwise [val_main_v172, val_main_v171, val_main_v170, val_main_v169, val_main_v168, val_main_v167, val_main_v166,
    val_main_v165, val_main_v84, val_main_cst_38]
  rw [Fin.sum_univ_one, n, dprob A, s, e, div_real _ _ hs, ← EReal.coe_neg, ← EReal.coe_add, ← EReal.coe_mul,
    quotient_grad 528 (H.L (64 * r + w)) (H.X (64 * r + w)) c _ hc hZ j, H.mean_joined _ (by omega), H.grad_joined]

theorem dlogit_win (r : Fin 32) (w : Fin 64) (j : Fin 512) :
    val_main_v173 (F := Ideal) x0 x1 x2 (ix4 h r w j) = ((H.D (64 * r + w) (64 * rs r + j) : ℝ) : EReal) := by
  pointwise [val_main_v173]
  rw [dlogit A]
  show ((Head.joined H.D H.Dm (64 * r + w) j : ℝ) : EReal) = _
  rw [Head.joined_window _ _ _ _ j.isLt, show (64 * r.val + w.val) / 64 = r from by omega]

theorem dlogit_meta (r : Fin 32) (w : Fin 64) (a : Fin 16) :
    val_main_v176 (F := Ideal) x0 x1 x2 (ix4 h r w a) = ((H.Dm (64 * r + w) a * (1 / 8) : ℝ) : EReal) := by
  pointwise [val_main_v176, val_main_v175, val_main_v174, val_main_cst_39]
  rw [dlogit A, eighth, ← EReal.coe_mul]
  show ((Head.joined H.D H.Dm (64 * r + w) (512 + a) * (1 / 8) : ℝ) : EReal) = _
  rw [Head.joined_meta]

theorem dlogit_eighth (r : Fin 32) (w : Fin 64) (j : Fin 512) :
    val_main_v181 (F := Ideal) x0 x1 x2 (ix4 h r w j) = ((H.D (64 * r + w) (64 * rs r + j) * (1 / 8) : ℝ) : EReal) := by
  pointwise [val_main_v181, val_main_v180, val_main_cst_40]
  rw [dlogit_win A, eighth, ← EReal.coe_mul]

end

end Cert.NA

end
-- ==== Proof.RefMeta.lean ====
/- The reference's attention among the meta rows, and its four results, head by head in that head's reals. -/
module

public import proofs.«01_k».proof.Proof.RefRead
public import proofs.«01_k».proof.Proof.Tiles

@[expose] public section

set_option maxRecDepth 16384

noncomputable section

namespace Cert.NA

open Finset Idealize.ShloMosaic Cert.ReferenceIdeal Cert.ReferenceIdeal.Read Cert.ReferenceIdeal.Gen

section

variable {H : Head} {h : Fin 8} {x0 : Vec Ideal S24x2064x64 .f32} {x1 : Vec Ideal S8x15x64x64 .f32}
  {x2 : Vec Ideal S8x2064x64 .f32} (A : Args H h x0 x1 x2)
include A

/-! ### The meta rows -/

theorem mlogit (b a : Fin 16) : val_main_v97 (F := Ideal) x0 (ix3 h b a) = ((H.lmm b a : ℝ) : EReal) := by
  pointwise [val_main_v97, val_main_v96, val_main_v95, val_main_cst_21]
  rw [sum_real (fun d => H.q b d * H.k a d) (fun d => by rw [q_meta A, k_meta A, ← EReal.coe_mul]), eighth, ← EReal.coe_mul]
  rfl

omit A in
theorem fold_meta (y : FVec Ideal S8x16x16 .f32) (z : FVec Ideal S_ .f32) (b : Fin 16) :
    Host.reduce FloatOps.maximumf y z reducesTo_S8x16x16_S8x16_d2 h_S_ (ix2 h b)
      = Finset.univ.fold max (z (Shape.Idx.first h_S_)) (fun j => y (ix3 h b j)) := by
  pointwise []

omit A in
theorem no_meta_floor (i : S8x16.Idx) : val_main_v104 (F := Ideal) i = (⊥ : EReal) := by
  pointwise [val_main_v104, val_main_cst_24]
  exact minus_infinity

omit A in
theorem no_meta_start (i : S_.Idx) : val_main_cst_22 (F := Ideal) i = (⊥ : EReal) := by
  pointwise [val_main_cst_22]
  exact minus_infinity

theorem meta_max (b : Fin 16) : ∃ M : ℝ, val_main_v105 (F := Ideal) x0 (ix2 h b) = ((M : ℝ) : EReal) := by
  have e : ∀ a : Fin 16, val_main_v97 (F := Ideal) x0 (ix3 h b a) = ((H.lmm b a : ℝ) : EReal) := mlogit A b
  have m : ∃ M : ℝ, val_main_v98 (F := Ideal) x0 (ix2 h b) = ((M : ℝ) : EReal) := by
    unfold val_main_v98
    generalize val_main_v97 (F := Ideal) x0 = y at e ⊢
    rw [fold_meta, no_meta_start]
    exact fold_max_real (⊥ : EReal) (fun j : Fin 16 => y (ix3 h b j)) (by decide)
      (fun j => by rw [e]; exact EReal.coe_ne_top _) 0 _ (e 0)
  obtain ⟨M, hM⟩ := m
  rw [val_main_v105_apply, hM, no_meta_floor]
  exact max_real _ _ (by decide)

theorem meta_exp (b : Fin 16) : ∃ c : ℝ, c ≠ 0 ∧
    (∀ a : Fin 16, val_main_v118 (F := Ideal) x0 (ix3 h b a) = ((Real.exp (H.lmm b a) * c : ℝ) : EReal)) ∧
    val_main_v119 (F := Ideal) x0 (ix2 h b) = (((∑ a ∈ range 16, Real.exp (H.lmm b a)) * c : ℝ) : EReal) := by
  obtain ⟨M, hM⟩ := meta_max A b
  have e : ∀ a : Fin 16, val_main_v118 (F := Ideal) x0 (ix3 h b a) = ((Real.exp (H.lmm b a) * Real.exp (-M) : ℝ) : EReal) := by
    intro a
    pointwise [val_main_v118, val_main_v117, val_main_v116, val_main_v115]
    rw [mlogit A, hM, exp_sub_real]
  refine ⟨Real.exp (-M), Real.exp_ne_zero _, e, ?_⟩
  pointwise [val_main_v119, val_main_cst_30]
  rw [sum_real (fun a => Real.exp (H.lmm b a) * Real.exp (-M)) e, ← Finset.sum_mul]

theorem mprob (b a : Fin 16) : val_main_v122 (F := Ideal) x0 (ix3 h b a) = ((H.Pmm b a : ℝ) : EReal) := by
  obtain ⟨c, hc, e, s⟩ := meta_exp A b
  have hZ := (H.smm_pos b).ne'
  pointwise [val_main_v122, val_main_v121, val_main_v120]
  rw [e, s, div_real _ _ (mul_ne_zero hZ hc), Head.Pmm]
  congr 1
  field_simp

theorem mdprob (b a : Fin 16) : val_main_v134 (F := Ideal) x0 x2 (ix3 h b a) = ((H.dpmm b a : ℝ) : EReal) := by
  pointwise [val_main_v134]
  exact sum_real (fun d => H.o b d * H.v a d) (fun d => by rw [o_meta A, v_meta A, ← EReal.coe_mul])

theorem mdlogit (b a : Fin 16) : val_main_v148 (F := Ideal) x0 x2 (ix3 h b a) = ((H.Dmm b a : ℝ) : EReal) := by
  obtain ⟨c, hc, e, s⟩ := meta_exp A b
  have hZ := (H.smm_pos b).ne'
  have hs := mul_ne_zero hZ hc
  generalize hZe : (∑ a ∈ range 16, Real.exp (H.lmm b a)) = Z at hZ hs s
  have sq : val_main_v125 (F := Ideal) x0 (ix3 h b (0 : Fin 1)) = ((1 / (Z * c * (Z * c)) : ℝ) : EReal) := by
    pointwise [val_main_v125, val_main_v124, val_main_v123, val_main_v120, val_main_cst_31]
    rw [s, ← EReal.coe_mul]
    exact one_div_real _ (mul_ne_zero hs hs)
  have m : ∀ i : Fin 16, val_main_v137 (F := Ideal) x0 x2 (ix3 h b i)
      = ((H.dpmm b i * (1 / (Z * c * (Z * c))) * (Real.exp (H.lmm b i) * c) : ℝ) : EReal) := by
    intro i
    pointwise [val_main_v137, val_main_v136, val_main_v135]
    rw [mdprob A, sq, e, ← EReal.coe_mul, ← EReal.coe_mul]
  have n : val_main_v138 (F := Ideal) x0 x2 (ix2 h b)
      = ((∑ i ∈ range 16, H.dpmm b i * (1 / (Z * c * (Z * c))) * (Real.exp (H.lmm b i) * c) : ℝ) : EReal) := by
    pointwise [val_main_v138, val_main_cst_32]
    exact sum_real (fun i => H.dpmm b i * (1 / (Z * c * (Z * c))) * (Real.exp (H.lmm b i) * c)) m
  pointwise [val_main_v148, val_main_v147, val_main_v146, val_main_v145, val_main_v144, val_main_v143, val_main_v142,
    val_main_v141, val_main_v140, val_main_v139, val_main_v120, val_main_cst_33, val_main_cst_34]
  rw [Fin.sum_univ_one, n, mdprob A, s, e, div_real _ _ hs, ← EReal.coe_neg, ← EReal.coe_add, ← EReal.coe_mul,
    quotient_grad 16 (H.lmm b) (H.dpmm b) c Z hc hZ a, eighth, ← EReal.coe_mul, ← hZe]
  rfl

/-! ### The results -/

theorem win_sum (r : Fin 32) (f : ℕ → ℝ) (hz : ∀ u, ¬ (rs r ≤ u / 64 ∧ u / 64 < rs r + 8) → f u = 0) :
    ∑ j ∈ range 512, f (64 * rs r + j) = ∑ u ∈ range 2048, f u := by
  refine sum_window f (64 * rs r) 512 2048 (by have := rs_le r; omega) fun u hu hh => hz u (by omega)

theorem dq_tok (r : Fin 32) (w d : Fin 64) :
    val_main_v184 (F := Ideal) x0 x1 x2 (ix4 h r w d) = ((H.dqTok (64 * r + w) d : ℝ) : EReal) := by
  have hr : (64 * r.val + w.val) / 64 = r := by omega
  pointwise [val_main_v184, val_main_v183, val_main_v179]
  rw [sum_real (fun a => H.Dm (64 * r + w) a * (1 / 8) * H.k a d) (fun a => by rw [dlogit_meta A, k_meta A, ← EReal.coe_mul]),
    sum_real (fun j => H.D (64 * r + w) (64 * rs r + j) * (1 / 8) * H.k (16 + (64 * rs r + j)) d)
      (fun j => by rw [dlogit_eighth A, k_win A, ← EReal.coe_mul]),
    win_sum A r (fun u => H.D (64 * r + w) u * (1 / 8) * H.k (16 + u) d)
      (fun u hu => by rw [H.D_dead (by unfold Win; rw [hr]; exact hu)]; ring), ← EReal.coe_add]
  congr 1
  rw [Head.dqTok, add_mul, Finset.sum_mul, Finset.sum_mul, add_comm]
  congr 1 <;> exact Finset.sum_congr rfl fun _ _ => by ring

theorem dq_meta (b : Fin 16) (d : Fin 64) : val_main_v150 (F := Ideal) x0 x2 (ix3 h b d) = ((H.dqMeta b d : ℝ) : EReal) := by
  pointwise [val_main_v150]
  exact sum_real (fun a => H.Dmm b a * H.k a d) (fun a => by rw [mdlogit A, k_meta A, ← EReal.coe_mul])

theorem dq_ref (n : Fin 2064) (d : Fin 64) : val_main_v206 (F := Ideal) x0 x1 x2 (ix3 h n d) = ((H.dqRow n d : ℝ) : EReal) := by
  pointwise [val_main_v206, val_main_v205, val_main_v204, val_main_v203, val_main_cst_48, val_main_cst_49]
  unfold Head.dqRow
  by_cases c : n.val < 16
  · rw [dif_neg (by omega), dif_pos c, if_pos c, dq_meta A, zero_add]
  · rw [dif_pos (by omega), dif_neg c, if_neg c, dq_tok A, add_zero]
    show ((H.dqTok (64 * ((n.val - 16) / 64) + (n.val - 16) % 64) d : ℝ) : EReal) = _
    rw [Nat.div_add_mod]

/-- What the rows of the windows add up to at one grid row. -/
theorem row_total (F : ℕ → ℕ → ℝ) (ρ : ℕ) (hρ : ρ < 32) (hz : ∀ r < 32, ¬ (rs r ≤ ρ ∧ ρ < rs r + 8) → F r ρ = 0) :
    (∑ r ∈ range 32, ∑ k ∈ range 8, if rs r + k = ρ then F r (rs r + k) else 0) = ∑ r ∈ range 32, F r ρ := by
  refine Finset.sum_congr rfl fun r hr => ?_
  rw [sum_window (fun u => if u = ρ then F r u else 0) (rs r) 8 32 (by have := rs_le r; omega)
    (fun u hu hh => by
      by_cases c : u = ρ
      · rw [if_pos c, c]; exact hz r (Finset.mem_range.mp hr) (by omega)
      · rw [if_neg c]), Finset.sum_ite_eq', if_pos (Finset.mem_range.mpr hρ)]

theorem token_total (f : ℕ → ℝ) : ∑ r ∈ range 32, ∑ w ∈ range 64, f (64 * r + w) = ∑ t ∈ range 2048, f t :=
  (sum_blocks f 32 64).symm

theorem dv_tok (ρ : Fin 32) (c d : Fin 64) :
    val_main_v187 (F := Ideal) x0 x1 x2 (ix4 h ρ c d) = ((H.dvTok (64 * ρ + c) d : ℝ) : EReal) := by
  unfold val_main_v187
  rw [scatter32 _ _ _ (fun r k => rs r + k) value_rows (fun r k => by have := rs_le r; omega)
    (fun r k => ∑ w ∈ range 64, H.P (64 * r + w) (64 * (rs r + k) + c) * H.o (16 + (64 * r + w)) d) h ρ c d
    (by pointwise [val_main_v186, val_main_cst_41]) ?_]
  · congr 1
    rw [row_total A (fun r u => ∑ w ∈ range 64, H.P (64 * r + w) (64 * u + c) * H.o (16 + (64 * r + w)) d) ρ ρ.isLt
      (fun r _ hw => Finset.sum_eq_zero fun w hw' => by
        rw [H.P_dead (by have := Finset.mem_range.mp hw'; unfold Win; rw [show (64 * r + w) / 64 = r from by omega,
          show (64 * ρ.val + c.val) / 64 = ρ from by omega]; exact hw), zero_mul])]
    exact token_total A (fun t => H.P t (64 * ρ + c) * H.o (16 + t) d)
  · intro r k
    pointwise [val_main_v185, val_main_v156, val_main_v155]
    refine sum_real (fun w => H.P (64 * r + w) (64 * (rs r + k) + c) * H.o (16 + (64 * r + w)) d) fun w => ?_
    rw [o_tok A, prob_win A, ← EReal.coe_mul, mul_comm]
    show ((H.P (64 * r + w) (64 * rs r + (k.val * 64 + c.val)) * _ : ℝ) : EReal) = _
    rw [show 64 * rs r + (k.val * 64 + c.val) = 64 * (rs r + k) + c from by ring]

theorem dk_tok (ρ : Fin 32) (c d : Fin 64) :
    val_main_v190 (F := Ideal) x0 x1 x2 (ix4 h ρ c d) = ((H.dkTok (64 * ρ + c) d : ℝ) : EReal) := by
  unfold val_main_v190
  rw [scatter32 _ _ _ (fun r k => rs r + k) key_rows (fun r k => by have := rs_le r; omega)
    (fun r k => ∑ w ∈ range 64, H.D (64 * r + w) (64 * (rs r + k) + c) * (H.q (16 + (64 * r + w)) d * (1 / 8))) h ρ c d
    (by pointwise [val_main_v189, val_main_cst_42]) ?_]
  · congr 1
    rw [row_total A (fun r u => ∑ w ∈ range 64, H.D (64 * r + w) (64 * u + c) * (H.q (16 + (64 * r + w)) d * (1 / 8))) ρ ρ.isLt
      (fun r _ hw => Finset.sum_eq_zero fun w hw' => by
        rw [H.D_dead (by have := Finset.mem_range.mp hw'; unfold Win; rw [show (64 * r + w) / 64 = r from by omega,
          show (64 * ρ.val + c.val) / 64 = ρ from by omega]; exact hw), zero_mul])]
    exact token_total A (fun t => H.D t (64 * ρ + c) * (H.q (16 + t) d * (1 / 8)))
  · intro r k
    pointwise [val_main_v188, val_main_v182]
    refine sum_real (fun w => H.D (64 * r + w) (64 * (rs r + k) + c) * (H.q (16 + (64 * r + w)) d * (1 / 8))) fun w => ?_
    rw [q_tok A, dlogit_eighth A, ← EReal.coe_mul]
    show ((H.D (64 * r + w) (64 * rs r + (k.val * 64 + c.val)) * (1 / 8) * _ : ℝ) : EReal) = _
    rw [show 64 * rs r + (k.val * 64 + c.val) = 64 * (rs r + k) + c from by ring]
    congr 1
    ring

theorem dS_ref (δ : Fin 15) (w c : Fin 64) :
    val_main_v194 (F := Ideal) x0 x1 x2 (ix4 h δ w c) = ((H.dS δ w c : ℝ) : EReal) := by
  unfold val_main_v194
  rw [scatter15 _ _ _ (fun r k => rs r + k + 7 - r) distances (fun r k => by have := rs_near r; omega)
    (fun r k => H.D (64 * r + w) (64 * (rs r + k) + c)) h δ w c (by pointwise [val_main_v193, val_main_cst_43]) ?_]
  · congr 1
    unfold Head.dS
    refine Finset.sum_congr rfl fun r hr => ?_
    have hr' := Finset.mem_range.mp hr
    rw [← sum_window (fun ρ => if ρ + 7 = r + δ.val then H.D (64 * r + w) (64 * ρ + c) else 0) (rs r) 8 32
      (by have := rs_le r; omega) (fun u hu hh => by
        by_cases e : u + 7 = r + δ.val
        · rw [if_pos e, H.D_dead]
          unfold Win
          rw [show (64 * r + w.val) / 64 = r from by omega, show (64 * u + c.val) / 64 = u from by omega]
          omega
        · rw [if_neg e])]
    refine Finset.sum_congr rfl fun k _ => ?_
    have := rs_ge r hr'
    by_cases e : rs r + k + 7 - r = δ.val
    · rw [if_pos e, if_pos (by omega)]
    · rw [if_neg e, if_neg (by omega)]
  · intro r k
    pointwise [val_main_v192, val_main_v191]
    rw [dlogit_win A]
    show ((H.D (64 * r + w) (64 * rs r + (k.val * 64 + c.val)) : ℝ) : EReal) = _
    rw [show 64 * rs r + (k.val * 64 + c.val) = 64 * (rs r + k) + c from by ring]

theorem dv_meta (a : Fin 16) (d : Fin 64) :
    val_main_v153 (F := Ideal) x0 x1 x2 (ix3 h a d) = ((H.dvMeta a d : ℝ) : EReal) := by
  pointwise [val_main_v153, val_main_v152, val_main_v151, val_main_v133, val_main_v132]
  rw [sum_real (fun b => H.Pmm b a * H.o b d) (fun b => by rw [o_meta A, mprob A, ← EReal.coe_mul, mul_comm]),
    sum_real (fun r => ∑ w ∈ range 64, H.Pm (64 * r + w) a * H.o (16 + (64 * r + w)) d) (fun r =>
      sum_real (fun w => H.Pm (64 * r + w) a * H.o (16 + (64 * r + w)) d)
        (fun w => by rw [o_tok A, prob_meta A, ← EReal.coe_mul, mul_comm])),
    token_total A (fun t => H.Pm t a * H.o (16 + t) d), ← EReal.coe_add]
  rfl

theorem dk_meta (a : Fin 16) (d : Fin 64) :
    val_main_v178 (F := Ideal) x0 x1 x2 (ix3 h a d) = ((H.dkMeta a d : ℝ) : EReal) := by
  pointwise [val_main_v178, val_main_v177, val_main_v149]
  rw [sum_real (fun b => H.Dmm b a * H.q b d) (fun b => by rw [mdlogit A, q_meta A, ← EReal.coe_mul]),
    sum_real (fun r => ∑ w ∈ range 64, H.Dm (64 * r + w) a * (H.q (16 + (64 * r + w)) d * (1 / 8))) (fun r =>
      sum_real (fun w => H.Dm (64 * r + w) a * (H.q (16 + (64 * r + w)) d * (1 / 8)))
        (fun w => by rw [dlogit_meta A, q_tok A, ← EReal.coe_mul]; congr 1; ring)),
    token_total A (fun t => H.Dm t a * (H.q (16 + t) d * (1 / 8))), ← EReal.coe_add]
  rfl

theorem dk_ref (n : Fin 2064) (d : Fin 64) : val_main_v202 (F := Ideal) x0 x1 x2 (ix3 h n d) = ((H.dkRow n d : ℝ) : EReal) := by
  pointwise [val_main_v202, val_main_v201, val_main_v200, val_main_v199, val_main_cst_46, val_main_cst_47]
  unfold Head.dkRow
  by_cases c : n.val < 16
  · rw [dif_neg (by omega), dif_pos c, if_pos c, dk_meta A, zero_add]
  · rw [dif_pos (by omega), dif_neg c, if_neg c, dk_tok A, add_zero]
    show ((H.dkTok (64 * ((n.val - 16) / 64) + (n.val - 16) % 64) d : ℝ) : EReal) = _
    rw [Nat.div_add_mod]

theorem dv_ref (n : Fin 2064) (d : Fin 64) : val_main_v198 (F := Ideal) x0 x1 x2 (ix3 h n d) = ((H.dvRow n d : ℝ) : EReal) := by
  pointwise [val_main_v198, val_main_v197, val_main_v196, val_main_v195, val_main_cst_44, val_main_cst_45]
  unfold Head.dvRow
  by_cases c : n.val < 16
  · rw [dif_neg (by omega), dif_pos c, if_pos c, dv_meta A, zero_add]
  · rw [dif_pos (by omega), dif_neg c, if_neg c, dv_tok A, add_zero]
    show ((H.dvTok (64 * ((n.val - 16) / 64) + (n.val - 16) % 64) d : ℝ) : EReal) = _
    rw [Nat.div_add_mod]

end

end Cert.NA

end
-- ==== Proof.Equation.lean ====
/- The kernel's four result arrays are the reference's four results, head by head. -/
module

public import proofs.«01_k».proof.Proof.Finite
public import proofs.«01_k».proof.Proof.RefMeta

@[expose] public section

set_option maxRecDepth 16384

noncomputable section

namespace Cert.NA

open Idealize.ShloMosaic

theorem ofNat_eq {n a : ℕ} [NeZero n] (ha : a < n) : Fin.ofNat n a = ⟨a, ha⟩ := Fin.ext (Nat.mod_eq_of_lt ha)

theorem ext3 {α : Type} {a b c : ℕ} {f g : (⟨3, ![a, b, c]⟩ : Shape).Idx → α} (e : ∀ i j k, f (ix3 i j k) = g (ix3 i j k)) : f = g :=
  funext fun i => by rw [eq_ix3 i]; exact e _ _ _

theorem ext4 {α : Type} {a b c d : ℕ} {f g : (⟨4, ![a, b, c, d]⟩ : Shape).Idx → α}
    (e : ∀ i j k l, f (ix4 i j k l) = g (ix4 i j k l)) : f = g :=
  funext fun i => by rw [eq_ix4 i]; exact e _ _ _ _

/-- Arrays of reals hold what the reference's part about head `h` reads. -/
theorem args_of_real (A0 : FVec Ideal Cert.ReferenceIdeal.S24x2064x64 .f32) (A1 : FVec Ideal Cert.ReferenceIdeal.S8x15x64x64 .f32)
    (A2 : FVec Ideal Cert.ReferenceIdeal.S8x2064x64 .f32) (r0 : AllReal A0) (r1 : AllReal A1) (r2 : AllReal A2) (h : Fin 8) :
    Args (headOf A0 A1 A2 h) h A0 A1 A2 where
  hq := by
    rintro a ha n hn d rfl
    rw [r0, headOf]; simp only [ofNat_eq ha, ofNat_eq hn, Fin.ofNat_val_eq_self]
  hk := by
    rintro a ha n hn d e
    have ha' : h.val + 8 < 24 := by omega
    obtain rfl : a = h.val + 8 := by omega
    rw [r0, headOf]; simp only [ofNat_eq ha', ofNat_eq hn, Fin.ofNat_val_eq_self]
  hv := by
    rintro a ha n hn d e
    have ha' : h.val + 16 < 24 := by omega
    obtain rfl : a = h.val + 16 := by omega
    rw [r0, headOf]; simp only [ofNat_eq ha', ofNat_eq hn, Fin.ofNat_val_eq_self]
  hS := by
    intro n hn w e
    rw [r1, headOf]; simp only [ofNat_eq hn, Fin.ofNat_val_eq_self]
  ho := by
    intro n hn d
    rw [r2, headOf]; simp only [ofNat_eq hn, Fin.ofNat_val_eq_self]

section

open Cert.KernelIdeal Cert.KernelIdeal.Gen

variable (m : (ℓ : Loc nD τ sig) → Buf (Elt Ideal) ℓ) (c : Dev nD)

/-- The kernel's argument arrays on a device. -/
abbrev a0 : Vec Ideal S24x2064x64 .f32 := m ((c.tc : Thread nD τ).loc main_arg0)
abbrev a1 : Vec Ideal S8x15x64x64 .f32 := m ((c.tc : Thread nD τ).loc main_arg1)
abbrev a2 : Vec Ideal S8x2064x64 .f32 := m ((c.tc : Thread nD τ).loc main_arg2)

variable (r0 : AllReal (a0 m c)) (r1 : AllReal (a1 m c)) (r2 : AllReal (a2 m c))

include r0 r1 r2

theorem dq_eq : (dats m 0 c).arrAt 5 cfg0.N = Cert.ReferenceIdeal.Read.val_main_v206 (F := Ideal) (a0 m c) (a1 m c) (a2 m c) := by
  exact ext3 fun h n d => (dq_array m c r0 r1 r2 h n d).trans (dq_ref (args_of_real _ _ _ r0 r1 r2 h) n d).symm

theorem dk_eq : (dats m 0 c).arrAt 6 cfg0.N = Cert.ReferenceIdeal.Read.val_main_v202 (F := Ideal) (a0 m c) (a1 m c) (a2 m c) := by
  exact ext3 fun h n d => (dk_array m c r0 r1 r2 h n d).trans (dk_ref (args_of_real _ _ _ r0 r1 r2 h) n d).symm

theorem dv_eq : (dats m 0 c).arrAt 7 cfg0.N = Cert.ReferenceIdeal.Read.val_main_v198 (F := Ideal) (a0 m c) (a1 m c) (a2 m c) := by
  exact ext3 fun h n d => (dv_array m c r0 r1 r2 h n d).trans (dv_ref (args_of_real _ _ _ r0 r1 r2 h) n d).symm

theorem dS_eq : (dats m 0 c).arrAt 8 cfg0.N = Cert.ReferenceIdeal.Read.val_main_v194 (F := Ideal) (a0 m c) (a1 m c) (a2 m c) := by
  exact ext4 fun h δ w e => (dS_array m c r0 r1 r2 h δ w e).trans (dS_ref (args_of_real _ _ _ r0 r1 r2 h) δ w e).symm

end

end Cert.NA

end
-- ==== Proof.Ffn.lean ====
/- The SwiGLU feed-forward layer and its gradient by ordinary indices, and what buffers of matrices hold after stores
   of row tiles. -/
module

public import Idealize.ShloMosaic.Lib.Pointwise
public import Idealize.ShloMosaic.Lib.ValueIdx
public import Idealize.ShloMosaic.Lib.WholeRead

@[expose] public section

noncomputable section

namespace Cert.FFN

open Finset Idealize.ShloMosaic

/-- A matrix index is the pair of its coordinates. -/
theorem ext2 {a b : ℕ} {e : EltTy} {P Q : Vec Ideal ⟨2, ![a, b]⟩ e} (h : ∀ i j, P (ix2 i j) = Q (ix2 i j)) : P = Q := by
  funext i
  rw [eq_ix2 i]
  exact h _ _

section Stores

variable {Val : EltTy → Type} [∀ e, Nonempty (Val e)] {e : EltTy} {n0 n1 s0 s1 : ℕ}

/-- A row tile's element, where the tile was stored last. -/
theorem hit (o : ℕ) (inb) (w) (L) (i : Fin s0) (j : Fin n1) (r : Fin n0) (h : (r : ℕ) = o + i) :
    View.canon (Val := Val) (e := e) (s := ⟨2, ![n0, n1]⟩)
      (⟨Rect.unit ![o, 0] ![s0, n1] inb, w⟩ :: L) (ix2 r j) = w (ix2 i j) := by
  have h : (ix2 r j : Shape.Idx ⟨2, ![n0, n1]⟩)
      = (Rect.unit (s := ⟨2, ![n0, n1]⟩) ![o, 0] ![s0, n1] inb).emb (ix2 i j) := by
    funext a
    refine Fin.ext ?_
    match a with
    | 0 => exact h.trans (by simp [Rect.emb, Rect.unit])
    | 1 => exact (by simp [Rect.emb, Rect.unit])
  rw [h, View.canon_cons_emb]

/-- A row off the tile stored last holds what the earlier stores left. -/
theorem miss (o : ℕ) (inb) (w) (L) (j : Fin n1) (r : Fin n0) (h : ¬ (o ≤ r ∧ (r : ℕ) < o + s0)) :
    View.canon (Val := Val) (e := e) (s := ⟨2, ![n0, n1]⟩)
      (⟨Rect.unit ![o, 0] ![s0, n1] inb, w⟩ :: L) (ix2 r j) = View.canon L (ix2 r j) := by
  refine View.canon_cons_of_not_mem _ _ fun hm => h ?_
  rw [Rect.mem_set_unit] at hm
  exact hm 0

/-- Three row tiles of 688 rows hold a matrix of 2064 rows. -/
theorem three {n1 : ℕ} (f : ℕ → ℕ → Val e) (inb0 inb1 inb2) (w0 w1 w2)
    (h0 : ∀ (i : Fin 688) (j : Fin n1), w0 (ix2 i j) = f (0 + i) j)
    (h1 : ∀ (i : Fin 688) (j : Fin n1), w1 (ix2 i j) = f (688 + i) j)
    (h2 : ∀ (i : Fin 688) (j : Fin n1), w2 (ix2 i j) = f (1376 + i) j) (r : Fin 2064) (j : Fin n1) :
    View.canon (Val := Val) (e := e) (s := ⟨2, ![2064, n1]⟩)
      [⟨Rect.unit ![1376, 0] ![688, n1] inb2, w2⟩, ⟨Rect.unit ![688, 0] ![688, n1] inb1, w1⟩,
        ⟨Rect.unit ![0, 0] ![688, n1] inb0, w0⟩] (ix2 r j) = f r j := by
  by_cases h : 1376 ≤ r.val
  · have e : r.val = 1376 + (r.val - 1376) := by omega
    rw [hit _ _ _ _ (⟨r.val - 1376, by omega⟩ : Fin 688) j r e, h2, ← e]
  · rw [miss _ _ _ _ _ _ fun hm => h hm.1]
    by_cases h : 688 ≤ r.val
    · have e : r.val = 688 + (r.val - 688) := by omega
      rw [hit _ _ _ _ (⟨r.val - 688, by omega⟩ : Fin 688) j r e, h1, ← e]
    · rw [miss _ _ _ _ _ _ fun hm => h hm.1, hit _ _ _ _ (⟨r.val, by omega⟩ : Fin 688) j r (by simp), h0, Nat.zero_add]

/-- A whole matrix read after a store of the whole matrix. -/
theorem again {sig : RefSig} {κ : Kind} {sp : Space} (v : View sig κ sp ⟨2, ![n0, n1]⟩ e)
    (L : List (View.Piece Val ⟨2, ![n0, n1]⟩ e)) (inb inb') (w) (i : Fin n0) (j : Fin n1) :
    v.readCov (⟨Rect.unit ![0, 0] ![n0, n1] inb, w⟩ :: L)
      (Rect.unit (s := ⟨2, ![n0, n1]⟩) ![0, 0] ![n0, n1] inb').toLoadRect (ix2 i j) = w (ix2 i j) := by
  rw [View.readCov_eq_canon']
  refine Eq.trans (congrArg (View.canon _) ?_) (hit 0 inb w L i j i (by simp))
  funext a
  refine Fin.ext ?_
  match a with
  | 0 => simp [LoadRect.idx, Rect.toLoadRect, Rect.unit, ix2]
  | 1 => simp [LoadRect.idx, Rect.toLoadRect, Rect.unit, ix2]

end Stores

/-- A load of rows of a staged matrix. -/
theorem load {sig : RefSig} {n0 n1 s0 : ℕ} {e : EltTy} {m : Memref sig .tc .vmem ⟨2, ![n0, n1]⟩ e} (h : m.IsWhole)
    {x : Vec Ideal ⟨2, ![n0, n1]⟩ e} {f : ℕ → ℕ → Elt Ideal e} (hx : ∀ i j, x (ix2 i j) = f i j) (o : ℕ) (inb)
    (i : Fin s0) (j : Fin n1) :
    View.readAt (Elt Ideal) m.view (Rect.unit (s := ⟨2, ![n0, n1]⟩) ![o, 0] ![s0, n1] inb).toLoadRect (h.unread x)
      (ix2 i j) = f (o + i) j := by
  have h1 : o + s0 ≤ n0 := inb 0
  refine (Memref.IsWhole.readAt_unread h x _ _).trans (Eq.trans (congrArg x ?_) (hx ⟨o + i, by omega⟩ j))
  funext a
  refine Fin.ext ?_
  match a with
  | 0 => simp [LoadRect.idx, Rect.toLoadRect, Rect.unit, ix2]; rfl
  | 1 => simp [LoadRect.idx, Rect.toLoadRect, Rect.unit, ix2]; rfl

/-- The arguments of the layer by row and column; the gate's and up's weights by output column first. -/
structure Layer where
  x : ℕ → ℕ → EReal
  g : ℕ → ℕ → EReal
  u : ℕ → ℕ → EReal
  w : ℕ → ℕ → EReal

namespace Layer

variable (A : Layer)

/-- The gate, the up projection, the activation and the layer's output. -/
def gate (n f : ℕ) : EReal := ∑ d : Fin 1024, A.x n d * A.g f d
def up (n f : ℕ) : EReal := ∑ d : Fin 1024, A.x n d * A.u f d
def act (n f : ℕ) : EReal := A.gate n f * Ideal.logistic (A.gate n f) * A.up n f
def out (n d : ℕ) : EReal := ∑ f ∈ range 2816, A.act n f * A.w f d

/-- One tile of 256 columns' share of the output. -/
def part (j n d : ℕ) : EReal := ∑ e : Fin 256, A.act n (256 * j + e) * A.w (256 * j + e) d

end Layer

/-- A sum in consecutive blocks. -/
theorem sum_blocks (f : ℕ → EReal) (B n : ℕ) :
    ∑ t ∈ range (n * B), f t = ∑ g ∈ range B, ∑ i : Fin n, f (n * g + i) := by
  induction B with
  | zero => simp
  | succ B ih => rw [Nat.mul_succ, Finset.sum_range_add, ih, Finset.sum_range_succ, Finset.sum_range (n := n)]

theorem Layer.out_eq (A : Layer) (n d : ℕ) : A.out n d = ∑ j ∈ range 11, A.part j n d :=
  sum_blocks (fun f => A.act n f * A.w f d) 11 256

/-- A number below the bound is itself as an index. -/
theorem ofNat_val {n : ℕ} [NeZero n] (i : Fin n) : Fin.ofNat n i.val = i := Fin.ext (Nat.mod_eq_of_lt i.isLt)

/-- The bits of one are the number one. -/
theorem one_bits : (FloatOps.ofBits (F := Ideal) .f32 0x3F800000#32 : Ideal .f32) = (1 : EReal) := by
  show Ideal.ofBits .f32 0x3F800000#32 = 1
  exact Ideal.ofBits_one_f32

end Cert.FFN

end
-- ==== Proof.FfnFwd.lean ====
/- The forward kernel at one grid point: what its stores leave is the gate's, the up projection's and the output's share
   of 256 columns. -/
module

public import proofs.«01_k».proof.Proof.Ffn
public import proofs.«01_k».proof.Proof.Gen.Kernel3Ideal.Frame

@[expose] public section

set_option maxRecDepth 16384

noncomputable section

namespace Cert.FFN

open Finset Idealize.ShloMosaic Cert.Kernel3Ideal Cert.Kernel3Ideal.Gen

variable [Cert.Kernel3Ideal.Facts]

section Tile

variable {A : Layer} {o j : ℕ} {v0 : Vec Ideal S688x1024 .bf16} {v2 v5 v16 : Vec Ideal S256x1024 .bf16}
  (h0 : ∀ (i : Fin 688) (d : Fin 1024), v0 (ix2 i d) = A.x (o + i) d)
  (h2 : ∀ (e : Fin 256) (d : Fin 1024), v2 (ix2 e d) = A.g (256 * j + e) d)
  (h5 : ∀ (e : Fin 256) (d : Fin 1024), v5 (ix2 e d) = A.u (256 * j + e) d)
  (h16 : ∀ (e : Fin 256) (d : Fin 1024), v16 (ix2 e d) = A.w (256 * j + e) d)

include h0 h2 in
theorem gate_tile (i : Fin 688) (e : Fin 256) : k0_pay4 v0 v2 (ix2 i e) = A.gate (o + i) (256 * j + e) := by
  pointwise [k0_pay4, k0_pay3]
  simp only [h0, h2, Layer.gate]

include h0 h5 in
theorem up_tile (i : Fin 688) (e : Fin 256) : k0_pay5 v0 v5 (ix2 i e) = A.up (o + i) (256 * j + e) := by
  pointwise [k0_pay5, k0_pay3]
  simp only [h0, h5, Layer.up]

include h0 h2 h5 h16 in
theorem out_tile (i : Fin 688) (d : Fin 1024) : k0_pay8 v0 v2 v5 v16 (ix2 i d) = A.part j (o + i) d := by
  pointwise [k0_pay8]
  simp only [gate_tile h0 h2, up_tile h0 h5, h16, Layer.part, Layer.act]

include h0 h2 h5 h16 in
theorem out_tile_add (v75 : Vec Ideal S688x1024 .f32) (i : Fin 688) (d : Fin 1024) :
    k0_pay9 v0 v2 v5 v16 v75 (ix2 i d) = v75 (ix2 i d) + A.part j (o + i) d := by
  pointwise [k0_pay9]
  rw [out_tile h0 h2 h5 h16]

end Tile

/-- The staged blocks of grid point `j` hold the layer's rows and its columns from `256 j`. -/
structure Blk (A : Layer) (j : ℕ) (x0 : Vec Ideal S2064x1024 .bf16) (x1 x2 x3 : Vec Ideal S256x1024 .bf16) : Prop where
  hx : ∀ (n : Fin 2064) (d : Fin 1024), x0 (ix2 n d) = A.x n d
  hg : ∀ (e : Fin 256) (d : Fin 1024), x1 (ix2 e d) = A.g (256 * j + e) d
  hu : ∀ (e : Fin 256) (d : Fin 1024), x2 (ix2 e d) = A.u (256 * j + e) d
  hw : ∀ (e : Fin 256) (d : Fin 1024), x3 (ix2 e d) = A.w (256 * j + e) d

/-- A load of a whole staged block of weights. -/
theorem load_w {m : Memref sig .tc .vmem S256x1024 .bf16} (h : m.IsWhole) {x : Vec Ideal S256x1024 .bf16}
    {f : ℕ → ℕ → EReal} {j : ℕ} (hx : ∀ (e : Fin 256) (d : Fin 1024), x (ix2 e d) = f (256 * j + e) d) (inb)
    (e : Fin 256) (d : Fin 1024) :
    View.readAt (Elt Ideal) m.view (Rect.unit (s := S256x1024) ![0, 0] ![256, 1024] inb).toLoadRect (h.unread x)
      (ix2 e d) = f (256 * j + e) d :=
  (load h (f := fun e d => f (256 * j + e) d) hx 0 inb e d).trans (by simp only [Nat.zero_add])

variable (c : Dev nD) (i : grid0.Coords) (arg1 : Memref sig .tc .vmem S2064x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S2064x256 .bf16) (harg5 : arg5.IsWhole) (arg6 : Memref sig .tc .vmem S2064x256 .bf16) (harg6 : arg6.IsWhole) (arg7 : Memref sig .tc .vmem S2064x1024 .f32) (harg7 : arg7.IsWhole)
  (x0 : Vec Ideal S2064x1024 .bf16) (x1 x2 x3 : Vec Ideal S256x1024 .bf16) {A : Layer} {j : ℕ} (B : Blk A j x0 x1 x2 x3)

include B

section First

variable (hc0 : cond0_0 i) (hc1 : ¬cond0_1 i) (hc2 : cond0_2 i) (hc3 : ¬cond0_3 i) (hc4 : cond0_4 i) (hc5 : ¬cond0_5 i)

theorem gate_first (n : Fin 2064) (e : Fin 256) :
    View.canon (kernelRun0_A (F := Ideal) c i arg1 harg1 arg2 harg2 arg3 harg3 arg4 harg4 arg5 harg5 arg6 harg6 arg7 harg7 hc0 hc1 hc2 hc3 hc4 hc5 x0 x1 x2 x3).fst (ix2 n e) = A.gate n (256 * j + e) :=
  three (Val := Elt Ideal) (e := .bf16) (fun n e => A.gate n (256 * j + e)) _ _ _ _ _ _
    (fun i e => gate_tile (load harg1 B.hx 0 _) (load_w harg2 B.hg _) i e)
    (fun i e => gate_tile (load harg1 B.hx 688 _) (load_w harg2 B.hg _) i e)
    (fun i e => gate_tile (load harg1 B.hx 1376 _) (load_w harg2 B.hg _) i e) n e

theorem up_first (n : Fin 2064) (e : Fin 256) :
    View.canon (kernelRun0_A (F := Ideal) c i arg1 harg1 arg2 harg2 arg3 harg3 arg4 harg4 arg5 harg5 arg6 harg6 arg7 harg7 hc0 hc1 hc2 hc3 hc4 hc5 x0 x1 x2 x3).snd.fst (ix2 n e) = A.up n (256 * j + e) :=
  three (Val := Elt Ideal) (e := .bf16) (fun n e => A.up n (256 * j + e)) _ _ _ _ _ _
    (fun i e => up_tile (load harg1 B.hx 0 _) (load_w harg3 B.hu _) i e)
    (fun i e => up_tile (load harg1 B.hx 688 _) (load_w harg3 B.hu _) i e)
    (fun i e => up_tile (load harg1 B.hx 1376 _) (load_w harg3 B.hu _) i e) n e

theorem out_first (n : Fin 2064) (d : Fin 1024) :
    View.canon (kernelRun0_A (F := Ideal) c i arg1 harg1 arg2 harg2 arg3 harg3 arg4 harg4 arg5 harg5 arg6 harg6 arg7 harg7 hc0 hc1 hc2 hc3 hc4 hc5 x0 x1 x2 x3).snd.snd.val (ix2 n d) = A.part j n d :=
  three (Val := Elt Ideal) (e := .f32) (fun n d => A.part j n d) _ _ _ _ _ _
    (fun i e => out_tile (load harg1 B.hx 0 _) (load_w harg2 B.hg _) (load_w harg3 B.hu _) (load_w harg4 B.hw _) i e)
    (fun i e => out_tile (load harg1 B.hx 688 _) (load_w harg2 B.hg _) (load_w harg3 B.hu _) (load_w harg4 B.hw _) i e)
    (fun i e => out_tile (load harg1 B.hx 1376 _) (load_w harg2 B.hg _) (load_w harg3 B.hu _) (load_w harg4 B.hw _) i e) n d

end First

section Later

variable (hc0 : ¬cond0_0 i) (hc1 : cond0_1 i) (hc2 : ¬cond0_2 i) (hc3 : cond0_3 i) (hc4 : ¬cond0_4 i) (hc5 : cond0_5 i)
  (xo6 : Vec Ideal S2064x1024 .f32) {f : ℕ → ℕ → EReal} (hf : ∀ (n : Fin 2064) (d : Fin 1024), xo6 (ix2 n d) = f n d)

theorem gate_later (n : Fin 2064) (e : Fin 256) :
    View.canon (kernelRun0_B (F := Ideal) c i arg1 harg1 arg2 harg2 arg3 harg3 arg4 harg4 arg5 harg5 arg6 harg6 arg7 harg7 hc0 hc1 hc2 hc3 hc4 hc5 x0 x1 x2 x3 xo6).fst (ix2 n e) = A.gate n (256 * j + e) :=
  three (Val := Elt Ideal) (e := .bf16) (fun n e => A.gate n (256 * j + e)) _ _ _ _ _ _
    (fun i e => gate_tile (load harg1 B.hx 0 _) (load_w harg2 B.hg _) i e)
    (fun i e => gate_tile (load harg1 B.hx 688 _) (load_w harg2 B.hg _) i e)
    (fun i e => gate_tile (load harg1 B.hx 1376 _) (load_w harg2 B.hg _) i e) n e

theorem up_later (n : Fin 2064) (e : Fin 256) :
    View.canon (kernelRun0_B (F := Ideal) c i arg1 harg1 arg2 harg2 arg3 harg3 arg4 harg4 arg5 harg5 arg6 harg6 arg7 harg7 hc0 hc1 hc2 hc3 hc4 hc5 x0 x1 x2 x3 xo6).snd.fst (ix2 n e) = A.up n (256 * j + e) :=
  three (Val := Elt Ideal) (e := .bf16) (fun n e => A.up n (256 * j + e)) _ _ _ _ _ _
    (fun i e => up_tile (load harg1 B.hx 0 _) (load_w harg3 B.hu _) i e)
    (fun i e => up_tile (load harg1 B.hx 688 _) (load_w harg3 B.hu _) i e)
    (fun i e => up_tile (load harg1 B.hx 1376 _) (load_w harg3 B.hu _) i e) n e

include hf in
theorem out_later (n : Fin 2064) (d : Fin 1024) :
    View.canon (kernelRun0_B (F := Ideal) c i arg1 harg1 arg2 harg2 arg3 harg3 arg4 harg4 arg5 harg5 arg6 harg6 arg7 harg7 hc0 hc1 hc2 hc3 hc4 hc5 x0 x1 x2 x3 xo6).snd.snd.val (ix2 n d) = f n d + A.part j n d :=
  three (Val := Elt Ideal) (e := .f32) (fun n d => f n d + A.part j n d) _ _ _ _ _ _
    (fun i e => (out_tile_add (load harg1 B.hx 0 _) (load_w harg2 B.hg _) (load_w harg3 B.hu _) (load_w harg4 B.hw _) _ i e).trans
      (congrArg (· + _) (load harg7 hf 0 _ i e)))
    (fun i e => (out_tile_add (load harg1 B.hx 688 _) (load_w harg2 B.hg _) (load_w harg3 B.hu _) (load_w harg4 B.hw _) _ i e).trans
      (congrArg (· + _) (load harg7 hf 688 _ i e)))
    (fun i e => (out_tile_add (load harg1 B.hx 1376 _) (load_w harg2 B.hg _) (load_w harg3 B.hu _) (load_w harg4 B.hw _) _ i e).trans
      (congrArg (· + _) (load harg7 hf 1376 _ i e))) n d

end Later

end Cert.FFN

end
-- ==== Proof.FfnFwdArrays.lean ====
/- The forward kernel's result arrays after the run: the gate and the up projection column block by column block, and the
   output summed over the grid. -/
module

public import proofs.«01_k».proof.Proof.FfnFwd
public import proofs.«01_k».proof.Proof.Gen.Kernel3Ideal.Value

@[expose] public section

set_option maxRecDepth 16384

noncomputable section

namespace Cert.FFN

open Finset Idealize.ShloMosaic Idealize.ShloMosaic.TcCoe

/-- The layer of the argument arrays: the rows, and the three weight matrices, those of the two projections by output
    column first. -/
def layerOf (A0 : Vec Ideal ⟨2, ![2064, 1024]⟩ .f32) (A1 A2 : Vec Ideal ⟨2, ![1024, 2816]⟩ .f32)
    (A3 : Vec Ideal ⟨2, ![2816, 1024]⟩ .f32) : Layer where
  x n d := A0 (ix2 (Fin.ofNat 2064 n) (Fin.ofNat 1024 d))
  g f d := A1 (ix2 (Fin.ofNat 1024 d) (Fin.ofNat 2816 f))
  u f d := A2 (ix2 (Fin.ofNat 1024 d) (Fin.ofNat 2816 f))
  w f d := A3 (ix2 (Fin.ofNat 2816 f) (Fin.ofNat 1024 d))

end Cert.FFN

namespace Cert.FFN.Fwd

open Finset Idealize.ShloMosaic Idealize.ShloMosaic.TcCoe Idealize.ShloMosaic.StableHlo
open Cert.Kernel3Ideal Cert.Kernel3Ideal.Gen

variable (m : (ℓ : Loc nD τ sig) → Buf (Elt Ideal) ℓ)

/-- The layer a device computes. -/
def ly (c : Dev nD) : Layer := layerOf (m (c, main_arg0)) (m (c, main_arg1)) (m (c, main_arg2)) (m (c, main_arg3))

/-! The arrays the host prepares. -/

theorem host_x (c : Dev nD) : (V m c main_v4 : Vec Ideal S2064x1024 .bf16) = truncf (F := Ideal) .bf16 (m (c, main_arg0) : Vec Ideal S2064x1024 .f32) bitsLt_bf16_f32 := by dsimp only [V, hostOps0]; after_results
theorem host_g (c : Dev nD) : (V m c main_v1 : Vec Ideal S2816x1024 .bf16)
    = truncf (F := Ideal) .bf16 (transpose S2816x1024 [1, 0] (m (c, main_arg1) : Vec Ideal S1024x2816 .f32) transposes_S1024x2816_S2816x1024_1_0) bitsLt_bf16_f32 := by
  dsimp only [V, hostOps0]; after_results
theorem host_u (c : Dev nD) : (V m c main_v3 : Vec Ideal S2816x1024 .bf16)
    = truncf (F := Ideal) .bf16 (transpose S2816x1024 [1, 0] (m (c, main_arg2) : Vec Ideal S1024x2816 .f32) transposes_S1024x2816_S2816x1024_1_0) bitsLt_bf16_f32 := by
  dsimp only [V, hostOps0]; after_results
theorem host_w (c : Dev nD) : (V m c main_v5 : Vec Ideal S2816x1024 .bf16) = truncf (F := Ideal) .bf16 (m (c, main_arg3) : Vec Ideal S2816x1024 .f32) bitsLt_bf16_f32 := by dsimp only [V, hostOps0]; after_results

theorem turned (W : Vec Ideal S1024x2816 .f32) (f : Fin 2816) (d : Fin 1024) :
    transpose S2816x1024 [1, 0] W transposes_S1024x2816_S2816x1024_1_0 (ix2 f d) = W (ix2 d f) := by
  pointwise []

/-! Which block of its array each window holds at a grid point. -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)

/-! Where an element of that block sits in the array. -/

theorem emb0 (t : Fin cfg0.N) (n : Fin 2064) (d : Fin 1024) : ((cfg0.win 0).blk t).view.emb (ix2 n d) = ix2 n d := by
  obtain ⟨e0, e1⟩ := idx0 t
  have ht : t.val < 11 := t.isLt
  funext a; apply Fin.ext
  match a with
  | ⟨0, _⟩ =>
    show win0_0.index t (0 : Fin 2) * 2064 + 1 * n.val = _
    show _ = n.val; omega
  | ⟨1, _⟩ =>
    show win0_0.index t (1 : Fin 2) * 1024 + 1 * d.val = _
    show _ = d.val; omega
theorem emb1 (t : Fin cfg0.N) (n : Fin 256) (d : Fin 1024) : ((cfg0.win 1).blk t).view.emb (ix2 n d) = ix2 (Fin.ofNat 2816 (256 * t.val + n)) d := by
  obtain ⟨e0, e1⟩ := idx1 t
  have ht : t.val < 11 := t.isLt
  funext a; apply Fin.ext
  match a with
  | ⟨0, _⟩ =>
    show win0_1.index t (0 : Fin 2) * 256 + 1 * n.val = _
    show _ = (256 * t.val + n.val) % 2816; omega
  | ⟨1, _⟩ =>
    show win0_1.index t (1 : Fin 2) * 1024 + 1 * d.val = _
    show _ = d.val; omega
theorem emb2 (t : Fin cfg0.N) (n : Fin 256) (d : Fin 1024) : ((cfg0.win 2).blk t).view.emb (ix2 n d) = ix2 (Fin.ofNat 2816 (256 * t.val + n)) d := by
  obtain ⟨e0, e1⟩ := idx2 t
  have ht : t.val < 11 := t.isLt
  funext a; apply Fin.ext
  match a with
  | ⟨0, _⟩ =>
    show win0_2.index t (0 : Fin 2) * 256 + 1 * n.val = _
    show _ = (256 * t.val + n.val) % 2816; omega
  | ⟨1, _⟩ =>
    show win0_2.index t (1 : Fin 2) * 1024 + 1 * d.val = _
    show _ = d.val; omega
theorem emb3 (t : Fin cfg0.N) (n : Fin 256) (d : Fin 1024) : ((cfg0.win 3).blk t).view.emb (ix2 n d) = ix2 (Fin.ofNat 2816 (256 * t.val + n)) d := by
  obtain ⟨e0, e1⟩ := idx3 t
  have ht : t.val < 11 := t.isLt
  funext a; apply Fin.ext
  match a with
  | ⟨0, _⟩ =>
    show win0_3.index t (0 : Fin 2) * 256 + 1 * n.val = _
    show _ = (256 * t.val + n.val) % 2816; omega
  | ⟨1, _⟩ =>
    show win0_3.index t (1 : Fin 2) * 1024 + 1 * d.val = _
    show _ = d.val; omega
theorem emb4 (t : Fin cfg0.N) (n : Fin 2064) (d : Fin 256) : ((cfg0.win 4).blk t).view.emb (ix2 n d) = ix2 n (Fin.ofNat 2816 (256 * t.val + d)) := by
  obtain ⟨e0, e1⟩ := idx4 t
  have ht : t.val < 11 := t.isLt
  funext a; apply Fin.ext
  match a with
  | ⟨0, _⟩ =>
    show win0_4.index t (0 : Fin 2) * 2064 + 1 * n.val = _
    show _ = n.val; omega
  | ⟨1, _⟩ =>
    show win0_4.index t (1 : Fin 2) * 256 + 1 * d.val = _
    show _ = (256 * t.val + d.val) % 2816; omega
theorem emb5 (t : Fin cfg0.N) (n : Fin 2064) (d : Fin 256) : ((cfg0.win 5).blk t).view.emb (ix2 n d) = ix2 n (Fin.ofNat 2816 (256 * t.val + d)) := by
  obtain ⟨e0, e1⟩ := idx5 t
  have ht : t.val < 11 := t.isLt
  funext a; apply Fin.ext
  match a with
  | ⟨0, _⟩ =>
    show win0_5.index t (0 : Fin 2) * 2064 + 1 * n.val = _
    show _ = n.val; omega
  | ⟨1, _⟩ =>
    show win0_5.index t (1 : Fin 2) * 256 + 1 * d.val = _
    show _ = (256 * t.val + d.val) % 2816; omega
theorem emb6 (t : Fin cfg0.N) (n : Fin 2064) (d : Fin 1024) : ((cfg0.win 6).blk t).view.emb (ix2 n d) = ix2 n d := by
  obtain ⟨e0, e1⟩ := idx6 t
  have ht : t.val < 11 := t.isLt
  funext a; apply Fin.ext
  match a with
  | ⟨0, _⟩ =>
    show win0_6.index t (0 : Fin 2) * 2064 + 1 * n.val = _
    show _ = n.val; omega
  | ⟨1, _⟩ =>
    show win0_6.index t (1 : Fin 2) * 1024 + 1 * d.val = _
    show _ = d.val; omega

/-- The staged blocks of a grid point hold the layer. -/
theorem staged (c : Dev nD) (t : Fin cfg0.N) :
    Blk (ly m c) t.val (iblk m c 0 t) (iblk m c 1 t) (iblk m c 2 t) (iblk m c 3 t) where
  hx n d := by
    show V m c main_v4 (((cfg0.win 0).blk t).view.emb (ix2 n d)) = _
    rw [emb0, host_x]
    show m (c, main_arg0) (ix2 n d) = m (c, main_arg0) (ix2 (Fin.ofNat 2064 n) (Fin.ofNat 1024 d))
    rw [ofNat_val, ofNat_val]
  hg e d := by
    show V m c main_v1 (((cfg0.win 1).blk t).view.emb (ix2 e d)) = _
    rw [emb1, host_g]
    refine (turned _ _ _).trans ?_
    show m (c, main_arg1) (ix2 d _) = m (c, main_arg1) (ix2 (Fin.ofNat 1024 d) _)
    rw [ofNat_val]
  hu e d := by
    show V m c main_v3 (((cfg0.win 2).blk t).view.emb (ix2 e d)) = _
    rw [emb2, host_u]
    refine (turned _ _ _).trans ?_
    show m (c, main_arg2) (ix2 d _) = m (c, main_arg2) (ix2 (Fin.ofNat 1024 d) _)
    rw [ofNat_val]
  hw e d := by
    show V m c main_v5 (((cfg0.win 3).blk t).view.emb (ix2 e d)) = _
    rw [emb3, host_w]
    show m (c, main_arg3) (ix2 _ d) = m (c, main_arg3) (ix2 _ (Fin.ofNat 1024 d))
    rw [ofNat_val]

/-- The points' cases: the first point, or a later one. -/
theorem cases_first {t : Fin cfg0.N} (h : t.val = 0) : t.val % 11 = 0 ∧ ¬1 ≤ t.val := by omega
theorem cases_later {t : Fin cfg0.N} (h : ¬t.val = 0) : ¬t.val % 11 = 0 ∧ 1 ≤ t.val := by
  have ht : t.val < 11 := t.isLt
  omega

/-- Column `f` of a projection: point `f / 256`, column `f % 256` of its block. -/
def pt (f : Fin 2816) : Fin cfg0.N := ⟨f.val / 256, by show _ < 11; omega⟩
def col (f : Fin 2816) : Fin 256 := ⟨f.val % 256, by omega⟩
theorem pt_col (f : Fin 2816) : 256 * (pt f).val + (col f).val = f.val := by show 256 * (f.val / 256) + f.val % 256 = _; omega

/-- The gate array. -/
theorem gate_array (c : Dev nD) (n : Fin 2064) (f : Fin 2816) : (dats m 0 c).arrAt 4 cfg0.N (ix2 n f) = (ly m c).gate n f := by
  have key : (dats m 0 c).arrAt 4 cfg0.N (((cfg0.win 4).blk (pt f)).view.emb (ix2 n (col f))) = (ly m c).gate n (256 * (pt f).val + (col f).val) := by
    by_cases h : (pt f).val = 0
    · obtain ⟨p, q⟩ := cases_first h
      refine (congrFun ((Value.blocks4 m c (pt f) (flush0_4 _)).trans (Value.flushed4_A m c (pt f) p q p q p q)) (ix2 n (col f))).trans ?_
      refine (congrFun (View.read_writes_junk_eq_canon _ _) _).trans ?_
      exact gate_first c _ _ _ _ _ _ _ _ _ _ _ _ _ _ _ _ _ _ _ (staged m c (pt f)) _ _ _ _ _ _ n (col f)
    · obtain ⟨p, q⟩ := cases_later h
      refine (congrFun ((Value.blocks4 m c (pt f) (flush0_4 _)).trans (Value.flushed4_B m c (pt f) p q p q p q)) (ix2 n (col f))).trans ?_
      refine (congrFun (View.read_writes_junk_eq_canon _ _) _).trans ?_
      exact gate_later c _ _ _ _ _ _ _ _ _ _ _ _ _ _ _ _ _ _ _ (staged m c (pt f)) _ _ _ _ _ _ _ n (col f)
  rw [emb4, pt_col, ofNat_val] at key
  exact key

/-- The up array. -/
theorem up_array (c : Dev nD) (n : Fin 2064) (f : Fin 2816) : (dats m 0 c).arrAt 5 cfg0.N (ix2 n f) = (ly m c).up n f := by
  have key : (dats m 0 c).arrAt 5 cfg0.N (((cfg0.win 5).blk (pt f)).view.emb (ix2 n (col f))) = (ly m c).up n (256 * (pt f).val + (col f).val) := by
    by_cases h : (pt f).val = 0
    · obtain ⟨p, q⟩ := cases_first h
      refine (congrFun ((Value.blocks5 m c (pt f) (flush0_5 _)).trans (Value.flushed5_A m c (pt f) p q p q p q)) (ix2 n (col f))).trans ?_
      refine (congrFun (View.read_writes_junk_eq_canon _ _) _).trans ?_
      exact up_first c _ _ _ _ _ _ _ _ _ _ _ _ _ _ _ _ _ _ _ (staged m c (pt f)) _ _ _ _ _ _ n (col f)
    · obtain ⟨p, q⟩ := cases_later h
      refine (congrFun ((Value.blocks5 m c (pt f) (flush0_5 _)).trans (Value.flushed5_B m c (pt f) p q p q p q)) (ix2 n (col f))).trans ?_
      refine (congrFun (View.read_writes_junk_eq_canon _ _) _).trans ?_
      exact up_later c _ _ _ _ _ _ _ _ _ _ _ _ _ _ _ _ _ _ _ (staged m c (pt f)) _ _ _ _ _ _ _ n (col f)
  rw [emb5, pt_col, ofNat_val] at key
  exact key

theorem out_at_first (c : Dev nD) (t : Fin cfg0.N) (h : t.val = 0) (n : Fin 2064) (d : Fin 1024) :
    (outsAt0 m c t.val t.isLt).2.2 (ix2 n d) = (ly m c).part t.val n d := by
  obtain ⟨p, q⟩ := cases_first h
  rw [outsAt0_A m c t p q p q p q]
  dsimp only [out0_A_6]
  refine (congrFun (View.read_writes_junk_eq_canon _ _) _).trans ?_
  exact out_first c _ _ _ _ _ _ _ _ _ _ _ _ _ _ _ _ _ _ _ (staged m c t) _ _ _ _ _ _ n d

theorem out_at_later (c : Dev nD) (t : Fin cfg0.N) (h : ¬t.val = 0) {f : ℕ → ℕ → EReal}
    (hf : ∀ (n : Fin 2064) (d : Fin 1024), (outsAt0 m c (t.val - 1) (Nat.lt_of_le_of_lt (Nat.sub_le _ _) t.isLt)).2.2 (ix2 n d) = f n d)
    (n : Fin 2064) (d : Fin 1024) :
    (outsAt0 m c t.val t.isLt).2.2 (ix2 n d) = f n d + (ly m c).part t.val n d := by
  obtain ⟨p, q⟩ := cases_later h
  rw [outsAt0_B m c t p q p q p q]
  dsimp only [out0_B_6]
  refine (congrFun (View.read_writes_junk_eq_canon _ _) _).trans ?_
  exact out_later c _ _ _ _ _ _ _ _ _ _ _ _ _ _ _ _ _ _ _ (staged m c t) _ _ _ _ _ _ _ hf n d

/-- What the output's block holds after a point: the shares of the points so far. -/
theorem out_so_far (c : Dev nD) (t : ℕ) : ∀ (ht : t < cfg0.N) (n : Fin 2064) (d : Fin 1024),
    (outsAt0 m c t ht).2.2 (ix2 n d) = ∑ j ∈ range (t + 1), (ly m c).part j n d := by
  induction t with
  | zero =>
    intro ht n d
    rw [Finset.sum_range_one]
    exact out_at_first m c ⟨0, ht⟩ rfl n d
  | succ t ih =>
    intro ht n d
    rw [Finset.sum_range_succ]
    exact out_at_later m c ⟨t + 1, ht⟩ (Nat.succ_ne_zero t)
      (f := fun n d => ∑ j ∈ range (t + 1), (ly m c).part j n d) (ih (Nat.lt_of_succ_lt ht)) n d

/-- The last grid point. -/
def last : Fin cfg0.N := ⟨10, by show 10 < 11; omega⟩

/-- The output array. -/
theorem out_array (c : Dev nD) (n : Fin 2064) (d : Fin 1024) : (dats m 0 c).arrAt 6 cfg0.N (ix2 n d) = (ly m c).out n d := by
  have key := congrFun (((dats m 0 c).read_blk_arrAt_eq_flushed 6
    (fun t t' h h' hne => absurd (Fin.ext (by
      have a := (flush0_6 t).mp h
      have b := (flush0_6 t').mp h'
      have ht : t.val < 11 := t.isLt
      have ht' : t'.val < 11 := t'.isLt
      omega)) hne) cfg0.N last last.isLt ((flush0_6 last).mpr rfl)).trans (Value.flushed6 m c last)) (ix2 n d)
  refine (congrArg ((dats m 0 c).arrAt 6 cfg0.N) (emb6 last n d)).symm.trans (Eq.trans key ?_)
  rw [Layer.out_eq]
  exact out_so_far m c 10 _ n d

end Cert.FFN.Fwd

end
-- ==== Proof.FfnFwdRef.lean ====
/- The forward reference's three results, entry by entry those of the layer, and so the kernel's. -/
module

public import proofs.«01_k».proof.Proof.FfnFwdArrays
public import proofs.«01_k».proof.Proof.Gen.Reference3Ideal.Read

@[expose] public section

set_option maxRecDepth 16384

noncomputable section

namespace Cert.FFN.Fwd

open Finset Idealize.ShloMosaic Idealize.ShloMosaic.TcCoe Cert.Reference3Ideal Cert.Reference3Ideal.Gen Cert.Reference3Ideal.Read

section Ref

variable (x0 : Vec Ideal S2064x1024 .f32) (x1 x2 : Vec Ideal S1024x2816 .f32) (x3 : Vec Ideal S2816x1024 .f32)

theorem ref_gate (n : Fin 2064) (f : Fin 2816) : val_main_v1 (F := Ideal) x0 x1 (ix2 n f) = (layerOf x0 x1 x2 x3).gate n f := by
  pointwise [val_main_v1, val_main_v0]
  simp only [Layer.gate, layerOf, ofNat_val]

theorem ref_up (n : Fin 2064) (f : Fin 2816) : val_main_v3 (F := Ideal) x0 x2 (ix2 n f) = (layerOf x0 x1 x2 x3).up n f := by
  pointwise [val_main_v3, val_main_v2]
  simp only [Layer.up, layerOf, ofNat_val]

theorem ref_act (n : Fin 2064) (f : Fin 2816) : val_main_v7 (F := Ideal) x0 x1 x2 (ix2 n f) = (layerOf x0 x1 x2 x3).act n f := by
  pointwise [val_main_v7, val_main_v6, val_main_v5, val_main_v4, val_main_call0_v5, val_main_call0_v4, val_main_call0_v3,
    val_main_call0_v2, val_main_call0_v1, val_main_call0_v0, val_main_call0_cst, val_main_call0_cst_0]
  simp only [Layer.act, Layer.gate, Layer.up, Ideal.logistic, layerOf, ofNat_val, one_bits]

theorem ref_out (n : Fin 2064) (d : Fin 1024) : val_main_v8 (F := Ideal) x0 x1 x2 x3 (ix2 n d) = (layerOf x0 x1 x2 x3).out n d := by
  pointwise [val_main_v8]
  simp only [ref_act x0 x1 x2 x3, Layer.out]
  rw [Finset.sum_range]
  simp only [layerOf, ofNat_val]

end Ref

open Cert.Kernel3Ideal.Gen

variable (m : (ℓ : Loc Cert.Kernel3Ideal.nD Cert.Kernel3Ideal.τ Cert.Kernel3Ideal.sig) → Buf (Elt Ideal) ℓ) (c : Dev Cert.Kernel3Ideal.nD)

theorem gate_eq : (dats m 0 c).arrAt 4 Cert.Kernel3Ideal.cfg0.N
    = val_main_v1 (F := Ideal) (m (c, Cert.Kernel3Ideal.main_arg0)) (m (c, Cert.Kernel3Ideal.main_arg1)) :=
  ext2 (e := .bf16) fun n f => (gate_array m c n f).trans (ref_gate _ _ _ _ n f).symm

theorem up_eq : (dats m 0 c).arrAt 5 Cert.Kernel3Ideal.cfg0.N
    = val_main_v3 (F := Ideal) (m (c, Cert.Kernel3Ideal.main_arg0)) (m (c, Cert.Kernel3Ideal.main_arg2)) :=
  ext2 (e := .bf16) fun n f => (up_array m c n f).trans (ref_up _ _ _ _ n f).symm

theorem out_eq : (dats m 0 c).arrAt 6 Cert.Kernel3Ideal.cfg0.N
    = val_main_v8 (F := Ideal) (m (c, Cert.Kernel3Ideal.main_arg0)) (m (c, Cert.Kernel3Ideal.main_arg1))
        (m (c, Cert.Kernel3Ideal.main_arg2)) (m (c, Cert.Kernel3Ideal.main_arg3)) :=
  ext2 (e := .f32) fun n d => (out_array m c n d).trans (ref_out _ _ _ _ n d).symm

end Cert.FFN.Fwd

end
-- ==== Proof.FfnBwd.lean ====
/- The backward kernel at one grid point: what its stores leave is the gradients of 256 columns of the three weight
   matrices and those columns' share of the gradient of the rows. -/
module

public import proofs.«01_k».proof.Proof.Ffn
public import proofs.«01_k».proof.Proof.Gen.Kernel2Ideal.Frame

@[expose] public section

set_option maxRecDepth 16384

noncomputable section

namespace Cert.FFN

open Finset Idealize.ShloMosaic

/-- What the backward pass is given: the output's gradient `y`, the rows `x`, the two projections `gt` and `up`, and the
    weights, those of the projections by output column first. -/
structure Back where
  y : ℕ → ℕ → EReal
  x : ℕ → ℕ → EReal
  gt : ℕ → ℕ → EReal
  up : ℕ → ℕ → EReal
  g : ℕ → ℕ → EReal
  u : ℕ → ℕ → EReal
  w : ℕ → ℕ → EReal

namespace Back

variable (A : Back)

/-- The logistic function of the gate. -/
def sg (n f : ℕ) : EReal := Ideal.logistic (A.gt n f)

/-- The gradient of the product of the gated and the up projection. -/
def dact (n f : ℕ) : EReal := ∑ d : Fin 1024, A.y n d * A.w f d

/-- The gradient of the gate, of the up projection, and the product itself. -/
def dgate (n f : ℕ) : EReal := A.dact n f * A.up n f * (A.sg n f * (1 + A.gt n f * (1 - A.sg n f)))
def dup (n f : ℕ) : EReal := A.dact n f * (A.gt n f * A.sg n f)
def act (n f : ℕ) : EReal := A.gt n f * A.sg n f * A.up n f

/-- A product over 688 rows from row `o` of two matrices read by rows. -/
def rows (a b : ℕ → ℕ → EReal) (o f d : ℕ) : EReal := ∑ i : Fin 688, a (o + i) f * b (o + i) d

/-- The same product over all 2064 rows. -/
def over (a b : ℕ → ℕ → EReal) (f d : ℕ) : EReal := ∑ n ∈ range 2064, a n f * b n d

theorem over_eq (a b : ℕ → ℕ → EReal) (f d : ℕ) : over a b f d = rows a b 0 f d + rows a b 688 f d + rows a b 1376 f d := by
  refine (sum_blocks (fun n => a n f * b n d) 3 688).trans ?_
  rw [Finset.sum_range_succ, Finset.sum_range_succ, Finset.sum_range_one]
  rfl

/-- The share of 256 columns from `256 j` of the rows' gradient, and the gradient. -/
def part (j n d : ℕ) : EReal :=
  (∑ e : Fin 256, A.dgate n (256 * j + e) * A.g (256 * j + e) d) + ∑ e : Fin 256, A.dup n (256 * j + e) * A.u (256 * j + e) d
def dx (n d : ℕ) : EReal := (∑ f ∈ range 2816, A.dgate n f * A.g f d) + ∑ f ∈ range 2816, A.dup n f * A.u f d

theorem dx_eq (n d : ℕ) : A.dx n d = ∑ j ∈ range 11, A.part j n d := by
  simp only [part]
  rw [Finset.sum_add_distrib]
  exact congrArg₂ (· + ·) (sum_blocks (fun f => A.dgate n f * A.g f d) 11 256) (sum_blocks (fun f => A.dup n f * A.u f d) 11 256)

end Back

end Cert.FFN

namespace Cert.FFN.Bwd

open Finset Idealize.ShloMosaic Cert.Kernel2Ideal Cert.Kernel2Ideal.Gen

section Tile

variable {A : Back} {o j : ℕ} {v0 v2 : Vec Ideal S688x1024 .bf16} {v4 v7 : Vec Ideal S688x256 .bf16} {v10 v31 v34 : Vec Ideal S256x1024 .bf16}
  (h0 : ∀ (i : Fin 688) (d : Fin 1024), v0 (ix2 i d) = A.y (o + i) d)
  (h2 : ∀ (i : Fin 688) (d : Fin 1024), v2 (ix2 i d) = A.x (o + i) d)
  (h4 : ∀ (i : Fin 688) (e : Fin 256), v4 (ix2 i e) = A.gt (o + i) (256 * j + e))
  (h7 : ∀ (i : Fin 688) (e : Fin 256), v7 (ix2 i e) = A.up (o + i) (256 * j + e))
  (h10 : ∀ (e : Fin 256) (d : Fin 1024), v10 (ix2 e d) = A.w (256 * j + e) d)
  (h31 : ∀ (e : Fin 256) (d : Fin 1024), v31 (ix2 e d) = A.g (256 * j + e) d)
  (h34 : ∀ (e : Fin 256) (d : Fin 1024), v34 (ix2 e d) = A.u (256 * j + e) d)

include h0 h10 in
theorem dact_tile (i : Fin 688) (e : Fin 256) : k0_pay7 v0 v10 (ix2 i e) = A.dact (o + i) (256 * j + e) := by
  pointwise [k0_pay7, k0_pay3]
  simp only [h0, h10, Back.dact]

include h4 in
theorem sg_tile (i : Fin 688) (e : Fin 256) : k0_pay8 v4 (ix2 i e) = A.sg (o + i) (256 * j + e) := by
  pointwise [k0_pay8, k0_pay5]
  simp only [h4, Back.sg]

include h0 h4 h7 h10 in
theorem dgate_tile (i : Fin 688) (e : Fin 256) : k0_pay10 v0 v4 v7 v10 (ix2 i e) = A.dgate (o + i) (256 * j + e) := by
  pointwise [k0_pay10, k0_pay5, k0_pay6]
  simp only [dact_tile h0 h10, sg_tile h4, h4, h7, Back.dgate, Ideal.ofBits_one_f32]

include h0 h4 h10 in
theorem dup_tile (i : Fin 688) (e : Fin 256) : k0_pay11 v0 v4 v10 (ix2 i e) = A.dup (o + i) (256 * j + e) := by
  pointwise [k0_pay11, k0_pay9, k0_pay5]
  simp only [dact_tile h0 h10, sg_tile h4, h4, Back.dup]

include h0 h4 h7 in
theorem dwd_tile (e : Fin 256) (d : Fin 1024) : k0_pay12 v0 v4 v7 (ix2 e d) = Back.rows A.act A.y o (256 * j + e) d := by
  pointwise [k0_pay12, k0_pay9, k0_pay5, k0_pay6, k0_pay3]
  simp only [sg_tile h4, h0, h4, h7, Back.act, Back.rows]

include h0 h2 h4 h7 h10 in
theorem dwg_tile (e : Fin 256) (d : Fin 1024) :
    k0_pay13 v0 v2 v4 v7 v10 (ix2 e d) = Back.rows A.dgate A.x o (256 * j + e) d := by
  pointwise [k0_pay13, k0_pay4]
  simp only [dgate_tile h0 h4 h7 h10, h2, Back.rows]

include h0 h2 h4 h10 in
theorem dwu_tile (e : Fin 256) (d : Fin 1024) : k0_pay14 v0 v2 v4 v10 (ix2 e d) = Back.rows A.dup A.x o (256 * j + e) d := by
  pointwise [k0_pay14, k0_pay4]
  simp only [dup_tile h0 h4 h10, h2, Back.rows]

include h0 h4 h7 h10 h31 h34 in
theorem da_tile (i : Fin 688) (d : Fin 1024) :
    k0_pay17 (k0_pay15 v0 v4 v7 v10 v31) (k0_pay16 v0 v4 v10 v34) (ix2 i d) = A.part j (o + i) d := by
  pointwise [k0_pay17, k0_pay15, k0_pay16]
  simp only [dgate_tile h0 h4 h7 h10, dup_tile h0 h4 h10, h31, h34, Back.part]

include h0 h4 h7 h10 h31 h34 in
theorem da_tile_add (v180 : Vec Ideal S688x1024 .f32) (i : Fin 688) (d : Fin 1024) :
    k0_pay21 (k0_pay15 v0 v4 v7 v10 v31) (k0_pay16 v0 v4 v10 v34) v180 (ix2 i d) = v180 (ix2 i d) + A.part j (o + i) d := by
  pointwise [k0_pay21]
  rw [da_tile h0 h4 h7 h10 h31 h34]

end Tile

/-- A sum kept in scratch, and a first share put there. -/
theorem add_tile (a b : Vec Ideal S256x1024 .f32) (e : Fin 256) (d : Fin 1024) :
    k0_pay52 b a (ix2 e d) = a (ix2 e d) + b (ix2 e d) := by
  pointwise [k0_pay52]
theorem put_tile (a : Vec Ideal S256x1024 .f32) (e : Fin 256) (d : Fin 1024) : k0_pay18 (F := Ideal) a (ix2 e d) = a (ix2 e d) := by
  pointwise [k0_pay18]

/-- The staged blocks of grid point `j` hold the rows and the columns from `256 j`. -/
structure Blk (A : Back) (j : ℕ) (x0 x1 : Vec Ideal S2064x1024 .bf16) (x2 x3 : Vec Ideal S2064x256 .bf16)
    (x4 x5 x6 : Vec Ideal S256x1024 .bf16) : Prop where
  hy : ∀ (n : Fin 2064) (d : Fin 1024), x0 (ix2 n d) = A.y n d
  hx : ∀ (n : Fin 2064) (d : Fin 1024), x1 (ix2 n d) = A.x n d
  ht : ∀ (n : Fin 2064) (e : Fin 256), x2 (ix2 n e) = A.gt n (256 * j + e)
  hp : ∀ (n : Fin 2064) (e : Fin 256), x3 (ix2 n e) = A.up n (256 * j + e)
  hg : ∀ (e : Fin 256) (d : Fin 1024), x4 (ix2 e d) = A.g (256 * j + e) d
  hu : ∀ (e : Fin 256) (d : Fin 1024), x5 (ix2 e d) = A.u (256 * j + e) d
  hw : ∀ (e : Fin 256) (d : Fin 1024), x6 (ix2 e d) = A.w (256 * j + e) d

/-- A load of a whole staged block of weights. -/
theorem load_w {m : Memref sig .tc .vmem S256x1024 .bf16} (h : m.IsWhole) {x : Vec Ideal S256x1024 .bf16}
    {f : ℕ → ℕ → EReal} {j : ℕ} (hx : ∀ (e : Fin 256) (d : Fin 1024), x (ix2 e d) = f (256 * j + e) d) (inb)
    (e : Fin 256) (d : Fin 1024) :
    View.readAt (Elt Ideal) m.view (Rect.unit (s := S256x1024) ![0, 0] ![256, 1024] inb).toLoadRect (h.unread x)
      (ix2 e d) = f (256 * j + e) d :=
  (load h (f := fun e d => f (256 * j + e) d) hx 0 inb e d).trans (by simp only [Nat.zero_add])

/-- A load of rows of a staged block of a projection. -/
theorem load_c {m : Memref sig .tc .vmem S2064x256 .bf16} (h : m.IsWhole) {x : Vec Ideal S2064x256 .bf16}
    {f : ℕ → ℕ → EReal} {j : ℕ} (hx : ∀ (n : Fin 2064) (e : Fin 256), x (ix2 n e) = f n (256 * j + e)) (o : ℕ) (inb)
    (i : Fin 688) (e : Fin 256) :
    View.readAt (Elt Ideal) m.view (Rect.unit (s := S2064x256) ![o, 0] ![688, 256] inb).toLoadRect (h.unread x)
      (ix2 i e) = f (o + i) (256 * j + e) :=
  load h (f := fun n e => f n (256 * j + e)) hx o inb i e

variable (c : Dev nD) (i : grid0.Coords) (arg1 : Memref sig .tc .vmem S2064x1024 .bf16) (harg1 : arg1.IsWhole) (arg2 : Memref sig .tc .vmem S2064x1024 .bf16) (harg2 : arg2.IsWhole) (arg3 : Memref sig .tc .vmem S2064x256 .bf16) (harg3 : arg3.IsWhole) (arg4 : Memref sig .tc .vmem S2064x256 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S2064x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole)
  (x0 x1 : Vec Ideal S2064x1024 .bf16) (x2 x3 : Vec Ideal S2064x256 .bf16) (x4 x5 x6 : Vec Ideal S256x1024 .bf16)
  {A : Back} {j : ℕ} (B : Blk A j x0 x1 x2 x3 x4 x5 x6)

include B

section First

variable (hc0 : cond0_0 i) (hc1 : ¬cond0_1 i) (hc2 : cond0_2 i) (hc3 : ¬cond0_3 i) (hc4 : cond0_4 i) (hc5 : ¬cond0_5 i)

theorem da_first (n : Fin 2064) (d : Fin 1024) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6).fst (ix2 n d) = A.part j n d :=
  three (Val := Elt Ideal) (e := .f32) (fun n d => A.part j n d) _ _ _ _ _ _
    (fun i d => da_tile (load harg1 B.hy 0 _) (load_c harg3 B.ht 0 _) (load_c harg4 B.hp 0 _) (load_w harg7 B.hw _) (load_w harg5 B.hg _) (load_w harg6 B.hu _) i d)
    (fun i d => da_tile (load harg1 B.hy 688 _) (load_c harg3 B.ht 688 _) (load_c harg4 B.hp 688 _) (load_w harg7 B.hw _) (load_w harg5 B.hg _) (load_w harg6 B.hu _) i d)
    (fun i d => da_tile (load harg1 B.hy 1376 _) (load_c harg3 B.ht 1376 _) (load_c harg4 B.hp 1376 _) (load_w harg7 B.hw _) (load_w harg5 B.hg _) (load_w harg6 B.hu _) i d) n d

theorem dwg_first (e : Fin 256) (d : Fin 1024) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6).snd.fst (ix2 e d) = Back.over A.dgate A.x (256 * j + e) d := by
  rw [Back.over_eq]
  refine (hit 0 _ _ _ e d e (by simp)).trans ?_
  refine (again _ _ _ _ _ e d).trans ?_
  refine (add_tile _ _ e d).trans ?_
  refine congrArg₂ (· + ·) ?_ (dwg_tile (load harg1 B.hy 1376 _) (load harg2 B.hx 1376 _) (load_c harg3 B.ht 1376 _) (load_c harg4 B.hp 1376 _) (load_w harg7 B.hw _) e d)
  refine (again _ _ _ _ _ e d).trans ?_
  refine (add_tile _ _ e d).trans ?_
  refine congrArg₂ (· + ·) ?_ (dwg_tile (load harg1 B.hy 688 _) (load harg2 B.hx 688 _) (load_c harg3 B.ht 688 _) (load_c harg4 B.hp 688 _) (load_w harg7 B.hw _) e d)
  refine (again _ _ _ _ _ e d).trans ?_
  exact (put_tile _ e d).trans (dwg_tile (load harg1 B.hy 0 _) (load harg2 B.hx 0 _) (load_c harg3 B.ht 0 _) (load_c harg4 B.hp 0 _) (load_w harg7 B.hw _) e d)

theorem dwu_first (e : Fin 256) (d : Fin 1024) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6).snd.snd.fst (ix2 e d) = Back.over A.dup A.x (256 * j + e) d := by
  rw [Back.over_eq]
  refine (hit 0 _ _ _ e d e (by simp)).trans ?_
  refine (again _ _ _ _ _ e d).trans ?_
  refine (add_tile _ _ e d).trans ?_
  refine congrArg₂ (· + ·) ?_ (dwu_tile (load harg1 B.hy 1376 _) (load harg2 B.hx 1376 _) (load_c harg3 B.ht 1376 _) (load_w harg7 B.hw _) e d)
  refine (again _ _ _ _ _ e d).trans ?_
  refine (add_tile _ _ e d).trans ?_
  refine congrArg₂ (· + ·) ?_ (dwu_tile (load harg1 B.hy 688 _) (load harg2 B.hx 688 _) (load_c harg3 B.ht 688 _) (load_w harg7 B.hw _) e d)
  refine (again _ _ _ _ _ e d).trans ?_
  exact (put_tile _ e d).trans (dwu_tile (load harg1 B.hy 0 _) (load harg2 B.hx 0 _) (load_c harg3 B.ht 0 _) (load_w harg7 B.hw _) e d)

theorem dwd_first (e : Fin 256) (d : Fin 1024) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6).snd.snd.snd.fst (ix2 e d) = Back.over A.act A.y (256 * j + e) d := by
  rw [Back.over_eq]
  refine (hit 0 _ _ _ e d e (by simp)).trans ?_
  refine (again _ _ _ _ _ e d).trans ?_
  refine (add_tile _ _ e d).trans ?_
  refine congrArg₂ (· + ·) ?_ (dwd_tile (load harg1 B.hy 1376 _) (load_c harg3 B.ht 1376 _) (load_c harg4 B.hp 1376 _) e d)
  refine (again _ _ _ _ _ e d).trans ?_
  refine (add_tile _ _ e d).trans ?_
  refine congrArg₂ (· + ·) ?_ (dwd_tile (load harg1 B.hy 688 _) (load_c harg3 B.ht 688 _) (load_c harg4 B.hp 688 _) e d)
  refine (again _ _ _ _ _ e d).trans ?_
  exact (put_tile _ e d).trans (dwd_tile (load harg1 B.hy 0 _) (load_c harg3 B.ht 0 _) (load_c harg4 B.hp 0 _) e d)

end First

section Later

variable (hc0 : ¬cond0_0 i) (hc1 : cond0_1 i) (hc2 : ¬cond0_2 i) (hc3 : cond0_3 i) (hc4 : ¬cond0_4 i) (hc5 : cond0_5 i)
  (xo7 : Vec Ideal S2064x1024 .f32) {f : ℕ → ℕ → EReal} (hf : ∀ (n : Fin 2064) (d : Fin 1024), xo7 (ix2 n d) = f n d)

include hf in
theorem da_later (n : Fin 2064) (d : Fin 1024) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 xo7).fst (ix2 n d) = f n d + A.part j n d :=
  three (Val := Elt Ideal) (e := .f32) (fun n d => f n d + A.part j n d) _ _ _ _ _ _
    (fun i d => (da_tile_add (load harg1 B.hy 0 _) (load_c harg3 B.ht 0 _) (load_c harg4 B.hp 0 _) (load_w harg7 B.hw _) (load_w harg5 B.hg _) (load_w harg6 B.hu _) _ i d).trans (congrArg (· + _) (load harg8 hf 0 _ i d)))
    (fun i d => (da_tile_add (load harg1 B.hy 688 _) (load_c harg3 B.ht 688 _) (load_c harg4 B.hp 688 _) (load_w harg7 B.hw _) (load_w harg5 B.hg _) (load_w harg6 B.hu _) _ i d).trans (congrArg (· + _) (load harg8 hf 688 _ i d)))
    (fun i d => (da_tile_add (load harg1 B.hy 1376 _) (load_c harg3 B.ht 1376 _) (load_c harg4 B.hp 1376 _) (load_w harg7 B.hw _) (load_w harg5 B.hg _) (load_w harg6 B.hu _) _ i d).trans (congrArg (· + _) (load harg8 hf 1376 _ i d))) n d

theorem dwg_later (e : Fin 256) (d : Fin 1024) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 xo7).snd.fst (ix2 e d) = Back.over A.dgate A.x (256 * j + e) d := by
  rw [Back.over_eq]
  refine (hit 0 _ _ _ e d e (by simp)).trans ?_
  refine (again _ _ _ _ _ e d).trans ?_
  refine (add_tile _ _ e d).trans ?_
  refine congrArg₂ (· + ·) ?_ (dwg_tile (load harg1 B.hy 1376 _) (load harg2 B.hx 1376 _) (load_c harg3 B.ht 1376 _) (load_c harg4 B.hp 1376 _) (load_w harg7 B.hw _) e d)
  refine (again _ _ _ _ _ e d).trans ?_
  refine (add_tile _ _ e d).trans ?_
  refine congrArg₂ (· + ·) ?_ (dwg_tile (load harg1 B.hy 688 _) (load harg2 B.hx 688 _) (load_c harg3 B.ht 688 _) (load_c harg4 B.hp 688 _) (load_w harg7 B.hw _) e d)
  refine (again _ _ _ _ _ e d).trans ?_
  exact (put_tile _ e d).trans (dwg_tile (load harg1 B.hy 0 _) (load harg2 B.hx 0 _) (load_c harg3 B.ht 0 _) (load_c harg4 B.hp 0 _) (load_w harg7 B.hw _) e d)

theorem dwu_later (e : Fin 256) (d : Fin 1024) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 xo7).snd.snd.fst (ix2 e d) = Back.over A.dup A.x (256 * j + e) d := by
  rw [Back.over_eq]
  refine (hit 0 _ _ _ e d e (by simp)).trans ?_
  refine (again _ _ _ _ _ e d).trans ?_
  refine (add_tile _ _ e d).trans ?_
  refine congrArg₂ (· + ·) ?_ (dwu_tile (load harg1 B.hy 1376 _) (load harg2 B.hx 1376 _) (load_c harg3 B.ht 1376 _) (load_w harg7 B.hw _) e d)
  refine (again _ _ _ _ _ e d).trans ?_
  refine (add_tile _ _ e d).trans ?_
  refine congrArg₂ (· + ·) ?_ (dwu_tile (load harg1 B.hy 688 _) (load harg2 B.hx 688 _) (load_c harg3 B.ht 688 _) (load_w harg7 B.hw _) e d)
  refine (again _ _ _ _ _ e d).trans ?_
  exact (put_tile _ e d).trans (dwu_tile (load harg1 B.hy 0 _) (load harg2 B.hx 0 _) (load_c harg3 B.ht 0 _) (load_w harg7 B.hw _) e d)

theorem dwd_later (e : Fin 256) (d : Fin 1024) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 xo7).snd.snd.snd.fst (ix2 e d) = Back.over A.act A.y (256 * j + e) d := by
  rw [Back.over_eq]
  refine (hit 0 _ _ _ e d e (by simp)).trans ?_
  refine (again _ _ _ _ _ e d).trans ?_
  refine (add_tile _ _ e d).trans ?_
  refine congrArg₂ (· + ·) ?_ (dwd_tile (load harg1 B.hy 1376 _) (load_c harg3 B.ht 1376 _) (load_c harg4 B.hp 1376 _) e d)
  refine (again _ _ _ _ _ e d).trans ?_
  refine (add_tile _ _ e d).trans ?_
  refine congrArg₂ (· + ·) ?_ (dwd_tile (load harg1 B.hy 688 _) (load_c harg3 B.ht 688 _) (load_c harg4 B.hp 688 _) e d)
  refine (again _ _ _ _ _ e d).trans ?_
  exact (put_tile _ e d).trans (dwd_tile (load harg1 B.hy 0 _) (load_c harg3 B.ht 0 _) (load_c harg4 B.hp 0 _) e d)

end Later

end Cert.FFN.Bwd

end
-- ==== Proof.FfnBwdArrays.lean ====
/- The backward kernel's result arrays after the run: the three weight gradients row block by row block, and the rows'
   gradient summed over the grid. -/
module

public import proofs.«01_k».proof.Proof.FfnBwd
public import proofs.«01_k».proof.Proof.Gen.Kernel2Ideal.Value

@[expose] public section

set_option maxRecDepth 16384

noncomputable section

namespace Cert.FFN

open Finset Idealize.ShloMosaic Idealize.ShloMosaic.TcCoe

/-- The backward pass of the argument arrays: rows, gate, up and down weights, output gradient. The two projections are
    products of the rows and the weights. -/
def backOf (A0 : Vec Ideal ⟨2, ![2064, 1024]⟩ .f32) (A1 A2 : Vec Ideal ⟨2, ![1024, 2816]⟩ .f32)
    (A3 : Vec Ideal ⟨2, ![2816, 1024]⟩ .f32) (A4 : Vec Ideal ⟨2, ![2064, 1024]⟩ .f32) : Back where
  y n d := A4 (ix2 (Fin.ofNat 2064 n) (Fin.ofNat 1024 d))
  x n d := A0 (ix2 (Fin.ofNat 2064 n) (Fin.ofNat 1024 d))
  gt n f := ∑ d : Fin 1024, A0 (ix2 (Fin.ofNat 2064 n) d) * A1 (ix2 d (Fin.ofNat 2816 f))
  up n f := ∑ d : Fin 1024, A0 (ix2 (Fin.ofNat 2064 n) d) * A2 (ix2 d (Fin.ofNat 2816 f))
  g f d := A1 (ix2 (Fin.ofNat 1024 d) (Fin.ofNat 2816 f))
  u f d := A2 (ix2 (Fin.ofNat 1024 d) (Fin.ofNat 2816 f))
  w f d := A3 (ix2 (Fin.ofNat 2816 f) (Fin.ofNat 1024 d))

end Cert.FFN

namespace Cert.FFN.Bwd

open Finset Idealize.ShloMosaic Idealize.ShloMosaic.TcCoe Idealize.ShloMosaic.StableHlo
open Cert.Kernel2Ideal Cert.Kernel2Ideal.Gen

variable (m : (ℓ : Loc nD τ sig) → Buf (Elt Ideal) ℓ)

/-- The backward pass of a device's arguments. -/
def ba (c : Dev nD) : Back := backOf (m (c, main_arg0)) (m (c, main_arg1)) (m (c, main_arg2)) (m (c, main_arg3)) (m (c, main_arg4))

/-! The arrays the host prepares. -/

theorem host_y (c : Dev nD) : (V m c main_v8 : Vec Ideal S2064x1024 .bf16) = truncf (F := Ideal) .bf16 (m (c, main_arg4) : Vec Ideal S2064x1024 .f32) bitsLt_bf16_f32 := by dsimp only [V, hostOps0]; after_results
theorem host_x (c : Dev nD) : (V m c main_v9 : Vec Ideal S2064x1024 .bf16) = truncf (F := Ideal) .bf16 (m (c, main_arg0) : Vec Ideal S2064x1024 .f32) bitsLt_bf16_f32 := by dsimp only [V, hostOps0]; after_results
theorem host_w (c : Dev nD) : (V m c main_v10 : Vec Ideal S2816x1024 .bf16) = truncf (F := Ideal) .bf16 (m (c, main_arg3) : Vec Ideal S2816x1024 .f32) bitsLt_bf16_f32 := by dsimp only [V, hostOps0]; after_results
theorem host_t (c : Dev nD) : (V m c main_v1 : Vec Ideal S2064x2816 .bf16)
    = truncf (F := Ideal) .bf16 (Host.dotGeneral (F := Ideal) (φ₁ := .f32) (φ₂ := .f32) dot_S2064x1024_S1024x2816_S2064x2816_1_0_0_1_n_n none (m (c, main_arg0) : Vec Ideal S2064x1024 .f32) (m (c, main_arg1) : Vec Ideal S1024x2816 .f32)) bitsLt_bf16_f32 := by
  dsimp only [V, hostOps0]; after_results
theorem host_p (c : Dev nD) : (V m c main_v3 : Vec Ideal S2064x2816 .bf16)
    = truncf (F := Ideal) .bf16 (Host.dotGeneral (F := Ideal) (φ₁ := .f32) (φ₂ := .f32) dot_S2064x1024_S1024x2816_S2064x2816_1_0_0_1_n_n none (m (c, main_arg0) : Vec Ideal S2064x1024 .f32) (m (c, main_arg2) : Vec Ideal S1024x2816 .f32)) bitsLt_bf16_f32 := by
  dsimp only [V, hostOps0]; after_results
theorem host_g (c : Dev nD) : (V m c main_v5 : Vec Ideal S2816x1024 .bf16)
    = truncf (F := Ideal) .bf16 (transpose S2816x1024 [1, 0] (m (c, main_arg1) : Vec Ideal S1024x2816 .f32) transposes_S1024x2816_S2816x1024_1_0) bitsLt_bf16_f32 := by
  dsimp only [V, hostOps0]; after_results
theorem host_u (c : Dev nD) : (V m c main_v7 : Vec Ideal S2816x1024 .bf16)
    = truncf (F := Ideal) .bf16 (transpose S2816x1024 [1, 0] (m (c, main_arg2) : Vec Ideal S1024x2816 .f32) transposes_S1024x2816_S2816x1024_1_0) bitsLt_bf16_f32 := by
  dsimp only [V, hostOps0]; after_results

theorem turned (W : Vec Ideal S1024x2816 .f32) (f : Fin 2816) (d : Fin 1024) :
    transpose S2816x1024 [1, 0] W transposes_S1024x2816_S2816x1024_1_0 (ix2 f d) = W (ix2 d f) := by
  pointwise []

theorem projected (X : Vec Ideal S2064x1024 .f32) (W : Vec Ideal S1024x2816 .f32) (n : Fin 2064) (f : Fin 2816) :
    (Host.dotGeneral (F := Ideal) (φ₁ := .f32) (φ₂ := .f32) dot_S2064x1024_S1024x2816_S2064x2816_1_0_0_1_n_n none X W : Vec Ideal S2064x2816 .f32) (ix2 n f)
      = ∑ d : Fin 1024, X (ix2 n d) * W (ix2 d f) := by
  pointwise []

theorem t_of (A0 : Vec Ideal S2064x1024 .f32) (A1 A2 : Vec Ideal S1024x2816 .f32) (A3 : Vec Ideal S2816x1024 .f32)
    (A4 : Vec Ideal S2064x1024 .f32) (n : Fin 2064) (f : ℕ) :
    ∑ d : Fin 1024, A0 (ix2 n d) * A1 (ix2 d (Fin.ofNat 2816 f)) = (backOf A0 A1 A2 A3 A4).gt n f := by
  simp only [backOf, ofNat_val]

theorem p_of (A0 : Vec Ideal S2064x1024 .f32) (A1 A2 : Vec Ideal S1024x2816 .f32) (A3 : Vec Ideal S2816x1024 .f32)
    (A4 : Vec Ideal S2064x1024 .f32) (n : Fin 2064) (f : ℕ) :
    ∑ d : Fin 1024, A0 (ix2 n d) * A2 (ix2 d (Fin.ofNat 2816 f)) = (backOf A0 A1 A2 A3 A4).up n f := by
  simp only [backOf, ofNat_val]

/-! Which block of its array each window holds at a grid point. -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)

/-! Where an element of that block sits in the array. -/

theorem emb0 (t : Fin cfg0.N) (n : Fin 2064) (d : Fin 1024) : ((cfg0.win 0).blk t).view.emb (ix2 n d) = ix2 n d := by
  obtain ⟨e0, e1⟩ := idx0 t
  have ht : t.val < 11 := t.isLt
  funext a; apply Fin.ext
  match a with
  | ⟨0, _⟩ =>
    show win0_0.index t (0 : Fin 2) * 2064 + 1 * n.val = _
    show _ = n.val; omega
  | ⟨1, _⟩ =>
    show win0_0.index t (1 : Fin 2) * 1024 + 1 * d.val = _
    show _ = d.val; omega
theorem emb1 (t : Fin cfg0.N) (n : Fin 2064) (d : Fin 1024) : ((cfg0.win 1).blk t).view.emb (ix2 n d) = ix2 n d := by
  obtain ⟨e0, e1⟩ := idx1 t
  have ht : t.val < 11 := t.isLt
  funext a; apply Fin.ext
  match a with
  | ⟨0, _⟩ =>
    show win0_1.index t (0 : Fin 2) * 2064 + 1 * n.val = _
    show _ = n.val; omega
  | ⟨1, _⟩ =>
    show win0_1.index t (1 : Fin 2) * 1024 + 1 * d.val = _
    show _ = d.val; omega
theorem emb2 (t : Fin cfg0.N) (n : Fin 2064) (d : Fin 256) : ((cfg0.win 2).blk t).view.emb (ix2 n d) = ix2 n (Fin.ofNat 2816 (256 * t.val + d)) := by
  obtain ⟨e0, e1⟩ := idx2 t
  have ht : t.val < 11 := t.isLt
  funext a; apply Fin.ext
  match a with
  | ⟨0, _⟩ =>
    show win0_2.index t (0 : Fin 2) * 2064 + 1 * n.val = _
    show _ = n.val; omega
  | ⟨1, _⟩ =>
    show win0_2.index t (1 : Fin 2) * 256 + 1 * d.val = _
    show _ = (256 * t.val + d.val) % 2816; omega
theorem emb3 (t : Fin cfg0.N) (n : Fin 2064) (d : Fin 256) : ((cfg0.win 3).blk t).view.emb (ix2 n d) = ix2 n (Fin.ofNat 2816 (256 * t.val + d)) := by
  obtain ⟨e0, e1⟩ := idx3 t
  have ht : t.val < 11 := t.isLt
  funext a; apply Fin.ext
  match a with
  | ⟨0, _⟩ =>
    show win0_3.index t (0 : Fin 2) * 2064 + 1 * n.val = _
    show _ = n.val; omega
  | ⟨1, _⟩ =>
    show win0_3.index t (1 : Fin 2) * 256 + 1 * d.val = _
    show _ = (256 * t.val + d.val) % 2816; omega
theorem emb4 (t : Fin cfg0.N) (n : Fin 256) (d : Fin 1024) : ((cfg0.win 4).blk t).view.emb (ix2 n d) = ix2 (Fin.ofNat 2816 (256 * t.val + n)) d := by
  obtain ⟨e0, e1⟩ := idx4 t
  have ht : t.val < 11 := t.isLt
  funext a; apply Fin.ext
  match a with
  | ⟨0, _⟩ =>
    show win0_4.index t (0 : Fin 2) * 256 + 1 * n.val = _
    show _ = (256 * t.val + n.val) % 2816; omega
  | ⟨1, _⟩ =>
    show win0_4.index t (1 : Fin 2) * 1024 + 1 * d.val = _
    show _ = d.val; omega
theorem emb5 (t : Fin cfg0.N) (n : Fin 256) (d : Fin 1024) : ((cfg0.win 5).blk t).view.emb (ix2 n d) = ix2 (Fin.ofNat 2816 (256 * t.val + n)) d := by
  obtain ⟨e0, e1⟩ := idx5 t
  have ht : t.val < 11 := t.isLt
  funext a; apply Fin.ext
  match a with
  | ⟨0, _⟩ =>
    show win0_5.index t (0 : Fin 2) * 256 + 1 * n.val = _
    show _ = (256 * t.val + n.val) % 2816; omega
  | ⟨1, _⟩ =>
    show win0_5.index t (1 : Fin 2) * 1024 + 1 * d.val = _
    show _ = d.val; omega
theorem emb6 (t : Fin cfg0.N) (n : Fin 256) (d : Fin 1024) : ((cfg0.win 6).blk t).view.emb (ix2 n d) = ix2 (Fin.ofNat 2816 (256 * t.val + n)) d := by
  obtain ⟨e0, e1⟩ := idx6 t
  have ht : t.val < 11 := t.isLt
  funext a; apply Fin.ext
  match a with
  | ⟨0, _⟩ =>
    show win0_6.index t (0 : Fin 2) * 256 + 1 * n.val = _
    show _ = (256 * t.val + n.val) % 2816; omega
  | ⟨1, _⟩ =>
    show win0_6.index t (1 : Fin 2) * 1024 + 1 * d.val = _
    show _ = d.val; omega
theorem emb7 (t : Fin cfg0.N) (n : Fin 2064) (d : Fin 1024) : ((cfg0.win 7).blk t).view.emb (ix2 n d) = ix2 n d := by
  obtain ⟨e0, e1⟩ := idx7 t
  have ht : t.val < 11 := t.isLt
  funext a; apply Fin.ext
  match a with
  | ⟨0, _⟩ =>
    show win0_7.index t (0 : Fin 2) * 2064 + 1 * n.val = _
    show _ = n.val; omega
  | ⟨1, _⟩ =>
    show win0_7.index t (1 : Fin 2) * 1024 + 1 * d.val = _
    show _ = d.val; omega
theorem emb8 (t : Fin cfg0.N) (n : Fin 256) (d : Fin 1024) : ((cfg0.win 8).blk t).view.emb (ix2 n d) = ix2 (Fin.ofNat 2816 (256 * t.val + n)) d := by
  obtain ⟨e0, e1⟩ := idx8 t
  have ht : t.val < 11 := t.isLt
  funext a; apply Fin.ext
  match a with
  | ⟨0, _⟩ =>
    show win0_8.index t (0 : Fin 2) * 256 + 1 * n.val = _
    show _ = (256 * t.val + n.val) % 2816; omega
  | ⟨1, _⟩ =>
    show win0_8.index t (1 : Fin 2) * 1024 + 1 * d.val = _
    show _ = d.val; omega
theorem emb9 (t : Fin cfg0.N) (n : Fin 256) (d : Fin 1024) : ((cfg0.win 9).blk t).view.emb (ix2 n d) = ix2 (Fin.ofNat 2816 (256 * t.val + n)) d := by
  obtain ⟨e0, e1⟩ := idx9 t
  have ht : t.val < 11 := t.isLt
  funext a; apply Fin.ext
  match a with
  | ⟨0, _⟩ =>
    show win0_9.index t (0 : Fin 2) * 256 + 1 * n.val = _
    show _ = (256 * t.val + n.val) % 2816; omega
  | ⟨1, _⟩ =>
    show win0_9.index t (1 : Fin 2) * 1024 + 1 * d.val = _
    show _ = d.val; omega
theorem emb10 (t : Fin cfg0.N) (n : Fin 256) (d : Fin 1024) : ((cfg0.win 10).blk t).view.emb (ix2 n d) = ix2 (Fin.ofNat 2816 (256 * t.val + n)) d := by
  obtain ⟨e0, e1⟩ := idx10 t
  have ht : t.val < 11 := t.isLt
  funext a; apply Fin.ext
  match a with
  | ⟨0, _⟩ =>
    show win0_10.index t (0 : Fin 2) * 256 + 1 * n.val = _
    show _ = (256 * t.val + n.val) % 2816; omega
  | ⟨1, _⟩ =>
    show win0_10.index t (1 : Fin 2) * 1024 + 1 * d.val = _
    show _ = d.val; omega

/-- The staged blocks of a grid point hold what the backward pass is given. -/
theorem staged (c : Dev nD) (t : Fin cfg0.N) :
    Blk (ba m c) t.val (iblk m c 0 t) (iblk m c 1 t) (iblk m c 2 t) (iblk m c 3 t) (iblk m c 4 t) (iblk m c 5 t) (iblk m c 6 t) where
  hy n d := by
    show V m c main_v8 (((cfg0.win 0).blk t).view.emb (ix2 n d)) = _
    rw [emb0, host_y]
    show m (c, main_arg4) (ix2 n d) = m (c, main_arg4) (ix2 (Fin.ofNat 2064 n) (Fin.ofNat 1024 d))
    rw [ofNat_val, ofNat_val]
  hx n d := by
    show V m c main_v9 (((cfg0.win 1).blk t).view.emb (ix2 n d)) = _
    rw [emb1, host_x]
    show m (c, main_arg0) (ix2 n d) = m (c, main_arg0) (ix2 (Fin.ofNat 2064 n) (Fin.ofNat 1024 d))
    rw [ofNat_val, ofNat_val]
  ht n e := by
    show V m c main_v1 (((cfg0.win 2).blk t).view.emb (ix2 n e)) = _
    rw [emb2, host_t]
    refine (projected _ _ _ _).trans ?_
    exact t_of _ _ _ _ _ n _
  hp n e := by
    show V m c main_v3 (((cfg0.win 3).blk t).view.emb (ix2 n e)) = _
    rw [emb3, host_p]
    refine (projected _ _ _ _).trans ?_
    exact p_of _ _ _ _ _ n _
  hg e d := by
    show V m c main_v5 (((cfg0.win 4).blk t).view.emb (ix2 e d)) = _
    rw [emb4, host_g]
    refine (turned _ _ _).trans ?_
    show m (c, main_arg1) (ix2 d _) = m (c, main_arg1) (ix2 (Fin.ofNat 1024 d) _)
    rw [ofNat_val]
  hu e d := by
    show V m c main_v7 (((cfg0.win 5).blk t).view.emb (ix2 e d)) = _
    rw [emb5, host_u]
    refine (turned _ _ _).trans ?_
    show m (c, main_arg2) (ix2 d _) = m (c, main_arg2) (ix2 (Fin.ofNat 1024 d) _)
    rw [ofNat_val]
  hw e d := by
    show V m c main_v10 (((cfg0.win 6).blk t).view.emb (ix2 e d)) = _
    rw [emb6, host_w]
    show m (c, main_arg3) (ix2 _ d) = m (c, main_arg3) (ix2 _ (Fin.ofNat 1024 d))
    rw [ofNat_val]

/-- The points' cases: the first point, or a later one. -/
theorem cases_first {t : Fin cfg0.N} (h : t.val = 0) : t.val % 11 = 0 ∧ ¬1 ≤ t.val := by omega
theorem cases_later {t : Fin cfg0.N} (h : ¬t.val = 0) : ¬t.val % 11 = 0 ∧ 1 ≤ t.val := by
  have ht : t.val < 11 := t.isLt
  omega

/-- Row `f` of a weight gradient: point `f / 256`, row `f % 256` of its block. -/
def pt (f : Fin 2816) : Fin cfg0.N := ⟨f.val / 256, by show _ < 11; omega⟩
def row (f : Fin 2816) : Fin 256 := ⟨f.val % 256, by omega⟩
theorem pt_row (f : Fin 2816) : 256 * (pt f).val + (row f).val = f.val := by show 256 * (f.val / 256) + f.val % 256 = _; omega

/-- The array dwg. -/
theorem dwg_array (c : Dev nD) (f : Fin 2816) (d : Fin 1024) : (dats m 0 c).arrAt 8 cfg0.N (ix2 f d) = Back.over (ba m c).dgate (ba m c).x f d := by
  have key : (dats m 0 c).arrAt 8 cfg0.N (((cfg0.win 8).blk (pt f)).view.emb (ix2 (row f) d)) = Back.over (ba m c).dgate (ba m c).x (256 * (pt f).val + (row f).val) d := by
    by_cases h : (pt f).val = 0
    · obtain ⟨p, q⟩ := cases_first h
      refine (congrFun ((Value.blocks8 m c (pt f) (flush0_8 _)).trans (Value.flushed8_A m c (pt f) p q p q p q)) (ix2 (row f) d)).trans ?_
      refine (congrFun (View.read_writes_junk_eq_canon _ _) _).trans ?_
      exact dwg_first c _ _ _ _ _ _ _ _ _ _ _ _ _ _ _ _ _ _ _ _ _ _ _ _ _ _ _ _ _ _ _ _ _ _ _ _ (staged m c (pt f)) _ _ _ _ _ _ (row f) d
    · obtain ⟨p, q⟩ := cases_later h
      refine (congrFun ((Value.blocks8 m c (pt f) (flush0_8 _)).trans (Value.flushed8_B m c (pt f) p q p q p q)) (ix2 (row f) d)).trans ?_
      refine (congrFun (View.read_writes_junk_eq_canon _ _) _).trans ?_
      exact dwg_later c _ _ _ _ _ _ _ _ _ _ _ _ _ _ _ _ _ _ _ _ _ _ _ _ _ _ _ _ _ _ _ _ _ _ _ _ (staged m c (pt f)) _ _ _ _ _ _ _ (row f) d
  rw [emb8, pt_row, ofNat_val] at key
  exact key

/-- The array dwu. -/
theorem dwu_array (c : Dev nD) (f : Fin 2816) (d : Fin 1024) : (dats m 0 c).arrAt 9 cfg0.N (ix2 f d) = Back.over (ba m c).dup (ba m c).x f d := by
  have key : (dats m 0 c).arrAt 9 cfg0.N (((cfg0.win 9).blk (pt f)).view.emb (ix2 (row f) d)) = Back.over (ba m c).dup (ba m c).x (256 * (pt f).val + (row f).val) d := by
    by_cases h : (pt f).val = 0
    · obtain ⟨p, q⟩ := cases_first h
      refine (congrFun ((Value.blocks9 m c (pt f) (flush0_9 _)).trans (Value.flushed9_A m c (pt f) p q p q p q)) (ix2 (row f) d)).trans ?_
      refine (congrFun (View.read_writes_junk_eq_canon _ _) _).trans ?_
      exact dwu_first c _ _ _ _ _ _ _ _ _ _ _ _ _ _ _ _ _ _ _ _ _ _ _ _ _ _ _ _ _ _ _ _ _ _ _ _ (staged m c (pt f)) _ _ _ _ _ _ (row f) d
    · obtain ⟨p, q⟩ := cases_later h
      refine (congrFun ((Value.blocks9 m c (pt f) (flush0_9 _)).trans (Value.flushed9_B m c (pt f) p q p q p q)) (ix2 (row f) d)).trans ?_
      refine (congrFun (View.read_writes_junk_eq_canon _ _) _).trans ?_
      exact dwu_later c _ _ _ _ _ _ _ _ _ _ _ _ _ _ _ _ _ _ _ _ _ _ _ _ _ _ _ _ _ _ _ _ _ _ _ _ (staged m c (pt f)) _ _ _ _ _ _ _ (row f) d
  rw [emb9, pt_row, ofNat_val] at key
  exact key

/-- The array dwd. -/
theorem dwd_array (c : Dev nD) (f : Fin 2816) (d : Fin 1024) : (dats m 0 c).arrAt 10 cfg0.N (ix2 f d) = Back.over (ba m c).act (ba m c).y f d := by
  have key : (dats m 0 c).arrAt 10 cfg0.N (((cfg0.win 10).blk (pt f)).view.emb (ix2 (row f) d)) = Back.over (ba m c).act (ba m c).y (256 * (pt f).val + (row f).val) d := by
    by_cases h : (pt f).val = 0
    · obtain ⟨p, q⟩ := cases_first h
      refine (congrFun ((Value.blocks10 m c (pt f) (flush0_10 _)).trans (Value.flushed10_A m c (pt f) p q p q p q)) (ix2 (row f) d)).trans ?_
      refine (congrFun (View.read_writes_junk_eq_canon _ _) _).trans ?_
      exact dwd_first c _ _ _ _ _ _ _ _ _ _ _ _ _ _ _ _ _ _ _ _ _ _ _ _ _ _ _ _ _ _ _ _ _ _ _ _ (staged m c (pt f)) _ _ _ _ _ _ (row f) d
    · obtain ⟨p, q⟩ := cases_later h
      refine (congrFun ((Value.blocks10 m c (pt f) (flush0_10 _)).trans (Value.flushed10_B m c (pt f) p q p q p q)) (ix2 (row f) d)).trans ?_
      refine (congrFun (View.read_writes_junk_eq_canon _ _) _).trans ?_
      exact dwd_later c _ _ _ _ _ _ _ _ _ _ _ _ _ _ _ _ _ _ _ _ _ _ _ _ _ _ _ _ _ _ _ _ _ _ _ _ (staged m c (pt f)) _ _ _ _ _ _ _ (row f) d
  rw [emb10, pt_row, ofNat_val] at key
  exact key

theorem da_at_first (c : Dev nD) (t : Fin cfg0.N) (h : t.val = 0) (n : Fin 2064) (d : Fin 1024) :
    (outsAt0 m c t.val t.isLt).1 (ix2 n d) = (ba m c).part t.val n d := by
  obtain ⟨p, q⟩ := cases_first h
  rw [outsAt0_A m c t p q p q p q]
  dsimp only [out0_A_7]
  refine (congrFun (View.read_writes_junk_eq_canon _ _) _).trans ?_
  exact da_first c _ _ _ _ _ _ _ _ _ _ _ _ _ _ _ _ _ _ _ _ _ _ _ _ _ _ _ _ _ _ _ _ _ _ _ _ (staged m c t) _ _ _ _ _ _ n d

theorem da_at_later (c : Dev nD) (t : Fin cfg0.N) (h : ¬t.val = 0) {f : ℕ → ℕ → EReal}
    (hf : ∀ (n : Fin 2064) (d : Fin 1024), (outsAt0 m c (t.val - 1) (Nat.lt_of_le_of_lt (Nat.sub_le _ _) t.isLt)).1 (ix2 n d) = f n d)
    (n : Fin 2064) (d : Fin 1024) :
    (outsAt0 m c t.val t.isLt).1 (ix2 n d) = f n d + (ba m c).part t.val n d := by
  obtain ⟨p, q⟩ := cases_later h
  rw [outsAt0_B m c t p q p q p q]
  dsimp only [out0_B_7]
  refine (congrFun (View.read_writes_junk_eq_canon _ _) _).trans ?_
  exact da_later c _ _ _ _ _ _ _ _ _ _ _ _ _ _ _ _ _ _ _ _ _ _ _ _ _ _ _ _ _ _ _ _ _ _ _ _ (staged m c t) _ _ _ _ _ _ _ hf n d

/-- What the rows' gradient's block holds after a point: the shares of the points so far. -/
theorem da_so_far (c : Dev nD) (t : ℕ) : ∀ (ht : t < cfg0.N) (n : Fin 2064) (d : Fin 1024),
    (outsAt0 m c t ht).1 (ix2 n d) = ∑ j ∈ range (t + 1), (ba m c).part j n d := by
  induction t with
  | zero =>
    intro ht n d
    rw [Finset.sum_range_one]
    exact da_at_first m c ⟨0, ht⟩ rfl n d
  | succ t ih =>
    intro ht n d
    rw [Finset.sum_range_succ]
    exact da_at_later m c ⟨t + 1, ht⟩ (Nat.succ_ne_zero t)
      (f := fun n d => ∑ j ∈ range (t + 1), (ba m c).part j n d) (ih (Nat.lt_of_succ_lt ht)) n d

/-- The last grid point. -/
def last : Fin cfg0.N := ⟨10, by show 10 < 11; omega⟩

/-- The array of the rows' gradient. -/
theorem da_array (c : Dev nD) (n : Fin 2064) (d : Fin 1024) : (dats m 0 c).arrAt 7 cfg0.N (ix2 n d) = (ba m c).dx n d := by
  have key := congrFun (((dats m 0 c).read_blk_arrAt_eq_flushed 7
    (fun t t' h h' hne => absurd (Fin.ext (by
      have a := (flush0_7 t).mp h
      have b := (flush0_7 t').mp h'
      have ht : t.val < 11 := t.isLt
      have ht' : t'.val < 11 := t'.isLt
      omega)) hne) cfg0.N last last.isLt ((flush0_7 last).mpr rfl)).trans (Value.flushed7 m c last)) (ix2 n d)
  refine (congrArg ((dats m 0 c).arrAt 7 cfg0.N) (emb7 last n d)).symm.trans (Eq.trans key ?_)
  rw [Back.dx_eq]
  exact da_so_far m c 10 _ n d

end Cert.FFN.Bwd

end
-- ==== Proof.FfnBwdRef.lean ====
/- The backward reference's four results, entry by entry, and their equality with the kernel's on arguments of real numbers. -/
module

public import proofs.«01_k».proof.Pre_finite2
public import proofs.«01_k».proof.Proof.Finite
public import proofs.«01_k».proof.Proof.FfnBwdArrays
public import proofs.«01_k».proof.Proof.Gen.Pre_finite2
public import proofs.«01_k».proof.Proof.Gen.Reference2Ideal.Read

@[expose] public section

set_option maxRecDepth 16384

noncomputable section

namespace Cert.FFN.Bwd

open Finset Idealize.ShloMosaic Idealize.ShloMosaic.TcCoe
open Cert.NA (AllReal real_of_below)

/-! The derivative of the gated projection, written the kernel's way and the reference's. -/

theorem slope (D U : ℝ) (g : EReal) :
    (D : EReal) * U * (Ideal.logistic g * (1 + g * (1 - Ideal.logistic g)))
      = (D : EReal) * U * Ideal.logistic g + g * ((D : EReal) * U) * (Ideal.logistic g * (1 - Ideal.logistic g)) := by
  have one : (1 : EReal) = ((1 : ℝ) : EReal) := rfl
  have sub : (1 : EReal) - 1 = 0 := by rw [one, ← EReal.coe_sub, sub_self, EReal.coe_zero]
  induction g using EReal.rec with
  | bot => simp
  | top => simp [sub]
  | coe g =>
    rw [Ideal.logistic_coe, one]
    simp only [← EReal.coe_mul, ← EReal.coe_add, ← EReal.coe_sub]
    exact congrArg _ (by ring)

/-- A sum of products of reals is a real. -/
theorem real_dot {n : ℕ} {a b : Fin n → EReal} (ha : ∀ k, a k = ((a k).toReal : EReal)) (hb : ∀ k, b k = ((b k).toReal : EReal)) :
    ∃ r : ℝ, ∑ k, a k * b k = (r : EReal) :=
  ⟨∑ k, (a k).toReal * (b k).toReal, by
    rw [← Cert.NA.coe_sum]
    exact Finset.sum_congr rfl fun k _ => by rw [EReal.coe_mul, ← ha k, ← hb k]⟩

section Precondition

open Cert.Pre_finite2

theorem allReal_of_finite2 (A0 : FVec Ideal S2064x1024 .f32) (A1 A2 : FVec Ideal S1024x2816 .f32) (A3 : FVec Ideal S2816x1024 .f32)
    (A4 : FVec Ideal S2064x1024 .f32) (e : Cert.Pre_finite2.fn (F := Ideal) A0 A1 A2 A3 A4 = fun _ => 1#1) :
    AllReal A0 ∧ AllReal A2 ∧ AllReal A3 ∧ AllReal A4 := by
  have e0 := congrFun e (fun i => i.elim0)
  obtain ⟨e012, e3⟩ := IntOp.andi_eq_one.1 e0
  obtain ⟨e01, e2⟩ := IntOp.andi_eq_one.1 e012
  obtain ⟨e0, e1⟩ := IntOp.andi_eq_one.1 e01
  exact ⟨fun i => real_of_below _ (Host.reduce_andi_all _ _ _ _ _ e0 i), fun i => real_of_below _ (Host.reduce_andi_all _ _ _ _ _ e1 i),
    fun i => real_of_below _ (Host.reduce_andi_all _ _ _ _ _ e2 i), fun i => real_of_below _ (Host.reduce_andi_all _ _ _ _ _ e3 i)⟩

end Precondition

open Cert.Reference2Ideal Cert.Reference2Ideal.Gen Cert.Reference2Ideal.Read

section Ref

variable (x0 : Vec Ideal S2064x1024 .f32) (x1 x2 : Vec Ideal S1024x2816 .f32) (x3 : Vec Ideal S2816x1024 .f32)
  (x4 : Vec Ideal S2064x1024 .f32)

theorem ref_gt (n : Fin 2064) (f : Fin 2816) : val_main_v0 (F := Ideal) x0 x1 (ix2 n f) = (backOf x0 x1 x2 x3 x4).gt n f := by
  pointwise [val_main_v0]
  simp only [backOf, ofNat_val]

theorem ref_up (n : Fin 2064) (f : Fin 2816) : val_main_v2 (F := Ideal) x0 x2 (ix2 n f) = (backOf x0 x1 x2 x3 x4).up n f := by
  pointwise [val_main_v2]
  simp only [backOf, ofNat_val]

theorem ref_sg (n : Fin 2064) (f : Fin 2816) : val_main_v1_2 (F := Ideal) x0 x1 (ix2 n f) = (backOf x0 x1 x2 x3 x4).sg n f := by
  pointwise [val_main_v1_2, val_main_call0_v4, val_main_call0_v3, val_main_call0_v2, val_main_call0_v1, val_main_call0_v0,
    val_main_call0_cst, val_main_call0_cst_0]
  simp only [ref_gt x0 x1 x2 x3 x4, Back.sg, Ideal.logistic, one_bits]

theorem ref_dact (n : Fin 2064) (f : Fin 2816) : val_main_v7 (F := Ideal) x3 x4 (ix2 n f) = (backOf x0 x1 x2 x3 x4).dact n f := by
  pointwise [val_main_v7]
  simp only [Back.dact, backOf, ofNat_val]

theorem ref_act (n : Fin 2064) (f : Fin 2816) : val_main_v3 (F := Ideal) x0 x1 x2 (ix2 n f) = (backOf x0 x1 x2 x3 x4).act n f := by
  pointwise [val_main_v3, val_main_v1_0]
  simp only [ref_gt x0 x1 x2 x3 x4, ref_sg x0 x1 x2 x3 x4, ref_up x0 x1 x2 x3 x4, Back.act]

theorem ref_dup (n : Fin 2064) (f : Fin 2816) : val_main_v8 (F := Ideal) x0 x1 x3 x4 (ix2 n f) = (backOf x0 x1 x2 x3 x4).dup n f := by
  pointwise [val_main_v8, val_main_v1_0]
  simp only [ref_gt x0 x1 x2 x3 x4, ref_sg x0 x1 x2 x3 x4, ref_dact x0 x1 x2 x3 x4, Back.dup]
  exact mul_comm _ _

variable {x0 x1 x2 x3 x4} (r0 : AllReal x0) (r2 : AllReal x2) (r3 : AllReal x3) (r4 : AllReal x4)

include r0 r2 r3 r4

theorem ref_dgate (n : Fin 2064) (f : Fin 2816) :
    val_main_v13 (F := Ideal) x0 x1 x2 x3 x4 (ix2 n f) = (backOf x0 x1 x2 x3 x4).dgate n f := by
  pointwise [val_main_v13, val_main_call1_v1, val_main_call1_v2, val_main_call1_v0, val_main_v9, val_main_v1_1, val_main_call0_v7,
    val_main_call0_v6, val_main_call0_cst_1]
  simp only [ref_gt x0 x1 x2 x3 x4, ref_sg x0 x1 x2 x3 x4, ref_dact x0 x1 x2 x3 x4, ref_up x0 x1 x2 x3 x4, one_bits, Back.dgate]
  obtain ⟨D, hD⟩ : ∃ r : ℝ, (backOf x0 x1 x2 x3 x4).dact n f = (r : EReal) := real_dot (fun k => r4 _) (fun k => r3 _)
  obtain ⟨U, hU⟩ : ∃ r : ℝ, (backOf x0 x1 x2 x3 x4).up n f = (r : EReal) := real_dot (fun k => r0 _) (fun k => r2 _)
  rw [hD, hU]
  exact (slope D U _).symm

theorem ref_dx (n : Fin 2064) (d : Fin 1024) :
    val_main_v17 (F := Ideal) x0 x1 x2 x3 x4 (ix2 n d) = (backOf x0 x1 x2 x3 x4).dx n d := by
  pointwise [val_main_v17, val_main_v16, val_main_v12]
  simp only [ref_dgate r0 r2 r3 r4, ref_dup x0 x1 x2 x3 x4, Back.dx]
  rw [Finset.sum_range, Finset.sum_range]
  refine (add_comm _ _).trans ?_
  simp only [backOf, ofNat_val]

theorem ref_dwg (f : Fin 2816) (d : Fin 1024) :
    val_main_v19 (F := Ideal) x0 x1 x2 x3 x4 (ix2 f d) = Back.over (backOf x0 x1 x2 x3 x4).dgate (backOf x0 x1 x2 x3 x4).x f d := by
  pointwise [val_main_v19, val_main_v18, val_main_v15, val_main_v14]
  simp only [ref_dgate r0 r2 r3 r4, Back.over]
  rw [Finset.sum_range]
  simp only [backOf, ofNat_val]

omit r0 r2 r3 r4

theorem ref_dwu (f : Fin 2816) (d : Fin 1024) :
    val_main_v21 (F := Ideal) x0 x1 x3 x4 (ix2 f d) = Back.over (backOf x0 x1 x2 x3 x4).dup (backOf x0 x1 x2 x3 x4).x f d := by
  pointwise [val_main_v21, val_main_v20, val_main_v11, val_main_v10]
  simp only [ref_dup x0 x1 x2 x3 x4, Back.over]
  rw [Finset.sum_range]
  simp only [backOf, ofNat_val]

theorem ref_dwd (f : Fin 2816) (d : Fin 1024) :
    val_main_v22 (F := Ideal) x0 x1 x2 x4 (ix2 f d) = Back.over (backOf x0 x1 x2 x3 x4).act (backOf x0 x1 x2 x3 x4).y f d := by
  pointwise [val_main_v22, val_main_v6, val_main_v5]
  simp only [ref_act x0 x1 x2 x3 x4, Back.over]
  rw [Finset.sum_range]
  refine Finset.sum_congr rfl fun n _ => (mul_comm _ _).trans ?_
  simp only [backOf, ofNat_val]

end Ref

open Cert.Kernel2Ideal.Gen

variable (m : (ℓ : Loc Cert.Kernel2Ideal.nD Cert.Kernel2Ideal.τ Cert.Kernel2Ideal.sig) → Buf (Elt Ideal) ℓ) (c : Dev Cert.Kernel2Ideal.nD)

theorem dx_eq (r0 : AllReal (m (c, Cert.Kernel2Ideal.main_arg0) : Vec Ideal S2064x1024 .f32))
    (r2 : AllReal (m (c, Cert.Kernel2Ideal.main_arg2) : Vec Ideal S1024x2816 .f32))
    (r3 : AllReal (m (c, Cert.Kernel2Ideal.main_arg3) : Vec Ideal S2816x1024 .f32))
    (r4 : AllReal (m (c, Cert.Kernel2Ideal.main_arg4) : Vec Ideal S2064x1024 .f32)) :
    (dats m 0 c).arrAt 7 Cert.Kernel2Ideal.cfg0.N
    = val_main_v17 (F := Ideal) (m (c, Cert.Kernel2Ideal.main_arg0)) (m (c, Cert.Kernel2Ideal.main_arg1))
        (m (c, Cert.Kernel2Ideal.main_arg2)) (m (c, Cert.Kernel2Ideal.main_arg3)) (m (c, Cert.Kernel2Ideal.main_arg4)) :=
  ext2 (e := .f32) fun n d => (da_array m c n d).trans (ref_dx r0 r2 r3 r4 n d).symm

theorem dwg_eq (r0 : AllReal (m (c, Cert.Kernel2Ideal.main_arg0) : Vec Ideal S2064x1024 .f32))
    (r2 : AllReal (m (c, Cert.Kernel2Ideal.main_arg2) : Vec Ideal S1024x2816 .f32))
    (r3 : AllReal (m (c, Cert.Kernel2Ideal.main_arg3) : Vec Ideal S2816x1024 .f32))
    (r4 : AllReal (m (c, Cert.Kernel2Ideal.main_arg4) : Vec Ideal S2064x1024 .f32)) :
    (dats m 0 c).arrAt 8 Cert.Kernel2Ideal.cfg0.N
    = val_main_v19 (F := Ideal) (m (c, Cert.Kernel2Ideal.main_arg0)) (m (c, Cert.Kernel2Ideal.main_arg1))
        (m (c, Cert.Kernel2Ideal.main_arg2)) (m (c, Cert.Kernel2Ideal.main_arg3)) (m (c, Cert.Kernel2Ideal.main_arg4)) :=
  ext2 (e := .bf16) fun f d => (dwg_array m c f d).trans (ref_dwg r0 r2 r3 r4 f d).symm

theorem dwu_eq :
    (dats m 0 c).arrAt 9 Cert.Kernel2Ideal.cfg0.N
    = val_main_v21 (F := Ideal) (m (c, Cert.Kernel2Ideal.main_arg0)) (m (c, Cert.Kernel2Ideal.main_arg1))
        (m (c, Cert.Kernel2Ideal.main_arg3)) (m (c, Cert.Kernel2Ideal.main_arg4)) :=
  ext2 (e := .bf16) fun f d => (dwu_array m c f d).trans (ref_dwu f d).symm

theorem dwd_eq :
    (dats m 0 c).arrAt 10 Cert.Kernel2Ideal.cfg0.N
    = val_main_v22 (F := Ideal) (m (c, Cert.Kernel2Ideal.main_arg0)) (m (c, Cert.Kernel2Ideal.main_arg1))
        (m (c, Cert.Kernel2Ideal.main_arg2)) (m (c, Cert.Kernel2Ideal.main_arg4)) :=
  ext2 (e := .bf16) fun f d => (dwd_array m c f d).trans (ref_dwd f d).symm

end Cert.FFN.Bwd

end
-- ==== Proof.Proj.lean ====
/- The mixer's input projection by ordinary indices: the rows, the weights, and their product. -/
module

public import proofs.«01_k».proof.Proof.Ffn
public import Idealize.ShloMosaic.Lib.Pipeline.Value

@[expose] public section

set_option maxRecDepth 16384

noncomputable section

namespace Cert.Proj

open Finset Idealize.ShloMosaic Cert.FFN

/-- The rows and the weights. -/
structure Mix where
  a : ℕ → ℕ → EReal
  w : ℕ → ℕ → EReal

/-- Their product. -/
def Mix.p (A : Mix) (n f : ℕ) : EReal := ∑ d : Fin 1024, A.a n d * A.w d f

/-- The rows and the weights of the argument arrays. -/
def mixOf (A0 : Vec Ideal ⟨2, ![2064, 1024]⟩ .f32) (A1 : Vec Ideal ⟨2, ![1024, 2048]⟩ .f32) : Mix where
  a n d := A0 (ix2 (Fin.ofNat 2064 n) (Fin.ofNat 1024 d))
  w d f := A1 (ix2 (Fin.ofNat 1024 d) (Fin.ofNat 2048 f))

/-- A matrix of 2048 columns cut into eight of 256: column `e` of part `s` is column `256 s + e`. -/
theorem shards (W : Vec Ideal ⟨2, ![1024, 2048]⟩ .f32)
    (h1 : Shape.ShapeCasts ⟨2, ![1024, 2048]⟩ ⟨3, ![1024, 8, 256]⟩)
    (h2 : Shape.Transposes ⟨3, ![1024, 8, 256]⟩ [1, 0, 2] ⟨3, ![8, 1024, 256]⟩) (s : Fin 8) (d : Fin 1024) (e : Fin 256) :
    transpose ⟨3, ![8, 1024, 256]⟩ [1, 0, 2] (shapeCast ⟨3, ![1024, 8, 256]⟩ W h1) h2 (ix3 s d e)
      = W (ix2 d (Fin.ofNat 2048 (256 * s.val + e.val))) := by
  refine (transpose_apply _ _ _ (ix3 s d e) (ix3 d s e) fun b => ?_).trans ?_
  · match b with
    | 0 => rfl
    | 1 => rfl
    | 2 => rfl
  · refine shapeCast_apply _ _ (ix3 d s e) _ ?_
    rw [Shape.rowMajor_val_two, Shape.rowMajor_val_three]
    show d.val * 2048 + (256 * s.val + e.val) % 2048 = (d.val * 8 + s.val) * 256 + e.val
    omega

/-- Rows read from a matrix. -/
theorem rows {n0 n1 s0 : ℕ} {e : EltTy} {x : Vec Ideal ⟨2, ![n0, n1]⟩ e} {f : ℕ → ℕ → Elt Ideal e}
    (hx : ∀ i j, x (ix2 i j) = f i j) (o : ℕ) (inb) (i : Fin s0) (j : Fin n1) :
    View.ld x (Rect.unit (s := ⟨2, ![n0, n1]⟩) ![o, 0] ![s0, n1] inb) (ix2 i j) = f (o + i) j := by
  have h1 : o + s0 ≤ n0 := inb 0
  refine Eq.trans (congrArg x ?_) (hx ⟨o + i, by omega⟩ j)
  funext a
  refine Fin.ext ?_
  match a with
  | 0 => simp [LoadRect.idx, Rect.toLoadRect, Rect.unit, ix2]; rfl
  | 1 => simp [LoadRect.idx, Rect.toLoadRect, Rect.unit, ix2]; rfl

/-- A whole stack of matrices read. -/
theorem whole {n0 n1 n2 : ℕ} {e : EltTy} (x : Vec Ideal ⟨3, ![n0, n1, n2]⟩ e) (inb) (g : Fin n0) (i : Fin n1) (j : Fin n2) :
    View.ld x (Rect.unit (s := ⟨3, ![n0, n1, n2]⟩) ![0, 0, 0] ![n0, n1, n2] inb) (ix3 g i j) = x (ix3 g i j) := by
  refine congrArg x ?_
  funext a
  refine Fin.ext ?_
  match a with
  | 0 => simp [LoadRect.idx, Rect.toLoadRect, Rect.unit, ix3]
  | 1 => simp [LoadRect.idx, Rect.toLoadRect, Rect.unit, ix3]
  | 2 => simp [LoadRect.idx, Rect.toLoadRect, Rect.unit, ix3]

end Cert.Proj

end
-- ==== Proof.ProjBwd.lean ====
/- The backward kernel of the mixer's input projection at one grid point: what its stores leave is the gradient of one
   shard of 256 columns of the weights and that shard's share of the rows' gradient. -/
module

public import proofs.«01_k».proof.Proof.Proj
public import proofs.«01_k».proof.Proof.FfnBwd
public import proofs.«01_k».proof.Proof.Pieces
public import proofs.«01_k».proof.Proof.Gen.Kernel4Ideal.Frame

@[expose] public section

set_option maxRecDepth 16384

noncomputable section

namespace Cert.Proj

open Finset Idealize.ShloMosaic Cert.FFN

/-- What the backward pass is given: the product's gradient `p`, the rows and the weights. -/
structure Cot where
  p : ℕ → ℕ → EReal
  a : ℕ → ℕ → EReal
  w : ℕ → ℕ → EReal

namespace Cot

variable (A : Cot)

/-- The weights' gradient; a shard's share of the rows' gradient; the rows' gradient. -/
def dw (d f : ℕ) : EReal := Back.over A.a A.p d f
def part (j n d : ℕ) : EReal := ∑ e : Fin 256, A.p n (256 * j + e) * A.w d (256 * j + e)
def da (n d : ℕ) : EReal := ∑ f ∈ range 2048, A.p n f * A.w d f

theorem da_eq (n d : ℕ) : A.da n d = ∑ j ∈ range 8, A.part j n d := sum_blocks (fun f => A.p n f * A.w d f) 8 256

end Cot

/-- Rows of a matrix read after a store of the whole matrix. -/
theorem held {Val : EltTy → Type} [∀ e, Nonempty (Val e)] {e : EltTy} {n0 n1 s0 : ℕ} {sig : RefSig} {κ : Kind} {sp : Space}
    (v : View sig κ sp ⟨2, ![n0, n1]⟩ e) (L : List (View.Piece Val ⟨2, ![n0, n1]⟩ e)) (inb) {w : Shape.Idx ⟨2, ![n0, n1]⟩ → Val e} {f : ℕ → ℕ → Val e}
    (hw : ∀ (i : Fin n0) (j : Fin n1), w (ix2 i j) = f i j) (o : ℕ) (inb') (i : Fin s0) (j : Fin n1) :
    v.readCov (⟨Rect.unit ![0, 0] ![n0, n1] inb, w⟩ :: L)
      (Rect.unit (s := ⟨2, ![n0, n1]⟩) ![o, 0] ![s0, n1] inb').toLoadRect (ix2 i j) = f (o + i) j := by
  have h1 : o + s0 ≤ n0 := inb' 0
  rw [View.readCov_eq_canon']
  refine Eq.trans (congrArg (View.canon _) ?_) ((hit 0 inb w L (⟨o + i, by omega⟩ : Fin n0) j ⟨o + i, by omega⟩ (by simp)).trans (hw _ _))
  funext a
  refine Fin.ext ?_
  match a with
  | 0 => simp [LoadRect.idx, Rect.toLoadRect, Rect.unit, ix2]; rfl
  | 1 => simp [LoadRect.idx, Rect.toLoadRect, Rect.unit, ix2]; rfl

/-- One matrix of a staged stack loaded. -/
theorem load_one {sig : RefSig} {n0 n1 n2 : ℕ} {e : EltTy} {m : Memref sig .tc .vmem ⟨3, ![n0, n1, n2]⟩ e} (h : m.IsWhole)
    {x : Vec Ideal ⟨3, ![n0, n1, n2]⟩ e} {f : ℕ → ℕ → ℕ → Elt Ideal e} (hx : ∀ g i j, x (ix3 g i j) = f g i j) (g : ℕ) (inb)
    (i : Fin n1) (j : Fin n2) :
    View.readAt (Elt Ideal) m.view (Rect.unit (s := ⟨3, ![n0, n1, n2]⟩) ![g, 0, 0] ![1, n1, n2] inb).toLoadRect (h.unread x)
      (ix3 0 i j) = f g i j := by
  have h1 : g + 1 ≤ n0 := inb 0
  refine (Memref.IsWhole.readAt_unread h x _ _).trans (Eq.trans (congrArg x ?_) (hx ⟨g, by omega⟩ i j))
  funext a
  refine Fin.ext ?_
  match a with
  | 0 => simp [LoadRect.idx, Rect.toLoadRect, Rect.unit, ix3]; rfl
  | 1 => simp [LoadRect.idx, Rect.toLoadRect, Rect.unit, ix3]; rfl
  | 2 => simp [LoadRect.idx, Rect.toLoadRect, Rect.unit, ix3]; rfl

end Cert.Proj

namespace Cert.Proj.Bwd

open Finset Idealize.ShloMosaic Cert.FFN Cert.Kernel4Ideal Cert.Kernel4Ideal.Gen

section Tile

variable {A : Cot} {o j : ℕ} {v18 : Vec Ideal S688x256 .bf16} {v19 : Vec Ideal S688x1024 .bf16} {v22 : Vec Ideal S1x1024x256 .bf16}
  (h18 : ∀ (i : Fin 688) (e : Fin 256), v18 (ix2 i e) = A.p (o + i) (256 * j + e))
  (h19 : ∀ (i : Fin 688) (d : Fin 1024), v19 (ix2 i d) = A.a (o + i) d)
  (h22 : ∀ (d : Fin 1024) (e : Fin 256), v22 (ix3 0 d e) = A.w d (256 * j + e))

include h18 h22 in
theorem da_tile0 (i : Fin 688) (d : Fin 1024) : k0_pay9 v18 v22 (ix2 i d) = A.part j (o + i) d := by
  pointwise [k0_pay9]
  simp only [h18, h22, Cot.part]

include h18 h22 in
theorem da_tile1 (i : Fin 688) (d : Fin 1024) : k0_pay12 v18 v22 (ix2 i d) = A.part j (o + i) d := by
  pointwise [k0_pay12]
  simp only [h18, h22, Cot.part]

include h18 h22 in
theorem da_tile2 (i : Fin 688) (d : Fin 1024) : k0_pay1 v18 (k0_pay16 (F := Ideal) v22) (ix2 i d) = A.part j (o + i) d := by
  pointwise [k0_pay1, k0_pay16]
  simp only [h18, h22, Cot.part]

include h18 h22 in
theorem da_more0 (v75 : Vec Ideal S688x1024 .f32) (i : Fin 688) (d : Fin 1024) :
    k0_pay11 (k0_pay9 v18 v22) v75 (ix2 i d) = v75 (ix2 i d) + A.part j (o + i) d := by
  pointwise [k0_pay11]
  rw [da_tile0 h18 h22]

include h18 h22 in
theorem da_more1 (v75 : Vec Ideal S688x1024 .f32) (i : Fin 688) (d : Fin 1024) :
    k0_pay14 v18 v22 v75 (ix2 i d) = v75 (ix2 i d) + A.part j (o + i) d := by
  pointwise [k0_pay14]
  rw [da_tile1 h18 h22]

include h18 h22 in
theorem da_more2 (v75 : Vec Ideal S688x1024 .f32) (i : Fin 688) (d : Fin 1024) :
    k0_pay3 v18 (k0_pay16 (F := Ideal) v22) v75 (ix2 i d) = v75 (ix2 i d) + A.part j (o + i) d := by
  pointwise [k0_pay3]
  rw [da_tile2 h18 h22]

include h18 h19 in
theorem dw_put (d : Fin 1024) (e : Fin 256) : k0_pay10 v18 v19 (ix2 d e) = Back.rows A.a A.p o d (256 * j + e) := by
  pointwise [k0_pay10]
  simp only [h18, h19, Back.rows]

include h18 h19 in
theorem dw_add (v41 : Vec Ideal S1024x256 .f32) (d : Fin 1024) (e : Fin 256) :
    k0_pay13 v18 v19 v41 (ix2 d e) = v41 (ix2 d e) + Back.rows A.a A.p o d (256 * j + e) := by
  pointwise [k0_pay13]
  simp only [h18, h19, Back.rows]

include h18 h19 in
theorem dw_add' (v41 : Vec Ideal S1024x256 .f32) (d : Fin 1024) (e : Fin 256) :
    k0_pay2 (k0_pay15 v18 v19) v41 (ix2 d e) = v41 (ix2 d e) + Back.rows A.a A.p o d (256 * j + e) := by
  pointwise [k0_pay2, k0_pay15]
  simp only [h18, h19, Back.rows]

end Tile

theorem dw_out (v : Vec Ideal S1024x256 .f32) (d : Fin 1024) (e : Fin 256) : k0_pay4 (F := Ideal) v (ix3 0 d e) = v (ix2 d e) := by
  pointwise [k0_pay4]

/-- The gradients of four heads as one matrix of 256 columns. -/
theorem heads {v75 v77 v79 v81 : Vec Ideal S1x2064x64 .f32} {f : ℕ → ℕ → EReal}
    (h0 : ∀ (n : Fin 2064) (d : Fin 64), v75 (ix3 0 n d) = f n (64 * 0 + d)) (h1 : ∀ (n : Fin 2064) (d : Fin 64), v77 (ix3 0 n d) = f n (64 * 1 + d))
    (h2 : ∀ (n : Fin 2064) (d : Fin 64), v79 (ix3 0 n d) = f n (64 * 2 + d)) (h3 : ∀ (n : Fin 2064) (d : Fin 64), v81 (ix3 0 n d) = f n (64 * 3 + d))
    (n : Fin 2064) (e : Fin 256) : k0_pay5 v75 v77 v79 v81 (ix2 n e) = f n e := by
  pointwise [k0_pay5]
  split_ifs
  all_goals first
    | contradiction
    | (refine (h0 _ _).trans (congrArg (f n) ?_); show 64 * 0 + e.val = e.val; omega)
    | (refine (h1 _ _).trans (congrArg (f n) ?_); show 64 * 1 + (e.val - 64) = e.val; omega)
    | (refine (h2 _ _).trans (congrArg (f n) ?_); show 64 * 2 + (e.val - 64 - 64) = e.val; omega)
    | (refine (h3 _ _).trans (congrArg (f n) ?_); show 64 * 3 + (e.val - 64 - 64 - 64) = e.val; omega)
    | (exfalso; omega)

theorem last_cols {v75 : Vec Ideal S2064x256 .f32} {f : ℕ → ℕ → EReal} (h : ∀ (n : Fin 2064) (e : Fin 256), v75 (ix2 n e) = f n e)
    (n : Fin 2064) (e : Fin 256) : k0_pay8 v75 (ix2 n e) = f n e := by
  pointwise [k0_pay8]
  exact h n e

/-- The staged rows and weights of grid point `j`. -/
structure Blk (A : Cot) (j : ℕ) (x4 : Vec Ideal S2064x1024 .bf16) (x5 : Vec Ideal S1x1024x256 .bf16) : Prop where
  ha : ∀ (n : Fin 2064) (d : Fin 1024), x4 (ix2 n d) = A.a n d
  hw : ∀ (d : Fin 1024) (e : Fin 256), x5 (ix3 0 d e) = A.w d (256 * j + e)

variable (c : Dev nD) (i : grid0.Coords) (arg1 : Memref sig .tc .vmem S4x2064x64 .f32) (harg1 : arg1.IsWhole) (arg2 : Memref sig .tc .vmem S4x2064x64 .f32) (harg2 : arg2.IsWhole) (arg3 : Memref sig .tc .vmem S4x2064x64 .f32) (harg3 : arg3.IsWhole) (arg4 : Memref sig .tc .vmem S2064x256 .f32) (harg4 : arg4.IsWhole) (arg5 : Memref sig .tc .vmem S2064x1024 .bf16) (harg5 : arg5.IsWhole) (arg6 : Memref sig .tc .vmem S1x1024x256 .bf16) (harg6 : arg6.IsWhole) (arg7 : Memref sig .tc .vmem S2064x1024 .f32) (harg7 : arg7.IsWhole) (arg8 : Memref sig .tc .vmem S1x1024x256 .bf16) (harg8 : arg8.IsWhole) (arg9 : Memref sig .tc .vmem S1024x256 .f32) (harg9 : arg9.IsWhole) (arg10 : Memref sig .tc .vmem S2064x256 .bf16) (harg10 : arg10.IsWhole)
  (x0 x1 x2 : Vec Ideal S4x2064x64 .f32) (x3 : Vec Ideal S2064x256 .f32) (x4 : Vec Ideal S2064x1024 .bf16) (x5 : Vec Ideal S1x1024x256 .bf16)
  {A : Cot} {j : ℕ} (B : Blk A j x4 x5)

/-- A load of the staged shard of the weights. -/
theorem load_w {m : Memref sig .tc .vmem S1x1024x256 .bf16} (h : m.IsWhole) {x : Vec Ideal S1x1024x256 .bf16} {f : ℕ → ℕ → EReal}
    (hx : ∀ (d : Fin 1024) (e : Fin 256), x (ix3 0 d e) = f d e) (inb) (d : Fin 1024) (e : Fin 256) :
    View.readAt (Elt Ideal) m.view (Rect.unit (s := S1x1024x256) ![0, 0, 0] ![1, 1024, 256] inb).toLoadRect (h.unread x) (ix3 0 d e) = f d e :=
  load_one h (f := fun _ d e => f d e) (fun g d e => by rw [Subsingleton.elim g 0]; exact hx d e) 0 inb d e

section A

/-! At the first point. -/

variable (hc0 : cond0_0 i) (hc1 : ¬cond0_1 i) (hc2 : ¬cond0_2 i) (hc3 : ¬cond0_3 i) (hc4 : cond0_4 i) (hc5 : ¬cond0_5 i) (hc6 : cond0_6 i) (hc7 : ¬cond0_7 i) (hc8 : cond0_8 i) (hc9 : ¬cond0_9 i)
  (hx : ∀ (g : Fin 4) (n : Fin 2064) (d : Fin 64), x0 (ix3 g n d) = A.p n (256 * j + (64 * g + d)))

include hx in
theorem dp_A (n : Fin 2064) (e : Fin 256) :
    k0_pay5 (View.readAt (Elt Ideal) arg1.view (Rect.unit (s := S4x2064x64) ![0, 0, 0] ![1, 2064, 64] inb_S4x2064x64_S1x2064x64_0_0_0).toLoadRect (harg1.unread x0)) (View.readAt (Elt Ideal) arg1.view (Rect.unit (s := S4x2064x64) ![1, 0, 0] ![1, 2064, 64] inb_S4x2064x64_S1x2064x64_1_0_0).toLoadRect (harg1.unread x0)) (View.readAt (Elt Ideal) arg1.view (Rect.unit (s := S4x2064x64) ![2, 0, 0] ![1, 2064, 64] inb_S4x2064x64_S1x2064x64_2_0_0).toLoadRect (harg1.unread x0)) (View.readAt (Elt Ideal) arg1.view (Rect.unit (s := S4x2064x64) ![3, 0, 0] ![1, 2064, 64] inb_S4x2064x64_S1x2064x64_3_0_0).toLoadRect (harg1.unread x0)) (ix2 n e) = A.p n (256 * j + e) :=
  heads (f := fun n e => A.p n (256 * j + e)) (load_one harg1 (f := fun g n d => A.p n (256 * j + (64 * g + d))) hx 0 _) (load_one harg1 (f := fun g n d => A.p n (256 * j + (64 * g + d))) hx 1 _) (load_one harg1 (f := fun g n d => A.p n (256 * j + (64 * g + d))) hx 2 _) (load_one harg1 (f := fun g n d => A.p n (256 * j + (64 * g + d))) hx 3 _) n e

include hx in
theorem rows0_A (i : Fin 688) (e : Fin 256) :
    kernelRun0_A.sl.v18 (F := Ideal) c arg1 harg1 arg10 x0 (ix2 i e) = A.p (0 + i) (256 * j + e) := by
  unfold kernelRun0_A.sl.v18 kernelRun0_A.sl.HS1_1
  refine held (Val := Elt Ideal) (e := .bf16) (n0 := 2064) (n1 := 256) (s0 := 688) (f := fun n e => A.p n (256 * j + e)) _ _ _ ?_ 0 _ i e
  exact dp_A arg1 harg1 x0 hx

include hx in
theorem rows688_A (i : Fin 688) (e : Fin 256) :
    kernelRun0_A.sl.v34 (F := Ideal) c arg1 harg1 arg10 x0 (ix2 i e) = A.p (688 + i) (256 * j + e) := by
  unfold kernelRun0_A.sl.v34 kernelRun0_A.sl.HS1_1
  refine held (Val := Elt Ideal) (e := .bf16) (n0 := 2064) (n1 := 256) (s0 := 688) (f := fun n e => A.p n (256 * j + e)) _ _ _ ?_ 688 _ i e
  exact dp_A arg1 harg1 x0 hx

include hx in
theorem rows1376_A (i : Fin 688) (e : Fin 256) :
    kernelRun0_A.sl.v52 (F := Ideal) c arg1 harg1 arg10 x0 (ix2 i e) = A.p (1376 + i) (256 * j + e) := by
  unfold kernelRun0_A.sl.v52 kernelRun0_A.sl.HS1_1
  refine held (Val := Elt Ideal) (e := .bf16) (n0 := 2064) (n1 := 256) (s0 := 688) (f := fun n e => A.p n (256 * j + e)) _ _ _ ?_ 1376 _ i e
  exact dp_A arg1 harg1 x0 hx

include B hx in
theorem da_A (n : Fin 2064) (d : Fin 1024) :
    View.canon (kernelRun0_A (F := Ideal) c i arg1 harg1 arg2 harg2 arg3 harg3 arg4 harg4 arg5 harg5 arg6 harg6 arg7 harg7 arg8 harg8 arg9 harg9 arg10 harg10 hc0 hc1 hc2 hc3 hc4 hc5 hc6 hc7 hc8 hc9 x0 x1 x2 x3 x4 x5).fst (ix2 n d) = A.part j n d := by
  dsimp only [kernelRun0_A]
  refine three (Val := Elt Ideal) (e := .f32) (fun n d => A.part j n d) _ _ _ _ _ _ ?_ ?_ ?_ n d
  · intro i d
    unfold kernelRun0_A.sl.r
    exact da_tile0 (rows0_A c arg1 harg1 arg10 x0 hx) (load_w harg6 (f := fun d e => A.w d (256 * j + e)) B.hw _) i d
  · intro i d
    exact da_tile1 (rows688_A c arg1 harg1 arg10 x0 hx) (load_w harg6 (f := fun d e => A.w d (256 * j + e)) B.hw _) i d
  · intro i d
    unfold kernelRun0_A.sl.r_2
    exact da_tile2 (rows1376_A c arg1 harg1 arg10 x0 hx) (load_w harg6 (f := fun d e => A.w d (256 * j + e)) B.hw _) i d

include B hx in
theorem dw_A (d : Fin 1024) (e : Fin 256) :
    View.canon (kernelRun0_A (F := Ideal) c i arg1 harg1 arg2 harg2 arg3 harg3 arg4 harg4 arg5 harg5 arg6 harg6 arg7 harg7 arg8 harg8 arg9 harg9 arg10 harg10 hc0 hc1 hc2 hc3 hc4 hc5 hc6 hc7 hc8 hc9 x0 x1 x2 x3 x4 x5).snd.fst (ix3 0 d e) = A.dw d (256 * j + e) := by
  dsimp only [kernelRun0_A]
  rw [Cot.dw, Back.over_eq]
  refine (Cert.NA.canon_hit3 _ _ _ _ _ _ (0 : Fin 1) d e (0 : Fin 1) d e (by simp) (by simp) (by simp)).trans ?_
  refine (dw_out _ d e).trans ?_
  unfold kernelRun0_A.sl.v70 kernelRun0_A.sl.HS0_3
  refine (again _ _ _ _ _ d e).trans ?_
  unfold kernelRun0_A.sl.r_1
  refine (dw_add' (rows1376_A c arg1 harg1 arg10 x0 hx) (load harg5 B.ha 1376 _) _ d e).trans ?_
  refine congrArg (· + _) ?_
  unfold kernelRun0_A.sl.v59 kernelRun0_A.sl.HS0_2
  refine (again _ _ _ _ _ d e).trans ?_
  refine (dw_add (rows688_A c arg1 harg1 arg10 x0 hx) (load harg5 B.ha 688 _) _ d e).trans ?_
  refine congrArg (· + _) ?_
  unfold kernelRun0_A.sl.v41 kernelRun0_A.sl.HS0_1
  refine (again _ _ _ _ _ d e).trans ?_
  exact dw_put (rows0_A c arg1 harg1 arg10 x0 hx) (load harg5 B.ha 0 _) d e

end A

section B

/-! At the second point, on the queries' heads. -/

variable (hc0 : cond0_0 i) (hc1 : ¬cond0_1 i) (hc2 : ¬cond0_2 i) (hc3 : ¬cond0_3 i) (hc4 : ¬cond0_4 i) (hc5 : cond0_5 i) (hc6 : ¬cond0_6 i) (hc7 : cond0_7 i) (hc8 : ¬cond0_8 i) (hc9 : cond0_9 i)
  (hx : ∀ (g : Fin 4) (n : Fin 2064) (d : Fin 64), x0 (ix3 g n d) = A.p n (256 * j + (64 * g + d)))

include hx in
theorem dp_B (n : Fin 2064) (e : Fin 256) :
    k0_pay5 (View.readAt (Elt Ideal) arg1.view (Rect.unit (s := S4x2064x64) ![0, 0, 0] ![1, 2064, 64] inb_S4x2064x64_S1x2064x64_0_0_0).toLoadRect (harg1.unread x0)) (View.readAt (Elt Ideal) arg1.view (Rect.unit (s := S4x2064x64) ![1, 0, 0] ![1, 2064, 64] inb_S4x2064x64_S1x2064x64_1_0_0).toLoadRect (harg1.unread x0)) (View.readAt (Elt Ideal) arg1.view (Rect.unit (s := S4x2064x64) ![2, 0, 0] ![1, 2064, 64] inb_S4x2064x64_S1x2064x64_2_0_0).toLoadRect (harg1.unread x0)) (View.readAt (Elt Ideal) arg1.view (Rect.unit (s := S4x2064x64) ![3, 0, 0] ![1, 2064, 64] inb_S4x2064x64_S1x2064x64_3_0_0).toLoadRect (harg1.unread x0)) (ix2 n e) = A.p n (256 * j + e) :=
  heads (f := fun n e => A.p n (256 * j + e)) (load_one harg1 (f := fun g n d => A.p n (256 * j + (64 * g + d))) hx 0 _) (load_one harg1 (f := fun g n d => A.p n (256 * j + (64 * g + d))) hx 1 _) (load_one harg1 (f := fun g n d => A.p n (256 * j + (64 * g + d))) hx 2 _) (load_one harg1 (f := fun g n d => A.p n (256 * j + (64 * g + d))) hx 3 _) n e

include hx in
theorem rows0_B (i : Fin 688) (e : Fin 256) :
    kernelRun0_B.sl.v18 (F := Ideal) c arg1 harg1 arg10 x0 (ix2 i e) = A.p (0 + i) (256 * j + e) := by
  unfold kernelRun0_B.sl.v18 kernelRun0_B.sl.HS1_1
  refine held (Val := Elt Ideal) (e := .bf16) (n0 := 2064) (n1 := 256) (s0 := 688) (f := fun n e => A.p n (256 * j + e)) _ _ _ ?_ 0 _ i e
  exact dp_B arg1 harg1 x0 hx

include hx in
theorem rows688_B (i : Fin 688) (e : Fin 256) :
    kernelRun0_B.sl.v34 (F := Ideal) c arg1 harg1 arg10 x0 (ix2 i e) = A.p (688 + i) (256 * j + e) := by
  unfold kernelRun0_B.sl.v34 kernelRun0_B.sl.HS1_1
  refine held (Val := Elt Ideal) (e := .bf16) (n0 := 2064) (n1 := 256) (s0 := 688) (f := fun n e => A.p n (256 * j + e)) _ _ _ ?_ 688 _ i e
  exact dp_B arg1 harg1 x0 hx

include hx in
theorem rows1376_B (i : Fin 688) (e : Fin 256) :
    kernelRun0_B.sl.v52 (F := Ideal) c arg1 harg1 arg10 x0 (ix2 i e) = A.p (1376 + i) (256 * j + e) := by
  unfold kernelRun0_B.sl.v52 kernelRun0_B.sl.HS1_1
  refine held (Val := Elt Ideal) (e := .bf16) (n0 := 2064) (n1 := 256) (s0 := 688) (f := fun n e => A.p n (256 * j + e)) _ _ _ ?_ 1376 _ i e
  exact dp_B arg1 harg1 x0 hx

include B hx in
theorem da_B (xo6 : Vec Ideal S2064x1024 .f32) {f : ℕ → ℕ → EReal} (hf : ∀ (n : Fin 2064) (d : Fin 1024), xo6 (ix2 n d) = f n d) (n : Fin 2064) (d : Fin 1024) :
    View.canon (kernelRun0_B (F := Ideal) c i arg1 harg1 arg2 harg2 arg3 harg3 arg4 harg4 arg5 harg5 arg6 harg6 arg7 harg7 arg8 harg8 arg9 harg9 arg10 harg10 hc0 hc1 hc2 hc3 hc4 hc5 hc6 hc7 hc8 hc9 x0 x1 x2 x3 x4 x5 xo6).fst (ix2 n d) = f n d + A.part j n d := by
  dsimp only [kernelRun0_B]
  refine three (Val := Elt Ideal) (e := .f32) (fun n d => f n d + A.part j n d) _ _ _ _ _ _ ?_ ?_ ?_ n d
  · intro i d
    unfold kernelRun0_B.sl.r
    exact (da_more0 (rows0_B c arg1 harg1 arg10 x0 hx) (load_w harg6 (f := fun d e => A.w d (256 * j + e)) B.hw _) _ i d).trans (congrArg (· + _) (load harg7 hf 0 _ i d))
  · intro i d
    unfold kernelRun0_B.sl.v75
    exact (da_more1 (rows688_B c arg1 harg1 arg10 x0 hx) (load_w harg6 (f := fun d e => A.w d (256 * j + e)) B.hw _) _ i d).trans (congrArg (· + _) (load harg7 hf 688 _ i d))
  · intro i d
    unfold kernelRun0_B.sl.r_2 kernelRun0_B.sl.v75_1
    exact (da_more2 (rows1376_B c arg1 harg1 arg10 x0 hx) (load_w harg6 (f := fun d e => A.w d (256 * j + e)) B.hw _) _ i d).trans (congrArg (· + _) (load harg7 hf 1376 _ i d))

include B hx in
theorem dw_B (xo6 : Vec Ideal S2064x1024 .f32) (d : Fin 1024) (e : Fin 256) :
    View.canon (kernelRun0_B (F := Ideal) c i arg1 harg1 arg2 harg2 arg3 harg3 arg4 harg4 arg5 harg5 arg6 harg6 arg7 harg7 arg8 harg8 arg9 harg9 arg10 harg10 hc0 hc1 hc2 hc3 hc4 hc5 hc6 hc7 hc8 hc9 x0 x1 x2 x3 x4 x5 xo6).snd.fst (ix3 0 d e) = A.dw d (256 * j + e) := by
  dsimp only [kernelRun0_B]
  rw [Cot.dw, Back.over_eq]
  refine (Cert.NA.canon_hit3 _ _ _ _ _ _ (0 : Fin 1) d e (0 : Fin 1) d e (by simp) (by simp) (by simp)).trans ?_
  refine (dw_out _ d e).trans ?_
  unfold kernelRun0_B.sl.v70 kernelRun0_B.sl.HS0_3
  refine (again _ _ _ _ _ d e).trans ?_
  unfold kernelRun0_B.sl.r_1
  refine (dw_add' (rows1376_B c arg1 harg1 arg10 x0 hx) (load harg5 B.ha 1376 _) _ d e).trans ?_
  refine congrArg (· + _) ?_
  unfold kernelRun0_B.sl.v59 kernelRun0_B.sl.HS0_2
  refine (again _ _ _ _ _ d e).trans ?_
  refine (dw_add (rows688_B c arg1 harg1 arg10 x0 hx) (load harg5 B.ha 688 _) _ d e).trans ?_
  refine congrArg (· + _) ?_
  unfold kernelRun0_B.sl.v41 kernelRun0_B.sl.HS0_1
  refine (again _ _ _ _ _ d e).trans ?_
  exact dw_put (rows0_B c arg1 harg1 arg10 x0 hx) (load harg5 B.ha 0 _) d e

end B

section C

/-! At points on the keys' heads. -/

variable (hc0 : ¬cond0_0 i) (hc1 : cond0_1 i) (hc2 : ¬cond0_2 i) (hc3 : ¬cond0_3 i) (hc4 : ¬cond0_4 i) (hc5 : cond0_5 i) (hc6 : ¬cond0_6 i) (hc7 : cond0_7 i) (hc8 : ¬cond0_8 i) (hc9 : cond0_9 i)
  (hx : ∀ (g : Fin 4) (n : Fin 2064) (d : Fin 64), x1 (ix3 g n d) = A.p n (256 * j + (64 * g + d)))

include hx in
theorem dp_C (n : Fin 2064) (e : Fin 256) :
    k0_pay6 (View.readAt (Elt Ideal) arg2.view (Rect.unit (s := S4x2064x64) ![0, 0, 0] ![1, 2064, 64] inb_S4x2064x64_S1x2064x64_0_0_0).toLoadRect (harg2.unread x1)) (View.readAt (Elt Ideal) arg2.view (Rect.unit (s := S4x2064x64) ![1, 0, 0] ![1, 2064, 64] inb_S4x2064x64_S1x2064x64_1_0_0).toLoadRect (harg2.unread x1)) (View.readAt (Elt Ideal) arg2.view (Rect.unit (s := S4x2064x64) ![2, 0, 0] ![1, 2064, 64] inb_S4x2064x64_S1x2064x64_2_0_0).toLoadRect (harg2.unread x1)) (View.readAt (Elt Ideal) arg2.view (Rect.unit (s := S4x2064x64) ![3, 0, 0] ![1, 2064, 64] inb_S4x2064x64_S1x2064x64_3_0_0).toLoadRect (harg2.unread x1)) (ix2 n e) = A.p n (256 * j + e) :=
  heads (f := fun n e => A.p n (256 * j + e)) (load_one harg2 (f := fun g n d => A.p n (256 * j + (64 * g + d))) hx 0 _) (load_one harg2 (f := fun g n d => A.p n (256 * j + (64 * g + d))) hx 1 _) (load_one harg2 (f := fun g n d => A.p n (256 * j + (64 * g + d))) hx 2 _) (load_one harg2 (f := fun g n d => A.p n (256 * j + (64 * g + d))) hx 3 _) n e

include hx in
theorem rows0_C (i : Fin 688) (e : Fin 256) :
    kernelRun0_C.sl.v18 (F := Ideal) c arg2 harg2 arg10 x1 (ix2 i e) = A.p (0 + i) (256 * j + e) := by
  unfold kernelRun0_C.sl.v18 kernelRun0_C.sl.HS1_1
  refine held (Val := Elt Ideal) (e := .bf16) (n0 := 2064) (n1 := 256) (s0 := 688) (f := fun n e => A.p n (256 * j + e)) _ _ _ ?_ 0 _ i e
  exact dp_C arg2 harg2 x1 hx

include hx in
theorem rows688_C (i : Fin 688) (e : Fin 256) :
    kernelRun0_C.sl.v34 (F := Ideal) c arg2 harg2 arg10 x1 (ix2 i e) = A.p (688 + i) (256 * j + e) := by
  unfold kernelRun0_C.sl.v34 kernelRun0_C.sl.HS1_1
  refine held (Val := Elt Ideal) (e := .bf16) (n0 := 2064) (n1 := 256) (s0 := 688) (f := fun n e => A.p n (256 * j + e)) _ _ _ ?_ 688 _ i e
  exact dp_C arg2 harg2 x1 hx

include hx in
theorem rows1376_C (i : Fin 688) (e : Fin 256) :
    kernelRun0_C.sl.v52 (F := Ideal) c arg2 harg2 arg10 x1 (ix2 i e) = A.p (1376 + i) (256 * j + e) := by
  unfold kernelRun0_C.sl.v52 kernelRun0_C.sl.HS1_1
  refine held (Val := Elt Ideal) (e := .bf16) (n0 := 2064) (n1 := 256) (s0 := 688) (f := fun n e => A.p n (256 * j + e)) _ _ _ ?_ 1376 _ i e
  exact dp_C arg2 harg2 x1 hx

include B hx in
theorem da_C (xo6 : Vec Ideal S2064x1024 .f32) {f : ℕ → ℕ → EReal} (hf : ∀ (n : Fin 2064) (d : Fin 1024), xo6 (ix2 n d) = f n d) (n : Fin 2064) (d : Fin 1024) :
    View.canon (kernelRun0_C (F := Ideal) c i arg1 harg1 arg2 harg2 arg3 harg3 arg4 harg4 arg5 harg5 arg6 harg6 arg7 harg7 arg8 harg8 arg9 harg9 arg10 harg10 hc0 hc1 hc2 hc3 hc4 hc5 hc6 hc7 hc8 hc9 x0 x1 x2 x3 x4 x5 xo6).fst (ix2 n d) = f n d + A.part j n d := by
  dsimp only [kernelRun0_C]
  refine three (Val := Elt Ideal) (e := .f32) (fun n d => f n d + A.part j n d) _ _ _ _ _ _ ?_ ?_ ?_ n d
  · intro i d
    unfold kernelRun0_C.sl.r
    exact (da_more0 (rows0_C c arg2 harg2 arg10 x1 hx) (load_w harg6 (f := fun d e => A.w d (256 * j + e)) B.hw _) _ i d).trans (congrArg (· + _) (load harg7 hf 0 _ i d))
  · intro i d
    unfold kernelRun0_C.sl.v75
    exact (da_more1 (rows688_C c arg2 harg2 arg10 x1 hx) (load_w harg6 (f := fun d e => A.w d (256 * j + e)) B.hw _) _ i d).trans (congrArg (· + _) (load harg7 hf 688 _ i d))
  · intro i d
    unfold kernelRun0_C.sl.r_2 kernelRun0_C.sl.v75_1
    exact (da_more2 (rows1376_C c arg2 harg2 arg10 x1 hx) (load_w harg6 (f := fun d e => A.w d (256 * j + e)) B.hw _) _ i d).trans (congrArg (· + _) (load harg7 hf 1376 _ i d))

include B hx in
theorem dw_C (xo6 : Vec Ideal S2064x1024 .f32) (d : Fin 1024) (e : Fin 256) :
    View.canon (kernelRun0_C (F := Ideal) c i arg1 harg1 arg2 harg2 arg3 harg3 arg4 harg4 arg5 harg5 arg6 harg6 arg7 harg7 arg8 harg8 arg9 harg9 arg10 harg10 hc0 hc1 hc2 hc3 hc4 hc5 hc6 hc7 hc8 hc9 x0 x1 x2 x3 x4 x5 xo6).snd.fst (ix3 0 d e) = A.dw d (256 * j + e) := by
  dsimp only [kernelRun0_C]
  rw [Cot.dw, Back.over_eq]
  refine (Cert.NA.canon_hit3 _ _ _ _ _ _ (0 : Fin 1) d e (0 : Fin 1) d e (by simp) (by simp) (by simp)).trans ?_
  refine (dw_out _ d e).trans ?_
  unfold kernelRun0_C.sl.v70 kernelRun0_C.sl.HS0_3
  refine (again _ _ _ _ _ d e).trans ?_
  unfold kernelRun0_C.sl.r_1
  refine (dw_add' (rows1376_C c arg2 harg2 arg10 x1 hx) (load harg5 B.ha 1376 _) _ d e).trans ?_
  refine congrArg (· + _) ?_
  unfold kernelRun0_C.sl.v59 kernelRun0_C.sl.HS0_2
  refine (again _ _ _ _ _ d e).trans ?_
  refine (dw_add (rows688_C c arg2 harg2 arg10 x1 hx) (load harg5 B.ha 688 _) _ d e).trans ?_
  refine congrArg (· + _) ?_
  unfold kernelRun0_C.sl.v41 kernelRun0_C.sl.HS0_1
  refine (again _ _ _ _ _ d e).trans ?_
  exact dw_put (rows0_C c arg2 harg2 arg10 x1 hx) (load harg5 B.ha 0 _) d e

end C

section D

/-! At points on the values' heads. -/

variable (hc0 : ¬cond0_0 i) (hc1 : ¬cond0_1 i) (hc2 : cond0_2 i) (hc3 : ¬cond0_3 i) (hc4 : ¬cond0_4 i) (hc5 : cond0_5 i) (hc6 : ¬cond0_6 i) (hc7 : cond0_7 i) (hc8 : ¬cond0_8 i) (hc9 : cond0_9 i)
  (hx : ∀ (g : Fin 4) (n : Fin 2064) (d : Fin 64), x2 (ix3 g n d) = A.p n (256 * j + (64 * g + d)))

include hx in
theorem dp_D (n : Fin 2064) (e : Fin 256) :
    k0_pay7 (View.readAt (Elt Ideal) arg3.view (Rect.unit (s := S4x2064x64) ![0, 0, 0] ![1, 2064, 64] inb_S4x2064x64_S1x2064x64_0_0_0).toLoadRect (harg3.unread x2)) (View.readAt (Elt Ideal) arg3.view (Rect.unit (s := S4x2064x64) ![1, 0, 0] ![1, 2064, 64] inb_S4x2064x64_S1x2064x64_1_0_0).toLoadRect (harg3.unread x2)) (View.readAt (Elt Ideal) arg3.view (Rect.unit (s := S4x2064x64) ![2, 0, 0] ![1, 2064, 64] inb_S4x2064x64_S1x2064x64_2_0_0).toLoadRect (harg3.unread x2)) (View.readAt (Elt Ideal) arg3.view (Rect.unit (s := S4x2064x64) ![3, 0, 0] ![1, 2064, 64] inb_S4x2064x64_S1x2064x64_3_0_0).toLoadRect (harg3.unread x2)) (ix2 n e) = A.p n (256 * j + e) :=
  heads (f := fun n e => A.p n (256 * j + e)) (load_one harg3 (f := fun g n d => A.p n (256 * j + (64 * g + d))) hx 0 _) (load_one harg3 (f := fun g n d => A.p n (256 * j + (64 * g + d))) hx 1 _) (load_one harg3 (f := fun g n d => A.p n (256 * j + (64 * g + d))) hx 2 _) (load_one harg3 (f := fun g n d => A.p n (256 * j + (64 * g + d))) hx 3 _) n e

include hx in
theorem rows0_D (i : Fin 688) (e : Fin 256) :
    kernelRun0_D.sl.v18 (F := Ideal) c arg3 harg3 arg10 x2 (ix2 i e) = A.p (0 + i) (256 * j + e) := by
  unfold kernelRun0_D.sl.v18 kernelRun0_D.sl.HS1_1
  refine held (Val := Elt Ideal) (e := .bf16) (n0 := 2064) (n1 := 256) (s0 := 688) (f := fun n e => A.p n (256 * j + e)) _ _ _ ?_ 0 _ i e
  exact dp_D arg3 harg3 x2 hx

include hx in
theorem rows688_D (i : Fin 688) (e : Fin 256) :
    kernelRun0_D.sl.v34 (F := Ideal) c arg3 harg3 arg10 x2 (ix2 i e) = A.p (688 + i) (256 * j + e) := by
  unfold kernelRun0_D.sl.v34 kernelRun0_D.sl.HS1_1
  refine held (Val := Elt Ideal) (e := .bf16) (n0 := 2064) (n1 := 256) (s0 := 688) (f := fun n e => A.p n (256 * j + e)) _ _ _ ?_ 688 _ i e
  exact dp_D arg3 harg3 x2 hx

include hx in
theorem rows1376_D (i : Fin 688) (e : Fin 256) :
    kernelRun0_D.sl.v52 (F := Ideal) c arg3 harg3 arg10 x2 (ix2 i e) = A.p (1376 + i) (256 * j + e) := by
  unfold kernelRun0_D.sl.v52 kernelRun0_D.sl.HS1_1
  refine held (Val := Elt Ideal) (e := .bf16) (n0 := 2064) (n1 := 256) (s0 := 688) (f := fun n e => A.p n (256 * j + e)) _ _ _ ?_ 1376 _ i e
  exact dp_D arg3 harg3 x2 hx

include B hx in
theorem da_D (xo6 : Vec Ideal S2064x1024 .f32) {f : ℕ → ℕ → EReal} (hf : ∀ (n : Fin 2064) (d : Fin 1024), xo6 (ix2 n d) = f n d) (n : Fin 2064) (d : Fin 1024) :
    View.canon (kernelRun0_D (F := Ideal) c i arg1 harg1 arg2 harg2 arg3 harg3 arg4 harg4 arg5 harg5 arg6 harg6 arg7 harg7 arg8 harg8 arg9 harg9 arg10 harg10 hc0 hc1 hc2 hc3 hc4 hc5 hc6 hc7 hc8 hc9 x0 x1 x2 x3 x4 x5 xo6).fst (ix2 n d) = f n d + A.part j n d := by
  dsimp only [kernelRun0_D]
  refine three (Val := Elt Ideal) (e := .f32) (fun n d => f n d + A.part j n d) _ _ _ _ _ _ ?_ ?_ ?_ n d
  · intro i d
    unfold kernelRun0_D.sl.r
    exact (da_more0 (rows0_D c arg3 harg3 arg10 x2 hx) (load_w harg6 (f := fun d e => A.w d (256 * j + e)) B.hw _) _ i d).trans (congrArg (· + _) (load harg7 hf 0 _ i d))
  · intro i d
    unfold kernelRun0_D.sl.v75
    exact (da_more1 (rows688_D c arg3 harg3 arg10 x2 hx) (load_w harg6 (f := fun d e => A.w d (256 * j + e)) B.hw _) _ i d).trans (congrArg (· + _) (load harg7 hf 688 _ i d))
  · intro i d
    unfold kernelRun0_D.sl.r_2 kernelRun0_D.sl.v75_1
    exact (da_more2 (rows1376_D c arg3 harg3 arg10 x2 hx) (load_w harg6 (f := fun d e => A.w d (256 * j + e)) B.hw _) _ i d).trans (congrArg (· + _) (load harg7 hf 1376 _ i d))

include B hx in
theorem dw_D (xo6 : Vec Ideal S2064x1024 .f32) (d : Fin 1024) (e : Fin 256) :
    View.canon (kernelRun0_D (F := Ideal) c i arg1 harg1 arg2 harg2 arg3 harg3 arg4 harg4 arg5 harg5 arg6 harg6 arg7 harg7 arg8 harg8 arg9 harg9 arg10 harg10 hc0 hc1 hc2 hc3 hc4 hc5 hc6 hc7 hc8 hc9 x0 x1 x2 x3 x4 x5 xo6).snd.fst (ix3 0 d e) = A.dw d (256 * j + e) := by
  dsimp only [kernelRun0_D]
  rw [Cot.dw, Back.over_eq]
  refine (Cert.NA.canon_hit3 _ _ _ _ _ _ (0 : Fin 1) d e (0 : Fin 1) d e (by simp) (by simp) (by simp)).trans ?_
  refine (dw_out _ d e).trans ?_
  unfold kernelRun0_D.sl.v70 kernelRun0_D.sl.HS0_3
  refine (again _ _ _ _ _ d e).trans ?_
  unfold kernelRun0_D.sl.r_1
  refine (dw_add' (rows1376_D c arg3 harg3 arg10 x2 hx) (load harg5 B.ha 1376 _) _ d e).trans ?_
  refine congrArg (· + _) ?_
  unfold kernelRun0_D.sl.v59 kernelRun0_D.sl.HS0_2
  refine (again _ _ _ _ _ d e).trans ?_
  refine (dw_add (rows688_D c arg3 harg3 arg10 x2 hx) (load harg5 B.ha 688 _) _ d e).trans ?_
  refine congrArg (· + _) ?_
  unfold kernelRun0_D.sl.v41 kernelRun0_D.sl.HS0_1
  refine (again _ _ _ _ _ d e).trans ?_
  exact dw_put (rows0_D c arg3 harg3 arg10 x2 hx) (load harg5 B.ha 0 _) d e

end D

section E

/-! At the points on the last 512 columns. -/

variable (hc0 : ¬cond0_0 i) (hc1 : ¬cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i)
  (hx : ∀ (n : Fin 2064) (e : Fin 256), x3 (ix2 n e) = A.p n (256 * j + e))

include hx in
theorem dp_E (n : Fin 2064) (e : Fin 256) :
    k0_pay8 (View.readAt (Elt Ideal) arg4.view (Rect.unit (s := S2064x256) ![0, 0] ![2064, 256] inb_S2064x256_S2064x256_0_0).toLoadRect (harg4.unread x3)) (ix2 n e) = A.p n (256 * j + e) :=
  last_cols (f := fun n e => A.p n (256 * j + e)) (fun n e => (load harg4 (f := fun n e => A.p n (256 * j + e)) hx 0 inb_S2064x256_S2064x256_0_0 n e).trans (by simp only [Nat.zero_add])) n e

include hx in
theorem rows0_E (i : Fin 688) (e : Fin 256) :
    kernelRun0_E.sl.v18 (F := Ideal) c arg4 harg4 arg10 x3 (ix2 i e) = A.p (0 + i) (256 * j + e) := by
  unfold kernelRun0_E.sl.v18 kernelRun0_E.sl.HS1_1
  refine held (Val := Elt Ideal) (e := .bf16) (n0 := 2064) (n1 := 256) (s0 := 688) (f := fun n e => A.p n (256 * j + e)) _ _ _ ?_ 0 _ i e
  exact dp_E arg4 harg4 x3 hx

include hx in
theorem rows688_E (i : Fin 688) (e : Fin 256) :
    kernelRun0_E.sl.v34 (F := Ideal) c arg4 harg4 arg10 x3 (ix2 i e) = A.p (688 + i) (256 * j + e) := by
  unfold kernelRun0_E.sl.v34 kernelRun0_E.sl.HS1_1
  refine held (Val := Elt Ideal) (e := .bf16) (n0 := 2064) (n1 := 256) (s0 := 688) (f := fun n e => A.p n (256 * j + e)) _ _ _ ?_ 688 _ i e
  exact dp_E arg4 harg4 x3 hx

include hx in
theorem rows1376_E (i : Fin 688) (e : Fin 256) :
    kernelRun0_E.sl.v52 (F := Ideal) c arg4 harg4 arg10 x3 (ix2 i e) = A.p (1376 + i) (256 * j + e) := by
  unfold kernelRun0_E.sl.v52 kernelRun0_E.sl.HS1_1
  refine held (Val := Elt Ideal) (e := .bf16) (n0 := 2064) (n1 := 256) (s0 := 688) (f := fun n e => A.p n (256 * j + e)) _ _ _ ?_ 1376 _ i e
  exact dp_E arg4 harg4 x3 hx

include B hx in
theorem da_E (xo6 : Vec Ideal S2064x1024 .f32) {f : ℕ → ℕ → EReal} (hf : ∀ (n : Fin 2064) (d : Fin 1024), xo6 (ix2 n d) = f n d) (n : Fin 2064) (d : Fin 1024) :
    View.canon (kernelRun0_E (F := Ideal) c i arg1 harg1 arg2 harg2 arg3 harg3 arg4 harg4 arg5 harg5 arg6 harg6 arg7 harg7 arg8 harg8 arg9 harg9 arg10 harg10 hc0 hc1 hc2 hc3 hc4 hc5 hc6 hc7 hc8 hc9 x0 x1 x2 x3 x4 x5 xo6).fst (ix2 n d) = f n d + A.part j n d := by
  dsimp only [kernelRun0_E]
  refine three (Val := Elt Ideal) (e := .f32) (fun n d => f n d + A.part j n d) _ _ _ _ _ _ ?_ ?_ ?_ n d
  · intro i d
    unfold kernelRun0_E.sl.r
    exact (da_more0 (rows0_E c arg4 harg4 arg10 x3 hx) (load_w harg6 (f := fun d e => A.w d (256 * j + e)) B.hw _) _ i d).trans (congrArg (· + _) (load harg7 hf 0 _ i d))
  · intro i d
    unfold kernelRun0_E.sl.v75
    exact (da_more1 (rows688_E c arg4 harg4 arg10 x3 hx) (load_w harg6 (f := fun d e => A.w d (256 * j + e)) B.hw _) _ i d).trans (congrArg (· + _) (load harg7 hf 688 _ i d))
  · intro i d
    unfold kernelRun0_E.sl.r_2 kernelRun0_E.sl.v75_1
    exact (da_more2 (rows1376_E c arg4 harg4 arg10 x3 hx) (load_w harg6 (f := fun d e => A.w d (256 * j + e)) B.hw _) _ i d).trans (congrArg (· + _) (load harg7 hf 1376 _ i d))

include B hx in
theorem dw_E (xo6 : Vec Ideal S2064x1024 .f32) (d : Fin 1024) (e : Fin 256) :
    View.canon (kernelRun0_E (F := Ideal) c i arg1 harg1 arg2 harg2 arg3 harg3 arg4 harg4 arg5 harg5 arg6 harg6 arg7 harg7 arg8 harg8 arg9 harg9 arg10 harg10 hc0 hc1 hc2 hc3 hc4 hc5 hc6 hc7 hc8 hc9 x0 x1 x2 x3 x4 x5 xo6).snd.fst (ix3 0 d e) = A.dw d (256 * j + e) := by
  dsimp only [kernelRun0_E]
  rw [Cot.dw, Back.over_eq]
  refine (Cert.NA.canon_hit3 _ _ _ _ _ _ (0 : Fin 1) d e (0 : Fin 1) d e (by simp) (by simp) (by simp)).trans ?_
  refine (dw_out _ d e).trans ?_
  unfold kernelRun0_E.sl.v70 kernelRun0_E.sl.HS0_3
  refine (again _ _ _ _ _ d e).trans ?_
  unfold kernelRun0_E.sl.r_1
  refine (dw_add' (rows1376_E c arg4 harg4 arg10 x3 hx) (load harg5 B.ha 1376 _) _ d e).trans ?_
  refine congrArg (· + _) ?_
  unfold kernelRun0_E.sl.v59 kernelRun0_E.sl.HS0_2
  refine (again _ _ _ _ _ d e).trans ?_
  refine (dw_add (rows688_E c arg4 harg4 arg10 x3 hx) (load harg5 B.ha 688 _) _ d e).trans ?_
  refine congrArg (· + _) ?_
  unfold kernelRun0_E.sl.v41 kernelRun0_E.sl.HS0_1
  refine (again _ _ _ _ _ d e).trans ?_
  exact dw_put (rows0_E c arg4 harg4 arg10 x3 hx) (load harg5 B.ha 0 _) d e

end E

end Cert.Proj.Bwd

end
-- ==== Proof.ProjBwdArrays.lean ====
/- The backward kernel of the mixer's input projection: its two result arrays after the run. -/
module

public import proofs.«01_k».proof.Proof.ProjBwd
public import proofs.«01_k».proof.Proof.Gen.Kernel4Ideal.Value

@[expose] public section

set_option maxRecDepth 16384

noncomputable section

namespace Cert.Proj

open Finset Idealize.ShloMosaic Cert.FFN

/-- What the argument arrays give: rows, weights, the gradients of queries, keys and values by heads, and of the last 512
    columns. The product's gradient has them side by side. -/
def cotOf (A0 : Vec Ideal ⟨2, ![2064, 1024]⟩ .f32) (A1 : Vec Ideal ⟨2, ![1024, 2048]⟩ .f32)
    (A2 A3 A4 : Vec Ideal ⟨3, ![8, 2064, 64]⟩ .f32) (A5 : Vec Ideal ⟨2, ![2064, 512]⟩ .f32) : Cot where
  a n d := A0 (ix2 (Fin.ofNat 2064 n) (Fin.ofNat 1024 d))
  w d f := A1 (ix2 (Fin.ofNat 1024 d) (Fin.ofNat 2048 f))
  p n f :=
    if f < 512 then A2 (ix3 (Fin.ofNat 8 (f / 64)) (Fin.ofNat 2064 n) (Fin.ofNat 64 f))
    else if f < 1024 then A3 (ix3 (Fin.ofNat 8 ((f - 512) / 64)) (Fin.ofNat 2064 n) (Fin.ofNat 64 f))
    else if f < 1536 then A4 (ix3 (Fin.ofNat 8 ((f - 1024) / 64)) (Fin.ofNat 2064 n) (Fin.ofNat 64 f))
    else A5 (ix2 (Fin.ofNat 2064 n) (Fin.ofNat 512 (f - 1536)))

section

variable (A0 : Vec Ideal ⟨2, ![2064, 1024]⟩ .f32) (A1 : Vec Ideal ⟨2, ![1024, 2048]⟩ .f32)
    (A2 A3 A4 : Vec Ideal ⟨3, ![8, 2064, 64]⟩ .f32) (A5 : Vec Ideal ⟨2, ![2064, 512]⟩ .f32) (n : Fin 2064)

theorem p_q (g : ℕ) (hg : g < 8) (d : Fin 64) : (cotOf A0 A1 A2 A3 A4 A5).p n (0 + (64 * g + d)) = A2 (ix3 (Fin.ofNat 8 g) n d) := by
  dsimp only [cotOf]
  rw [if_pos (by omega), ofNat_val]
  refine congrArg A2 ?_
  have h1 : (0 + (64 * g + d.val)) / 64 = g := by omega
  have h2 : Fin.ofNat 64 (0 + (64 * g + d.val)) = d := Fin.ext (by show (0 + (64 * g + d.val)) % 64 = d.val; omega)
  rw [h1, h2]

theorem p_k (g : ℕ) (hg : g < 8) (d : Fin 64) : (cotOf A0 A1 A2 A3 A4 A5).p n (512 + (64 * g + d)) = A3 (ix3 (Fin.ofNat 8 g) n d) := by
  dsimp only [cotOf]
  rw [if_neg (by omega), if_pos (by omega), ofNat_val]
  refine congrArg A3 ?_
  have h1 : (512 + (64 * g + d.val) - 512) / 64 = g := by omega
  have h2 : Fin.ofNat 64 (512 + (64 * g + d.val)) = d := Fin.ext (by show (512 + (64 * g + d.val)) % 64 = d.val; omega)
  rw [h1, h2]

theorem p_v (g : ℕ) (hg : g < 8) (d : Fin 64) : (cotOf A0 A1 A2 A3 A4 A5).p n (1024 + (64 * g + d)) = A4 (ix3 (Fin.ofNat 8 g) n d) := by
  dsimp only [cotOf]
  rw [if_neg (by omega), if_neg (by omega), if_pos (by omega), ofNat_val]
  refine congrArg A4 ?_
  have h1 : (1024 + (64 * g + d.val) - 1024) / 64 = g := by omega
  have h2 : Fin.ofNat 64 (1024 + (64 * g + d.val)) = d := Fin.ext (by show (1024 + (64 * g + d.val)) % 64 = d.val; omega)
  rw [h1, h2]

theorem p_u (e : Fin 512) : (cotOf A0 A1 A2 A3 A4 A5).p n (1536 + e) = A5 (ix2 n e) := by
  dsimp only [cotOf]
  rw [if_neg (by omega), if_neg (by omega), if_neg (by omega), ofNat_val, Nat.add_sub_cancel_left, ofNat_val]

end

end Cert.Proj

namespace Cert.Proj.Bwd

open Finset Idealize.ShloMosaic Idealize.ShloMosaic.TcCoe Idealize.ShloMosaic.StableHlo Cert.FFN
open Cert.Kernel4Ideal Cert.Kernel4Ideal.Gen

variable (m : (ℓ : Loc nD τ sig) → Buf (Elt Ideal) ℓ)

/-- What a device's arguments give. -/
def ct (c : Dev nD) : Cot :=
  cotOf (m (c, main_arg0)) (m (c, main_arg1)) (m (c, main_arg2)) (m (c, main_arg3)) (m (c, main_arg4)) (m (c, main_arg5))

theorem host_a (c : Dev nD) : (V m c main_v0 : Vec Ideal S2064x1024 .bf16) = truncf (F := Ideal) .bf16 (m (c, main_arg0) : Vec Ideal S2064x1024 .f32) bitsLt_bf16_f32 := by dsimp only [V, hostOps0]; after_results
theorem host_w (c : Dev nD) : (V m c main_v3 : Vec Ideal S8x1024x256 .bf16)
    = truncf (F := Ideal) .bf16 (transpose S8x1024x256 [1, 0, 2] (shapeCast S1024x8x256 (m (c, main_arg1) : Vec Ideal S1024x2048 .f32) shapeCasts_S1024x2048_S1024x8x256) transposes_S1024x8x256_S8x1024x256_1_0_2) bitsLt_bf16_f32 := by
  dsimp only [V, hostOps0]; after_results; rfl

theorem idx0 : ∀ t : Fin cfg0.N, 0 ≤ t.val ∧ t.val < 2 → win0_0.index t (0 : Fin 3) = t.val - 0 ∧ win0_0.index t (1 : Fin 3) = 0 ∧ win0_0.index t (2 : Fin 3) = 0 :=
  (by decide +kernel : ∀ t : Fin grid0.N, _)
theorem idx1 : ∀ t : Fin cfg0.N, 2 ≤ t.val ∧ t.val < 4 → win0_1.index t (0 : Fin 3) = t.val - 2 ∧ win0_1.index t (1 : Fin 3) = 0 ∧ win0_1.index t (2 : Fin 3) = 0 :=
  (by decide +kernel : ∀ t : Fin grid0.N, _)
theorem idx2 : ∀ t : Fin cfg0.N, 4 ≤ t.val ∧ t.val < 6 → win0_2.index t (0 : Fin 3) = t.val - 4 ∧ win0_2.index t (1 : Fin 3) = 0 ∧ win0_2.index t (2 : Fin 3) = 0 :=
  (by decide +kernel : ∀ t : Fin grid0.N, _)
theorem idx3 : ∀ t : Fin cfg0.N, 6 ≤ t.val → win0_3.index t (0 : Fin 2) = 0 ∧ win0_3.index t (1 : Fin 2) = t.val - 6 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

theorem emb0 (t : Fin cfg0.N) (h : 0 ≤ t.val ∧ t.val < 2) (g : Fin 4) (n : Fin 2064) (d : Fin 64) :
    ((cfg0.win 0).blk t).view.emb (ix3 g n d) = ix3 (Fin.ofNat 8 (4 * (t.val - 0) + g)) n d := by
  obtain ⟨e0, e1, e2⟩ := idx0 t h
  funext a; apply Fin.ext
  match a with
  | ⟨0, _⟩ =>
    show win0_0.index t (0 : Fin 3) * 4 + 1 * g.val = _
    show _ = (4 * (t.val - 0) + g.val) % 8; omega
  | ⟨1, _⟩ =>
    show win0_0.index t (1 : Fin 3) * 2064 + 1 * n.val = _
    show _ = n.val; omega
  | ⟨2, _⟩ =>
    show win0_0.index t (2 : Fin 3) * 64 + 1 * d.val = _
    show _ = d.val; omega
theorem emb1 (t : Fin cfg0.N) (h : 2 ≤ t.val ∧ t.val < 4) (g : Fin 4) (n : Fin 2064) (d : Fin 64) :
    ((cfg0.win 1).blk t).view.emb (ix3 g n d) = ix3 (Fin.ofNat 8 (4 * (t.val - 2) + g)) n d := by
  obtain ⟨e0, e1, e2⟩ := idx1 t h
  funext a; apply Fin.ext
  match a with
  | ⟨0, _⟩ =>
    show win0_1.index t (0 : Fin 3) * 4 + 1 * g.val = _
    show _ = (4 * (t.val - 2) + g.val) % 8; omega
  | ⟨1, _⟩ =>
    show win0_1.index t (1 : Fin 3) * 2064 + 1 * n.val = _
    show _ = n.val; omega
  | ⟨2, _⟩ =>
    show win0_1.index t (2 : Fin 3) * 64 + 1 * d.val = _
    show _ = d.val; omega
theorem emb2 (t : Fin cfg0.N) (h : 4 ≤ t.val ∧ t.val < 6) (g : Fin 4) (n : Fin 2064) (d : Fin 64) :
    ((cfg0.win 2).blk t).view.emb (ix3 g n d) = ix3 (Fin.ofNat 8 (4 * (t.val - 4) + g)) n d := by
  obtain ⟨e0, e1, e2⟩ := idx2 t h
  funext a; apply Fin.ext
  match a with
  | ⟨0, _⟩ =>
    show win0_2.index t (0 : Fin 3) * 4 + 1 * g.val = _
    show _ = (4 * (t.val - 4) + g.val) % 8; omega
  | ⟨1, _⟩ =>
    show win0_2.index t (1 : Fin 3) * 2064 + 1 * n.val = _
    show _ = n.val; omega
  | ⟨2, _⟩ =>
    show win0_2.index t (2 : Fin 3) * 64 + 1 * d.val = _
    show _ = d.val; omega
theorem emb3 (t : Fin cfg0.N) (h : 6 ≤ t.val) (n : Fin 2064) (e : Fin 256) :
    ((cfg0.win 3).blk t).view.emb (ix2 n e) = ix2 n (Fin.ofNat 512 (256 * (t.val - 6) + e)) := by
  obtain ⟨e0, e1⟩ := idx3 t h
  have ht : t.val < 8 := t.isLt
  funext a; apply Fin.ext
  match a with
  | ⟨0, _⟩ =>
    show win0_3.index t (0 : Fin 2) * 2064 + 1 * n.val = _
    show _ = n.val; omega
  | ⟨1, _⟩ =>
    show win0_3.index t (1 : Fin 2) * 256 + 1 * e.val = _
    show _ = (256 * (t.val - 6) + e.val) % 512; omega
theorem emb4 (t : Fin cfg0.N) (n : Fin 2064) (d : Fin 1024) : ((cfg0.win 4).blk t).view.emb (ix2 n d) = ix2 n d := by
  obtain ⟨e0, e1⟩ := idx4 t
  funext a; apply Fin.ext
  match a with
  | ⟨0, _⟩ =>
    show win0_4.index t (0 : Fin 2) * 2064 + 1 * n.val = _
    show _ = n.val; omega
  | ⟨1, _⟩ =>
    show win0_4.index t (1 : Fin 2) * 1024 + 1 * d.val = _
    show _ = d.val; omega
theorem emb6 (t : Fin cfg0.N) (n : Fin 2064) (d : Fin 1024) : ((cfg0.win 6).blk t).view.emb (ix2 n d) = ix2 n d := by
  obtain ⟨e0, e1⟩ := idx6 t
  funext a; apply Fin.ext
  match a with
  | ⟨0, _⟩ =>
    show win0_6.index t (0 : Fin 2) * 2064 + 1 * n.val = _
    show _ = n.val; omega
  | ⟨1, _⟩ =>
    show win0_6.index t (1 : Fin 2) * 1024 + 1 * d.val = _
    show _ = d.val; omega
theorem emb5 (t : Fin cfg0.N) (d : Fin 1024) (e : Fin 256) : ((cfg0.win 5).blk t).view.emb (ix3 0 d e) = ix3 (Fin.ofNat 8 t.val) d e := by
  obtain ⟨e0, e1, e2⟩ := idx5 t
  have ht : t.val < 8 := t.isLt
  funext a; apply Fin.ext
  match a with
  | ⟨0, _⟩ =>
    show win0_5.index t (0 : Fin 3) * 1 + 1 * 0 = _
    show _ = t.val % 8; omega
  | ⟨1, _⟩ =>
    show win0_5.index t (1 : Fin 3) * 1024 + 1 * d.val = _
    show _ = d.val; omega
  | ⟨2, _⟩ =>
    show win0_5.index t (2 : Fin 3) * 256 + 1 * e.val = _
    show _ = e.val; omega
theorem emb7 (t : Fin cfg0.N) (d : Fin 1024) (e : Fin 256) : ((cfg0.win 7).blk t).view.emb (ix3 0 d e) = ix3 (Fin.ofNat 8 t.val) d e := by
  obtain ⟨e0, e1, e2⟩ := idx7 t
  have ht : t.val < 8 := t.isLt
  funext a; apply Fin.ext
  match a with
  | ⟨0, _⟩ =>
    show win0_7.index t (0 : Fin 3) * 1 + 1 * 0 = _
    show _ = t.val % 8; omega
  | ⟨1, _⟩ =>
    show win0_7.index t (1 : Fin 3) * 1024 + 1 * d.val = _
    show _ = d.val; omega
  | ⟨2, _⟩ =>
    show win0_7.index t (2 : Fin 3) * 256 + 1 * e.val = _
    show _ = e.val; omega

/-! What is staged at a point. -/

theorem staged (c : Dev nD) (t : Fin cfg0.N) : Blk (ct m c) t.val (iblk m c 4 t) (iblk m c 5 t) where
  ha n d := by
    show V m c main_v0 (((cfg0.win 4).blk t).view.emb (ix2 n d)) = _
    rw [emb4, host_a]
    show m (c, main_arg0) (ix2 n d) = m (c, main_arg0) (ix2 (Fin.ofNat 2064 n) (Fin.ofNat 1024 d))
    rw [ofNat_val, ofNat_val]
  hw d e := by
    have ht : t.val < 8 := t.isLt
    show V m c main_v3 (((cfg0.win 5).blk t).view.emb (ix3 0 d e)) = _
    rw [emb5, host_w]
    refine (shards _ _ _ _ d e).trans ?_
    show m (c, main_arg1) (ix2 d (Fin.ofNat 2048 (256 * (t.val % 8) + e.val))) = m (c, main_arg1) (ix2 (Fin.ofNat 1024 d) _)
    rw [ofNat_val, Nat.mod_eq_of_lt ht]

theorem staged_q (c : Dev nD) (t : Fin cfg0.N) (h : 0 ≤ t.val ∧ t.val < 2) (g : Fin 4) (n : Fin 2064) (d : Fin 64) :
    iblk m c 0 t (ix3 g n d) = (ct m c).p n (256 * t.val + (64 * g + d)) := by
  show V m c main_arg2 (((cfg0.win 0).blk t).view.emb (ix3 g n d)) = _
  rw [emb0 t h, V_main_arg2]
  refine (p_q _ _ _ _ _ _ n (4 * (t.val - 0) + g.val) (by omega) d).symm.trans (congrArg _ ?_)
  omega
theorem staged_k (c : Dev nD) (t : Fin cfg0.N) (h : 2 ≤ t.val ∧ t.val < 4) (g : Fin 4) (n : Fin 2064) (d : Fin 64) :
    iblk m c 1 t (ix3 g n d) = (ct m c).p n (256 * t.val + (64 * g + d)) := by
  show V m c main_arg3 (((cfg0.win 1).blk t).view.emb (ix3 g n d)) = _
  rw [emb1 t h, V_main_arg3]
  refine (p_k _ _ _ _ _ _ n (4 * (t.val - 2) + g.val) (by omega) d).symm.trans (congrArg _ ?_)
  omega
theorem staged_v (c : Dev nD) (t : Fin cfg0.N) (h : 4 ≤ t.val ∧ t.val < 6) (g : Fin 4) (n : Fin 2064) (d : Fin 64) :
    iblk m c 2 t (ix3 g n d) = (ct m c).p n (256 * t.val + (64 * g + d)) := by
  show V m c main_arg4 (((cfg0.win 2).blk t).view.emb (ix3 g n d)) = _
  rw [emb2 t h, V_main_arg4]
  refine (p_v _ _ _ _ _ _ n (4 * (t.val - 4) + g.val) (by omega) d).symm.trans (congrArg _ ?_)
  omega
theorem staged_u (c : Dev nD) (t : Fin cfg0.N) (h : 6 ≤ t.val) (n : Fin 2064) (e : Fin 256) :
    iblk m c 3 t (ix2 n e) = (ct m c).p n (256 * t.val + e) := by
  have ht : t.val < 8 := t.isLt
  show V m c main_arg5 (((cfg0.win 3).blk t).view.emb (ix2 n e)) = _
  rw [emb3 t h, V_main_arg5]
  refine (p_u _ _ _ _ _ _ n _).symm.trans (congrArg _ ?_)
  show 1536 + (256 * (t.val - 6) + e.val) % 512 = _
  omega

/-! What a point leaves. -/

theorem da_at_A (c : Dev nD) (t : Fin cfg0.N) (h : t.val = 0) (n : Fin 2064) (d : Fin 1024) :
    (outsAt0 m c t.val t.isLt).1 (ix2 n d) = (ct m c).part t.val n d := by
  have ht : t.val < 8 := t.isLt
  rw [outsAt0_A m c t (by omega) (by omega) (by omega) (by omega) (by omega) (by omega) (by omega) (by omega) (by omega) (by omega)]
  dsimp only [out0_A_6]
  refine (congrFun (View.read_writes_junk_eq_canon _ _) _).trans ?_
  exact da_A c _ _ _ _ _ _ _ _ _ _ _ _ _ _ _ _ _ _ _ _ _ _ _ _ _ _ _ (staged m c t) _ _ _ _ _ _ _ _ _ _ (staged_q m c t (by omega)) n d

theorem dw_at_A (c : Dev nD) (t : Fin cfg0.N) (h : t.val = 0) (d : Fin 1024) (e : Fin 256) :
    (dats m 0 c).arrAt 7 cfg0.N (((cfg0.win 7).blk t).view.emb (ix3 0 d e)) = (ct m c).dw d (256 * t.val + e) := by
  have ht : t.val < 8 := t.isLt
  refine (congrFun ((Value.blocks7 m c t (flush0_7 _)).trans (Value.flushed7_A m c t (by omega) (by omega) (by omega) (by omega) (by omega) (by omega) (by omega) (by omega) (by omega) (by omega))) (ix3 0 d e)).trans ?_
  refine (congrFun (View.read_writes_junk_eq_canon _ _) _).trans ?_
  exact dw_A c _ _ _ _ _ _ _ _ _ _ _ _ _ _ _ _ _ _ _ _ _ _ _ _ _ _ _ (staged m c t) _ _ _ _ _ _ _ _ _ _ (staged_q m c t (by omega)) d e

theorem da_at_B (c : Dev nD) (t : Fin cfg0.N) (h : t.val = 1) {f : ℕ → ℕ → EReal}
    (hf : ∀ (n : Fin 2064) (d : Fin 1024), (outsAt0 m c (t.val - 1) (Nat.lt_of_le_of_lt (Nat.sub_le _ _) t.isLt)).1 (ix2 n d) = f n d) (n : Fin 2064) (d : Fin 1024) :
    (outsAt0 m c t.val t.isLt).1 (ix2 n d) = f n d + (ct m c).part t.val n d := by
  have ht : t.val < 8 := t.isLt
  rw [outsAt0_B m c t (by omega) (by omega) (by omega) (by omega) (by omega) (by omega) (by omega) (by omega) (by omega) (by omega)]
  dsimp only [out0_B_6]
  refine (congrFun (View.read_writes_junk_eq_canon _ _) _).trans ?_
  exact da_B c _ _ _ _ _ _ _ _ _ _ _ _ _ _ _ _ _ _ _ _ _ _ _ _ _ _ _ (staged m c t) _ _ _ _ _ _ _ _ _ _ (staged_q m c t (by omega)) _ hf n d

theorem dw_at_B (c : Dev nD) (t : Fin cfg0.N) (h : t.val = 1) (d : Fin 1024) (e : Fin 256) :
    (dats m 0 c).arrAt 7 cfg0.N (((cfg0.win 7).blk t).view.emb (ix3 0 d e)) = (ct m c).dw d (256 * t.val + e) := by
  have ht : t.val < 8 := t.isLt
  refine (congrFun ((Value.blocks7 m c t (flush0_7 _)).trans (Value.flushed7_B m c t (by omega) (by omega) (by omega) (by omega) (by omega) (by omega) (by omega) (by omega) (by omega) (by omega))) (ix3 0 d e)).trans ?_
  refine (congrFun (View.read_writes_junk_eq_canon _ _) _).trans ?_
  exact dw_B c _ _ _ _ _ _ _ _ _ _ _ _ _ _ _ _ _ _ _ _ _ _ _ _ _ _ _ (staged m c t) _ _ _ _ _ _ _ _ _ _ (staged_q m c t (by omega)) _ d e

theorem da_at_C (c : Dev nD) (t : Fin cfg0.N) (h : 2 ≤ t.val ∧ t.val < 4) {f : ℕ → ℕ → EReal}
    (hf : ∀ (n : Fin 2064) (d : Fin 1024), (outsAt0 m c (t.val - 1) (Nat.lt_of_le_of_lt (Nat.sub_le _ _) t.isLt)).1 (ix2 n d) = f n d) (n : Fin 2064) (d : Fin 1024) :
    (outsAt0 m c t.val t.isLt).1 (ix2 n d) = f n d + (ct m c).part t.val n d := by
  have ht : t.val < 8 := t.isLt
  rw [outsAt0_C m c t (by omega) (by omega) (by omega) (by omega) (by omega) (by omega) (by omega) (by omega) (by omega) (by omega)]
  dsimp only [out0_C_6]
  refine (congrFun (View.read_writes_junk_eq_canon _ _) _).trans ?_
  exact da_C c _ _ _ _ _ _ _ _ _ _ _ _ _ _ _ _ _ _ _ _ _ _ _ _ _ _ _ (staged m c t) _ _ _ _ _ _ _ _ _ _ (staged_k m c t h) _ hf n d

theorem dw_at_C (c : Dev nD) (t : Fin cfg0.N) (h : 2 ≤ t.val ∧ t.val < 4) (d : Fin 1024) (e : Fin 256) :
    (dats m 0 c).arrAt 7 cfg0.N (((cfg0.win 7).blk t).view.emb (ix3 0 d e)) = (ct m c).dw d (256 * t.val + e) := by
  have ht : t.val < 8 := t.isLt
  refine (congrFun ((Value.blocks7 m c t (flush0_7 _)).trans (Value.flushed7_C m c t (by omega) (by omega) (by omega) (by omega) (by omega) (by omega) (by omega) (by omega) (by omega) (by omega))) (ix3 0 d e)).trans ?_
  refine (congrFun (View.read_writes_junk_eq_canon _ _) _).trans ?_
  exact dw_C c _ _ _ _ _ _ _ _ _ _ _ _ _ _ _ _ _ _ _ _ _ _ _ _ _ _ _ (staged m c t) _ _ _ _ _ _ _ _ _ _ (staged_k m c t h) _ d e

theorem da_at_D (c : Dev nD) (t : Fin cfg0.N) (h : 4 ≤ t.val ∧ t.val < 6) {f : ℕ → ℕ → EReal}
    (hf : ∀ (n : Fin 2064) (d : Fin 1024), (outsAt0 m c (t.val - 1) (Nat.lt_of_le_of_lt (Nat.sub_le _ _) t.isLt)).1 (ix2 n d) = f n d) (n : Fin 2064) (d : Fin 1024) :
    (outsAt0 m c t.val t.isLt).1 (ix2 n d) = f n d + (ct m c).part t.val n d := by
  have ht : t.val < 8 := t.isLt
  rw [outsAt0_D m c t (by omega) (by omega) (by omega) (by omega) (by omega) (by omega) (by omega) (by omega) (by omega) (by omega)]
  dsimp only [out0_D_6]
  refine (congrFun (View.read_writes_junk_eq_canon _ _) _).trans ?_
  exact da_D c _ _ _ _ _ _ _ _ _ _ _ _ _ _ _ _ _ _ _ _ _ _ _ _ _ _ _ (staged m c t) _ _ _ _ _ _ _ _ _ _ (staged_v m c t h) _ hf n d

theorem dw_at_D (c : Dev nD) (t : Fin cfg0.N) (h : 4 ≤ t.val ∧ t.val < 6) (d : Fin 1024) (e : Fin 256) :
    (dats m 0 c).arrAt 7 cfg0.N (((cfg0.win 7).blk t).view.emb (ix3 0 d e)) = (ct m c).dw d (256 * t.val + e) := by
  have ht : t.val < 8 := t.isLt
  refine (congrFun ((Value.blocks7 m c t (flush0_7 _)).trans (Value.flushed7_D m c t (by omega) (by omega) (by omega) (by omega) (by omega) (by omega) (by omega) (by omega) (by omega) (by omega))) (ix3 0 d e)).trans ?_
  refine (congrFun (View.read_writes_junk_eq_canon _ _) _).trans ?_
  exact dw_D c _ _ _ _ _ _ _ _ _ _ _ _ _ _ _ _ _ _ _ _ _ _ _ _ _ _ _ (staged m c t) _ _ _ _ _ _ _ _ _ _ (staged_v m c t h) _ d e

theorem da_at_E (c : Dev nD) (t : Fin cfg0.N) (h : 6 ≤ t.val) {f : ℕ → ℕ → EReal}
    (hf : ∀ (n : Fin 2064) (d : Fin 1024), (outsAt0 m c (t.val - 1) (Nat.lt_of_le_of_lt (Nat.sub_le _ _) t.isLt)).1 (ix2 n d) = f n d) (n : Fin 2064) (d : Fin 1024) :
    (outsAt0 m c t.val t.isLt).1 (ix2 n d) = f n d + (ct m c).part t.val n d := by
  have ht : t.val < 8 := t.isLt
  rw [outsAt0_E m c t (by omega) (by omega) (by omega) (by omega) (by omega) (by omega) (by omega) (by omega) (by omega) (by omega)]
  dsimp only [out0_E_6]
  refine (congrFun (View.read_writes_junk_eq_canon _ _) _).trans ?_
  exact da_E c _ _ _ _ _ _ _ _ _ _ _ _ _ _ _ _ _ _ _ _ _ _ _ _ _ _ _ (staged m c t) _ _ _ _ _ _ _ _ _ _ (staged_u m c t h) _ hf n d

theorem dw_at_E (c : Dev nD) (t : Fin cfg0.N) (h : 6 ≤ t.val) (d : Fin 1024) (e : Fin 256) :
    (dats m 0 c).arrAt 7 cfg0.N (((cfg0.win 7).blk t).view.emb (ix3 0 d e)) = (ct m c).dw d (256 * t.val + e) := by
  have ht : t.val < 8 := t.isLt
  refine (congrFun ((Value.blocks7 m c t (flush0_7 _)).trans (Value.flushed7_E m c t (by omega) (by omega) (by omega) (by omega) (by omega) (by omega) (by omega) (by omega) (by omega) (by omega))) (ix3 0 d e)).trans ?_
  refine (congrFun (View.read_writes_junk_eq_canon _ _) _).trans ?_
  exact dw_E c _ _ _ _ _ _ _ _ _ _ _ _ _ _ _ _ _ _ _ _ _ _ _ _ _ _ _ (staged m c t) _ _ _ _ _ _ _ _ _ _ (staged_u m c t h) _ d e

theorem da_at_later (c : Dev nD) (t : Fin cfg0.N) (h : t.val ≠ 0) {f : ℕ → ℕ → EReal}
    (hf : ∀ (n : Fin 2064) (d : Fin 1024), (outsAt0 m c (t.val - 1) (Nat.lt_of_le_of_lt (Nat.sub_le _ _) t.isLt)).1 (ix2 n d) = f n d)
    (n : Fin 2064) (d : Fin 1024) : (outsAt0 m c t.val t.isLt).1 (ix2 n d) = f n d + (ct m c).part t.val n d := by
  by_cases h1 : t.val < 2
  · exact da_at_B m c t (by omega) hf n d
  by_cases h2 : t.val < 4
  · exact da_at_C m c t (by omega) hf n d
  by_cases h3 : t.val < 6
  · exact da_at_D m c t (by omega) hf n d
  · exact da_at_E m c t (by omega) hf n d

theorem dw_at (c : Dev nD) (t : Fin cfg0.N) (d : Fin 1024) (e : Fin 256) :
    (dats m 0 c).arrAt 7 cfg0.N (((cfg0.win 7).blk t).view.emb (ix3 0 d e)) = (ct m c).dw d (256 * t.val + e) := by
  by_cases h0 : t.val = 0
  · exact dw_at_A m c t h0 d e
  by_cases h1 : t.val < 2
  · exact dw_at_B m c t (by omega) d e
  by_cases h2 : t.val < 4
  · exact dw_at_C m c t (by omega) d e
  by_cases h3 : t.val < 6
  · exact dw_at_D m c t (by omega) d e
  · exact dw_at_E m c t (by omega) d e

/-- The array of the weights' gradient. -/
theorem dw_array (c : Dev nD) (s : Fin 8) (d : Fin 1024) (e : Fin 256) :
    (dats m 0 c).arrAt 7 cfg0.N (ix3 s d e) = (ct m c).dw d (256 * s + e) := by
  have key := dw_at m c (⟨s.val, by show s.val < 8; omega⟩ : Fin cfg0.N) d e
  rw [emb7] at key
  dsimp only at key
  rw [ofNat_val] at key
  exact key

/-- What the rows' gradient's block holds after a point: the shares of the points so far. -/
theorem da_so_far (c : Dev nD) (t : ℕ) : ∀ (ht : t < cfg0.N) (n : Fin 2064) (d : Fin 1024),
    (outsAt0 m c t ht).1 (ix2 n d) = ∑ j ∈ range (t + 1), (ct m c).part j n d := by
  induction t with
  | zero =>
    intro ht n d
    rw [Finset.sum_range_one]
    exact da_at_A m c ⟨0, ht⟩ rfl n d
  | succ t ih =>
    intro ht n d
    rw [Finset.sum_range_succ]
    exact da_at_later m c ⟨t + 1, ht⟩ (Nat.succ_ne_zero t)
      (f := fun n d => ∑ j ∈ range (t + 1), (ct m c).part j n d) (ih (Nat.lt_of_succ_lt ht)) n d

/-- The last grid point. -/
def last : Fin cfg0.N := ⟨7, by show 7 < 8; omega⟩

/-- The array of the rows' gradient. -/
theorem da_array (c : Dev nD) (n : Fin 2064) (d : Fin 1024) : (dats m 0 c).arrAt 6 cfg0.N (ix2 n d) = (ct m c).da n d := by
  have key := congrFun (((dats m 0 c).read_blk_arrAt_eq_flushed 6
    (fun t t' h h' hne => absurd (Fin.ext (by
      have a := (flush0_6 t).mp h
      have b := (flush0_6 t').mp h'
      have ht : t.val < 8 := t.isLt
      have ht' : t'.val < 8 := t'.isLt
      omega)) hne) cfg0.N last last.isLt ((flush0_6 last).mpr rfl)).trans (Value.flushed6 m c last)) (ix2 n d)
  refine (congrArg ((dats m 0 c).arrAt 6 cfg0.N) (emb6 last n d)).symm.trans (Eq.trans key ?_)
  rw [Cot.da_eq]
  exact da_so_far m c 7 _ n d

end Cert.Proj.Bwd

end
-- ==== Proof.ProjHeads.lean ====
/- The projection's heads of queries, keys and values: the kernel's result after the run, entry by entry the reference's. -/
module

public import proofs.«01_k».proof.Proof.Proj
public import proofs.«01_k».proof.Proof.Pieces
public import proofs.«01_k».proof.Proof.Gen.Kernel5Ideal.Value
public import proofs.«01_k».proof.Proof.Gen.Reference5Ideal.Read

@[expose] public section

set_option maxRecDepth 16384

noncomputable section

namespace Cert.Proj.Heads

open Finset Idealize.ShloMosaic Idealize.ShloMosaic.TcCoe Idealize.ShloMosaic.StableHlo Cert.FFN

section Point

open Cert.Kernel5Ideal Cert.Kernel5Ideal.Gen

section Tile

variable {A : Mix} {o s : ℕ} {v0 : Vec Ideal S688x1024 .bf16} {v2 : Vec Ideal S1x1024x256 .bf16}
  (h0 : ∀ (i : Fin 688) (d : Fin 1024), v0 (ix2 i d) = A.a (o + i) d)
  (h2 : ∀ (d : Fin 1024) (e : Fin 256), v2 (ix3 0 d e) = A.w d (256 * s + e))

include h0 h2 in
theorem tile (i : Fin 688) (e : Fin 256) : k0_pay3 v0 v2 (ix2 i e) = A.p (o + i) (256 * s + e) := by
  pointwise [k0_pay3]
  simp only [h0, h2, Mix.p]

/-- 64 columns of a tile of the product, as one matrix of a stack. -/
theorem head {P : FVec Ideal S688x256 .f32} (hP : ∀ (i : Fin 688) (e : Fin 256), P (ix2 i e) = A.p (o + i) (256 * s + e))
    (g : ℕ) (hs : Shape.Slices S688x256 ![0, 64 * g] S688x64) (hc : Shape.ShapeCasts S688x64 S1x688x64) (i : Fin 688) (d : Fin 64) :
    shapeCast S1x688x64 (extractStridedSlice S688x64 ![0, 64 * g] P hs) hc (ix3 0 i d) = A.p (o + i) (256 * s + (64 * g + d)) := by
  have hg : 64 * g + 64 ≤ 256 := hs.2 1
  refine (shapeCast_apply _ _ (ix3 0 i d) (ix2 i d) ?_).trans ?_
  · rw [Shape.rowMajor_val_two, Shape.rowMajor_val_three]
    show i.val * 64 + d.val = (0 * 688 + i.val) * 64 + d.val
    omega
  · refine (extractStridedSlice_apply _ _ _ (ix2 i d) (ix2 i (⟨64 * g + d, by omega⟩ : Fin 256)) fun a => ?_).trans (hP _ _)
    match a with
    | 0 => show i.val = 0 + i.val; omega
    | 1 => rfl

end Tile

/-- A tile of rows of one matrix of a stack stored over stores that hold the other entries. -/
theorem over (f : ℕ → ℕ → ℕ → EReal) (g o : ℕ) (inb) (W : Vec Ideal S1x688x64 .f32)
    (L : List (View.Piece (Elt Ideal) S4x2064x64 .f32)) (hw : ∀ i d, W (ix3 0 i d) = f g (o + i) d)
    {q : Fin 4} {n : Fin 2064} {d : Fin 64}
    (hL : ¬(q.val = g ∧ o ≤ n.val ∧ n.val < o + 688) → View.canon L (ix3 q n d) = f q n d) :
    View.canon (⟨Rect.unit (s := S4x2064x64) ![g, o, 0] ![1, 688, 64] inb, W⟩ :: L) (ix3 q n d) = f q n d := by
  by_cases h : q.val = g ∧ o ≤ n.val ∧ n.val < o + 688
  · have e : n.val = o + (n.val - o) := by omega
    refine (Cert.NA.canon_hit3 _ _ _ _ _ _ (0 : Fin 1) (⟨n.val - o, by omega⟩ : Fin 688) d q n d (by simp [h.1]) e (by simp)).trans ?_
    rw [hw, h.1, ← e]
  · exact (Cert.NA.canon_miss3 _ _ _ _ _ _ q n d fun hm => h (by omega)).trans (hL h)

/-- What a grid point leaves: four heads of 64 columns of the product. -/
theorem point {x0 : Vec Ideal S2064x1024 .bf16} {x1 : Vec Ideal S1x1024x256 .bf16} {A : Mix} {s : ℕ}
    (hx : ∀ (n : Fin 2064) (d : Fin 1024), x0 (ix2 n d) = A.a n d)
    (hw : ∀ (d : Fin 1024) (e : Fin 256), x1 (ix3 0 d e) = A.w d (256 * s + e)) (q : Fin 4) (n : Fin 2064) (d : Fin 64) :
    out0_2 x0 x1 (ix3 q n d) = A.p n (256 * s + (64 * q + d)) := by
  have hw' := fun d e => (whole x1 inb_S1x1024x256_S1x1024x256_0_0_0 0 d e).trans (hw d e)
  refine over (fun g n d => A.p n (256 * s + (64 * g + d))) 3 1376 _ _ _ ?_ fun h0 => ?_
  · exact head (tile (rows hx 1376 _) hw') 3 slices_S688x256_o0_192_S688x64 shapeCasts_S688x64_S1x688x64
  refine over (fun g n d => A.p n (256 * s + (64 * g + d))) 2 1376 _ _ _ ?_ fun h1 => ?_
  · exact head (tile (rows hx 1376 _) hw') 2 slices_S688x256_o0_128_S688x64 shapeCasts_S688x64_S1x688x64
  refine over (fun g n d => A.p n (256 * s + (64 * g + d))) 1 1376 _ _ _ ?_ fun h2 => ?_
  · exact head (tile (rows hx 1376 _) hw') 1 slices_S688x256_o0_64_S688x64 shapeCasts_S688x64_S1x688x64
  refine over (fun g n d => A.p n (256 * s + (64 * g + d))) 0 1376 _ _ _ ?_ fun h3 => ?_
  · exact head (tile (rows hx 1376 _) hw') 0 slices_S688x256_o0_0_S688x64 shapeCasts_S688x64_S1x688x64
  refine over (fun g n d => A.p n (256 * s + (64 * g + d))) 3 688 _ _ _ ?_ fun h4 => ?_
  · exact head (tile (rows hx 688 _) hw') 3 slices_S688x256_o0_192_S688x64 shapeCasts_S688x64_S1x688x64
  refine over (fun g n d => A.p n (256 * s + (64 * g + d))) 2 688 _ _ _ ?_ fun h5 => ?_
  · exact head (tile (rows hx 688 _) hw') 2 slices_S688x256_o0_128_S688x64 shapeCasts_S688x64_S1x688x64
  refine over (fun g n d => A.p n (256 * s + (64 * g + d))) 1 688 _ _ _ ?_ fun h6 => ?_
  · exact head (tile (rows hx 688 _) hw') 1 slices_S688x256_o0_64_S688x64 shapeCasts_S688x64_S1x688x64
  refine over (fun g n d => A.p n (256 * s + (64 * g + d))) 0 688 _ _ _ ?_ fun h7 => ?_
  · exact head (tile (rows hx 688 _) hw') 0 slices_S688x256_o0_0_S688x64 shapeCasts_S688x64_S1x688x64
  refine over (fun g n d => A.p n (256 * s + (64 * g + d))) 3 0 _ _ _ ?_ fun h8 => ?_
  · exact head (tile (rows hx 0 _) hw') 3 slices_S688x256_o0_192_S688x64 shapeCasts_S688x64_S1x688x64
  refine over (fun g n d => A.p n (256 * s + (64 * g + d))) 2 0 _ _ _ ?_ fun h9 => ?_
  · exact head (tile (rows hx 0 _) hw') 2 slices_S688x256_o0_128_S688x64 shapeCasts_S688x64_S1x688x64
  refine over (fun g n d => A.p n (256 * s + (64 * g + d))) 1 0 _ _ _ ?_ fun h10 => ?_
  · exact head (tile (rows hx 0 _) hw') 1 slices_S688x256_o0_64_S688x64 shapeCasts_S688x64_S1x688x64
  refine over (fun g n d => A.p n (256 * s + (64 * g + d))) 0 0 _ _ _ ?_ fun h11 => ?_
  · exact head (tile (rows hx 0 _) hw') 0 slices_S688x256_o0_0_S688x64 shapeCasts_S688x64_S1x688x64
  omega

variable (m : (ℓ : Loc nD τ sig) → Buf (Elt Ideal) ℓ)

/-- The rows and weights of a device. -/
def mx (c : Dev nD) : Mix := mixOf (m (c, main_arg0)) (m (c, main_arg1))

theorem host_a (c : Dev nD) : (V m c main_v0 : Vec Ideal S2064x1024 .bf16) = truncf (F := Ideal) .bf16 (m (c, main_arg0) : Vec Ideal S2064x1024 .f32) bitsLt_bf16_f32 := by dsimp only [V, hostOps0]; after_results
theorem host_w (c : Dev nD) : (V m c main_v3 : Vec Ideal S8x1024x256 .bf16)
    = truncf (F := Ideal) .bf16 (transpose S8x1024x256 [1, 0, 2] (shapeCast S1024x8x256 (m (c, main_arg1) : Vec Ideal S1024x2048 .f32) shapeCasts_S1024x2048_S1024x8x256) transposes_S1024x8x256_S8x1024x256_1_0_2) bitsLt_bf16_f32 := by
  dsimp only [V, hostOps0]; after_results; rfl

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

theorem emb0 (t : Fin cfg0.N) (n : Fin 2064) (d : Fin 1024) : ((cfg0.win 0).blk t).view.emb (ix2 n d) = ix2 n d := by
  obtain ⟨e0, e1⟩ := idx0 t
  funext a; apply Fin.ext
  match a with
  | ⟨0, _⟩ =>
    show win0_0.index t (0 : Fin 2) * 2064 + 1 * n.val = _
    show _ = n.val; omega
  | ⟨1, _⟩ =>
    show win0_0.index t (1 : Fin 2) * 1024 + 1 * d.val = _
    show _ = d.val; omega
theorem emb1 (t : Fin cfg0.N) (d : Fin 1024) (e : Fin 256) : ((cfg0.win 1).blk t).view.emb (ix3 0 d e) = ix3 (Fin.ofNat 8 t.val) d e := by
  obtain ⟨e0, e1, e2⟩ := idx1 t
  have ht : t.val < 6 := t.isLt
  funext a; apply Fin.ext
  match a with
  | ⟨0, _⟩ =>
    show win0_1.index t (0 : Fin 3) * 1 + 1 * 0 = _
    show _ = t.val % 8; omega
  | ⟨1, _⟩ =>
    show win0_1.index t (1 : Fin 3) * 1024 + 1 * d.val = _
    show _ = d.val; omega
  | ⟨2, _⟩ =>
    show win0_1.index t (2 : Fin 3) * 256 + 1 * e.val = _
    show _ = e.val; omega
theorem emb2 (t : Fin cfg0.N) (q : Fin 4) (n : Fin 2064) (d : Fin 64) : ((cfg0.win 2).blk t).view.emb (ix3 q n d) = ix3 (Fin.ofNat 24 (4 * t.val + q)) n d := by
  obtain ⟨e0, e1, e2⟩ := idx2 t
  have ht : t.val < 6 := t.isLt
  funext a; apply Fin.ext
  match a with
  | ⟨0, _⟩ =>
    show win0_2.index t (0 : Fin 3) * 4 + 1 * q.val = _
    show _ = (4 * t.val + q.val) % 24; omega
  | ⟨1, _⟩ =>
    show win0_2.index t (1 : Fin 3) * 2064 + 1 * n.val = _
    show _ = n.val; omega
  | ⟨2, _⟩ =>
    show win0_2.index t (2 : Fin 3) * 64 + 1 * d.val = _
    show _ = d.val; omega

theorem staged_a (c : Dev nD) (t : Fin cfg0.N) (n : Fin 2064) (d : Fin 1024) : iblk m c 0 t (ix2 n d) = (mx m c).a n d := by
  show V m c main_v0 (((cfg0.win 0).blk t).view.emb (ix2 n d)) = _
  rw [emb0, host_a]
  show m (c, main_arg0) (ix2 n d) = m (c, main_arg0) (ix2 (Fin.ofNat 2064 n) (Fin.ofNat 1024 d))
  rw [ofNat_val, ofNat_val]

theorem staged_w (c : Dev nD) (t : Fin cfg0.N) (d : Fin 1024) (e : Fin 256) :
    iblk m c 1 t (ix3 0 d e) = (mx m c).w d (256 * t.val + e) := by
  have ht : t.val < 6 := t.isLt
  show V m c main_v3 (((cfg0.win 1).blk t).view.emb (ix3 0 d e)) = _
  rw [emb1, host_w]
  refine (shards _ _ _ _ d e).trans ?_
  show m (c, main_arg1) (ix2 d (Fin.ofNat 2048 (256 * (t.val % 8) + e.val))) = m (c, main_arg1) (ix2 (Fin.ofNat 1024 d) _)
  rw [ofNat_val, Nat.mod_eq_of_lt (by omega)]

/-- Head `h` of the result: point `h / 4`, head `h % 4` of its block. -/
def pt (h : Fin 24) : Fin cfg0.N := ⟨h.val / 4, by show _ < 6; omega⟩
def sub (h : Fin 24) : Fin 4 := ⟨h.val % 4, by omega⟩
theorem pt_sub (h : Fin 24) : 4 * (pt h).val + (sub h).val = h.val := by show 4 * (h.val / 4) + h.val % 4 = _; omega

/-- The result array. -/
theorem array (c : Dev nD) (h : Fin 24) (n : Fin 2064) (d : Fin 64) :
    (dats m 0 c).arrAt 2 cfg0.N (ix3 h n d) = (mx m c).p n (64 * h + d) := by
  have key : (dats m 0 c).arrAt 2 cfg0.N (((cfg0.win 2).blk (pt h)).view.emb (ix3 (sub h) n d)) = (mx m c).p n (256 * (pt h).val + (64 * (sub h).val + d)) :=
    (congrFun ((Value.blocks2 m c (pt h) (flush0_2 _)).trans (Value.flushed2 m c (pt h))) (ix3 (sub h) n d)).trans
      (point (staged_a m c (pt h)) (staged_w m c (pt h)) (sub h) n d)
  rw [emb2, pt_sub, ofNat_val] at key
  refine key.trans (congrArg _ ?_)
  have := pt_sub h
  omega

end Point

section Ref

open Cert.Reference5Ideal Cert.Reference5Ideal.Gen Cert.Reference5Ideal.Read

variable (x0 : Vec Ideal S2064x1024 .f32) (x1 : Vec Ideal S1024x2048 .f32)

theorem ref_p (n : Fin 2064) (f : Fin 2048) : val_main_v0 (F := Ideal) x0 x1 (ix2 n f) = (mixOf x0 x1).p n f := by
  pointwise [val_main_v0]
  simp only [Mix.p, mixOf, ofNat_val]

theorem ref_q (h : Fin 8) (n : Fin 2064) (d : Fin 64) : val_main_v3 (F := Ideal) x0 x1 (ix3 h n d) = (mixOf x0 x1).p n (0 + (64 * h + d)) := by
  rw [val_main_v3_apply, val_main_v2_apply, val_main_v1_apply]
  refine Eq.trans (congrArg _ ?_) (ref_p x0 x1 n (⟨0 + (64 * h + d), by omega⟩ : Fin 2048))
  funext a; apply Fin.ext
  match a with
  | ⟨0, _⟩ => show ((n.val * 8 + h.val) * 64 + d.val) / 512 = n.val; omega
  | ⟨1, _⟩ => show ((n.val * 8 + h.val) * 64 + d.val) % 512 = 0 + (64 * h.val + d.val); omega

theorem ref_k (h : Fin 8) (n : Fin 2064) (d : Fin 64) : val_main_v6 (F := Ideal) x0 x1 (ix3 h n d) = (mixOf x0 x1).p n (512 + (64 * h + d)) := by
  rw [val_main_v6_apply, val_main_v5_apply, val_main_v4_apply]
  refine Eq.trans (congrArg _ ?_) (ref_p x0 x1 n (⟨512 + (64 * h + d), by omega⟩ : Fin 2048))
  funext a; apply Fin.ext
  match a with
  | ⟨0, _⟩ => show ((n.val * 8 + h.val) * 64 + d.val) / 512 = n.val; omega
  | ⟨1, _⟩ => show 512 + ((n.val * 8 + h.val) * 64 + d.val) % 512 = 512 + (64 * h.val + d.val); omega

theorem ref_v (h : Fin 8) (n : Fin 2064) (d : Fin 64) : val_main_v9 (F := Ideal) x0 x1 (ix3 h n d) = (mixOf x0 x1).p n (1024 + (64 * h + d)) := by
  rw [val_main_v9_apply, val_main_v8_apply, val_main_v7_apply]
  refine Eq.trans (congrArg _ ?_) (ref_p x0 x1 n (⟨1024 + (64 * h + d), by omega⟩ : Fin 2048))
  funext a; apply Fin.ext
  match a with
  | ⟨0, _⟩ => show ((n.val * 8 + h.val) * 64 + d.val) / 512 = n.val; omega
  | ⟨1, _⟩ => show 1024 + ((n.val * 8 + h.val) * 64 + d.val) % 512 = 1024 + (64 * h.val + d.val); omega

/-- The reference's heads, the queries' before the keys' before the values'. -/
theorem ref (h : Fin 24) (n : Fin 2064) (d : Fin 64) : val_main_v11 (F := Ideal) x0 x1 (ix3 h n d) = (mixOf x0 x1).p n (64 * h + d) := by
  have hb : ∀ g : Fin 8, ∀ b : Fin 3, Fin.cast (rfl : (3 : ℕ) = 3) b ≠ 0 → ((ix3 g n d : Shape.Idx S8x2064x64) b).val = ((ix3 h n d : Shape.Idx S24x2064x64) (Fin.cast (rfl : (3 : ℕ) = 3) b)).val := by
    intro g b h
    match b with
    | 0 => exact absurd rfl h
    | 1 => rfl
    | 2 => rfl
  unfold val_main_v11
  by_cases h8 : h.val < 8
  · refine (concatenate_apply_piece (t := S24x2064x64) 0 [⟨S8x2064x64, val_main_v3 (F := Ideal) x0 x1⟩, ⟨S8x2064x64, val_main_v6 (F := Ideal) x0 x1⟩, ⟨S8x2064x64, val_main_v9 (F := Ideal) x0 x1⟩] concatenates_S8x2064x64_S8x2064x64_S8x2064x64_S24x2064x64_d0 (ix3 h n d) 0 (by simp) S8x2064x64 (val_main_v3 (F := Ideal) x0 x1) rfl rfl 0 rfl (ix3 (⟨h.val, h8⟩ : Fin 8) n d) (hb _) ?_).trans ?_
    · show 0 + h.val = h.val; omega
    · rw [ref_q]; exact congrArg _ (by show 0 + (64 * h.val + d.val) = _; omega)
  by_cases h16 : h.val < 16
  · refine (concatenate_apply_piece (t := S24x2064x64) 0 [⟨S8x2064x64, val_main_v3 (F := Ideal) x0 x1⟩, ⟨S8x2064x64, val_main_v6 (F := Ideal) x0 x1⟩, ⟨S8x2064x64, val_main_v9 (F := Ideal) x0 x1⟩] concatenates_S8x2064x64_S8x2064x64_S8x2064x64_S24x2064x64_d0 (ix3 h n d) 1 (by simp) S8x2064x64 (val_main_v6 (F := Ideal) x0 x1) rfl rfl 8 rfl (ix3 (⟨h.val - 8, by omega⟩ : Fin 8) n d) (hb _) ?_).trans ?_
    · show 8 + (h.val - 8) = h.val; omega
    · rw [ref_k]; exact congrArg _ (by show 512 + (64 * (h.val - 8) + d.val) = _; omega)
  · refine (concatenate_apply_piece (t := S24x2064x64) 0 [⟨S8x2064x64, val_main_v3 (F := Ideal) x0 x1⟩, ⟨S8x2064x64, val_main_v6 (F := Ideal) x0 x1⟩, ⟨S8x2064x64, val_main_v9 (F := Ideal) x0 x1⟩] concatenates_S8x2064x64_S8x2064x64_S8x2064x64_S24x2064x64_d0 (ix3 h n d) 2 (by simp) S8x2064x64 (val_main_v9 (F := Ideal) x0 x1) rfl rfl 16 rfl (ix3 (⟨h.val - 16, by omega⟩ : Fin 8) n d) (hb _) ?_).trans ?_
    · show 16 + (h.val - 16) = h.val; omega
    · rw [ref_v]; exact congrArg _ (by show 1024 + (64 * (h.val - 16) + d.val) = _; omega)

end Ref

open Cert.Kernel5Ideal.Gen

/-- A stack's index is the triple of its coordinates. -/
theorem ext3 {a b c : ℕ} {e : EltTy} {P Q : Vec Ideal ⟨3, ![a, b, c]⟩ e} (h : ∀ i j k, P (ix3 i j k) = Q (ix3 i j k)) : P = Q := by
  funext i
  rw [eq_ix3 i]
  exact h _ _ _

theorem out_eq (m : (ℓ : Loc Cert.Kernel5Ideal.nD Cert.Kernel5Ideal.τ Cert.Kernel5Ideal.sig) → Buf (Elt Ideal) ℓ)
    (c : Dev Cert.Kernel5Ideal.nD) : (dats m 0 c).arrAt 2 Cert.Kernel5Ideal.cfg0.N
    = Cert.Reference5Ideal.Read.val_main_v11 (F := Ideal) (m (c, Cert.Kernel5Ideal.main_arg0)) (m (c, Cert.Kernel5Ideal.main_arg1)) :=
  ext3 (e := .f32) fun h n d => (array m c h n d).trans (ref _ _ h n d).symm

end Cert.Proj.Heads

end
-- ==== Proof.ProjBwdRef.lean ====
/- The gradients of the mixer's input projection: the reference's results are the kernel's. -/
module

public import proofs.«01_k».proof.Proof.ProjBwdArrays
public import proofs.«01_k».proof.Proof.ProjHeads
public import proofs.«01_k».proof.Proof.Gen.Reference4Ideal.Read
public import Idealize.ShloMosaic.Lib.KernelVsHost

@[expose] public section

set_option maxRecDepth 16384

noncomputable section

namespace Cert.Proj.Bwd

open Finset Idealize.ShloMosaic Idealize.ShloMosaic.TcCoe Idealize.ShloMosaic.StableHlo Cert.FFN

section Ref

open Cert.Reference4Ideal Cert.Reference4Ideal.Gen Cert.Reference4Ideal.Read

/-- 512 columns put into 2048 from column `o` on, zeros around them: a column of the 512, and one of the others. -/
theorem put_in (o q : ℕ) (y : Vec Ideal S2064x512 .f32) (z : Vec Ideal S_ .f32) (h) (hu) (n : Fin 2064) (f : Fin 2048)
    (e : Fin 512) (hf : f.val = o + e.val) : pad S2064x2048 ![0, o] ![0, q] ![0, 0] y z h hu (ix2 n f) = y (ix2 n e) :=
  pad_apply_of_inside _ _ _ y z h hu _ (ix2 n e) fun a => match a with
    | 0 => by show n.val = 0 + n.val * (0 + 1); omega
    | 1 => by show f.val = o + e.val * (0 + 1); omega

theorem put_out (o q : ℕ) (y : Vec Ideal S2064x512 .f32) (z : Vec Ideal S_ .f32) (hz : ∀ i, z i = (0 : EReal)) (h) (hu) (n : Fin 2064)
    (f : Fin 2048) (hf : ¬(o ≤ f.val ∧ f.val < o + 512)) : pad S2064x2048 ![0, o] ![0, q] ![0, 0] y z h hu (ix2 n f) = (0 : EReal) := by
  refine (pad_apply_of_not_inside _ _ _ y z h hu _ (1 : Fin 2) fun hh => hf ?_).trans (hz _)
  have h1 : o ≤ f.val := hh.1
  have h2 : (f.val - o) / (0 + 1) < 512 := hh.2.2
  omega

theorem no_bits (i : S_.Idx) : (constant (F := Ideal) S_ .f32 0x00000000#32 : Vec Ideal S_ .f32) i = (0 : EReal) := by
  show Ideal.ofBits .f32 0x00000000#32 = 0
  exact Ideal.ofBits_zero_f32

variable (x0 : Vec Ideal S2064x1024 .f32) (x1 : Vec Ideal S1024x2048 .f32) (x2 x3 x4 : Vec Ideal S8x2064x64 .f32) (x5 : Vec Ideal S2064x512 .f32)

/-- Eight heads as one matrix of 512 columns. -/
theorem flat_q (n : Fin 2064) (e : Fin 512) : val_main_v21 (F := Ideal) x2 (ix2 n e) = x2 (ix3 (Fin.ofNat 8 (e / 64)) n (Fin.ofNat 64 e)) := by
  rw [val_main_v21_apply, val_main_v20_apply]
  refine congrArg x2 ?_
  funext a; apply Fin.ext
  match a with
  | ⟨0, _⟩ => show (n.val * 512 + e.val) / 64 % 8 = e.val / 64 % 8; omega
  | ⟨1, _⟩ => show (n.val * 512 + e.val) / 512 = n.val; omega
  | ⟨2, _⟩ => show (n.val * 512 + e.val) % 64 = e.val % 64; omega

theorem flat_k (n : Fin 2064) (e : Fin 512) : val_main_v17 (F := Ideal) x3 (ix2 n e) = x3 (ix3 (Fin.ofNat 8 (e / 64)) n (Fin.ofNat 64 e)) := by
  rw [val_main_v17_apply, val_main_v16_apply]
  refine congrArg x3 ?_
  funext a; apply Fin.ext
  match a with
  | ⟨0, _⟩ => show (n.val * 512 + e.val) / 64 % 8 = e.val / 64 % 8; omega
  | ⟨1, _⟩ => show (n.val * 512 + e.val) / 512 = n.val; omega
  | ⟨2, _⟩ => show (n.val * 512 + e.val) % 64 = e.val % 64; omega

theorem flat_v (n : Fin 2064) (e : Fin 512) : val_main_v13 (F := Ideal) x4 (ix2 n e) = x4 (ix3 (Fin.ofNat 8 (e / 64)) n (Fin.ofNat 64 e)) := by
  rw [val_main_v13_apply, val_main_v12_apply]
  refine congrArg x4 ?_
  funext a; apply Fin.ext
  match a with
  | ⟨0, _⟩ => show (n.val * 512 + e.val) / 64 % 8 = e.val / 64 % 8; omega
  | ⟨1, _⟩ => show (n.val * 512 + e.val) / 512 = n.val; omega
  | ⟨2, _⟩ => show (n.val * 512 + e.val) % 64 = e.val % 64; omega

/-- The product's gradient: the four parts put side by side. -/
theorem ref_p (n : Fin 2064) (f : Fin 2048) : val_main_v23 (F := Ideal) x2 x3 x4 x5 (ix2 n f) = (cotOf x0 x1 x2 x3 x4 x5).p n f := by
  rw [val_main_v23_apply, val_main_v19_apply, val_main_v15_apply]
  show ((val_main_v11 (F := Ideal) x5 (ix2 n f) + val_main_v14 (F := Ideal) x4 (ix2 n f) : EReal) + val_main_v18 (F := Ideal) x3 (ix2 n f))
    + val_main_v22 (F := Ideal) x2 (ix2 n f) = _
  unfold val_main_v11 val_main_v14 val_main_v18 val_main_v22 val_main_cst val_main_cst_0 val_main_cst_1 val_main_cst_2
  by_cases h0 : f.val < 512
  · rw [put_out 1536 0 _ _ no_bits _ _ n f (by omega), put_out 1024 512 _ _ no_bits _ _ n f (by omega), put_out 512 1024 _ _ no_bits _ _ n f (by omega),
      put_in 0 1536 _ _ _ _ n f ⟨f.val, h0⟩ (by simp), flat_q, zero_add, zero_add, zero_add]
    refine (congrArg x2 ?_).trans (p_q x0 x1 x2 x3 x4 x5 n (f.val / 64) (by omega) (Fin.ofNat 64 f)).symm |>.trans (congrArg _ ?_)
    · rfl
    · show 0 + (64 * (f.val / 64) + f.val % 64) = f.val; omega
  by_cases h1 : f.val < 1024
  · rw [put_out 1536 0 _ _ no_bits _ _ n f (by omega), put_out 1024 512 _ _ no_bits _ _ n f (by omega), put_out 0 1536 _ _ no_bits _ _ n f (by omega),
      put_in 512 1024 _ _ _ _ n f ⟨f.val - 512, by omega⟩ (by show f.val = 512 + (f.val - 512); omega), flat_k, zero_add, zero_add, add_zero]
    refine (p_k x0 x1 x2 x3 x4 x5 n ((f.val - 512) / 64) (by omega) (Fin.ofNat 64 (f.val - 512))).symm.trans (congrArg _ ?_)
    show 512 + (64 * ((f.val - 512) / 64) + (f.val - 512) % 64) = f.val; omega
  by_cases h2 : f.val < 1536
  · rw [put_out 1536 0 _ _ no_bits _ _ n f (by omega), put_out 512 1024 _ _ no_bits _ _ n f (by omega), put_out 0 1536 _ _ no_bits _ _ n f (by omega),
      put_in 1024 512 _ _ _ _ n f ⟨f.val - 1024, by omega⟩ (by show f.val = 1024 + (f.val - 1024); omega), flat_v, zero_add, add_zero, add_zero]
    refine (p_v x0 x1 x2 x3 x4 x5 n ((f.val - 1024) / 64) (by omega) (Fin.ofNat 64 (f.val - 1024))).symm.trans (congrArg _ ?_)
    show 1024 + (64 * ((f.val - 1024) / 64) + (f.val - 1024) % 64) = f.val; omega
  · rw [put_out 1024 512 _ _ no_bits _ _ n f (by omega), put_out 512 1024 _ _ no_bits _ _ n f (by omega), put_out 0 1536 _ _ no_bits _ _ n f (by omega),
      put_in 1536 0 _ _ _ _ n f ⟨f.val - 1536, by omega⟩ (by show f.val = 1536 + (f.val - 1536); omega), add_zero, add_zero, add_zero]
    refine (p_u x0 x1 x2 x3 x4 x5 n ⟨f.val - 1536, by omega⟩).symm.trans (congrArg _ ?_)
    show 1536 + (f.val - 1536) = f.val; omega

/-- The rows' gradient. -/
theorem ref_da (n : Fin 2064) (d : Fin 1024) : val_main_v26 (F := Ideal) x1 x2 x3 x4 x5 (ix2 n d) = (cotOf x0 x1 x2 x3 x4 x5).da n d := by
  rw [val_main_v26_apply, Cot.da, Finset.sum_range]
  refine Finset.sum_congr rfl fun f _ => ?_
  refine congrArg₂ (· * ·) ((congrArg _ ?_).trans (ref_p x0 x1 x2 x3 x4 x5 n f)) ?_
  · funext a; apply Fin.ext
    match a with
    | ⟨0, _⟩ => rfl
    | ⟨1, _⟩ => rfl
  · show x1 _ = x1 (ix2 (Fin.ofNat 1024 d) (Fin.ofNat 2048 f))
    rw [ofNat_val, ofNat_val]
    refine congrArg x1 ?_
    funext a; apply Fin.ext
    match a with
    | ⟨0, _⟩ => rfl
    | ⟨1, _⟩ => rfl

/-- The weights' gradient, by eight parts of 256 columns. -/
theorem ref_dw (s : Fin 8) (d : Fin 1024) (e : Fin 256) :
    val_main_v29 (F := Ideal) x0 x2 x3 x4 x5 (ix3 s d e) = (cotOf x0 x1 x2 x3 x4 x5).dw d (256 * s + e) := by
  rw [val_main_v29_apply]
  show val_main_v28 (F := Ideal) x0 x2 x3 x4 x5 (ix3 s d e) = _
  rw [val_main_v28_apply, val_main_v27_apply, val_main_v25_apply, val_main_v24_apply, Cot.dw, Back.over, Finset.sum_range]
  refine Finset.sum_congr rfl fun n _ => ?_
  refine (mul_comm _ _).trans ?_
  refine congrArg₂ (· * ·) ?_ ((congrArg _ ?_).trans (ref_p x0 x1 x2 x3 x4 x5 n (⟨256 * s.val + e.val, by omega⟩ : Fin 2048)))
  · show x0 _ = x0 (ix2 (Fin.ofNat 2064 n) (Fin.ofNat 1024 d))
    rw [ofNat_val, ofNat_val]
    refine congrArg x0 ?_
    funext a; apply Fin.ext
    match a with
    | ⟨0, _⟩ => rfl
    | ⟨1, _⟩ => show ((d.val * 8 + s.val) * 256 + e.val) / 2048 = d.val; omega
  · funext a; apply Fin.ext
    match a with
    | ⟨0, _⟩ => rfl
    | ⟨1, _⟩ => show ((d.val * 8 + s.val) * 256 + e.val) % 2048 = 256 * s.val + e.val; omega

end Ref

open Cert.Kernel4Ideal.Gen

variable (m : (ℓ : Loc Cert.Kernel4Ideal.nD Cert.Kernel4Ideal.τ Cert.Kernel4Ideal.sig) → Buf (Elt Ideal) ℓ) (c : Dev Cert.Kernel4Ideal.nD)

theorem da_eq : (dats m 0 c).arrAt 6 Cert.Kernel4Ideal.cfg0.N
    = Cert.Reference4Ideal.Read.val_main_v26 (F := Ideal) (m (c, Cert.Kernel4Ideal.main_arg1)) (m (c, Cert.Kernel4Ideal.main_arg2))
        (m (c, Cert.Kernel4Ideal.main_arg3)) (m (c, Cert.Kernel4Ideal.main_arg4)) (m (c, Cert.Kernel4Ideal.main_arg5)) :=
  ext2 (e := .f32) fun n d => (da_array m c n d).trans (ref_da _ _ _ _ _ _ n d).symm

theorem dw_eq : (dats m 0 c).arrAt 7 Cert.Kernel4Ideal.cfg0.N
    = Cert.Reference4Ideal.Read.val_main_v29 (F := Ideal) (m (c, Cert.Kernel4Ideal.main_arg0)) (m (c, Cert.Kernel4Ideal.main_arg2))
        (m (c, Cert.Kernel4Ideal.main_arg3)) (m (c, Cert.Kernel4Ideal.main_arg4)) (m (c, Cert.Kernel4Ideal.main_arg5)) :=
  Cert.Proj.Heads.ext3 (e := .bf16) fun s d e => (dw_array m c s d e).trans (ref_dw _ _ _ _ _ _ s d e).symm

end Cert.Proj.Bwd

end
-- ==== Proof.ProjU.lean ====
/- The projection's last 512 columns: the kernel's result after the run, entry by entry the reference's. -/
module

public import proofs.«01_k».proof.Proof.Proj
public import proofs.«01_k».proof.Proof.Gen.Kernel6Ideal.Value
public import proofs.«01_k».proof.Proof.Gen.Reference6Ideal.Read

@[expose] public section

set_option maxRecDepth 16384

noncomputable section

namespace Cert.Proj.U

open Finset Idealize.ShloMosaic Idealize.ShloMosaic.TcCoe Idealize.ShloMosaic.StableHlo Cert.FFN

section Point

open Cert.Kernel6Ideal Cert.Kernel6Ideal.Gen

variable {A : Mix} {o s : ℕ} {v0 : Vec Ideal S688x1024 .bf16} {v2 : Vec Ideal S1x1024x256 .bf16}
  (h0 : ∀ (i : Fin 688) (d : Fin 1024), v0 (ix2 i d) = A.a (o + i) d)
  (h2 : ∀ (d : Fin 1024) (e : Fin 256), v2 (ix3 0 d e) = A.w d (256 * s + e))

include h0 h2 in
theorem tile (i : Fin 688) (e : Fin 256) : k0_pay1 v0 v2 (ix2 i e) = A.p (o + i) (256 * s + e) := by
  pointwise [k0_pay1]
  simp only [h0, h2, Mix.p]

/-- What a grid point leaves: 256 columns of the product. -/
theorem point {x0 : Vec Ideal S2064x1024 .bf16} {x1 : Vec Ideal S1x1024x256 .bf16} {A : Mix} {s : ℕ}
    (hx : ∀ (n : Fin 2064) (d : Fin 1024), x0 (ix2 n d) = A.a n d)
    (hw : ∀ (d : Fin 1024) (e : Fin 256), x1 (ix3 0 d e) = A.w d (256 * s + e)) (n : Fin 2064) (e : Fin 256) :
    out0_2 x0 x1 (ix2 n e) = A.p n (256 * s + e) :=
  have hw' := fun d e => (whole x1 inb_S1x1024x256_S1x1024x256_0_0_0 0 d e).trans (hw d e)
  three (Val := Elt Ideal) (e := .f32) (fun n e => A.p n (256 * s + e)) _ _ _ _ _ _
    (fun i e => tile (rows hx 0 _) hw' i e) (fun i e => tile (rows hx 688 _) hw' i e)
    (fun i e => tile (rows hx 1376 _) hw' i e) n e

variable (m : (ℓ : Loc nD τ sig) → Buf (Elt Ideal) ℓ)

/-- The rows and weights of a device. -/
def mx (c : Dev nD) : Mix := mixOf (m (c, main_arg0)) (m (c, main_arg1))

theorem host_a (c : Dev nD) : (V m c main_v0 : Vec Ideal S2064x1024 .bf16) = truncf (F := Ideal) .bf16 (m (c, main_arg0) : Vec Ideal S2064x1024 .f32) bitsLt_bf16_f32 := by dsimp only [V, hostOps0]; after_results
theorem host_w (c : Dev nD) : (V m c main_v3 : Vec Ideal S8x1024x256 .bf16)
    = truncf (F := Ideal) .bf16 (transpose S8x1024x256 [1, 0, 2] (shapeCast S1024x8x256 (m (c, main_arg1) : Vec Ideal S1024x2048 .f32) shapeCasts_S1024x2048_S1024x8x256) transposes_S1024x8x256_S8x1024x256_1_0_2) bitsLt_bf16_f32 := by
  dsimp only [V, hostOps0]; after_results; rfl

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 3) = t.val + 6 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)

theorem emb0 (t : Fin cfg0.N) (n : Fin 2064) (d : Fin 1024) : ((cfg0.win 0).blk t).view.emb (ix2 n d) = ix2 n d := by
  obtain ⟨e0, e1⟩ := idx0 t
  funext a; apply Fin.ext
  match a with
  | ⟨0, _⟩ =>
    show win0_0.index t (0 : Fin 2) * 2064 + 1 * n.val = _
    show _ = n.val; omega
  | ⟨1, _⟩ =>
    show win0_0.index t (1 : Fin 2) * 1024 + 1 * d.val = _
    show _ = d.val; omega
theorem emb1 (t : Fin cfg0.N) (d : Fin 1024) (e : Fin 256) : ((cfg0.win 1).blk t).view.emb (ix3 0 d e) = ix3 (Fin.ofNat 8 (t.val + 6)) d e := by
  obtain ⟨e0, e1, e2⟩ := idx1 t
  have ht : t.val < 2 := t.isLt
  funext a; apply Fin.ext
  match a with
  | ⟨0, _⟩ =>
    show win0_1.index t (0 : Fin 3) * 1 + 1 * 0 = _
    show _ = (t.val + 6) % 8; omega
  | ⟨1, _⟩ =>
    show win0_1.index t (1 : Fin 3) * 1024 + 1 * d.val = _
    show _ = d.val; omega
  | ⟨2, _⟩ =>
    show win0_1.index t (2 : Fin 3) * 256 + 1 * e.val = _
    show _ = e.val; omega
theorem emb2 (t : Fin cfg0.N) (n : Fin 2064) (e : Fin 256) : ((cfg0.win 2).blk t).view.emb (ix2 n e) = ix2 n (Fin.ofNat 512 (256 * t.val + e)) := by
  obtain ⟨e0, e1⟩ := idx2 t
  have ht : t.val < 2 := t.isLt
  funext a; apply Fin.ext
  match a with
  | ⟨0, _⟩ =>
    show win0_2.index t (0 : Fin 2) * 2064 + 1 * n.val = _
    show _ = n.val; omega
  | ⟨1, _⟩ =>
    show win0_2.index t (1 : Fin 2) * 256 + 1 * e.val = _
    show _ = (256 * t.val + e.val) % 512; omega

theorem staged_a (c : Dev nD) (t : Fin cfg0.N) (n : Fin 2064) (d : Fin 1024) : iblk m c 0 t (ix2 n d) = (mx m c).a n d := by
  show V m c main_v0 (((cfg0.win 0).blk t).view.emb (ix2 n d)) = _
  rw [emb0, host_a]
  show m (c, main_arg0) (ix2 n d) = m (c, main_arg0) (ix2 (Fin.ofNat 2064 n) (Fin.ofNat 1024 d))
  rw [ofNat_val, ofNat_val]

theorem staged_w (c : Dev nD) (t : Fin cfg0.N) (d : Fin 1024) (e : Fin 256) :
    iblk m c 1 t (ix3 0 d e) = (mx m c).w d (256 * (t.val + 6) + e) := by
  have ht : t.val < 2 := t.isLt
  show V m c main_v3 (((cfg0.win 1).blk t).view.emb (ix3 0 d e)) = _
  rw [emb1, host_w]
  refine (shards _ _ _ _ d e).trans ?_
  show m (c, main_arg1) (ix2 d (Fin.ofNat 2048 (256 * ((t.val + 6) % 8) + e.val))) = m (c, main_arg1) (ix2 (Fin.ofNat 1024 d) _)
  rw [ofNat_val, Nat.mod_eq_of_lt (by omega)]

/-- Column `f` of the result: point `f / 256`, column `f % 256` of its block. -/
def pt (f : Fin 512) : Fin cfg0.N := ⟨f.val / 256, by show _ < 2; omega⟩
def col (f : Fin 512) : Fin 256 := ⟨f.val % 256, by omega⟩
theorem pt_col (f : Fin 512) : 256 * (pt f).val + (col f).val = f.val := by show 256 * (f.val / 256) + f.val % 256 = _; omega

/-- The result array. -/
theorem array (c : Dev nD) (n : Fin 2064) (f : Fin 512) : (dats m 0 c).arrAt 2 cfg0.N (ix2 n f) = (mx m c).p n (1536 + f) := by
  have key : (dats m 0 c).arrAt 2 cfg0.N (((cfg0.win 2).blk (pt f)).view.emb (ix2 n (col f))) = (mx m c).p n (256 * ((pt f).val + 6) + (col f).val) :=
    (congrFun ((Value.blocks2 m c (pt f) (flush0_2 _)).trans (Value.flushed2 m c (pt f))) (ix2 n (col f))).trans
      (point (staged_a m c (pt f)) (staged_w m c (pt f)) n (col f))
  rw [emb2, pt_col, ofNat_val] at key
  refine key.trans (congrArg _ ?_)
  have := pt_col f
  omega

end Point

section Ref

open Cert.Reference6Ideal Cert.Reference6Ideal.Gen Cert.Reference6Ideal.Read

theorem ref (x0 : Vec Ideal S2064x1024 .f32) (x1 : Vec Ideal S1024x2048 .f32) (n : Fin 2064) (f : Fin 512) :
    val_main_v10 (F := Ideal) x0 x1 (ix2 n f) = (mixOf x0 x1).p n (1536 + f) := by
  rw [val_main_v10_apply, val_main_v0_apply]
  refine Finset.sum_congr rfl fun d _ => congrArg₂ (· * ·) (congrArg x0 ?_) (congrArg x1 ?_)
  · funext a; apply Fin.ext
    match a with
    | ⟨0, _⟩ => show n.val = n.val % 2064; omega
    | ⟨1, _⟩ => show d.val = d.val % 1024; omega
  · funext a; apply Fin.ext
    match a with
    | ⟨0, _⟩ => show d.val = d.val % 1024; omega
    | ⟨1, _⟩ => show 1536 + f.val = (1536 + f.val) % 2048; omega

end Ref

open Cert.Kernel6Ideal.Gen

theorem out_eq (m : (ℓ : Loc Cert.Kernel6Ideal.nD Cert.Kernel6Ideal.τ Cert.Kernel6Ideal.sig) → Buf (Elt Ideal) ℓ)
    (c : Dev Cert.Kernel6Ideal.nD) : (dats m 0 c).arrAt 2 Cert.Kernel6Ideal.cfg0.N
    = Cert.Reference6Ideal.Read.val_main_v10 (F := Ideal) (m (c, Cert.Kernel6Ideal.main_arg0)) (m (c, Cert.Kernel6Ideal.main_arg1)) :=
  ext2 (e := .f32) fun n f => (array m c n f).trans (ref _ _ n f).symm

end Cert.Proj.U

end
-- ==== Proof.Norm.lean ====
/- A row's root-mean-square normalisation and its gradient: the kernel's form and the reference's form are equal. -/
module

public import proofs.«01_k».proof.Proof.Real

@[expose] public section

noncomputable section

namespace Cert.Mix

open Finset Idealize.ShloMosaic

/-- The row's length, the constant added to the mean square, and minus one half, as the programs write them. -/
def len : EReal := Ideal.ofBits .f32 0x44000000#32
def tiny : EReal := Ideal.ofBits .f32 0x358637BD#32
def negHalf : EReal := Ideal.ofBits .f32 0xBF000000#32

/-- The mean square, raised; its reciprocal root; the normalised row with its gain. -/
def square (x : ℕ → EReal) : EReal := Ideal.div (∑ k : Fin 512, x k * x k) len + tiny
def rstd (x : ℕ → EReal) : EReal := Ideal.rsqrt (square x)
def normed (x g : ℕ → EReal) (j : ℕ) : EReal := x j * rstd x * g j

/-- The row's gradient from the cotangent `y`, as the kernel forms it. -/
def grad (x g y : ℕ → EReal) (j : ℕ) : EReal :=
  rstd x * (y j * g j - x j * rstd x * Ideal.div (∑ k : Fin 512, y k * g k * (x k * rstd x)) len)

/-- The factor with which the reference multiplies the row once for each factor of its square. -/
def slope (x g y : ℕ → EReal) : EReal :=
  Ideal.div ((∑ k : Fin 512, x k * (y k * g k)) * (negHalf * Ideal.div (rstd x) (square x))) len

theorem len_real : len = ((512 : ℝ) : EReal) := by
  simp [len, Ideal.ofBits, Ideal.ieee, -EReal.coe_mul]; norm_num

theorem negHalf_real : negHalf = ((-1 / 2 : ℝ) : EReal) := by
  simp [negHalf, Ideal.ofBits, Ideal.ieee, -EReal.coe_mul]; norm_num

theorem tiny_real : ∃ e : ℝ, 0 < e ∧ tiny = (e : EReal) := by
  refine ⟨_, ?_, by simp [tiny, Ideal.ofBits, Ideal.ieee, -EReal.coe_mul]; rfl⟩
  norm_num

theorem sum_mul_real (r : ℝ) (hr : 0 ≤ r) (a : Fin 512 → EReal) : (∑ k, a k) * (r : EReal) = ∑ k, a k * (r : EReal) := by
  have h0 : (0 : EReal) ≤ (r : EReal) := by exact_mod_cast hr
  generalize (univ : Finset (Fin 512)) = s
  induction s using Finset.induction_on with
  | empty => simp
  | insert b s hb ih => rw [Finset.sum_insert hb, Finset.sum_insert hb, EReal.right_distrib_of_nonneg_of_ne_top h0 (EReal.coe_ne_top r), ih]

theorem twice (s : EReal) (q : ℝ) : s * (q : EReal) + s * (q : EReal) = s * ((2 * q : ℝ) : EReal) := by
  induction s with
  | coe s => rw [← EReal.coe_mul, ← EReal.coe_mul, ← EReal.coe_add]; exact congrArg _ (by ring)
  | top =>
    rcases lt_trichotomy q 0 with h | h | h
    · rw [EReal.top_mul_coe_of_neg h, EReal.top_mul_coe_of_neg (by linarith), EReal.bot_add]
    · subst h; simp
    · rw [EReal.top_mul_coe_of_pos h, EReal.top_mul_coe_of_pos (by linarith), EReal.top_add_top]
  | bot =>
    rcases lt_trichotomy q 0 with h | h | h
    · rw [EReal.bot_mul_coe_of_neg h, EReal.bot_mul_coe_of_neg (by linarith), EReal.top_add_top]
    · subst h; simp
    · rw [EReal.bot_mul_coe_of_pos h, EReal.bot_mul_coe_of_pos (by linarith), EReal.bot_add]

theorem div_real' (a : EReal) (y : ℝ) (h : y ≠ 0) : Ideal.div a (y : EReal) = a * ((y⁻¹ : ℝ) : EReal) := by
  rw [Ideal.div_coe h, one_div]

theorem div_top' (a : EReal) : Ideal.div a ⊤ = 0 := by
  rw [Ideal.div, if_neg (by simp), EReal.inv_top, mul_zero]

/-- One entry of the gradient, for a row of reals, whatever the cotangent and the gain. -/
theorem entry_eq (t s : EReal) (x r v : ℝ) (hr : 0 < r) (hv : 0 < v) (h : r * r = v⁻¹) :
    t * (r : EReal) + (x : EReal) * Ideal.div (s * (negHalf * Ideal.div (r : EReal) (v : EReal))) len
        + Ideal.div (s * (negHalf * Ideal.div (r : EReal) (v : EReal))) len * (x : EReal)
      = (r : EReal) * (t - (x : EReal) * (r : EReal) * Ideal.div (s * (r : EReal)) len) := by
  have h0 : (0 : EReal) ≤ (r : EReal) := by exact_mod_cast hr.le
  have hc : Ideal.div (s * (negHalf * Ideal.div (r : EReal) (v : EReal))) len * (x : EReal) = s * ((-1 / 2 * (r * v⁻¹) * 512⁻¹ * x : ℝ) : EReal) := by
    rw [len_real, negHalf_real, div_real' _ _ hv.ne', div_real' _ _ (by norm_num)]
    simp only [EReal.coe_mul, mul_assoc]
  have hk : (x : EReal) * (r : EReal) * Ideal.div (s * (r : EReal)) len = s * ((r * 512⁻¹ * (x * r) : ℝ) : EReal) := by
    rw [len_real, div_real' _ _ (by norm_num), mul_comm]
    simp only [EReal.coe_mul, mul_assoc]
  rw [mul_comm (x : EReal) (Ideal.div _ _), hc, hk, add_assoc, twice, sub_eq_add_neg, EReal.left_distrib_of_nonneg_of_ne_top h0 (EReal.coe_ne_top r),
    mul_comm t, ← mul_neg, ← EReal.coe_neg, mul_left_comm (r : EReal) s, ← EReal.coe_mul, ← h]
  exact congrArg (fun q : ℝ => (r : EReal) * t + s * (q : EReal)) (by ring)

/-- The kernel's gradient is the reference's. -/
theorem grad_eq (x g y : ℕ → EReal) (j : ℕ) (hj : j < 512) :
    y j * g j * rstd x + x j * slope x g y + slope x g y * x j = grad x g y j := by
  obtain ⟨e, he, ht⟩ := tiny_real
  by_cases hx : ∀ k < 512, ∃ r : ℝ, x k = (r : EReal)
  · choose! X hX using hx
    have hS : square x = (((∑ k ∈ range 512, X k * X k) / 512 + e : ℝ) : EReal) := by
      unfold square
      rw [Cert.NA.sum_real (fun k => X k * X k) fun k => by rw [hX k k.isLt, EReal.coe_mul], len_real, ht,
        Cert.NA.div_real _ _ (by norm_num), EReal.coe_add]
    have hpos : 0 < (∑ k ∈ range 512, X k * X k) / 512 + e :=
      add_pos_of_nonneg_of_pos (div_nonneg (Finset.sum_nonneg fun k _ => mul_self_nonneg _) (by norm_num)) he
    generalize (∑ k ∈ range 512, X k * X k) / 512 + e = v at hS hpos
    have hr : rstd x = ((Real.sqrt v)⁻¹ : ℝ) := by
      rw [rstd, hS, Ideal.rsqrt_coe, if_neg (not_lt.mpr hpos.le), if_neg hpos.ne']
    have hsp : 0 < (Real.sqrt v)⁻¹ := inv_pos.mpr (Real.sqrt_pos.mpr hpos)
    have hsq : (Real.sqrt v)⁻¹ * (Real.sqrt v)⁻¹ = v⁻¹ := by rw [← mul_inv, Real.mul_self_sqrt hpos.le]
    have hK : ∑ k : Fin 512, y k * g k * (x k * rstd x) = (∑ k : Fin 512, x k * (y k * g k)) * (((Real.sqrt v)⁻¹ : ℝ) : EReal) := by
      rw [sum_mul_real _ hsp.le, hr]
      exact Finset.sum_congr rfl fun k _ => by rw [← mul_assoc, mul_comm (x k)]
    unfold grad slope
    rw [hK, hS, hr, hX j hj]
    exact entry_eq _ _ _ _ _ hsp hpos hsq
  · push Not at hx
    obtain ⟨k, hk, hn⟩ := hx
    have hnn : ∀ a : EReal, 0 ≤ a * a := fun a => by
      rcases le_total 0 a with h | h
      · exact mul_nonneg h h
      · rw [← neg_mul_neg]
        exact mul_nonneg (EReal.neg_nonneg.mpr h) (EReal.neg_nonneg.mpr h)
    have ht' : x k * x k = ⊤ := by
      generalize x k = a at hn
      induction a with
      | coe a => exact absurd rfl (hn a)
      | top => exact EReal.top_mul_top
      | bot => exact EReal.bot_mul_bot
    have hsum : ∑ i : Fin 512, x i * x i = ⊤ := by
      refine top_le_iff.mp (ht'.symm.le.trans ?_)
      exact Finset.single_le_sum (f := fun i : Fin 512 => x i * x i) (fun i _ => hnn _) (mem_univ (⟨k, hk⟩ : Fin 512))
    have hS : square x = ⊤ := by
      rw [square, hsum, len_real, div_real' _ _ (by norm_num), EReal.top_mul_coe_of_pos (by norm_num), ht, EReal.top_add_coe]
    have hr : rstd x = 0 := by rw [rstd, hS, Ideal.rsqrt_top]
    unfold grad slope
    rw [hr, hS, div_top', mul_zero negHalf, mul_zero (∑ k : Fin 512, x k * (y k * g k)), len_real, div_real' 0 _ (by norm_num)]
    simp

end Cert.Mix

end
-- ==== Proof.Mix.lean ====
/- The mixer's output by ordinary indices: the attention's rows and the S5 layer's rows, each normalised, side by side,
   times the weights. -/
module

public import proofs.«01_k».proof.Proof.Norm
public import proofs.«01_k».proof.Proof.Proj

@[expose] public section

set_option maxRecDepth 16384

noncomputable section

namespace Cert.Mix

open Finset Idealize.ShloMosaic Cert.FFN

/-- The two layers' rows, their gains, and the weights. -/
structure Out where
  x : ℕ → ℕ → EReal
  s : ℕ → ℕ → EReal
  gx : ℕ → EReal
  gs : ℕ → EReal
  w : ℕ → ℕ → EReal

/-- The mixer's output. -/
def Out.out (A : Out) (n d : ℕ) : EReal :=
  ∑ k : Fin 512, normed (A.x n) A.gx k * A.w k d + ∑ k : Fin 512, normed (A.s n) A.gs k * A.w (512 + k) d

/-- What the argument arrays give; the attention's rows come by heads of 64 columns. -/
def outOf (A0 : Vec Ideal ⟨3, ![8, 2064, 64]⟩ .f32) (A1 : Vec Ideal ⟨2, ![2064, 512]⟩ .f32) (A2 A3 : Vec Ideal ⟨2, ![1, 512]⟩ .f32)
    (A4 : Vec Ideal ⟨2, ![1024, 1024]⟩ .f32) : Out where
  x n j := A0 (ix3 (Fin.ofNat 8 (j / 64)) (Fin.ofNat 2064 n) (Fin.ofNat 64 j))
  s n j := A1 (ix2 (Fin.ofNat 2064 n) (Fin.ofNat 512 j))
  gx j := A2 (ix2 0 (Fin.ofNat 512 j))
  gs j := A3 (ix2 0 (Fin.ofNat 512 j))
  w f d := A4 (ix2 (Fin.ofNat 1024 f) (Fin.ofNat 1024 d))

/-- A whole matrix read. -/
theorem all {n0 n1 : ℕ} {e : EltTy} (x : Vec Ideal ⟨2, ![n0, n1]⟩ e) (inb) (i : Fin n0) (j : Fin n1) :
    View.ld x (Rect.unit (s := ⟨2, ![n0, n1]⟩) ![0, 0] ![n0, n1] inb) (ix2 i j) = x (ix2 i j) := by
  refine congrArg x ?_
  funext a
  refine Fin.ext ?_
  match a with
  | 0 => simp [LoadRect.idx, Rect.toLoadRect, Rect.unit, ix2]
  | 1 => simp [LoadRect.idx, Rect.toLoadRect, Rect.unit, ix2]

/-- One matrix of a stack read. -/
theorem one {n0 n1 n2 : ℕ} {e : EltTy} {x : Vec Ideal ⟨3, ![n0, n1, n2]⟩ e} {f : ℕ → ℕ → ℕ → Elt Ideal e}
    (hx : ∀ g i j, x (ix3 g i j) = f g i j) (g : ℕ) (inb) (i : Fin n1) (j : Fin n2) :
    View.ld x (Rect.unit (s := ⟨3, ![n0, n1, n2]⟩) ![g, 0, 0] ![1, n1, n2] inb) (ix3 0 i j) = f g i j := by
  have h1 : g + 1 ≤ n0 := inb 0
  refine Eq.trans (congrArg x ?_) (hx ⟨g, by omega⟩ i j)
  funext a
  refine Fin.ext ?_
  match a with
  | 0 => simp [LoadRect.idx, Rect.toLoadRect, Rect.unit, ix3]; rfl
  | 1 => simp [LoadRect.idx, Rect.toLoadRect, Rect.unit, ix3]; rfl
  | 2 => simp [LoadRect.idx, Rect.toLoadRect, Rect.unit, ix3]; rfl

end Cert.Mix

end
-- ==== Proof.MixFwd.lean ====
/- The kernel of the mixer's output: its result array after the run, entry by entry the reference's. -/
module

public import proofs.«01_k».proof.Proof.Mix
public import proofs.«01_k».proof.Proof.Gen.Kernel7Ideal.Value
public import proofs.«01_k».proof.Proof.Gen.Reference7Ideal.Read

@[expose] public section

set_option maxRecDepth 16384

noncomputable section

namespace Cert.Mix.Fwd

open Finset Idealize.ShloMosaic Idealize.ShloMosaic.TcCoe Idealize.ShloMosaic.StableHlo Cert.FFN

section Point

open Cert.Kernel7Ideal Cert.Kernel7Ideal.Gen

section Tile

variable {A : Out} {n : ℕ}

/-- Eight heads side by side. -/
theorem heads {v0 v1 v2 v3 v4 v5 v6 v7 : Vec Ideal S1x688x64 .f32} {f : ℕ → ℕ → EReal}
    (h0 : ∀ (i : Fin 688) (d : Fin 64), v0 (ix3 0 i d) = f i (64 * 0 + d)) (h1 : ∀ (i : Fin 688) (d : Fin 64), v1 (ix3 0 i d) = f i (64 * 1 + d))
    (h2 : ∀ (i : Fin 688) (d : Fin 64), v2 (ix3 0 i d) = f i (64 * 2 + d)) (h3 : ∀ (i : Fin 688) (d : Fin 64), v3 (ix3 0 i d) = f i (64 * 3 + d))
    (h4 : ∀ (i : Fin 688) (d : Fin 64), v4 (ix3 0 i d) = f i (64 * 4 + d)) (h5 : ∀ (i : Fin 688) (d : Fin 64), v5 (ix3 0 i d) = f i (64 * 5 + d))
    (h6 : ∀ (i : Fin 688) (d : Fin 64), v6 (ix3 0 i d) = f i (64 * 6 + d)) (h7 : ∀ (i : Fin 688) (d : Fin 64), v7 (ix3 0 i d) = f i (64 * 7 + d))
    (i : Fin 688) (j : Fin 512) :
    k0_pay2 (F := Ideal) v0 v1 v2 v3 v4 v5 v6 v7 (ix2 i j) = f i j * rstd (f i) := by
  have key : ∀ (i : Fin 688) (j : Fin 512), concatenate S688x512 1 [⟨S688x64, shapeCast S688x64 v0 shapeCasts_S1x688x64_S688x64⟩,
      ⟨S688x64, shapeCast S688x64 v1 shapeCasts_S1x688x64_S688x64⟩, ⟨S688x64, shapeCast S688x64 v2 shapeCasts_S1x688x64_S688x64⟩,
      ⟨S688x64, shapeCast S688x64 v3 shapeCasts_S1x688x64_S688x64⟩, ⟨S688x64, shapeCast S688x64 v4 shapeCasts_S1x688x64_S688x64⟩,
      ⟨S688x64, shapeCast S688x64 v5 shapeCasts_S1x688x64_S688x64⟩, ⟨S688x64, shapeCast S688x64 v6 shapeCasts_S1x688x64_S688x64⟩,
      ⟨S688x64, shapeCast S688x64 v7 shapeCasts_S1x688x64_S688x64⟩]
      concatenates_S688x64_S688x64_S688x64_S688x64_S688x64_S688x64_S688x64_S688x64_S688x512_d1 (ix2 i j) = f i j := by
    intro i j
    pointwise []
    simp only [h0, h1, h2, h3, h4, h5, h6, h7]
    split_ifs <;> exact congrArg (f i) (by omega)
  dsimp only [k0_pay2]
  generalize concatenate S688x512 1 _ _ = C at key ⊢
  pointwise []
  simp only [key]
  rfl

/-- The normalised rows, side by side, times the weights. -/
theorem mix {v17 v27 : Vec Ideal S688x512 .f32} {v28 v42 : Vec Ideal S1x512 .f32} {v46 v49 : Vec Ideal S512x1024 .bf16}
    {f r : ℕ → ℕ → EReal} {gx gs : ℕ → EReal} {w w' : ℕ → ℕ → EReal}
    (h17 : ∀ (i : Fin 688) (j : Fin 512), v17 (ix2 i j) = f i j) (h27 : ∀ (i : Fin 688) (j : Fin 512), v27 (ix2 i j) = r i j)
    (h28 : ∀ j : Fin 512, v28 (ix2 0 j) = gx j) (h42 : ∀ j : Fin 512, v42 (ix2 0 j) = gs j)
    (h46 : ∀ (k : Fin 512) (d : Fin 1024), v46 (ix2 k d) = w k d) (h49 : ∀ (k : Fin 512) (d : Fin 1024), v49 (ix2 k d) = w' k d)
    (i : Fin 688) (d : Fin 1024) :
    k0_pay1 (F := Ideal) v17 v27 v28 v42 v46 v49 (ix2 i d)
      = ∑ k : Fin 512, r i k * gx k * w k d + ∑ k : Fin 512, normed (f i) gs k * w' k d := by
  pointwise [k0_pay1]
  simp only [h17, h27, h28, h42, h46, h49]
  rfl

/-- A grid point's tile of the output: rows `o` and on. -/
theorem tile {A : Out} {o : ℕ} {x0 : Vec Ideal S8x688x64 .f32} {x1 : Vec Ideal S688x512 .f32} {x2 x3 : Vec Ideal S1x512 .f32}
    {x4 : Vec Ideal S1024x1024 .bf16}
    (hx : ∀ (g : Fin 8) (i : Fin 688) (d : Fin 64), x0 (ix3 g i d) = A.x (o + i) (64 * g + d))
    (hs : ∀ (i : Fin 688) (j : Fin 512), x1 (ix2 i j) = A.s (o + i) j)
    (hgx : ∀ j : Fin 512, x2 (ix2 0 j) = A.gx j) (hgs : ∀ j : Fin 512, x3 (ix2 0 j) = A.gs j)
    (hw : ∀ f d : Fin 1024, x4 (ix2 f d) = A.w f d) (i : Fin 688) (d : Fin 1024) :
    out0_5 (F := Ideal) x0 x1 x2 x3 x4 (ix2 i d) = A.out (o + i) d := by
  have hx' : ∀ (g : Fin 8) (i : Fin 688) (d : Fin 64), x0 (ix3 g i d) = (fun g i d => A.x (o + i) (64 * g + d)) g.val i.val d.val := hx
  have Q := one (x := x0) (f := fun g i d => A.x (o + i) (64 * g + d)) hx'
  refine (hit 0 _ _ [] i d i (Nat.zero_add _).symm).trans ?_
  refine (mix (f := fun i => A.s (o + i)) (gx := A.gx) (gs := A.gs) (w := A.w) (w' := fun k => A.w (512 + k)) (fun i j => (all x1 _ i j).trans (hs i j))
    (r := fun i j => A.x (o + i) j * rstd (A.x (o + i))) (heads (f := fun i => A.x (o + i)) (Q 0 _) (Q 1 _) (Q 2 _) (Q 3 _) (Q 4 _) (Q 5 _) (Q 6 _) (Q 7 _))
    (fun j => (all x2 _ 0 j).trans (hgx j)) (fun j => (all x3 _ 0 j).trans (hgs j))
    (fun k d => (Proj.rows hw 0 _ k d).trans (by rw [Nat.zero_add])) (Proj.rows hw 512 _) i d).trans ?_
  rfl

end Tile

variable (m : (ℓ : Loc nD τ sig) → Buf (Elt Ideal) ℓ)

/-- The rows, gains and weights of a device. -/
def mx (c : Dev nD) : Out := outOf (m (c, main_arg0)) (m (c, main_arg1)) (m (c, main_arg2)) (m (c, main_arg3)) (m (c, main_arg4))

theorem host_w (c : Dev nD) : (V m c main_v0 : Vec Ideal S1024x1024 .bf16) = truncf (F := Ideal) .bf16 (m (c, main_arg4) : Vec Ideal S1024x1024 .f32) bitsLt_bf16_f32 := by dsimp only [V, hostOps0]; after_results

theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

theorem emb0 (t : Fin cfg0.N) (g : Fin 8) (i : Fin 688) (d : Fin 64) : ((cfg0.win 0).blk t).view.emb (ix3 g i d) = ix3 g (Fin.ofNat 2064 (688 * t.val + i)) d := by
  obtain ⟨e0, e1, e2⟩ := idx0 t
  have ht : t.val < 3 := t.isLt
  funext a; apply Fin.ext
  match a with
  | ⟨0, _⟩ =>
    show win0_0.index t (0 : Fin 3) * 8 + 1 * g.val = _
    show _ = g.val; omega
  | ⟨1, _⟩ =>
    show win0_0.index t (1 : Fin 3) * 688 + 1 * i.val = _
    show _ = (688 * t.val + i.val) % 2064; omega
  | ⟨2, _⟩ =>
    show win0_0.index t (2 : Fin 3) * 64 + 1 * d.val = _
    show _ = d.val; omega
theorem emb1 (t : Fin cfg0.N) (i : Fin 688) (j : Fin 512) : ((cfg0.win 1).blk t).view.emb (ix2 i j) = ix2 (Fin.ofNat 2064 (688 * t.val + i)) j := by
  obtain ⟨e0, e1⟩ := idx1 t
  have ht : t.val < 3 := t.isLt
  funext a; apply Fin.ext
  match a with
  | ⟨0, _⟩ =>
    show win0_1.index t (0 : Fin 2) * 688 + 1 * i.val = _
    show _ = (688 * t.val + i.val) % 2064; omega
  | ⟨1, _⟩ =>
    show win0_1.index t (1 : Fin 2) * 512 + 1 * j.val = _
    show _ = j.val; omega
theorem emb2 (t : Fin cfg0.N) (i : Fin 1) (j : Fin 512) : ((cfg0.win 2).blk t).view.emb (ix2 i j) = ix2 i j := by
  obtain ⟨e0, e1⟩ := idx2 t
  have ht : t.val < 3 := t.isLt
  funext a; apply Fin.ext
  match a with
  | ⟨0, _⟩ =>
    show win0_2.index t (0 : Fin 2) * 1 + 1 * i.val = _
    show _ = i.val; omega
  | ⟨1, _⟩ =>
    show win0_2.index t (1 : Fin 2) * 512 + 1 * j.val = _
    show _ = j.val; omega
theorem emb3 (t : Fin cfg0.N) (i : Fin 1) (j : Fin 512) : ((cfg0.win 3).blk t).view.emb (ix2 i j) = ix2 i j := by
  obtain ⟨e0, e1⟩ := idx3 t
  have ht : t.val < 3 := t.isLt
  funext a; apply Fin.ext
  match a with
  | ⟨0, _⟩ =>
    show win0_3.index t (0 : Fin 2) * 1 + 1 * i.val = _
    show _ = i.val; omega
  | ⟨1, _⟩ =>
    show win0_3.index t (1 : Fin 2) * 512 + 1 * j.val = _
    show _ = j.val; omega
theorem emb4 (t : Fin cfg0.N) (i : Fin 1024) (j : Fin 1024) : ((cfg0.win 4).blk t).view.emb (ix2 i j) = ix2 i j := by
  obtain ⟨e0, e1⟩ := idx4 t
  have ht : t.val < 3 := t.isLt
  funext a; apply Fin.ext
  match a with
  | ⟨0, _⟩ =>
    show win0_4.index t (0 : Fin 2) * 1024 + 1 * i.val = _
    show _ = i.val; omega
  | ⟨1, _⟩ =>
    show win0_4.index t (1 : Fin 2) * 1024 + 1 * j.val = _
    show _ = j.val; omega
theorem emb5 (t : Fin cfg0.N) (i : Fin 688) (j : Fin 1024) : ((cfg0.win 5).blk t).view.emb (ix2 i j) = ix2 (Fin.ofNat 2064 (688 * t.val + i)) j := by
  obtain ⟨e0, e1⟩ := idx5 t
  have ht : t.val < 3 := t.isLt
  funext a; apply Fin.ext
  match a with
  | ⟨0, _⟩ =>
    show win0_5.index t (0 : Fin 2) * 688 + 1 * i.val = _
    show _ = (688 * t.val + i.val) % 2064; omega
  | ⟨1, _⟩ =>
    show win0_5.index t (1 : Fin 2) * 1024 + 1 * j.val = _
    show _ = j.val; omega

theorem staged_x (c : Dev nD) (t : Fin cfg0.N) (g : Fin 8) (i : Fin 688) (d : Fin 64) :
    iblk m c 0 t (ix3 g i d) = (mx m c).x (688 * t.val + i) (64 * g + d) := by
  show V m c main_arg0 (((cfg0.win 0).blk t).view.emb (ix3 g i d)) = _
  rw [emb0, V_main_arg0]
  refine congrArg (m (c, main_arg0)) (congrArg₂ (fun a b => ix3 a _ b) (Fin.ext ?_) (Fin.ext ?_))
  · show g.val = (64 * g.val + d.val) / 64 % 8; omega
  · show d.val = (64 * g.val + d.val) % 64; omega

theorem staged_s (c : Dev nD) (t : Fin cfg0.N) (i : Fin 688) (j : Fin 512) :
    iblk m c 1 t (ix2 i j) = (mx m c).s (688 * t.val + i) j := by
  show V m c main_arg1 (((cfg0.win 1).blk t).view.emb (ix2 i j)) = _
  rw [emb1, V_main_arg1]
  show _ = m (c, main_arg1) (ix2 _ (Fin.ofNat 512 j))
  rw [ofNat_val]

theorem staged_gx (c : Dev nD) (t : Fin cfg0.N) (j : Fin 512) : iblk m c 2 t (ix2 0 j) = (mx m c).gx j := by
  show V m c main_arg2 (((cfg0.win 2).blk t).view.emb (ix2 0 j)) = _
  rw [emb2, V_main_arg2]
  show _ = m (c, main_arg2) (ix2 0 (Fin.ofNat 512 j))
  rw [ofNat_val]

theorem staged_gs (c : Dev nD) (t : Fin cfg0.N) (j : Fin 512) : iblk m c 3 t (ix2 0 j) = (mx m c).gs j := by
  show V m c main_arg3 (((cfg0.win 3).blk t).view.emb (ix2 0 j)) = _
  rw [emb3, V_main_arg3]
  show _ = m (c, main_arg3) (ix2 0 (Fin.ofNat 512 j))
  rw [ofNat_val]

theorem staged_w (c : Dev nD) (t : Fin cfg0.N) (f d : Fin 1024) : iblk m c 4 t (ix2 f d) = (mx m c).w f d := by
  show V m c main_v0 (((cfg0.win 4).blk t).view.emb (ix2 f d)) = _
  rw [emb4, host_w]
  show m (c, main_arg4) (ix2 f d) = m (c, main_arg4) (ix2 (Fin.ofNat 1024 f) (Fin.ofNat 1024 d))
  rw [ofNat_val, ofNat_val]

/-- Row `n` of the result: point `n / 688`, row `n % 688` of its tile. -/
def pt (n : Fin 2064) : Fin cfg0.N := ⟨n.val / 688, by show _ < 3; omega⟩
def row (n : Fin 2064) : Fin 688 := ⟨n.val % 688, by omega⟩
theorem pt_row (n : Fin 2064) : 688 * (pt n).val + (row n).val = n.val := by show 688 * (n.val / 688) + n.val % 688 = _; omega

/-- The result array. -/
theorem array (c : Dev nD) (n : Fin 2064) (d : Fin 1024) : (dats m 0 c).arrAt 5 cfg0.N (ix2 n d) = (mx m c).out n d := by
  have key : (dats m 0 c).arrAt 5 cfg0.N (((cfg0.win 5).blk (pt n)).view.emb (ix2 (row n) d)) = (mx m c).out (688 * (pt n).val + row n) d :=
    (congrFun ((Value.blocks5 m c (pt n) (flush0_5 _)).trans (Value.flushed5 m c (pt n))) (ix2 (row n) d)).trans
      (tile (staged_x m c (pt n)) (staged_s m c (pt n)) (staged_gx m c (pt n)) (staged_gs m c (pt n)) (staged_w m c (pt n)) (row n) d)
  rw [emb5, pt_row, ofNat_val] at key
  exact key

end Point

section Ref

open Cert.Reference7Ideal Cert.Reference7Ideal.Gen Cert.Reference7Ideal.Read

variable (x0 : Vec Ideal S8x2064x64 .f32) (x1 : Vec Ideal S2064x512 .f32) (x2 x3 : Vec Ideal S1x512 .f32) (x4 : Vec Ideal S1024x1024 .f32)

theorem ref_x (i : S2064x512.Idx) : val_main_v1 (F := Ideal) x0 i = (outOf x0 x1 x2 x3 x4).x (i 0).val (i 1).val := by
  have h0 : (i 0).val < 2064 := (i 0).isLt
  have h1 : (i 1).val < 512 := (i 1).isLt
  rw [val_main_v1_apply, val_main_v0_apply]
  refine congrArg x0 ?_
  funext a; apply Fin.ext
  match a with
  | ⟨0, _⟩ => show ((i 0).val * 512 + (i 1).val) / 64 % 8 = (i 1).val / 64 % 8; omega
  | ⟨1, _⟩ => show ((i 0).val * 512 + (i 1).val) / 512 = (i 0).val % 2064; omega
  | ⟨2, _⟩ => show ((i 0).val * 512 + (i 1).val) % 64 = (i 1).val % 64; omega

theorem ref_s (i : S2064x512.Idx) : x1 i = (outOf x0 x1 x2 x3 x4).s (i 0).val (i 1).val := by
  refine congrArg x1 ?_
  funext a; apply Fin.ext
  match a with
  | ⟨0, _⟩ => show (i 0).val = (i 0).val % 2064; exact (Nat.mod_eq_of_lt (i 0).isLt).symm
  | ⟨1, _⟩ => show (i 1).val = (i 1).val % 512; exact (Nat.mod_eq_of_lt (i 1).isLt).symm

theorem zero_bits : (FloatOps.ofBits .f32 0x00000000#32 : Ideal .f32) = 0 := Ideal.ofBits_zero_f32

theorem ref_normx (n : Fin 2064) (j : Fin 512) :
    val_main_v15 (F := Ideal) x0 x2 (ix2 n j) = normed ((outOf x0 x1 x2 x3 x4).x n) (outOf x0 x1 x2 x3 x4).gx j := by
  simp only [val_main_v15_apply, val_main_v12_apply, val_main_v11_apply, val_main_v10_apply, val_main_v9_apply, val_main_v8_apply, val_main_v7_apply, val_main_v6_apply, val_main_v5_apply, val_main_v4_apply, val_main_v3_apply, val_main_v14_apply, val_main_v13_apply, val_main_v2_apply, val_main_cst_apply, val_main_cst_0_apply, val_main_cst_1_apply, ref_x x0 x1 x2 x3 x4, zero_bits, zero_add]
  refine congrArg₂ (fun a b : EReal => a * b) rfl (congrArg x2 ?_)
  funext a; apply Fin.ext
  match a with
  | ⟨0, _⟩ => rfl
  | ⟨1, _⟩ => rfl

theorem ref_norms (n : Fin 2064) (j : Fin 512) :
    val_main_v29 (F := Ideal) x1 x3 (ix2 n j) = normed ((outOf x0 x1 x2 x3 x4).s n) (outOf x0 x1 x2 x3 x4).gs j := by
  simp only [val_main_v29_apply, val_main_v26_apply, val_main_v25_apply, val_main_v24_apply, val_main_v23_apply, val_main_v22_apply, val_main_v21_apply, val_main_v20_apply, val_main_v19_apply, val_main_v18_apply, val_main_v17_apply, val_main_v28_apply, val_main_v27_apply, val_main_v16_apply, val_main_cst_2_apply, val_main_cst_3_apply, val_main_cst_4_apply, ref_s x0 x1 x2 x3 x4, zero_bits, zero_add]
  refine congrArg₂ (fun a b : EReal => a * b) rfl (congrArg x3 ?_)
  funext a; apply Fin.ext
  match a with
  | ⟨0, _⟩ => rfl
  | ⟨1, _⟩ => rfl

theorem ref (n : Fin 2064) (d : Fin 1024) : val_main_v31 (F := Ideal) x0 x1 x2 x3 x4 (ix2 n d) = (outOf x0 x1 x2 x3 x4).out n d := by
  rw [val_main_v31_apply]
  have hc : ∀ k : Fin 1024, val_main_v30 (F := Ideal) x0 x1 x2 x3 (ix2 n k)
      = if h : k.val < 512 then normed ((outOf x0 x1 x2 x3 x4).x n) (outOf x0 x1 x2 x3 x4).gx k
        else normed ((outOf x0 x1 x2 x3 x4).s n) (outOf x0 x1 x2 x3 x4).gs (k.val - 512) := by
    intro k
    have ex := ref_normx x0 x1 x2 x3 x4
    have es := ref_norms x0 x1 x2 x3 x4
    dsimp only [val_main_v30]
    generalize val_main_v15 (F := Ideal) x0 x2 = P at ex ⊢
    generalize val_main_v29 (F := Ideal) x1 x3 = Q at es ⊢
    pointwise []
    simp only [ex, es]
  have hl : ∀ k : Fin 1024, lidx_main_v31 (ix2 n d) k = ix2 n k := fun k => by
    funext a; match a with | ⟨0, _⟩ => rfl | ⟨1, _⟩ => rfl
  have hr : ∀ k : Fin 1024, x4 (ridx_main_v31 (ix2 n d) k) = (outOf x0 x1 x2 x3 x4).w k d := fun k => by
    refine congrArg x4 ?_
    funext a; apply Fin.ext
    match a with
    | ⟨0, _⟩ => show k.val = k.val % 1024; omega
    | ⟨1, _⟩ => show d.val = d.val % 1024; omega
  simp only [hl, hr, hc]
  refine (Fin.sum_univ_add (a := 512) (b := 512) _).trans (congrArg₂ (· + ·) (Finset.sum_congr rfl fun k _ => ?_) (Finset.sum_congr rfl fun k _ => ?_))
  · rw [dif_pos (show (Fin.castAdd 512 k).val < 512 from k.isLt)]; rfl
  · rw [dif_neg (show ¬ (Fin.natAdd 512 k).val < 512 from Nat.not_lt.2 (Nat.le_add_right _ _))]
    show normed _ _ (512 + k.val - 512) * _ = _
    rw [Nat.add_sub_cancel_left]; rfl

end Ref

open Cert.Kernel7Ideal.Gen

theorem out_eq (m : (ℓ : Loc Cert.Kernel7Ideal.nD Cert.Kernel7Ideal.τ Cert.Kernel7Ideal.sig) → Buf (Elt Ideal) ℓ)
    (c : Dev Cert.Kernel7Ideal.nD) : (dats m 0 c).arrAt 5 Cert.Kernel7Ideal.cfg0.N
    = Cert.Reference7Ideal.Read.val_main_v31 (F := Ideal) (m (c, Cert.Kernel7Ideal.main_arg0)) (m (c, Cert.Kernel7Ideal.main_arg1))
        (m (c, Cert.Kernel7Ideal.main_arg2)) (m (c, Cert.Kernel7Ideal.main_arg3)) (m (c, Cert.Kernel7Ideal.main_arg4)) :=
  ext2 (e := .f32) fun n d => (array m c n d).trans (ref _ _ _ _ _ n d).symm

end Cert.Mix.Fwd

end
-- ==== Proof.MixBwd.lean ====
/- The backward kernel of the mixer's output: what a grid point leaves in each result's block. -/
module

public import proofs.«01_k».proof.Proof.Mix
public import proofs.«01_k».proof.Proof.Pieces
public import proofs.«01_k».proof.Proof.Gen.Kernel8Ideal.Value

@[expose] public section

set_option maxRecDepth 16384

noncomputable section

namespace Cert.Mix

open Finset Idealize.ShloMosaic Cert.FFN

/-- The mixer's output's arguments together with the gradient of the output. -/
structure Cot extends Out where
  p : ℕ → ℕ → EReal

namespace Cot

variable (A : Cot)

/-- The gradients of the normalised rows, and of the rows. -/
def yx (n j : ℕ) : EReal := ∑ d : Fin 1024, A.p n d * A.w j d
def ys (n j : ℕ) : EReal := ∑ d : Fin 1024, A.p n d * A.w (512 + j) d
def dx (n j : ℕ) : EReal := grad (A.x n) A.gx (A.yx n) j
def ds (n j : ℕ) : EReal := grad (A.s n) A.gs (A.ys n) j

/-- One row's share of each sum over rows: the weights' gradient and the gains'. -/
def dw (f d n : ℕ) : EReal := (if f < 512 then normed (A.x n) A.gx f else normed (A.s n) A.gs (f - 512)) * A.p n d
def dgx (j n : ℕ) : EReal := A.yx n j * (A.x n j * rstd (A.x n))
def dgs (j n : ℕ) : EReal := A.ys n j * (A.s n j * rstd (A.s n))

end Cot

/-- A tile's share of a sum over the rows, and the sum. -/
def part (F : ℕ → EReal) (o : ℕ) : EReal := ∑ i : Fin 688, F (o + i)
def over (F : ℕ → EReal) : EReal := ∑ n ∈ range 2064, F n

theorem over_eq (F : ℕ → EReal) : over F = ∑ t ∈ range 3, part F (688 * t) := sum_blocks F 3 688

/-- A staged matrix read whole. -/
theorem read_all {sig : RefSig} {n0 n1 : ℕ} {e : EltTy} {m : Memref sig .tc .vmem ⟨2, ![n0, n1]⟩ e} (h : m.IsWhole)
    (x : Vec Ideal ⟨2, ![n0, n1]⟩ e) (inb) (i : Fin n0) (j : Fin n1) :
    View.readAt (Elt Ideal) m.view (Rect.unit (s := ⟨2, ![n0, n1]⟩) ![0, 0] ![n0, n1] inb).toLoadRect (h.unread x) (ix2 i j) = x (ix2 i j) :=
  (Memref.IsWhole.readAt_unread h x _ _).trans (all x inb i j)

/-- One matrix of a staged stack read. -/
theorem read_one {sig : RefSig} {n0 n1 n2 : ℕ} {e : EltTy} {m : Memref sig .tc .vmem ⟨3, ![n0, n1, n2]⟩ e} (h : m.IsWhole)
    {x : Vec Ideal ⟨3, ![n0, n1, n2]⟩ e} {f : ℕ → ℕ → ℕ → Elt Ideal e} (hx : ∀ g i j, x (ix3 g i j) = f g i j) (g : ℕ) (inb)
    (i : Fin n1) (j : Fin n2) :
    View.readAt (Elt Ideal) m.view (Rect.unit (s := ⟨3, ![n0, n1, n2]⟩) ![g, 0, 0] ![1, n1, n2] inb).toLoadRect (h.unread x)
      (ix3 0 i j) = f g i j :=
  (Memref.IsWhole.readAt_unread h x _ _).trans (one hx g inb i j)

/-- Rows read after stores. -/
theorem read_rows {sig : RefSig} {κ : Kind} {sp : Space} {n0 n1 s0 : ℕ} {e : EltTy} (v : View sig κ sp ⟨2, ![n0, n1]⟩ e)
    (L : List (View.Piece (Elt Ideal) ⟨2, ![n0, n1]⟩ e)) (o : ℕ) (inb) (i : Fin s0) (j : Fin n1) (r : Fin n0) (hr : r.val = o + i) :
    v.readCov L (Rect.unit (s := ⟨2, ![n0, n1]⟩) ![o, 0] ![s0, n1] inb).toLoadRect (ix2 i j) = View.canon L (ix2 r j) := by
  rw [View.readCov_eq_canon']
  refine congrArg (View.canon _) ?_
  funext a
  refine Fin.ext ?_
  match a with
  | ⟨0, _⟩ => show o + 1 * i.val = r.val; omega
  | ⟨1, _⟩ => show 0 + 1 * j.val = j.val; omega

/-- Eight matrices stored one by one hold a stack of eight. -/
theorem eight {n1 n2 : ℕ} {e : EltTy} (f : ℕ → ℕ → ℕ → Elt Ideal e) (b0 b1 b2 b3 b4 b5 b6 b7) (w0 w1 w2 w3 w4 w5 w6 w7)
    (h0 : ∀ (i : Fin n1) (d : Fin n2), w0 (ix3 0 i d) = f 0 i d)
    (h1 : ∀ (i : Fin n1) (d : Fin n2), w1 (ix3 0 i d) = f 1 i d)
    (h2 : ∀ (i : Fin n1) (d : Fin n2), w2 (ix3 0 i d) = f 2 i d)
    (h3 : ∀ (i : Fin n1) (d : Fin n2), w3 (ix3 0 i d) = f 3 i d)
    (h4 : ∀ (i : Fin n1) (d : Fin n2), w4 (ix3 0 i d) = f 4 i d)
    (h5 : ∀ (i : Fin n1) (d : Fin n2), w5 (ix3 0 i d) = f 5 i d)
    (h6 : ∀ (i : Fin n1) (d : Fin n2), w6 (ix3 0 i d) = f 6 i d)
    (h7 : ∀ (i : Fin n1) (d : Fin n2), w7 (ix3 0 i d) = f 7 i d)
    (g : Fin 8) (i : Fin n1) (d : Fin n2) :
    View.canon (Val := Elt Ideal) (e := e) (s := ⟨3, ![8, n1, n2]⟩)
      [⟨Rect.unit ![7, 0, 0] ![1, n1, n2] b7, w7⟩, ⟨Rect.unit ![6, 0, 0] ![1, n1, n2] b6, w6⟩, ⟨Rect.unit ![5, 0, 0] ![1, n1, n2] b5, w5⟩, ⟨Rect.unit ![4, 0, 0] ![1, n1, n2] b4, w4⟩, ⟨Rect.unit ![3, 0, 0] ![1, n1, n2] b3, w3⟩, ⟨Rect.unit ![2, 0, 0] ![1, n1, n2] b2, w2⟩, ⟨Rect.unit ![1, 0, 0] ![1, n1, n2] b1, w1⟩, ⟨Rect.unit ![0, 0, 0] ![1, n1, n2] b0, w0⟩] (ix3 g i d) = f g i d := by
  by_cases c7 : g.val = 7
  · rw [NA.canon_hit3 (s0 := 1) (s1 := n1) (s2 := n2) 7 0 0 _ _ _ 0 i d g i d (by rw [c7]; rfl) (by simp) (by simp), h7, c7]
  rw [NA.canon_miss3 (s0 := 1) (s1 := n1) (s2 := n2) 7 0 0 _ _ _ g i d (by omega)]
  by_cases c6 : g.val = 6
  · rw [NA.canon_hit3 (s0 := 1) (s1 := n1) (s2 := n2) 6 0 0 _ _ _ 0 i d g i d (by rw [c6]; rfl) (by simp) (by simp), h6, c6]
  rw [NA.canon_miss3 (s0 := 1) (s1 := n1) (s2 := n2) 6 0 0 _ _ _ g i d (by omega)]
  by_cases c5 : g.val = 5
  · rw [NA.canon_hit3 (s0 := 1) (s1 := n1) (s2 := n2) 5 0 0 _ _ _ 0 i d g i d (by rw [c5]; rfl) (by simp) (by simp), h5, c5]
  rw [NA.canon_miss3 (s0 := 1) (s1 := n1) (s2 := n2) 5 0 0 _ _ _ g i d (by omega)]
  by_cases c4 : g.val = 4
  · rw [NA.canon_hit3 (s0 := 1) (s1 := n1) (s2 := n2) 4 0 0 _ _ _ 0 i d g i d (by rw [c4]; rfl) (by simp) (by simp), h4, c4]
  rw [NA.canon_miss3 (s0 := 1) (s1 := n1) (s2 := n2) 4 0 0 _ _ _ g i d (by omega)]
  by_cases c3 : g.val = 3
  · rw [NA.canon_hit3 (s0 := 1) (s1 := n1) (s2 := n2) 3 0 0 _ _ _ 0 i d g i d (by rw [c3]; rfl) (by simp) (by simp), h3, c3]
  rw [NA.canon_miss3 (s0 := 1) (s1 := n1) (s2 := n2) 3 0 0 _ _ _ g i d (by omega)]
  by_cases c2 : g.val = 2
  · rw [NA.canon_hit3 (s0 := 1) (s1 := n1) (s2 := n2) 2 0 0 _ _ _ 0 i d g i d (by rw [c2]; rfl) (by simp) (by simp), h2, c2]
  rw [NA.canon_miss3 (s0 := 1) (s1 := n1) (s2 := n2) 2 0 0 _ _ _ g i d (by omega)]
  by_cases c1 : g.val = 1
  · rw [NA.canon_hit3 (s0 := 1) (s1 := n1) (s2 := n2) 1 0 0 _ _ _ 0 i d g i d (by rw [c1]; rfl) (by simp) (by simp), h1, c1]
  rw [NA.canon_miss3 (s0 := 1) (s1 := n1) (s2 := n2) 1 0 0 _ _ _ g i d (by omega)]
  by_cases c0 : g.val = 0
  · rw [NA.canon_hit3 (s0 := 1) (s1 := n1) (s2 := n2) 0 0 0 _ _ _ 0 i d g i d (by rw [c0]; rfl) (by simp) (by simp), h0, c0]
  omega

end Cert.Mix

namespace Cert.Mix.Bwd

open Finset Idealize.ShloMosaic Cert.FFN Cert.Kernel8Ideal Cert.Kernel8Ideal.Gen

section Tile

theorem heads {v0 v1 v2 v3 v4 v5 v6 v7 : Vec Ideal S1x688x64 .f32} {f : ℕ → ℕ → EReal}
    (h0 : ∀ (i : Fin 688) (d : Fin 64), v0 (ix3 0 i d) = f i (64 * 0 + d))
    (h1 : ∀ (i : Fin 688) (d : Fin 64), v1 (ix3 0 i d) = f i (64 * 1 + d))
    (h2 : ∀ (i : Fin 688) (d : Fin 64), v2 (ix3 0 i d) = f i (64 * 2 + d))
    (h3 : ∀ (i : Fin 688) (d : Fin 64), v3 (ix3 0 i d) = f i (64 * 3 + d))
    (h4 : ∀ (i : Fin 688) (d : Fin 64), v4 (ix3 0 i d) = f i (64 * 4 + d))
    (h5 : ∀ (i : Fin 688) (d : Fin 64), v5 (ix3 0 i d) = f i (64 * 5 + d))
    (h6 : ∀ (i : Fin 688) (d : Fin 64), v6 (ix3 0 i d) = f i (64 * 6 + d))
    (h7 : ∀ (i : Fin 688) (d : Fin 64), v7 (ix3 0 i d) = f i (64 * 7 + d))
    (i : Fin 688) (j : Fin 512) : k0_pay3 (F := Ideal) v0 v1 v2 v3 v4 v5 v6 v7 (ix2 i j) = f i j := by
  pointwise [k0_pay3]
  simp only [h0, h1, h2, h3, h4, h5, h6, h7]
  split_ifs <;> exact congrArg (f i) (by omega)

theorem heads_rstd {v0 v1 v2 v3 v4 v5 v6 v7 : Vec Ideal S1x688x64 .f32} {f : ℕ → ℕ → EReal}
    (h : ∀ (i : Fin 688) (j : Fin 512), k0_pay3 (F := Ideal) v0 v1 v2 v3 v4 v5 v6 v7 (ix2 i j) = f i j)
    (i : Fin 688) : k0_pay4 (F := Ideal) v0 v1 v2 v3 v4 v5 v6 v7 (ix2 i 0) = rstd (f i) := by
  dsimp only [k0_pay4]
  generalize k0_pay3 (F := Ideal) v0 v1 v2 v3 v4 v5 v6 v7 = C at h ⊢
  pointwise []
  simp only [h]
  rfl

theorem rows_rstd {v : Vec Ideal S688x512 .f32} {f : ℕ → ℕ → EReal} (h : ∀ (i : Fin 688) (j : Fin 512), v (ix2 i j) = f i j)
    (i : Fin 688) : k0_pay5 (F := Ideal) v (ix2 i 0) = rstd (f i) := by
  pointwise [k0_pay5]
  simp only [h]
  rfl

theorem normed_x {v18 : Vec Ideal S688x512 .f32} {v27 : Vec Ideal S688x1 .f32} {v36 : Vec Ideal S1x512 .f32} {f : ℕ → ℕ → EReal} {g : ℕ → EReal}
    (h : ∀ (i : Fin 688) (j : Fin 512), v18 (ix2 i j) = f i j) (hr : ∀ i : Fin 688, v27 (ix2 i 0) = rstd (f i))
    (hg : ∀ j : Fin 512, v36 (ix2 0 j) = g j) (i : Fin 688) (j : Fin 512) : k0_pay6 (F := Ideal) v18 v27 v36 (ix2 i j) = normed (f i) g j := by
  pointwise [k0_pay6]
  simp only [h, hr, hg]
  rfl

theorem normed_s {v : Vec Ideal S688x512 .f32} {v37 : Vec Ideal S1x512 .f32} {f : ℕ → ℕ → EReal} {g : ℕ → EReal}
    (h : ∀ (i : Fin 688) (j : Fin 512), v (ix2 i j) = f i j)
    (hg : ∀ j : Fin 512, v37 (ix2 0 j) = g j) (i : Fin 688) (j : Fin 512) : k0_pay7 (F := Ideal) v v37 (ix2 i j) = normed (f i) g j := by
  have hr := rows_rstd h
  dsimp only [k0_pay7]
  generalize k0_pay5 (F := Ideal) v = r at hr ⊢
  pointwise []
  simp only [h, hr, hg]
  rfl

theorem unit_x {v18 : Vec Ideal S688x512 .f32} {v27 : Vec Ideal S688x1 .f32} {f : ℕ → ℕ → EReal}
    (h : ∀ (i : Fin 688) (j : Fin 512), v18 (ix2 i j) = f i j) (hr : ∀ i : Fin 688, v27 (ix2 i 0) = rstd (f i))
    (i : Fin 688) (j : Fin 512) : k0_pay10 (F := Ideal) v18 v27 (ix2 i j) = f i j * rstd (f i) := by
  pointwise [k0_pay10]
  simp only [h, hr]

theorem unit_s {v : Vec Ideal S688x512 .f32} {f : ℕ → ℕ → EReal}
    (h : ∀ (i : Fin 688) (j : Fin 512), v (ix2 i j) = f i j) (i : Fin 688) (j : Fin 512) : k0_pay14 (F := Ideal) v (ix2 i j) = f i j * rstd (f i) := by
  have hr := rows_rstd h
  dsimp only [k0_pay14]
  generalize k0_pay5 (F := Ideal) v = r at hr ⊢
  pointwise []
  simp only [h, hr]

theorem back_x {v1 : Vec Ideal S688x1024 .bf16} {v48 : Vec Ideal S512x1024 .bf16} {p w : ℕ → ℕ → EReal}
    (hp : ∀ (i : Fin 688) (d : Fin 1024), v1 (ix2 i d) = p i d) (hw : ∀ (k : Fin 512) (d : Fin 1024), v48 (ix2 k d) = w k d)
    (i : Fin 688) (j : Fin 512) : k0_pay8 (F := Ideal) v1 v48 (ix2 i j) = ∑ d : Fin 1024, p i d * w j d := by
  pointwise [k0_pay8]
  simp only [hp, hw]

theorem back_s {v1 : Vec Ideal S688x1024 .bf16} {v48 : Vec Ideal S512x1024 .bf16} {p w : ℕ → ℕ → EReal}
    (hp : ∀ (i : Fin 688) (d : Fin 1024), v1 (ix2 i d) = p i d) (hw : ∀ (k : Fin 512) (d : Fin 1024), v48 (ix2 k d) = w k d)
    (i : Fin 688) (j : Fin 512) : k0_pay9 (F := Ideal) v1 v48 (ix2 i j) = ∑ d : Fin 1024, p i d * w j d := by
  pointwise [k0_pay9]
  simp only [hp, hw]

theorem grad_x {v1 : Vec Ideal S688x1024 .bf16} {v18 : Vec Ideal S688x512 .f32} {v27 : Vec Ideal S688x1 .f32} {v36 : Vec Ideal S1x512 .f32}
    {v48 : Vec Ideal S512x1024 .bf16} {f y : ℕ → ℕ → EReal} {g : ℕ → EReal}
    (h : ∀ (i : Fin 688) (j : Fin 512), v18 (ix2 i j) = f i j) (hr : ∀ i : Fin 688, v27 (ix2 i 0) = rstd (f i))
    (hg : ∀ j : Fin 512, v36 (ix2 0 j) = g j) (hy : ∀ (i : Fin 688) (j : Fin 512), k0_pay8 (F := Ideal) v1 v48 (ix2 i j) = y i j)
    (i : Fin 688) (j : Fin 512) : k0_pay11 (F := Ideal) v1 v18 v27 v36 v48 (ix2 i j) = grad (f i) g (y i) j := by
  have hu := unit_x h hr
  dsimp only [k0_pay11]
  generalize k0_pay8 (F := Ideal) v1 v48 = Y at hy ⊢
  generalize k0_pay10 (F := Ideal) v18 v27 = U at hu ⊢
  pointwise []
  simp only [hu, hr, hg, hy]
  rfl

theorem gain_x {v1 : Vec Ideal S688x1024 .bf16} {v18 : Vec Ideal S688x512 .f32} {v27 : Vec Ideal S688x1 .f32}
    {v48 : Vec Ideal S512x1024 .bf16} {f y : ℕ → ℕ → EReal}
    (h : ∀ (i : Fin 688) (j : Fin 512), v18 (ix2 i j) = f i j) (hr : ∀ i : Fin 688, v27 (ix2 i 0) = rstd (f i))
    (hy : ∀ (i : Fin 688) (j : Fin 512), k0_pay8 (F := Ideal) v1 v48 (ix2 i j) = y i j)
    (i : Fin 688) (j : Fin 512) : k0_pay12 (F := Ideal) v1 v18 v27 v48 (ix2 i j) = y i j * (f i j * rstd (f i)) := by
  have hu := unit_x h hr
  dsimp only [k0_pay12]
  generalize k0_pay8 (F := Ideal) v1 v48 = Y at hy ⊢
  generalize k0_pay10 (F := Ideal) v18 v27 = U at hu ⊢
  pointwise []
  simp only [hu, hy]

theorem scaled_s {v1 : Vec Ideal S688x1024 .bf16} {v37 : Vec Ideal S1x512 .f32} {v51 : Vec Ideal S512x1024 .bf16} {y : ℕ → ℕ → EReal} {g : ℕ → EReal}
    (hy : ∀ (i : Fin 688) (j : Fin 512), k0_pay9 (F := Ideal) v1 v51 (ix2 i j) = y i j) (hg : ∀ j : Fin 512, v37 (ix2 0 j) = g j)
    (i : Fin 688) (j : Fin 512) : k0_pay13 (F := Ideal) v1 v37 v51 (ix2 i j) = y i j * g j := by
  dsimp only [k0_pay13]
  generalize k0_pay9 (F := Ideal) v1 v51 = Y at hy ⊢
  pointwise []
  simp only [hg, hy]

theorem grad_s {v35 : Vec Ideal S688x1 .f32} {v70 v72 : Vec Ideal S688x512 .f32} {f y : ℕ → ℕ → EReal} {g : ℕ → EReal}
    (hr : ∀ i : Fin 688, v35 (ix2 i 0) = rstd (f i)) (ht : ∀ (i : Fin 688) (j : Fin 512), v70 (ix2 i j) = y i j * g j)
    (hu : ∀ (i : Fin 688) (j : Fin 512), v72 (ix2 i j) = f i j * rstd (f i)) (i : Fin 688) (j : Fin 512) :
    k0_pay15 (F := Ideal) v35 v70 v72 (ix2 i j) = grad (f i) g (y i) j := by
  pointwise [k0_pay15]
  simp only [hu, hr, ht]
  rfl

theorem gain_s {v53 v72 : Vec Ideal S688x512 .f32} {f y : ℕ → ℕ → EReal} (hy : ∀ (i : Fin 688) (j : Fin 512), v53 (ix2 i j) = y i j)
    (hu : ∀ (i : Fin 688) (j : Fin 512), v72 (ix2 i j) = f i j) (i : Fin 688) (j : Fin 512) :
    k0_pay16 (F := Ideal) v53 v72 (ix2 i j) = y i j * f i j := by
  pointwise [k0_pay16]
  simp only [hu, hy]

theorem head0 {v67 : Vec Ideal S688x512 .f32} {f : ℕ → ℕ → EReal} (h : ∀ (i : Fin 688) (j : Fin 512), v67 (ix2 i j) = f i j)
    (i : Fin 688) (d : Fin 64) : k0_pay17 (F := Ideal) v67 (ix3 0 i d) = f i (64 * 0 + d) := by
  pointwise [k0_pay17]
  exact (h _ _).trans (congrArg (f i) (by first | rfl | (show _ = 64 * 0 + d.val; simp) | omega))

theorem head1 {v67 : Vec Ideal S688x512 .f32} {f : ℕ → ℕ → EReal} (h : ∀ (i : Fin 688) (j : Fin 512), v67 (ix2 i j) = f i j)
    (i : Fin 688) (d : Fin 64) : k0_pay18 (F := Ideal) v67 (ix3 0 i d) = f i (64 * 1 + d) := by
  pointwise [k0_pay18]
  exact (h _ _).trans (congrArg (f i) (by first | rfl | (show _ = 64 * 1 + d.val; simp) | omega))

theorem head2 {v67 : Vec Ideal S688x512 .f32} {f : ℕ → ℕ → EReal} (h : ∀ (i : Fin 688) (j : Fin 512), v67 (ix2 i j) = f i j)
    (i : Fin 688) (d : Fin 64) : k0_pay19 (F := Ideal) v67 (ix3 0 i d) = f i (64 * 2 + d) := by
  pointwise [k0_pay19]
  exact (h _ _).trans (congrArg (f i) (by first | rfl | (show _ = 64 * 2 + d.val; simp) | omega))

theorem head3 {v67 : Vec Ideal S688x512 .f32} {f : ℕ → ℕ → EReal} (h : ∀ (i : Fin 688) (j : Fin 512), v67 (ix2 i j) = f i j)
    (i : Fin 688) (d : Fin 64) : k0_pay20 (F := Ideal) v67 (ix3 0 i d) = f i (64 * 3 + d) := by
  pointwise [k0_pay20]
  exact (h _ _).trans (congrArg (f i) (by first | rfl | (show _ = 64 * 3 + d.val; simp) | omega))

theorem head4 {v67 : Vec Ideal S688x512 .f32} {f : ℕ → ℕ → EReal} (h : ∀ (i : Fin 688) (j : Fin 512), v67 (ix2 i j) = f i j)
    (i : Fin 688) (d : Fin 64) : k0_pay21 (F := Ideal) v67 (ix3 0 i d) = f i (64 * 4 + d) := by
  pointwise [k0_pay21]
  exact (h _ _).trans (congrArg (f i) (by first | rfl | (show _ = 64 * 4 + d.val; simp) | omega))

theorem head5 {v67 : Vec Ideal S688x512 .f32} {f : ℕ → ℕ → EReal} (h : ∀ (i : Fin 688) (j : Fin 512), v67 (ix2 i j) = f i j)
    (i : Fin 688) (d : Fin 64) : k0_pay22 (F := Ideal) v67 (ix3 0 i d) = f i (64 * 5 + d) := by
  pointwise [k0_pay22]
  exact (h _ _).trans (congrArg (f i) (by first | rfl | (show _ = 64 * 5 + d.val; simp) | omega))

theorem head6 {v67 : Vec Ideal S688x512 .f32} {f : ℕ → ℕ → EReal} (h : ∀ (i : Fin 688) (j : Fin 512), v67 (ix2 i j) = f i j)
    (i : Fin 688) (d : Fin 64) : k0_pay23 (F := Ideal) v67 (ix3 0 i d) = f i (64 * 6 + d) := by
  pointwise [k0_pay23]
  exact (h _ _).trans (congrArg (f i) (by first | rfl | (show _ = 64 * 6 + d.val; simp) | omega))

theorem head7 {v67 : Vec Ideal S688x512 .f32} {f : ℕ → ℕ → EReal} (h : ∀ (i : Fin 688) (j : Fin 512), v67 (ix2 i j) = f i j)
    (i : Fin 688) (d : Fin 64) : k0_pay24 (F := Ideal) v67 (ix3 0 i d) = f i (64 * 7 + d) := by
  pointwise [k0_pay24]
  exact (h _ _).trans (congrArg (f i) (by first | rfl | (show _ = 64 * 7 + d.val; simp) | omega))

theorem more_low {v1 : Vec Ideal S688x1024 .bf16} {v42 : Vec Ideal S688x512 .bf16} {v120 : Vec Ideal S512x1024 .f32} {p q : ℕ → ℕ → EReal}
    (hp : ∀ (i : Fin 688) (d : Fin 1024), v1 (ix2 i d) = p i d) (hq : ∀ (i : Fin 688) (j : Fin 512), v42 (ix2 i j) = q i j)
    (f : Fin 512) (d : Fin 1024) : k0_pay28 (F := Ideal) v1 v42 v120 (ix2 f d) = v120 (ix2 f d) + ∑ i : Fin 688, q i f * p i d := by
  pointwise [k0_pay28]
  simp only [hp, hq]

theorem more_high {v1 : Vec Ideal S688x1024 .bf16} {v42 : Vec Ideal S688x512 .bf16} {v120 : Vec Ideal S512x1024 .f32} {p q : ℕ → ℕ → EReal}
    (hp : ∀ (i : Fin 688) (d : Fin 1024), v1 (ix2 i d) = p i d) (hq : ∀ (i : Fin 688) (j : Fin 512), v42 (ix2 i j) = q i j)
    (f : Fin 512) (d : Fin 1024) : k0_pay29 (F := Ideal) v1 v42 v120 (ix2 f d) = v120 (ix2 f d) + ∑ i : Fin 688, q i f * p i d := by
  pointwise [k0_pay29]
  simp only [hp, hq]

theorem more_gx {v68 : Vec Ideal S688x512 .f32} {v130 : Vec Ideal S1x512 .f32} {q : ℕ → ℕ → EReal}
    (hq : ∀ (i : Fin 688) (j : Fin 512), v68 (ix2 i j) = q i j)
    (j : Fin 512) : k0_pay30 (F := Ideal) v68 v130 (ix2 0 j) = v130 (ix2 0 j) + ∑ i : Fin 688, q i j := by
  pointwise [k0_pay30]
  simp only [hq]

theorem more_gs {v68 : Vec Ideal S688x512 .f32} {v130 : Vec Ideal S1x512 .f32} {q : ℕ → ℕ → EReal}
    (hq : ∀ (i : Fin 688) (j : Fin 512), v68 (ix2 i j) = q i j)
    (j : Fin 512) : k0_pay1 (F := Ideal) v68 v130 (ix2 0 j) = v130 (ix2 0 j) + ∑ i : Fin 688, q i j := by
  pointwise [k0_pay1]
  simp only [hq]

theorem zero_w (f d : Fin 1024) : k0_pay25 (F := Ideal) (ix2 f d) = 0 := by
  pointwise [k0_pay25]
theorem zero_gx (j : Fin 512) : k0_pay26 (F := Ideal) (ix2 0 j) = 0 := by
  pointwise [k0_pay26]
theorem zero_gs (j : Fin 512) : k0_pay27 (F := Ideal) (ix2 0 j) = 0 := by
  pointwise [k0_pay27]

end Tile

/-- What is staged at a grid point whose rows are those from `o`. -/
structure Blk (A : Cot) (o : ℕ) (x0 : Vec Ideal S688x1024 .bf16) (x1 : Vec Ideal S8x688x64 .f32) (x2 : Vec Ideal S688x512 .f32) (x3 x4 : Vec Ideal S1x512 .f32) (x5 : Vec Ideal S1024x1024 .bf16) : Prop where
  hp : ∀ (i : Fin 688) (d : Fin 1024), x0 (ix2 i d) = A.p (o + i) d
  hx : ∀ (g : Fin 8) (i : Fin 688) (d : Fin 64), x1 (ix3 g i d) = A.x (o + i) (64 * g + d)
  hs : ∀ (i : Fin 688) (j : Fin 512), x2 (ix2 i j) = A.s (o + i) j
  hgx : ∀ j : Fin 512, x3 (ix2 0 j) = A.gx j
  hgs : ∀ j : Fin 512, x4 (ix2 0 j) = A.gs j
  hw : ∀ f d : Fin 1024, x5 (ix2 f d) = A.w f d

variable (c : Dev nD) (i : grid0.Coords) (arg1 : Memref sig .tc .vmem S688x1024 .bf16) (harg1 : arg1.IsWhole) (arg2 : Memref sig .tc .vmem S8x688x64 .f32) (harg2 : arg2.IsWhole) (arg3 : Memref sig .tc .vmem S688x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .bf16) (harg6 : arg6.IsWhole) (arg7 : Memref sig .tc .vmem S8x688x64 .f32) (harg7 : arg7.IsWhole) (arg8 : Memref sig .tc .vmem S688x512 .f32) (harg8 : arg8.IsWhole) (arg9 : Memref sig .tc .vmem S1024x1024 .f32) (harg9 : arg9.IsWhole) (arg10 : Memref sig .tc .vmem S1x512 .f32) (harg10 : arg10.IsWhole) (arg11 : Memref sig .tc .vmem S1x512 .f32) (harg11 : arg11.IsWhole)
  (x0 : Vec Ideal S688x1024 .bf16) (x1 : Vec Ideal S8x688x64 .f32) (x2 : Vec Ideal S688x512 .f32) (x3 x4 : Vec Ideal S1x512 .f32) (x5 : Vec Ideal S1024x1024 .bf16)
  {A : Cot} {o : ℕ} (B : Blk A o x0 x1 x2 x3 x4 x5)

include c arg1 harg1 arg2 harg2 arg3 harg3 arg4 harg4 arg5 harg5 arg6 harg6 x0 x1 x2 x3 x4 x5 B

theorem rp_A (r : Fin 688) (d : Fin 1024) : kernelRun0_A.sl.r (F := Ideal) c arg1 harg1 x0 (ix2 r d) = A.p (o + r) d := by
  unfold kernelRun0_A.sl.r
  pointwise [k0_pay2]
  exact (read_all harg1 x0 _ r d).trans (B.hp r d)

theorem rx_A (r : Fin 688) (j : Fin 512) : kernelRun0_A.sl.r_1 (F := Ideal) c arg2 harg2 x1 (ix2 r j) = A.x (o + r) j := by
  unfold kernelRun0_A.sl.r_1
  have hx' : ∀ (g : Fin 8) (i : Fin 688) (d : Fin 64), x1 (ix3 g i d) = (fun g i d => A.x (o + i) (64 * g + d)) g.val i.val d.val := B.hx
  have Q := read_one harg2 (x := x1) (f := fun g i d => A.x (o + i) (64 * g + d)) hx'
  exact heads (f := fun i => A.x (o + i)) (Q 0 _) (Q 1 _) (Q 2 _) (Q 3 _) (Q 4 _) (Q 5 _) (Q 6 _) (Q 7 _) r j

theorem rrx_A (r : Fin 688) : kernelRun0_A.sl.r_3 (F := Ideal) c arg2 harg2 x1 (ix2 r 0) = rstd (A.x (o + r)) := by
  unfold kernelRun0_A.sl.r_3
  have hx' : ∀ (g : Fin 8) (i : Fin 688) (d : Fin 64), x1 (ix3 g i d) = (fun g i d => A.x (o + i) (64 * g + d)) g.val i.val d.val := B.hx
  have Q := read_one harg2 (x := x1) (f := fun g i d => A.x (o + i) (64 * g + d)) hx'
  exact heads_rstd (f := fun i => A.x (o + i)) (heads (f := fun i => A.x (o + i)) (Q 0 _) (Q 1 _) (Q 2 _) (Q 3 _) (Q 4 _) (Q 5 _) (Q 6 _) (Q 7 _)) r

theorem rs_A (r : Fin 688) (j : Fin 512) : kernelRun0_A.sl.r_2 (F := Ideal) c arg3 harg3 x2 (ix2 r j) = A.s (o + r) j := by
  unfold kernelRun0_A.sl.r_2
  exact (read_all harg3 x2 _ r j).trans (B.hs r j)

theorem rrs_A (r : Fin 688) : kernelRun0_A.sl.r_4 (F := Ideal) c arg3 harg3 x2 (ix2 r 0) = rstd (A.s (o + r)) := by
  unfold kernelRun0_A.sl.r_4
  exact rows_rstd (f := fun i => A.s (o + i)) (rs_A c arg1 harg1 arg2 harg2 arg3 harg3 arg4 harg4 arg5 harg5 arg6 harg6 x0 x1 x2 x3 x4 x5 B) r

theorem nx_A (r : Fin 688) (j : Fin 512) : kernelRun0_A.sl.r_5 (F := Ideal) c arg2 harg2 arg4 harg4 x1 x3 (ix2 r j) = normed (A.x (o + r)) A.gx j := by
  unfold kernelRun0_A.sl.r_5
  exact normed_x (f := fun i => A.x (o + i)) (rx_A c arg1 harg1 arg2 harg2 arg3 harg3 arg4 harg4 arg5 harg5 arg6 harg6 x0 x1 x2 x3 x4 x5 B) (rrx_A c arg1 harg1 arg2 harg2 arg3 harg3 arg4 harg4 arg5 harg5 arg6 harg6 x0 x1 x2 x3 x4 x5 B) (fun j => (read_all harg4 x3 _ 0 j).trans (B.hgx j)) r j

theorem ns_A (r : Fin 688) (j : Fin 512) : kernelRun0_A.sl.r_6 (F := Ideal) c arg3 harg3 arg5 harg5 x2 x4 (ix2 r j) = normed (A.s (o + r)) A.gs j := by
  unfold kernelRun0_A.sl.r_6
  exact normed_s (f := fun i => A.s (o + i)) (rs_A c arg1 harg1 arg2 harg2 arg3 harg3 arg4 harg4 arg5 harg5 arg6 harg6 x0 x1 x2 x3 x4 x5 B) (fun j => (read_all harg5 x4 _ 0 j).trans (B.hgs j)) r j

theorem ys_A (r : Fin 688) (j : Fin 512) : kernelRun0_A.sl.r_7 (F := Ideal) c arg1 harg1 arg6 harg6 x0 x5 (ix2 r j) = A.ys (o + r) j := by
  unfold kernelRun0_A.sl.r_7
  exact back_s (p := fun i => A.p (o + i)) (w := fun k => A.w (512 + k)) (rp_A c arg1 harg1 arg2 harg2 arg3 harg3 arg4 harg4 arg5 harg5 arg6 harg6 x0 x1 x2 x3 x4 x5 B) (load harg6 B.hw 512 _) r j

theorem dx_A (r : Fin 688) (j : Fin 512) : kernelRun0_A.sl.r_8 (F := Ideal) c arg1 harg1 arg2 harg2 arg4 harg4 arg6 harg6 x0 x1 x3 x5 (ix2 r j) = A.dx (o + r) j := by
  unfold kernelRun0_A.sl.r_8
  exact grad_x (f := fun i => A.x (o + i)) (y := fun i => A.yx (o + i)) (rx_A c arg1 harg1 arg2 harg2 arg3 harg3 arg4 harg4 arg5 harg5 arg6 harg6 x0 x1 x2 x3 x4 x5 B) (rrx_A c arg1 harg1 arg2 harg2 arg3 harg3 arg4 harg4 arg5 harg5 arg6 harg6 x0 x1 x2 x3 x4 x5 B) (fun j => (read_all harg4 x3 _ 0 j).trans (B.hgx j)) (back_x (p := fun i => A.p (o + i)) (w := A.w) (rp_A c arg1 harg1 arg2 harg2 arg3 harg3 arg4 harg4 arg5 harg5 arg6 harg6 x0 x1 x2 x3 x4 x5 B) (fun k d => (load harg6 B.hw 0 _ k d).trans (by rw [Nat.zero_add]))) r j

theorem gx_A (r : Fin 688) (j : Fin 512) : kernelRun0_A.sl.r_9 (F := Ideal) c arg1 harg1 arg2 harg2 arg6 harg6 x0 x1 x5 (ix2 r j) = A.dgx j (o + r) := by
  unfold kernelRun0_A.sl.r_9
  exact gain_x (f := fun i => A.x (o + i)) (y := fun i => A.yx (o + i)) (rx_A c arg1 harg1 arg2 harg2 arg3 harg3 arg4 harg4 arg5 harg5 arg6 harg6 x0 x1 x2 x3 x4 x5 B) (rrx_A c arg1 harg1 arg2 harg2 arg3 harg3 arg4 harg4 arg5 harg5 arg6 harg6 x0 x1 x2 x3 x4 x5 B) (back_x (p := fun i => A.p (o + i)) (w := A.w) (rp_A c arg1 harg1 arg2 harg2 arg3 harg3 arg4 harg4 arg5 harg5 arg6 harg6 x0 x1 x2 x3 x4 x5 B) (fun k d => (load harg6 B.hw 0 _ k d).trans (by rw [Nat.zero_add]))) r j

theorem ts_A (r : Fin 688) (j : Fin 512) : kernelRun0_A.sl.r_10 (F := Ideal) c arg1 harg1 arg5 harg5 arg6 harg6 x0 x4 x5 (ix2 r j) = A.ys (o + r) j * A.gs j := by
  unfold kernelRun0_A.sl.r_10
  exact scaled_s (y := fun i => A.ys (o + i)) (back_s (p := fun i => A.p (o + i)) (w := fun k => A.w (512 + k)) (rp_A c arg1 harg1 arg2 harg2 arg3 harg3 arg4 harg4 arg5 harg5 arg6 harg6 x0 x1 x2 x3 x4 x5 B) (load harg6 B.hw 512 _)) (fun j => (read_all harg5 x4 _ 0 j).trans (B.hgs j)) r j

theorem us_A (r : Fin 688) (j : Fin 512) : kernelRun0_A.sl.r_11 (F := Ideal) c arg3 harg3 x2 (ix2 r j) = A.s (o + r) j * rstd (A.s (o + r)) := by
  unfold kernelRun0_A.sl.r_11
  exact unit_s (f := fun i => A.s (o + i)) (rs_A c arg1 harg1 arg2 harg2 arg3 harg3 arg4 harg4 arg5 harg5 arg6 harg6 x0 x1 x2 x3 x4 x5 B) r j

theorem ds_A (r : Fin 688) (j : Fin 512) : kernelRun0_A.sl.r_12 (F := Ideal) c arg1 harg1 arg3 harg3 arg5 harg5 arg6 harg6 x0 x2 x4 x5 (ix2 r j) = A.ds (o + r) j := by
  unfold kernelRun0_A.sl.r_12
  exact grad_s (f := fun i => A.s (o + i)) (y := fun i => A.ys (o + i)) (rrs_A c arg1 harg1 arg2 harg2 arg3 harg3 arg4 harg4 arg5 harg5 arg6 harg6 x0 x1 x2 x3 x4 x5 B) (ts_A c arg1 harg1 arg2 harg2 arg3 harg3 arg4 harg4 arg5 harg5 arg6 harg6 x0 x1 x2 x3 x4 x5 B) (us_A c arg1 harg1 arg2 harg2 arg3 harg3 arg4 harg4 arg5 harg5 arg6 harg6 x0 x1 x2 x3 x4 x5 B) r j

theorem gs_A (r : Fin 688) (j : Fin 512) : kernelRun0_A.sl.r_13 (F := Ideal) c arg1 harg1 arg3 harg3 arg6 harg6 x0 x2 x5 (ix2 r j) = A.dgs j (o + r) := by
  unfold kernelRun0_A.sl.r_13
  exact gain_s (y := fun i => A.ys (o + i)) (f := fun i j => A.s (o + i) j * rstd (A.s (o + i))) (ys_A c arg1 harg1 arg2 harg2 arg3 harg3 arg4 harg4 arg5 harg5 arg6 harg6 x0 x1 x2 x3 x4 x5 B) (us_A c arg1 harg1 arg2 harg2 arg3 harg3 arg4 harg4 arg5 harg5 arg6 harg6 x0 x1 x2 x3 x4 x5 B) r j

theorem rp_B (r : Fin 688) (d : Fin 1024) : kernelRun0_B.sl.r (F := Ideal) c arg1 harg1 x0 (ix2 r d) = A.p (o + r) d := by
  unfold kernelRun0_B.sl.r
  pointwise [k0_pay2]
  exact (read_all harg1 x0 _ r d).trans (B.hp r d)

theorem rx_B (r : Fin 688) (j : Fin 512) : kernelRun0_B.sl.r_1 (F := Ideal) c arg2 harg2 x1 (ix2 r j) = A.x (o + r) j := by
  unfold kernelRun0_B.sl.r_1
  have hx' : ∀ (g : Fin 8) (i : Fin 688) (d : Fin 64), x1 (ix3 g i d) = (fun g i d => A.x (o + i) (64 * g + d)) g.val i.val d.val := B.hx
  have Q := read_one harg2 (x := x1) (f := fun g i d => A.x (o + i) (64 * g + d)) hx'
  exact heads (f := fun i => A.x (o + i)) (Q 0 _) (Q 1 _) (Q 2 _) (Q 3 _) (Q 4 _) (Q 5 _) (Q 6 _) (Q 7 _) r j

theorem rrx_B (r : Fin 688) : kernelRun0_B.sl.r_3 (F := Ideal) c arg2 harg2 x1 (ix2 r 0) = rstd (A.x (o + r)) := by
  unfold kernelRun0_B.sl.r_3
  have hx' : ∀ (g : Fin 8) (i : Fin 688) (d : Fin 64), x1 (ix3 g i d) = (fun g i d => A.x (o + i) (64 * g + d)) g.val i.val d.val := B.hx
  have Q := read_one harg2 (x := x1) (f := fun g i d => A.x (o + i) (64 * g + d)) hx'
  exact heads_rstd (f := fun i => A.x (o + i)) (heads (f := fun i => A.x (o + i)) (Q 0 _) (Q 1 _) (Q 2 _) (Q 3 _) (Q 4 _) (Q 5 _) (Q 6 _) (Q 7 _)) r

theorem rs_B (r : Fin 688) (j : Fin 512) : kernelRun0_B.sl.r_2 (F := Ideal) c arg3 harg3 x2 (ix2 r j) = A.s (o + r) j := by
  unfold kernelRun0_B.sl.r_2
  exact (read_all harg3 x2 _ r j).trans (B.hs r j)

theorem rrs_B (r : Fin 688) : kernelRun0_B.sl.r_4 (F := Ideal) c arg3 harg3 x2 (ix2 r 0) = rstd (A.s (o + r)) := by
  unfold kernelRun0_B.sl.r_4
  exact rows_rstd (f := fun i => A.s (o + i)) (rs_B c arg1 harg1 arg2 harg2 arg3 harg3 arg4 harg4 arg5 harg5 arg6 harg6 x0 x1 x2 x3 x4 x5 B) r

theorem nx_B (r : Fin 688) (j : Fin 512) : kernelRun0_B.sl.r_5 (F := Ideal) c arg2 harg2 arg4 harg4 x1 x3 (ix2 r j) = normed (A.x (o + r)) A.gx j := by
  unfold kernelRun0_B.sl.r_5
  exact normed_x (f := fun i => A.x (o + i)) (rx_B c arg1 harg1 arg2 harg2 arg3 harg3 arg4 harg4 arg5 harg5 arg6 harg6 x0 x1 x2 x3 x4 x5 B) (rrx_B c arg1 harg1 arg2 harg2 arg3 harg3 arg4 harg4 arg5 harg5 arg6 harg6 x0 x1 x2 x3 x4 x5 B) (fun j => (read_all harg4 x3 _ 0 j).trans (B.hgx j)) r j

theorem ns_B (r : Fin 688) (j : Fin 512) : kernelRun0_B.sl.r_6 (F := Ideal) c arg3 harg3 arg5 harg5 x2 x4 (ix2 r j) = normed (A.s (o + r)) A.gs j := by
  unfold kernelRun0_B.sl.r_6
  exact normed_s (f := fun i => A.s (o + i)) (rs_B c arg1 harg1 arg2 harg2 arg3 harg3 arg4 harg4 arg5 harg5 arg6 harg6 x0 x1 x2 x3 x4 x5 B) (fun j => (read_all harg5 x4 _ 0 j).trans (B.hgs j)) r j

theorem ys_B (r : Fin 688) (j : Fin 512) : kernelRun0_B.sl.r_7 (F := Ideal) c arg1 harg1 arg6 harg6 x0 x5 (ix2 r j) = A.ys (o + r) j := by
  unfold kernelRun0_B.sl.r_7
  exact back_s (p := fun i => A.p (o + i)) (w := fun k => A.w (512 + k)) (rp_B c arg1 harg1 arg2 harg2 arg3 harg3 arg4 harg4 arg5 harg5 arg6 harg6 x0 x1 x2 x3 x4 x5 B) (load harg6 B.hw 512 _) r j

theorem dx_B (r : Fin 688) (j : Fin 512) : kernelRun0_B.sl.r_8 (F := Ideal) c arg1 harg1 arg2 harg2 arg4 harg4 arg6 harg6 x0 x1 x3 x5 (ix2 r j) = A.dx (o + r) j := by
  unfold kernelRun0_B.sl.r_8
  exact grad_x (f := fun i => A.x (o + i)) (y := fun i => A.yx (o + i)) (rx_B c arg1 harg1 arg2 harg2 arg3 harg3 arg4 harg4 arg5 harg5 arg6 harg6 x0 x1 x2 x3 x4 x5 B) (rrx_B c arg1 harg1 arg2 harg2 arg3 harg3 arg4 harg4 arg5 harg5 arg6 harg6 x0 x1 x2 x3 x4 x5 B) (fun j => (read_all harg4 x3 _ 0 j).trans (B.hgx j)) (back_x (p := fun i => A.p (o + i)) (w := A.w) (rp_B c arg1 harg1 arg2 harg2 arg3 harg3 arg4 harg4 arg5 harg5 arg6 harg6 x0 x1 x2 x3 x4 x5 B) (fun k d => (load harg6 B.hw 0 _ k d).trans (by rw [Nat.zero_add]))) r j

theorem gx_B (r : Fin 688) (j : Fin 512) : kernelRun0_B.sl.r_9 (F := Ideal) c arg1 harg1 arg2 harg2 arg6 harg6 x0 x1 x5 (ix2 r j) = A.dgx j (o + r) := by
  unfold kernelRun0_B.sl.r_9
  exact gain_x (f := fun i => A.x (o + i)) (y := fun i => A.yx (o + i)) (rx_B c arg1 harg1 arg2 harg2 arg3 harg3 arg4 harg4 arg5 harg5 arg6 harg6 x0 x1 x2 x3 x4 x5 B) (rrx_B c arg1 harg1 arg2 harg2 arg3 harg3 arg4 harg4 arg5 harg5 arg6 harg6 x0 x1 x2 x3 x4 x5 B) (back_x (p := fun i => A.p (o + i)) (w := A.w) (rp_B c arg1 harg1 arg2 harg2 arg3 harg3 arg4 harg4 arg5 harg5 arg6 harg6 x0 x1 x2 x3 x4 x5 B) (fun k d => (load harg6 B.hw 0 _ k d).trans (by rw [Nat.zero_add]))) r j

theorem ts_B (r : Fin 688) (j : Fin 512) : kernelRun0_B.sl.r_10 (F := Ideal) c arg1 harg1 arg5 harg5 arg6 harg6 x0 x4 x5 (ix2 r j) = A.ys (o + r) j * A.gs j := by
  unfold kernelRun0_B.sl.r_10
  exact scaled_s (y := fun i => A.ys (o + i)) (back_s (p := fun i => A.p (o + i)) (w := fun k => A.w (512 + k)) (rp_B c arg1 harg1 arg2 harg2 arg3 harg3 arg4 harg4 arg5 harg5 arg6 harg6 x0 x1 x2 x3 x4 x5 B) (load harg6 B.hw 512 _)) (fun j => (read_all harg5 x4 _ 0 j).trans (B.hgs j)) r j

theorem us_B (r : Fin 688) (j : Fin 512) : kernelRun0_B.sl.r_11 (F := Ideal) c arg3 harg3 x2 (ix2 r j) = A.s (o + r) j * rstd (A.s (o + r)) := by
  unfold kernelRun0_B.sl.r_11
  exact unit_s (f := fun i => A.s (o + i)) (rs_B c arg1 harg1 arg2 harg2 arg3 harg3 arg4 harg4 arg5 harg5 arg6 harg6 x0 x1 x2 x3 x4 x5 B) r j

theorem ds_B (r : Fin 688) (j : Fin 512) : kernelRun0_B.sl.r_12 (F := Ideal) c arg1 harg1 arg3 harg3 arg5 harg5 arg6 harg6 x0 x2 x4 x5 (ix2 r j) = A.ds (o + r) j := by
  unfold kernelRun0_B.sl.r_12
  exact grad_s (f := fun i => A.s (o + i)) (y := fun i => A.ys (o + i)) (rrs_B c arg1 harg1 arg2 harg2 arg3 harg3 arg4 harg4 arg5 harg5 arg6 harg6 x0 x1 x2 x3 x4 x5 B) (ts_B c arg1 harg1 arg2 harg2 arg3 harg3 arg4 harg4 arg5 harg5 arg6 harg6 x0 x1 x2 x3 x4 x5 B) (us_B c arg1 harg1 arg2 harg2 arg3 harg3 arg4 harg4 arg5 harg5 arg6 harg6 x0 x1 x2 x3 x4 x5 B) r j

theorem gs_B (r : Fin 688) (j : Fin 512) : kernelRun0_B.sl.r_13 (F := Ideal) c arg1 harg1 arg3 harg3 arg6 harg6 x0 x2 x5 (ix2 r j) = A.dgs j (o + r) := by
  unfold kernelRun0_B.sl.r_13
  exact gain_s (y := fun i => A.ys (o + i)) (f := fun i j => A.s (o + i) j * rstd (A.s (o + i))) (ys_B c arg1 harg1 arg2 harg2 arg3 harg3 arg4 harg4 arg5 harg5 arg6 harg6 x0 x1 x2 x3 x4 x5 B) (us_B c arg1 harg1 arg2 harg2 arg3 harg3 arg4 harg4 arg5 harg5 arg6 harg6 x0 x1 x2 x3 x4 x5 B) r j

section CaseA

variable (hc0 : cond0_0 i)

theorem out_x_A (g : Fin 8) (r : Fin 688) (d : Fin 64) :
    View.canon (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).1 (ix3 g r d) = A.dx (o + r) (64 * g + d) := by
  dsimp only [kernelRun0_A]
  unfold kernelRun0_A.sl.r_14
  have D := fun (r : Fin 688) (j : Fin 512) => dx_A c arg1 harg1 arg2 harg2 arg3 harg3 arg4 harg4 arg5 harg5 arg6 harg6 x0 x1 x2 x3 x4 x5 B r j
  exact eight (e := .f32) (fun g r d => A.dx (o + r) (64 * g + d)) _ _ _ _ _ _ _ _ _ _ _ _ _ _ _ _ (head0 (f := fun r => A.dx (o + r)) D) (head1 (f := fun r => A.dx (o + r)) D) (head2 (f := fun r => A.dx (o + r)) D) (head3 (f := fun r => A.dx (o + r)) D) (head4 (f := fun r => A.dx (o + r)) D) (head5 (f := fun r => A.dx (o + r)) D) (head6 (f := fun r => A.dx (o + r)) D) (head7 (f := fun r => A.dx (o + r)) D) g r d

theorem out_s_A (r : Fin 688) (j : Fin 512) :
    View.canon (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).2.1 (ix2 r j) = A.ds (o + r) j := by
  dsimp only [kernelRun0_A]
  exact (hit 0 _ _ [] r j r (Nat.zero_add _).symm).trans (ds_A c arg1 harg1 arg2 harg2 arg3 harg3 arg4 harg4 arg5 harg5 arg6 harg6 x0 x1 x2 x3 x4 x5 B r j)

theorem out_w_A (f d : Fin 1024) :
    View.canon (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).2.2.1 (ix2 f d) = 0 + part (A.dw f d) o := by
  dsimp only [kernelRun0_A]
  by_cases h : f.val < 512
  · rw [miss _ _ _ _ _ _ fun hm => absurd hm.1 (by omega)]
    unfold kernelRun0_A.sl.H8_2
    refine (hit 0 _ _ _ (⟨f.val, h⟩ : Fin 512) d f (Nat.zero_add _).symm).trans ?_
    refine (more_low (p := fun i => A.p (o + i)) (q := fun i => normed (A.x (o + i)) A.gx) (rp_A c arg1 harg1 arg2 harg2 arg3 harg3 arg4 harg4 arg5 harg5 arg6 harg6 x0 x1 x2 x3 x4 x5 B) (nx_A c arg1 harg1 arg2 harg2 arg3 harg3 arg4 harg4 arg5 harg5 arg6 harg6 x0 x1 x2 x3 x4 x5 B) _ d).trans ?_
    refine congrArg₂ (· + ·) ?_ (Finset.sum_congr rfl fun r _ => by rw [Cot.dw, if_pos h])
    unfold kernelRun0_A.sl.v120
    refine (read_rows (n0 := 1024) _ _ 0 _ (⟨f.val, h⟩ : Fin 512) d f (Nat.zero_add _).symm).trans ?_
    unfold kernelRun0_A.sl.H8_1
    exact (hit 0 _ _ [] f d f (Nat.zero_add _).symm).trans (zero_w f d)
  · refine (hit 512 _ _ _ (⟨f.val - 512, by omega⟩ : Fin 512) d f (by show f.val = 512 + (f.val - 512); omega)).trans ?_
    refine (more_high (p := fun i => A.p (o + i)) (q := fun i => normed (A.s (o + i)) A.gs) (rp_A c arg1 harg1 arg2 harg2 arg3 harg3 arg4 harg4 arg5 harg5 arg6 harg6 x0 x1 x2 x3 x4 x5 B) (ns_A c arg1 harg1 arg2 harg2 arg3 harg3 arg4 harg4 arg5 harg5 arg6 harg6 x0 x1 x2 x3 x4 x5 B) _ d).trans ?_
    refine congrArg₂ (· + ·) ?_ (Finset.sum_congr rfl fun r _ => by rw [Cot.dw, if_neg h])
    unfold kernelRun0_A.sl.v125
    refine (read_rows (n0 := 1024) _ _ 512 _ _ d f (by show f.val = 512 + (f.val - 512); omega)).trans ?_
    unfold kernelRun0_A.sl.H8_2
    rw [miss _ _ _ _ _ _ fun hm => h (by have := hm.2; omega)]
    unfold kernelRun0_A.sl.H8_1
    exact (hit 0 _ _ [] f d f (Nat.zero_add _).symm).trans (zero_w f d)

theorem out_gx_A (j : Fin 512) :
    View.canon (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).2.2.2.1 (ix2 0 j) = 0 + part (A.dgx j) o := by
  dsimp only [kernelRun0_A]
  refine (hit 0 _ _ _ (0 : Fin 1) j (0 : Fin 1) rfl).trans ?_
  unfold kernelRun0_A.sl.r_15
  refine (more_gx (q := fun r j => A.dgx j (o + r)) (gx_A c arg1 harg1 arg2 harg2 arg3 harg3 arg4 harg4 arg5 harg5 arg6 harg6 x0 x1 x2 x3 x4 x5 B) j).trans ?_
  refine congrArg₂ (· + ·) ?_ rfl
  unfold kernelRun0_A.sl.v130 kernelRun0_A.sl.H9_1
  exact (again _ _ _ _ _ (0 : Fin 1) j).trans (zero_gx j)

theorem out_gs_A (j : Fin 512) :
    View.canon (kernelRun0_A (F := Ideal) c i arg1 harg1 arg2 harg2 arg3 harg3 arg4 harg4 arg5 harg5 arg6 harg6 arg7 harg7 arg8 harg8 arg9 harg9 arg10 harg10 arg11 harg11 hc0 x0 x1 x2 x3 x4 x5).2.2.2.2.1 (ix2 0 j) = 0 + part (A.dgs j) o := by
  dsimp only [kernelRun0_A]
  refine (hit 0 _ _ _ (0 : Fin 1) j (0 : Fin 1) rfl).trans ?_
  refine (more_gs (q := fun r j => A.dgs j (o + r)) (gs_A c arg1 harg1 arg2 harg2 arg3 harg3 arg4 harg4 arg5 harg5 arg6 harg6 x0 x1 x2 x3 x4 x5 B) j).trans ?_
  refine congrArg₂ (· + ·) ?_ rfl
  unfold kernelRun0_A.sl.v136 kernelRun0_A.sl.H10_1
  exact (again _ _ _ _ _ (0 : Fin 1) j).trans (zero_gs j)

end CaseA

section CaseB

variable (hc0 : ¬ cond0_0 i) (xo8 : Vec Ideal S1024x1024 .f32) (xo9 xo10 : Vec Ideal S1x512 .f32)

theorem out_x_B (g : Fin 8) (r : Fin 688) (d : Fin 64) :
    View.canon (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9 xo10).1 (ix3 g r d) = A.dx (o + r) (64 * g + d) := by
  dsimp only [kernelRun0_B]
  unfold kernelRun0_B.sl.r_14
  have D := fun (r : Fin 688) (j : Fin 512) => dx_B c arg1 harg1 arg2 harg2 arg3 harg3 arg4 harg4 arg5 harg5 arg6 harg6 x0 x1 x2 x3 x4 x5 B r j
  exact eight (e := .f32) (fun g r d => A.dx (o + r) (64 * g + d)) _ _ _ _ _ _ _ _ _ _ _ _ _ _ _ _ (head0 (f := fun r => A.dx (o + r)) D) (head1 (f := fun r => A.dx (o + r)) D) (head2 (f := fun r => A.dx (o + r)) D) (head3 (f := fun r => A.dx (o + r)) D) (head4 (f := fun r => A.dx (o + r)) D) (head5 (f := fun r => A.dx (o + r)) D) (head6 (f := fun r => A.dx (o + r)) D) (head7 (f := fun r => A.dx (o + r)) D) g r d

theorem out_s_B (r : Fin 688) (j : Fin 512) :
    View.canon (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9 xo10).2.1 (ix2 r j) = A.ds (o + r) j := by
  dsimp only [kernelRun0_B]
  exact (hit 0 _ _ [] r j r (Nat.zero_add _).symm).trans (ds_B c arg1 harg1 arg2 harg2 arg3 harg3 arg4 harg4 arg5 harg5 arg6 harg6 x0 x1 x2 x3 x4 x5 B r j)

theorem out_w_B (f d : Fin 1024) :
    View.canon (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9 xo10).2.2.1 (ix2 f d) = xo8 (ix2 f d) + part (A.dw f d) o := by
  dsimp only [kernelRun0_B]
  by_cases h : f.val < 512
  · rw [miss _ _ _ _ _ _ fun hm => absurd hm.1 (by omega)]
    refine (hit 0 _ _ _ (⟨f.val, h⟩ : Fin 512) d f (Nat.zero_add _).symm).trans ?_
    refine (more_low (p := fun i => A.p (o + i)) (q := fun i => normed (A.x (o + i)) A.gx) (rp_B c arg1 harg1 arg2 harg2 arg3 harg3 arg4 harg4 arg5 harg5 arg6 harg6 x0 x1 x2 x3 x4 x5 B) (nx_B c arg1 harg1 arg2 harg2 arg3 harg3 arg4 harg4 arg5 harg5 arg6 harg6 x0 x1 x2 x3 x4 x5 B) _ d).trans ?_
    refine congrArg₂ (· + ·) ?_ (Finset.sum_congr rfl fun r _ => by rw [Cot.dw, if_pos h])
    refine (Memref.IsWhole.readAt_unread harg9 xo8 _ _).trans (congrArg xo8 ?_)
    funext a
    refine Fin.ext ?_
    match a with
    | ⟨0, _⟩ => show 0 + 1 * f.val = f.val; omega
    | ⟨1, _⟩ => show 0 + 1 * d.val = d.val; omega
  · refine (hit 512 _ _ _ (⟨f.val - 512, by omega⟩ : Fin 512) d f (by show f.val = 512 + (f.val - 512); omega)).trans ?_
    refine (more_high (p := fun i => A.p (o + i)) (q := fun i => normed (A.s (o + i)) A.gs) (rp_B c arg1 harg1 arg2 harg2 arg3 harg3 arg4 harg4 arg5 harg5 arg6 harg6 x0 x1 x2 x3 x4 x5 B) (ns_B c arg1 harg1 arg2 harg2 arg3 harg3 arg4 harg4 arg5 harg5 arg6 harg6 x0 x1 x2 x3 x4 x5 B) _ d).trans ?_
    refine congrArg₂ (· + ·) ?_ (Finset.sum_congr rfl fun r _ => by rw [Cot.dw, if_neg h])
    unfold kernelRun0_B.sl.v125
    refine (Memref.IsWhole.readAt_unread harg9 xo8 _ _).trans (congrArg xo8 ?_)
    funext a
    refine Fin.ext ?_
    match a with
    | ⟨0, _⟩ => show 512 + 1 * (f.val - 512) = f.val; omega
    | ⟨1, _⟩ => show 0 + 1 * d.val = d.val; omega

theorem out_gx_B (j : Fin 512) :
    View.canon (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9 xo10).2.2.2.1 (ix2 0 j) = xo9 (ix2 0 j) + part (A.dgx j) o := by
  dsimp only [kernelRun0_B]
  refine (hit 0 _ _ _ (0 : Fin 1) j (0 : Fin 1) rfl).trans ?_
  unfold kernelRun0_B.sl.r_15
  refine (more_gx (q := fun r j => A.dgx j (o + r)) (gx_B c arg1 harg1 arg2 harg2 arg3 harg3 arg4 harg4 arg5 harg5 arg6 harg6 x0 x1 x2 x3 x4 x5 B) j).trans ?_
  refine congrArg₂ (· + ·) ?_ rfl
  exact read_all harg10 xo9 _ 0 j

theorem out_gs_B (j : Fin 512) :
    View.canon (kernelRun0_B (F := Ideal) c i arg1 harg1 arg2 harg2 arg3 harg3 arg4 harg4 arg5 harg5 arg6 harg6 arg7 harg7 arg8 harg8 arg9 harg9 arg10 harg10 arg11 harg11 hc0 x0 x1 x2 x3 x4 x5 xo8 xo9 xo10).2.2.2.2.1 (ix2 0 j) = xo10 (ix2 0 j) + part (A.dgs j) o := by
  dsimp only [kernelRun0_B]
  refine (hit 0 _ _ _ (0 : Fin 1) j (0 : Fin 1) rfl).trans ?_
  refine (more_gs (q := fun r j => A.dgs j (o + r)) (gs_B c arg1 harg1 arg2 harg2 arg3 harg3 arg4 harg4 arg5 harg5 arg6 harg6 x0 x1 x2 x3 x4 x5 B) j).trans ?_
  refine congrArg₂ (· + ·) ?_ rfl
  exact read_all harg11 xo10 _ 0 j

end CaseB

end Cert.Mix.Bwd

end
-- ==== Proof.MixBwdArrays.lean ====
/- The backward kernel of the mixer's output: its five result arrays after the run. -/
module

public import proofs.«01_k».proof.Proof.MixBwd

@[expose] public section

set_option maxRecDepth 16384

noncomputable section

namespace Cert.Mix

open Finset Idealize.ShloMosaic Cert.FFN

/-- What the argument arrays give: the output's gradient, the attention's heads side by side, the other rows, gains and weights. -/
def cotOf (A0 : Vec Ideal ⟨2, ![2064, 1024]⟩ .f32) (A1 : Vec Ideal ⟨3, ![8, 2064, 64]⟩ .f32) (A2 : Vec Ideal ⟨2, ![2064, 512]⟩ .f32)
    (A3 A4 : Vec Ideal ⟨2, ![1, 512]⟩ .f32) (A5 : Vec Ideal ⟨2, ![1024, 1024]⟩ .f32) : Cot where
  toOut := outOf A1 A2 A3 A4 A5
  p n d := A0 (ix2 (Fin.ofNat 2064 n) (Fin.ofNat 1024 d))

end Cert.Mix

namespace Cert.Mix.Bwd

open Finset Idealize.ShloMosaic Idealize.ShloMosaic.TcCoe Idealize.ShloMosaic.StableHlo Cert.FFN
open Cert.Kernel8Ideal Cert.Kernel8Ideal.Gen

variable (m : (ℓ : Loc nD τ sig) → Buf (Elt Ideal) ℓ)

/-- What a device's arguments give. -/
def ct (c : Dev nD) : Cot :=
  cotOf (m (c, main_arg0)) (m (c, main_arg1)) (m (c, main_arg2)) (m (c, main_arg3)) (m (c, main_arg4)) (m (c, main_arg5))

theorem host_p (c : Dev nD) : (V m c main_v0 : Vec Ideal S2064x1024 .bf16) = truncf (F := Ideal) .bf16 (m (c, main_arg0) : Vec Ideal S2064x1024 .f32) bitsLt_bf16_f32 := by dsimp only [V, hostOps0]; after_results
theorem host_w (c : Dev nD) : (V m c main_v1 : Vec Ideal S1024x1024 .bf16) = truncf (F := Ideal) .bf16 (m (c, main_arg5) : Vec Ideal S1024x1024 .f32) bitsLt_bf16_f32 := by dsimp only [V, hostOps0]; after_results

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = t.val ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = 0 ∧ win0_6.index t (1 : Fin 3) = t.val ∧ win0_6.index t (2 : Fin 3) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)

theorem emb0 (t : Fin cfg0.N) (i : Fin 688) (j : Fin 1024) : ((cfg0.win 0).blk t).view.emb (ix2 i j) = ix2 (Fin.ofNat 2064 (688 * t.val + i)) j := by
  obtain ⟨e0, e1⟩ := idx0 t
  have ht : t.val < 3 := t.isLt
  funext a; apply Fin.ext
  match a with
  | ⟨0, _⟩ =>
    show win0_0.index t (0 : Fin 2) * 688 + 1 * i.val = _
    show _ = (688 * t.val + i.val) % 2064; omega
  | ⟨1, _⟩ =>
    show win0_0.index t (1 : Fin 2) * 1024 + 1 * j.val = _
    show _ = j.val; omega
theorem emb1 (t : Fin cfg0.N) (g : Fin 8) (i : Fin 688) (d : Fin 64) : ((cfg0.win 1).blk t).view.emb (ix3 g i d) = ix3 g (Fin.ofNat 2064 (688 * t.val + i)) d := by
  obtain ⟨e0, e1, e2⟩ := idx1 t
  have ht : t.val < 3 := t.isLt
  funext a; apply Fin.ext
  match a with
  | ⟨0, _⟩ =>
    show win0_1.index t (0 : Fin 3) * 8 + 1 * g.val = _
    show _ = g.val; omega
  | ⟨1, _⟩ =>
    show win0_1.index t (1 : Fin 3) * 688 + 1 * i.val = _
    show _ = (688 * t.val + i.val) % 2064; omega
  | ⟨2, _⟩ =>
    show win0_1.index t (2 : Fin 3) * 64 + 1 * d.val = _
    show _ = d.val; omega
theorem emb2 (t : Fin cfg0.N) (i : Fin 688) (j : Fin 512) : ((cfg0.win 2).blk t).view.emb (ix2 i j) = ix2 (Fin.ofNat 2064 (688 * t.val + i)) j := by
  obtain ⟨e0, e1⟩ := idx2 t
  have ht : t.val < 3 := t.isLt
  funext a; apply Fin.ext
  match a with
  | ⟨0, _⟩ =>
    show win0_2.index t (0 : Fin 2) * 688 + 1 * i.val = _
    show _ = (688 * t.val + i.val) % 2064; omega
  | ⟨1, _⟩ =>
    show win0_2.index t (1 : Fin 2) * 512 + 1 * j.val = _
    show _ = j.val; omega
theorem emb3 (t : Fin cfg0.N) (i : Fin 1) (j : Fin 512) : ((cfg0.win 3).blk t).view.emb (ix2 i j) = ix2 i j := by
  obtain ⟨e0, e1⟩ := idx3 t
  have ht : t.val < 3 := t.isLt
  funext a; apply Fin.ext
  match a with
  | ⟨0, _⟩ =>
    show win0_3.index t (0 : Fin 2) * 1 + 1 * i.val = _
    show _ = i.val; omega
  | ⟨1, _⟩ =>
    show win0_3.index t (1 : Fin 2) * 512 + 1 * j.val = _
    show _ = j.val; omega
theorem emb4 (t : Fin cfg0.N) (i : Fin 1) (j : Fin 512) : ((cfg0.win 4).blk t).view.emb (ix2 i j) = ix2 i j := by
  obtain ⟨e0, e1⟩ := idx4 t
  have ht : t.val < 3 := t.isLt
  funext a; apply Fin.ext
  match a with
  | ⟨0, _⟩ =>
    show win0_4.index t (0 : Fin 2) * 1 + 1 * i.val = _
    show _ = i.val; omega
  | ⟨1, _⟩ =>
    show win0_4.index t (1 : Fin 2) * 512 + 1 * j.val = _
    show _ = j.val; omega
theorem emb5 (t : Fin cfg0.N) (i : Fin 1024) (j : Fin 1024) : ((cfg0.win 5).blk t).view.emb (ix2 i j) = ix2 i j := by
  obtain ⟨e0, e1⟩ := idx5 t
  have ht : t.val < 3 := t.isLt
  funext a; apply Fin.ext
  match a with
  | ⟨0, _⟩ =>
    show win0_5.index t (0 : Fin 2) * 1024 + 1 * i.val = _
    show _ = i.val; omega
  | ⟨1, _⟩ =>
    show win0_5.index t (1 : Fin 2) * 1024 + 1 * j.val = _
    show _ = j.val; omega
theorem emb6 (t : Fin cfg0.N) (g : Fin 8) (i : Fin 688) (d : Fin 64) : ((cfg0.win 6).blk t).view.emb (ix3 g i d) = ix3 g (Fin.ofNat 2064 (688 * t.val + i)) d := by
  obtain ⟨e0, e1, e2⟩ := idx6 t
  have ht : t.val < 3 := t.isLt
  funext a; apply Fin.ext
  match a with
  | ⟨0, _⟩ =>
    show win0_6.index t (0 : Fin 3) * 8 + 1 * g.val = _
    show _ = g.val; omega
  | ⟨1, _⟩ =>
    show win0_6.index t (1 : Fin 3) * 688 + 1 * i.val = _
    show _ = (688 * t.val + i.val) % 2064; omega
  | ⟨2, _⟩ =>
    show win0_6.index t (2 : Fin 3) * 64 + 1 * d.val = _
    show _ = d.val; omega
theorem emb7 (t : Fin cfg0.N) (i : Fin 688) (j : Fin 512) : ((cfg0.win 7).blk t).view.emb (ix2 i j) = ix2 (Fin.ofNat 2064 (688 * t.val + i)) j := by
  obtain ⟨e0, e1⟩ := idx7 t
  have ht : t.val < 3 := t.isLt
  funext a; apply Fin.ext
  match a with
  | ⟨0, _⟩ =>
    show win0_7.index t (0 : Fin 2) * 688 + 1 * i.val = _
    show _ = (688 * t.val + i.val) % 2064; omega
  | ⟨1, _⟩ =>
    show win0_7.index t (1 : Fin 2) * 512 + 1 * j.val = _
    show _ = j.val; omega
theorem emb8 (t : Fin cfg0.N) (i : Fin 1024) (j : Fin 1024) : ((cfg0.win 8).blk t).view.emb (ix2 i j) = ix2 i j := by
  obtain ⟨e0, e1⟩ := idx8 t
  have ht : t.val < 3 := t.isLt
  funext a; apply Fin.ext
  match a with
  | ⟨0, _⟩ =>
    show win0_8.index t (0 : Fin 2) * 1024 + 1 * i.val = _
    show _ = i.val; omega
  | ⟨1, _⟩ =>
    show win0_8.index t (1 : Fin 2) * 1024 + 1 * j.val = _
    show _ = j.val; omega
theorem emb9 (t : Fin cfg0.N) (i : Fin 1) (j : Fin 512) : ((cfg0.win 9).blk t).view.emb (ix2 i j) = ix2 i j := by
  obtain ⟨e0, e1⟩ := idx9 t
  have ht : t.val < 3 := t.isLt
  funext a; apply Fin.ext
  match a with
  | ⟨0, _⟩ =>
    show win0_9.index t (0 : Fin 2) * 1 + 1 * i.val = _
    show _ = i.val; omega
  | ⟨1, _⟩ =>
    show win0_9.index t (1 : Fin 2) * 512 + 1 * j.val = _
    show _ = j.val; omega
theorem emb10 (t : Fin cfg0.N) (i : Fin 1) (j : Fin 512) : ((cfg0.win 10).blk t).view.emb (ix2 i j) = ix2 i j := by
  obtain ⟨e0, e1⟩ := idx10 t
  have ht : t.val < 3 := t.isLt
  funext a; apply Fin.ext
  match a with
  | ⟨0, _⟩ =>
    show win0_10.index t (0 : Fin 2) * 1 + 1 * i.val = _
    show _ = i.val; omega
  | ⟨1, _⟩ =>
    show win0_10.index t (1 : Fin 2) * 512 + 1 * j.val = _
    show _ = j.val; omega

/-- What is staged at a point. -/
theorem staged (c : Dev nD) (t : Fin cfg0.N) :
    Blk (ct m c) (688 * t.val) (iblk m c 0 t) (iblk m c 1 t) (iblk m c 2 t) (iblk m c 3 t) (iblk m c 4 t) (iblk m c 5 t) where
  hp i d := by
    show V m c main_v0 (((cfg0.win 0).blk t).view.emb (ix2 i d)) = _
    rw [emb0, host_p]
    show m (c, main_arg0) (ix2 _ d) = m (c, main_arg0) (ix2 _ (Fin.ofNat 1024 d))
    rw [ofNat_val]
  hx g i d := by
    show V m c main_arg1 (((cfg0.win 1).blk t).view.emb (ix3 g i d)) = _
    rw [emb1, V_main_arg1]
    refine congrArg (m (c, main_arg1)) (congrArg₂ (fun a b => ix3 a _ b) (Fin.ext ?_) (Fin.ext ?_))
    · show g.val = (64 * g.val + d.val) / 64 % 8; omega
    · show d.val = (64 * g.val + d.val) % 64; omega
  hs i j := by
    show V m c main_arg2 (((cfg0.win 2).blk t).view.emb (ix2 i j)) = _
    rw [emb2, V_main_arg2]
    show _ = m (c, main_arg2) (ix2 _ (Fin.ofNat 512 j))
    rw [ofNat_val]
  hgx j := by
    show V m c main_arg3 (((cfg0.win 3).blk t).view.emb (ix2 0 j)) = _
    rw [emb3, V_main_arg3]
    show _ = m (c, main_arg3) (ix2 0 (Fin.ofNat 512 j))
    rw [ofNat_val]
  hgs j := by
    show V m c main_arg4 (((cfg0.win 4).blk t).view.emb (ix2 0 j)) = _
    rw [emb4, V_main_arg4]
    show _ = m (c, main_arg4) (ix2 0 (Fin.ofNat 512 j))
    rw [ofNat_val]
  hw f d := by
    show V m c main_v1 (((cfg0.win 5).blk t).view.emb (ix2 f d)) = _
    rw [emb5, host_w]
    show m (c, main_arg5) (ix2 f d) = m (c, main_arg5) (ix2 (Fin.ofNat 1024 f) (Fin.ofNat 1024 d))
    rw [ofNat_val, ofNat_val]

/-- Row `n` of a result with a row per row: point `n / 688`, row `n % 688` of its tile. -/
def pt (n : Fin 2064) : Fin cfg0.N := ⟨n.val / 688, by show _ < 3; omega⟩
def row (n : Fin 2064) : Fin 688 := ⟨n.val % 688, by omega⟩
theorem pt_row (n : Fin 2064) : 688 * (pt n).val + (row n).val = n.val := by show 688 * (n.val / 688) + n.val % 688 = _; omega

theorem dx_at (c : Dev nD) (t : Fin cfg0.N) (g : Fin 8) (r : Fin 688) (d : Fin 64) :
    (dats m 0 c).arrAt 6 cfg0.N (((cfg0.win 6).blk t).view.emb (ix3 g r d)) = (ct m c).dx (688 * t.val + r) (64 * g + d) := by
  have ht : t.val < 3 := t.isLt
  by_cases h : t.val % 3 = 0
  · refine (congrFun ((Value.blocks6 m c t (flush0_6 _)).trans (Value.flushed6_A m c t h)) (ix3 g r d)).trans ?_
    refine (congrFun (View.read_writes_junk_eq_canon _ _) _).trans ?_
    exact out_x_A c _ _ _ _ _ _ _ _ _ _ _ _ _ _ _ _ _ _ _ _ _ _ _ _ _ _ _ _ _ (staged m c t) _ g r d
  · refine (congrFun ((Value.blocks6 m c t (flush0_6 _)).trans (Value.flushed6_B m c t h)) (ix3 g r d)).trans ?_
    refine (congrFun (View.read_writes_junk_eq_canon _ _) _).trans ?_
    exact out_x_B c _ _ _ _ _ _ _ _ _ _ _ _ _ _ _ _ _ _ _ _ _ _ _ _ _ _ _ _ _ (staged m c t) _ _ _ _ g r d

theorem ds_at (c : Dev nD) (t : Fin cfg0.N) (r : Fin 688) (j : Fin 512) :
    (dats m 0 c).arrAt 7 cfg0.N (((cfg0.win 7).blk t).view.emb (ix2 r j)) = (ct m c).ds (688 * t.val + r) j := by
  have ht : t.val < 3 := t.isLt
  by_cases h : t.val % 3 = 0
  · refine (congrFun ((Value.blocks7 m c t (flush0_7 _)).trans (Value.flushed7_A m c t h)) (ix2 r j)).trans ?_
    refine (congrFun (View.read_writes_junk_eq_canon _ _) _).trans ?_
    exact out_s_A c _ _ _ _ _ _ _ _ _ _ _ _ _ _ _ _ _ _ _ _ _ _ _ _ _ _ _ _ _ (staged m c t) _ r j
  · refine (congrFun ((Value.blocks7 m c t (flush0_7 _)).trans (Value.flushed7_B m c t h)) (ix2 r j)).trans ?_
    refine (congrFun (View.read_writes_junk_eq_canon _ _) _).trans ?_
    exact out_s_B c _ _ _ _ _ _ _ _ _ _ _ _ _ _ _ _ _ _ _ _ _ _ _ _ _ _ _ _ _ (staged m c t) _ _ _ _ r j

/-- The arrays of the rows' gradients. -/
theorem dx_array (c : Dev nD) (g : Fin 8) (n : Fin 2064) (d : Fin 64) :
    (dats m 0 c).arrAt 6 cfg0.N (ix3 g n d) = (ct m c).dx n (64 * g + d) := by
  have key := dx_at m c (pt n) g (row n) d
  rw [emb6, pt_row, ofNat_val] at key
  exact key
theorem ds_array (c : Dev nD) (n : Fin 2064) (j : Fin 512) : (dats m 0 c).arrAt 7 cfg0.N (ix2 n j) = (ct m c).ds n j := by
  have key := ds_at m c (pt n) (row n) j
  rw [emb7, pt_row, ofNat_val] at key
  exact key

/-- The last grid point. -/
def last : Fin cfg0.N := ⟨2, by show 2 < 3; omega⟩

/-! The results summed over the points. -/

theorem dw_at_A (c : Dev nD) (t : Fin cfg0.N) (h : t.val % 3 = 0) (f d : Fin 1024) :
    (outsAt0 m c t.val t.isLt).2.2.1 (ix2 f d) = 0 + part ((ct m c).dw f d) (688 * t.val) := by
  rw [outsAt0_A m c t h]
  dsimp only [out0_A_8]
  refine (congrFun (View.read_writes_junk_eq_canon _ _) _).trans ?_
  exact out_w_A c _ _ _ _ _ _ _ _ _ _ _ _ _ _ _ _ _ _ _ _ _ _ _ _ _ _ _ _ _ (staged m c t) _ f d

theorem dw_at_B (c : Dev nD) (t : Fin cfg0.N) (h : ¬ t.val % 3 = 0) (f d : Fin 1024) :
    (outsAt0 m c t.val t.isLt).2.2.1 (ix2 f d)
      = (outsAt0 m c (t.val - 1) (Nat.lt_of_le_of_lt (Nat.sub_le _ _) t.isLt)).2.2.1 (ix2 f d) + part ((ct m c).dw f d) (688 * t.val) := by
  rw [outsAt0_B m c t h]
  dsimp only [out0_B_8]
  refine (congrFun (View.read_writes_junk_eq_canon _ _) _).trans ?_
  exact out_w_B c _ _ _ _ _ _ _ _ _ _ _ _ _ _ _ _ _ _ _ _ _ _ _ _ _ _ _ _ _ (staged m c t) _ _ _ _ f d

theorem dw_array (c : Dev nD) (f d : Fin 1024) : (dats m 0 c).arrAt 8 cfg0.N (ix2 f d) = over ((ct m c).dw f d) := by
  have key := congrFun (((dats m 0 c).read_blk_arrAt_eq_flushed 8
    (fun t t' h h' hne => absurd (Fin.ext (by
      have a := (flush0_8 t).mp h
      have b := (flush0_8 t').mp h'
      have ht : t.val < 3 := t.isLt
      have ht' : t'.val < 3 := t'.isLt
      omega)) hne) cfg0.N last last.isLt ((flush0_8 last).mpr rfl)).trans (Value.flushed8 m c last)) (ix2 f d)
  refine (congrArg ((dats m 0 c).arrAt 8 cfg0.N) (emb8 last f d)).symm.trans (Eq.trans key ?_)
  rw [over_eq, Finset.sum_range_succ, Finset.sum_range_succ, Finset.sum_range_one]
  refine (dw_at_B m c last (by decide) f d).trans (congrArg₂ (· + ·) ?_ rfl)
  refine (dw_at_B m c (⟨1, by show 1 < 3; omega⟩ : Fin cfg0.N) (by decide) f d).trans (congrArg₂ (· + ·) ?_ rfl)
  exact (dw_at_A m c (⟨0, by show 0 < 3; omega⟩ : Fin cfg0.N) rfl f d).trans (zero_add _)

theorem dgx_at_A (c : Dev nD) (t : Fin cfg0.N) (h : t.val % 3 = 0) (j : Fin 512) :
    (outsAt0 m c t.val t.isLt).2.2.2.1 (ix2 0 j) = 0 + part ((ct m c).dgx j) (688 * t.val) := by
  rw [outsAt0_A m c t h]
  dsimp only [out0_A_9]
  refine (congrFun (View.read_writes_junk_eq_canon _ _) _).trans ?_
  exact out_gx_A c _ _ _ _ _ _ _ _ _ _ _ _ _ _ _ _ _ _ _ _ _ _ _ _ _ _ _ _ _ (staged m c t) _ j

theorem dgx_at_B (c : Dev nD) (t : Fin cfg0.N) (h : ¬ t.val % 3 = 0) (j : Fin 512) :
    (outsAt0 m c t.val t.isLt).2.2.2.1 (ix2 0 j)
      = (outsAt0 m c (t.val - 1) (Nat.lt_of_le_of_lt (Nat.sub_le _ _) t.isLt)).2.2.2.1 (ix2 0 j) + part ((ct m c).dgx j) (688 * t.val) := by
  rw [outsAt0_B m c t h]
  dsimp only [out0_B_9]
  refine (congrFun (View.read_writes_junk_eq_canon _ _) _).trans ?_
  exact out_gx_B c _ _ _ _ _ _ _ _ _ _ _ _ _ _ _ _ _ _ _ _ _ _ _ _ _ _ _ _ _ (staged m c t) _ _ _ _ j

theorem dgx_array (c : Dev nD) (j : Fin 512) : (dats m 0 c).arrAt 9 cfg0.N (ix2 0 j) = over ((ct m c).dgx j) := by
  have key := congrFun (((dats m 0 c).read_blk_arrAt_eq_flushed 9
    (fun t t' h h' hne => absurd (Fin.ext (by
      have a := (flush0_9 t).mp h
      have b := (flush0_9 t').mp h'
      have ht : t.val < 3 := t.isLt
      have ht' : t'.val < 3 := t'.isLt
      omega)) hne) cfg0.N last last.isLt ((flush0_9 last).mpr rfl)).trans (Value.flushed9 m c last)) (ix2 0 j)
  refine (congrArg ((dats m 0 c).arrAt 9 cfg0.N) (emb9 last 0 j)).symm.trans (Eq.trans key ?_)
  rw [over_eq, Finset.sum_range_succ, Finset.sum_range_succ, Finset.sum_range_one]
  refine (dgx_at_B m c last (by decide) j).trans (congrArg₂ (· + ·) ?_ rfl)
  refine (dgx_at_B m c (⟨1, by show 1 < 3; omega⟩ : Fin cfg0.N) (by decide) j).trans (congrArg₂ (· + ·) ?_ rfl)
  exact (dgx_at_A m c (⟨0, by show 0 < 3; omega⟩ : Fin cfg0.N) rfl j).trans (zero_add _)

theorem dgs_at_A (c : Dev nD) (t : Fin cfg0.N) (h : t.val % 3 = 0) (j : Fin 512) :
    (outsAt0 m c t.val t.isLt).2.2.2.2 (ix2 0 j) = 0 + part ((ct m c).dgs j) (688 * t.val) := by
  rw [outsAt0_A m c t h]
  dsimp only [out0_A_10]
  refine (congrFun (View.read_writes_junk_eq_canon _ _) _).trans ?_
  exact out_gs_A c _ _ _ _ _ _ _ _ _ _ _ _ _ _ _ _ _ _ _ _ _ _ _ _ _ _ _ _ _ (staged m c t) _ j

theorem dgs_at_B (c : Dev nD) (t : Fin cfg0.N) (h : ¬ t.val % 3 = 0) (j : Fin 512) :
    (outsAt0 m c t.val t.isLt).2.2.2.2 (ix2 0 j)
      = (outsAt0 m c (t.val - 1) (Nat.lt_of_le_of_lt (Nat.sub_le _ _) t.isLt)).2.2.2.2 (ix2 0 j) + part ((ct m c).dgs j) (688 * t.val) := by
  rw [outsAt0_B m c t h]
  dsimp only [out0_B_10]
  refine (congrFun (View.read_writes_junk_eq_canon _ _) _).trans ?_
  exact out_gs_B c _ _ _ _ _ _ _ _ _ _ _ _ _ _ _ _ _ _ _ _ _ _ _ _ _ _ _ _ _ (staged m c t) _ _ _ _ j

theorem dgs_array (c : Dev nD) (j : Fin 512) : (dats m 0 c).arrAt 10 cfg0.N (ix2 0 j) = over ((ct m c).dgs j) := by
  have key := congrFun (((dats m 0 c).read_blk_arrAt_eq_flushed 10
    (fun t t' h h' hne => absurd (Fin.ext (by
      have a := (flush0_10 t).mp h
      have b := (flush0_10 t').mp h'
      have ht : t.val < 3 := t.isLt
      have ht' : t'.val < 3 := t'.isLt
      omega)) hne) cfg0.N last last.isLt ((flush0_10 last).mpr rfl)).trans (Value.flushed10 m c last)) (ix2 0 j)
  refine (congrArg ((dats m 0 c).arrAt 10 cfg0.N) (emb10 last 0 j)).symm.trans (Eq.trans key ?_)
  rw [over_eq, Finset.sum_range_succ, Finset.sum_range_succ, Finset.sum_range_one]
  refine (dgs_at_B m c last (by decide) j).trans (congrArg₂ (· + ·) ?_ rfl)
  refine (dgs_at_B m c (⟨1, by show 1 < 3; omega⟩ : Fin cfg0.N) (by decide) j).trans (congrArg₂ (· + ·) ?_ rfl)
  exact (dgs_at_A m c (⟨0, by show 0 < 3; omega⟩ : Fin cfg0.N) rfl j).trans (zero_add _)

end Cert.Mix.Bwd

end
-- ==== Proof.MixBwdRef.lean ====
/- The mixer's output's backward reference, entry by entry, and its equality with the kernel's five results. -/
module

public import proofs.«01_k».proof.Proof.FfnBwdRef
public import proofs.«01_k».proof.Proof.MixBwdArrays
public import proofs.«01_k».proof.Proof.Gen.Reference8Ideal.Read

@[expose] public section

set_option maxRecDepth 16384

noncomputable section

namespace Cert.Mix.Bwd

open Finset Idealize.ShloMosaic Idealize.ShloMosaic.TcCoe Cert.FFN

open Cert.Reference8Ideal Cert.Reference8Ideal.Gen Cert.Reference8Ideal.Read

theorem zero_bits : (FloatOps.ofBits .f32 0x00000000#32 : Ideal .f32) = 0 := Ideal.ofBits_zero_f32

section Ref

variable (x0 : Vec Ideal S2064x1024 .f32) (x1 : Vec Ideal S8x2064x64 .f32) (x2 : Vec Ideal S2064x512 .f32)
  (x3 x4 : Vec Ideal S1x512 .f32) (x5 : Vec Ideal S1024x1024 .f32)

theorem ref_x (i : S2064x512.Idx) : val_main_v1 (F := Ideal) x1 i = (cotOf x0 x1 x2 x3 x4 x5).x (i 0).val (i 1).val := by
  have h0 : (i 0).val < 2064 := (i 0).isLt
  have h1 : (i 1).val < 512 := (i 1).isLt
  rw [val_main_v1_apply, val_main_v0_apply]
  refine congrArg x1 ?_
  funext a; apply Fin.ext
  match a with
  | ⟨0, _⟩ => show ((i 0).val * 512 + (i 1).val) / 64 % 8 = (i 1).val / 64 % 8; omega
  | ⟨1, _⟩ => show ((i 0).val * 512 + (i 1).val) / 512 = (i 0).val % 2064; omega
  | ⟨2, _⟩ => show ((i 0).val * 512 + (i 1).val) % 64 = (i 1).val % 64; omega

theorem ref_s (i : S2064x512.Idx) : x2 i = (cotOf x0 x1 x2 x3 x4 x5).s (i 0).val (i 1).val := by
  refine congrArg x2 ?_
  funext a; apply Fin.ext
  match a with
  | ⟨0, _⟩ => show (i 0).val = (i 0).val % 2064; exact (Nat.mod_eq_of_lt (i 0).isLt).symm
  | ⟨1, _⟩ => show (i 1).val = (i 1).val % 512; exact (Nat.mod_eq_of_lt (i 1).isLt).symm

theorem ref_p (i : S2064x1024.Idx) : x0 i = (cotOf x0 x1 x2 x3 x4 x5).p (i 0).val (i 1).val := by
  refine congrArg x0 ?_
  funext a; apply Fin.ext
  match a with
  | ⟨0, _⟩ => show (i 0).val = (i 0).val % 2064; exact (Nat.mod_eq_of_lt (i 0).isLt).symm
  | ⟨1, _⟩ => show (i 1).val = (i 1).val % 1024; exact (Nat.mod_eq_of_lt (i 1).isLt).symm

theorem ref_w (i : S1024x1024.Idx) : x5 i = (cotOf x0 x1 x2 x3 x4 x5).w (i 0).val (i 1).val := by
  refine congrArg x5 ?_
  funext a; apply Fin.ext
  match a with
  | ⟨0, _⟩ => show (i 0).val = (i 0).val % 1024; exact (Nat.mod_eq_of_lt (i 0).isLt).symm
  | ⟨1, _⟩ => show (i 1).val = (i 1).val % 1024; exact (Nat.mod_eq_of_lt (i 1).isLt).symm

theorem ref_y (i : S2064x1024.Idx) : val_main_v40 (F := Ideal) x0 x5 i = ∑ d : Fin 1024, (cotOf x0 x1 x2 x3 x4 x5).p (i 0).val d * (cotOf x0 x1 x2 x3 x4 x5).w (i 1).val d := by
  rw [val_main_v40_apply]
  exact Finset.sum_congr rfl fun d _ => congrArg₂ (fun a b : EReal => a * b) (ref_p x0 x1 x2 x3 x4 x5 _) (ref_w x0 x1 x2 x3 x4 x5 _)

/-! The attention heads: mean square, root, normalised rows, and gradients. -/

theorem ref_sqx (i : S2064x1.Idx) : val_main_v9 (F := Ideal) x1 i = square ((cotOf x0 x1 x2 x3 x4 x5).x (i 0).val) := by
  simp only [val_main_v9_apply, val_main_v8_apply, val_main_v7_apply, val_main_v6_apply, val_main_v5_apply, val_main_v4_apply, val_main_v3_apply, val_main_cst_apply, val_main_cst_0_apply, val_main_cst_1_apply, ref_x x0 x1 x2 x3 x4 x5, zero_bits, zero_add]
  rfl

theorem ref_rx (i : S2064x1.Idx) : val_main_v10 (F := Ideal) x1 i = rstd ((cotOf x0 x1 x2 x3 x4 x5).x (i 0).val) := by
  rw [val_main_v10_apply, ref_sqx x0 x1 x2 x3 x4 x5]
  rfl

theorem ref_ux (i : S2064x512.Idx) : val_main_v15 (F := Ideal) x1 i = (cotOf x0 x1 x2 x3 x4 x5).x (i 0).val (i 1).val * rstd ((cotOf x0 x1 x2 x3 x4 x5).x (i 0).val) := by
  simp only [val_main_v15_apply, val_main_v14_apply, ref_rx x0 x1 x2 x3 x4 x5, ref_x x0 x1 x2 x3 x4 x5]
  rfl

theorem ref_gx (i : S2064x512.Idx) : val_main_v17 (F := Ideal) x3 i = (cotOf x0 x1 x2 x3 x4 x5).gx (i 1).val := by
  simp only [val_main_v17_apply, val_main_v16_apply, val_main_v2_apply]
  refine congrArg x3 ?_
  funext a; apply Fin.ext
  match a with
  | ⟨0, _⟩ => rfl
  | ⟨1, _⟩ => rfl

theorem ref_gx' (i : S2064x512.Idx) : val_main_v67 (F := Ideal) x3 i = (cotOf x0 x1 x2 x3 x4 x5).gx (i 1).val := by
  simp only [val_main_v67_apply, val_main_v16_apply, val_main_v2_apply]
  refine congrArg x3 ?_
  funext a; apply Fin.ext
  match a with
  | ⟨0, _⟩ => rfl
  | ⟨1, _⟩ => rfl

theorem ref_nx (i : S2064x512.Idx) : val_main_v18 (F := Ideal) x1 x3 i = normed ((cotOf x0 x1 x2 x3 x4 x5).x (i 0).val) (cotOf x0 x1 x2 x3 x4 x5).gx (i 1).val := by
  rw [val_main_v18_apply, ref_ux x0 x1 x2 x3 x4 x5, ref_gx x0 x1 x2 x3 x4 x5]
  rfl

theorem ref_yx (i : S2064x512.Idx) : val_main_v41 (F := Ideal) x0 x5 i = (cotOf x0 x1 x2 x3 x4 x5).yx (i 0).val (i 1).val := by
  rw [val_main_v41_apply, ref_y x0 x1 x2 x3 x4 x5]
  rfl

theorem ref_tx (i : S2064x512.Idx) : val_main_v68 (F := Ideal) x0 x3 x5 i = (cotOf x0 x1 x2 x3 x4 x5).yx (i 0).val (i 1).val * (cotOf x0 x1 x2 x3 x4 x5).gx (i 1).val := by
  rw [val_main_v68_apply, ref_yx x0 x1 x2 x3 x4 x5, ref_gx' x0 x1 x2 x3 x4 x5]
  rfl

theorem ref_sumx (i : S2064x1.Idx) : val_main_v72 (F := Ideal) x0 x1 x3 x5 i
    = ∑ k : Fin 512, (cotOf x0 x1 x2 x3 x4 x5).x (i 0).val k * ((cotOf x0 x1 x2 x3 x4 x5).yx (i 0).val k * (cotOf x0 x1 x2 x3 x4 x5).gx k) := by
  have h1 : (i 1).val < 1 := (i 1).isLt
  have e : (i 0).val * 1 + (i 1).val = (i 0).val := by omega
  simp only [val_main_v72_apply, val_main_v71_apply, val_main_v70_apply, val_main_cst_14_apply, ref_x x0 x1 x2 x3 x4 x5, ref_tx x0 x1 x2 x3 x4 x5, zero_bits, zero_add]
  refine Finset.sum_congr rfl fun k _ => ?_
  show (cotOf x0 x1 x2 x3 x4 x5).x ((i 0).val * 1 + (i 1).val) k.val * ((cotOf x0 x1 x2 x3 x4 x5).yx ((i 0).val * 1 + (i 1).val) k.val * (cotOf x0 x1 x2 x3 x4 x5).gx k.val) = _
  rw [e]

theorem ref_slx (i : S2064x512.Idx) : val_main_v79 (F := Ideal) x0 x1 x3 x5 i
    = slope ((cotOf x0 x1 x2 x3 x4 x5).x (i 0).val) (cotOf x0 x1 x2 x3 x4 x5).gx ((cotOf x0 x1 x2 x3 x4 x5).yx (i 0).val) := by
  simp only [val_main_v79_apply, val_main_v78_apply, val_main_v77_apply, val_main_v76_apply, val_main_cst_15_apply, val_main_v75_apply, val_main_v13_apply, val_main_v12_apply, val_main_cst_2_apply, val_main_v11_apply, val_main_cst_16_apply, ref_sumx x0 x1 x2 x3 x4 x5, ref_rx x0 x1 x2 x3 x4 x5, ref_sqx x0 x1 x2 x3 x4 x5, zero_bits, zero_add, Finset.univ_unique, Finset.sum_singleton]
  rfl

theorem ref_dx (i : S2064x512.Idx) :
    val_main_v83 (F := Ideal) x0 x1 x3 x5 i = (cotOf x0 x1 x2 x3 x4 x5).dx (i 0).val (i 1).val := by
  simp only [val_main_v83_apply, val_main_v82_apply, val_main_v81_apply, val_main_v80_apply, val_main_v74_apply, val_main_v73_apply, ref_slx x0 x1 x2 x3 x4 x5, ref_tx x0 x1 x2 x3 x4 x5, ref_rx x0 x1 x2 x3 x4 x5, ref_x x0 x1 x2 x3 x4 x5]
  exact grad_eq ((cotOf x0 x1 x2 x3 x4 x5).x (i 0).val) (cotOf x0 x1 x2 x3 x4 x5).gx ((cotOf x0 x1 x2 x3 x4 x5).yx (i 0).val) _ (i 1).isLt

theorem ref_dgx (j : Fin 512) : val_main_v84 (F := Ideal) x0 x1 x5 (ix2 0 j) = over ((cotOf x0 x1 x2 x3 x4 x5).dgx j) := by
  simp only [val_main_v84_apply, val_main_v69_apply, val_main_cst_13_apply, val_main_v66_apply, val_main_v65_apply, val_main_cst_12_apply, val_main_v64_apply, ref_ux x0 x1 x2 x3 x4 x5, ref_yx x0 x1 x2 x3 x4 x5, zero_bits, zero_add, Finset.univ_unique, Finset.sum_singleton]
  rw [over, Finset.sum_range]
  refine Finset.sum_congr rfl fun n _ => (mul_comm _ _).trans ?_
  have e : 0 * 512 + j.val = j.val := by omega
  show (cotOf x0 x1 x2 x3 x4 x5).yx n.val (0 * 512 + j.val) * ((cotOf x0 x1 x2 x3 x4 x5).x n.val (0 * 512 + j.val) * rstd ((cotOf x0 x1 x2 x3 x4 x5).x n.val)) = _
  rw [e]
  rfl

/-! The other rows: mean square, root, normalised rows, and gradients. -/

theorem ref_sqs (i : S2064x1.Idx) : val_main_v26 (F := Ideal) x2 i = square ((cotOf x0 x1 x2 x3 x4 x5).s (i 0).val) := by
  simp only [val_main_v26_apply, val_main_v25_apply, val_main_v24_apply, val_main_v23_apply, val_main_v22_apply, val_main_v21_apply, val_main_v20_apply, val_main_cst_3_apply, val_main_cst_4_apply, val_main_cst_5_apply, ref_s x0 x1 x2 x3 x4 x5, zero_bits, zero_add]
  rfl

theorem ref_rs (i : S2064x1.Idx) : val_main_v27 (F := Ideal) x2 i = rstd ((cotOf x0 x1 x2 x3 x4 x5).s (i 0).val) := by
  rw [val_main_v27_apply, ref_sqs x0 x1 x2 x3 x4 x5]
  rfl

theorem ref_us (i : S2064x512.Idx) : val_main_v32 (F := Ideal) x2 i = (cotOf x0 x1 x2 x3 x4 x5).s (i 0).val (i 1).val * rstd ((cotOf x0 x1 x2 x3 x4 x5).s (i 0).val) := by
  simp only [val_main_v32_apply, val_main_v31_apply, ref_rs x0 x1 x2 x3 x4 x5, ref_s x0 x1 x2 x3 x4 x5]
  rfl

theorem ref_gs (i : S2064x512.Idx) : val_main_v34 (F := Ideal) x4 i = (cotOf x0 x1 x2 x3 x4 x5).gs (i 1).val := by
  simp only [val_main_v34_apply, val_main_v33_apply, val_main_v19_apply]
  refine congrArg x4 ?_
  funext a; apply Fin.ext
  match a with
  | ⟨0, _⟩ => rfl
  | ⟨1, _⟩ => rfl

theorem ref_gs' (i : S2064x512.Idx) : val_main_v46 (F := Ideal) x4 i = (cotOf x0 x1 x2 x3 x4 x5).gs (i 1).val := by
  simp only [val_main_v46_apply, val_main_v33_apply, val_main_v19_apply]
  refine congrArg x4 ?_
  funext a; apply Fin.ext
  match a with
  | ⟨0, _⟩ => rfl
  | ⟨1, _⟩ => rfl

theorem ref_ns (i : S2064x512.Idx) : val_main_v35 (F := Ideal) x2 x4 i = normed ((cotOf x0 x1 x2 x3 x4 x5).s (i 0).val) (cotOf x0 x1 x2 x3 x4 x5).gs (i 1).val := by
  rw [val_main_v35_apply, ref_us x0 x1 x2 x3 x4 x5, ref_gs x0 x1 x2 x3 x4 x5]
  rfl

theorem ref_ys (i : S2064x512.Idx) : val_main_v42 (F := Ideal) x0 x5 i = (cotOf x0 x1 x2 x3 x4 x5).ys (i 0).val (i 1).val := by
  rw [val_main_v42_apply, ref_y x0 x1 x2 x3 x4 x5]
  rfl

theorem ref_ts (i : S2064x512.Idx) : val_main_v47 (F := Ideal) x0 x4 x5 i = (cotOf x0 x1 x2 x3 x4 x5).ys (i 0).val (i 1).val * (cotOf x0 x1 x2 x3 x4 x5).gs (i 1).val := by
  rw [val_main_v47_apply, ref_ys x0 x1 x2 x3 x4 x5, ref_gs' x0 x1 x2 x3 x4 x5]
  rfl

theorem ref_sums (i : S2064x1.Idx) : val_main_v51 (F := Ideal) x0 x2 x4 x5 i
    = ∑ k : Fin 512, (cotOf x0 x1 x2 x3 x4 x5).s (i 0).val k * ((cotOf x0 x1 x2 x3 x4 x5).ys (i 0).val k * (cotOf x0 x1 x2 x3 x4 x5).gs k) := by
  have h1 : (i 1).val < 1 := (i 1).isLt
  have e : (i 0).val * 1 + (i 1).val = (i 0).val := by omega
  simp only [val_main_v51_apply, val_main_v50_apply, val_main_v49_apply, val_main_cst_9_apply, ref_s x0 x1 x2 x3 x4 x5, ref_ts x0 x1 x2 x3 x4 x5, zero_bits, zero_add]
  refine Finset.sum_congr rfl fun k _ => ?_
  show (cotOf x0 x1 x2 x3 x4 x5).s ((i 0).val * 1 + (i 1).val) k.val * ((cotOf x0 x1 x2 x3 x4 x5).ys ((i 0).val * 1 + (i 1).val) k.val * (cotOf x0 x1 x2 x3 x4 x5).gs k.val) = _
  rw [e]

theorem ref_sls (i : S2064x512.Idx) : val_main_v58 (F := Ideal) x0 x2 x4 x5 i
    = slope ((cotOf x0 x1 x2 x3 x4 x5).s (i 0).val) (cotOf x0 x1 x2 x3 x4 x5).gs ((cotOf x0 x1 x2 x3 x4 x5).ys (i 0).val) := by
  simp only [val_main_v58_apply, val_main_v57_apply, val_main_v56_apply, val_main_v55_apply, val_main_cst_10_apply, val_main_v54_apply, val_main_v30_apply, val_main_v29_apply, val_main_cst_6_apply, val_main_v28_apply, val_main_cst_11_apply, ref_sums x0 x1 x2 x3 x4 x5, ref_rs x0 x1 x2 x3 x4 x5, ref_sqs x0 x1 x2 x3 x4 x5, zero_bits, zero_add, Finset.univ_unique, Finset.sum_singleton]
  rfl

theorem ref_ds (i : S2064x512.Idx) :
    val_main_v62 (F := Ideal) x0 x2 x4 x5 i = (cotOf x0 x1 x2 x3 x4 x5).ds (i 0).val (i 1).val := by
  simp only [val_main_v62_apply, val_main_v61_apply, val_main_v60_apply, val_main_v59_apply, val_main_v53_apply, val_main_v52_apply, ref_sls x0 x1 x2 x3 x4 x5, ref_ts x0 x1 x2 x3 x4 x5, ref_rs x0 x1 x2 x3 x4 x5, ref_s x0 x1 x2 x3 x4 x5]
  exact grad_eq ((cotOf x0 x1 x2 x3 x4 x5).s (i 0).val) (cotOf x0 x1 x2 x3 x4 x5).gs ((cotOf x0 x1 x2 x3 x4 x5).ys (i 0).val) _ (i 1).isLt

theorem ref_dgs (j : Fin 512) : val_main_v63 (F := Ideal) x0 x2 x5 (ix2 0 j) = over ((cotOf x0 x1 x2 x3 x4 x5).dgs j) := by
  simp only [val_main_v63_apply, val_main_v48_apply, val_main_cst_8_apply, val_main_v45_apply, val_main_v44_apply, val_main_cst_7_apply, val_main_v43_apply, ref_us x0 x1 x2 x3 x4 x5, ref_ys x0 x1 x2 x3 x4 x5, zero_bits, zero_add, Finset.univ_unique, Finset.sum_singleton]
  rw [over, Finset.sum_range]
  refine Finset.sum_congr rfl fun n _ => (mul_comm _ _).trans ?_
  have e : 0 * 512 + j.val = j.val := by omega
  show (cotOf x0 x1 x2 x3 x4 x5).ys n.val (0 * 512 + j.val) * ((cotOf x0 x1 x2 x3 x4 x5).s n.val (0 * 512 + j.val) * rstd ((cotOf x0 x1 x2 x3 x4 x5).s n.val)) = _
  rw [e]
  rfl

theorem ref_cat (n : Fin 2064) (f : Fin 1024) : val_main_v36 (F := Ideal) x1 x2 x3 x4 (ix2 n f)
    = if f.val < 512 then normed ((cotOf x0 x1 x2 x3 x4 x5).x n) (cotOf x0 x1 x2 x3 x4 x5).gx f else normed ((cotOf x0 x1 x2 x3 x4 x5).s n) (cotOf x0 x1 x2 x3 x4 x5).gs (f.val - 512) := by
  have ex := fun (n : Fin 2064) (j : Fin 512) => ref_nx x0 x1 x2 x3 x4 x5 (ix2 n j)
  have es := fun (n : Fin 2064) (j : Fin 512) => ref_ns x0 x1 x2 x3 x4 x5 (ix2 n j)
  dsimp only [val_main_v36]
  generalize val_main_v18 (F := Ideal) x1 x3 = P at ex ⊢
  generalize val_main_v35 (F := Ideal) x2 x4 = Q at es ⊢
  pointwise []
  simp only [ex, es]
  split_ifs <;> rfl

theorem ref_dw (f d : Fin 1024) : val_main_v39 (F := Ideal) x0 x1 x2 x3 x4 (ix2 f d) = over ((cotOf x0 x1 x2 x3 x4 x5).dw f d) := by
  rw [val_main_v39_apply, val_main_v38_apply, over, Finset.sum_range]
  refine Finset.sum_congr rfl fun n _ => (mul_comm _ _).trans ?_
  have h : ridx_main_v38 (idx_main_v39 (ix2 f d)) n = ix2 n f := by
    funext a; match a with | ⟨0, _⟩ => rfl | ⟨1, _⟩ => rfl
  rw [h, ref_cat x0 x1 x2 x3 x4 x5, ref_p x0 x1 x2 x3 x4 x5]
  rfl

theorem ref_heads (g : Fin 8) (n : Fin 2064) (d : Fin 64) :
    val_main_v86 (F := Ideal) x0 x1 x3 x5 (ix3 g n d) = (cotOf x0 x1 x2 x3 x4 x5).dx n (64 * g + d) := by
  rw [val_main_v86_apply, val_main_v85_apply, ref_dx x0 x1 x2 x3 x4 x5]
  refine congrArg₂ (cotOf x0 x1 x2 x3 x4 x5).dx ?_ ?_
  · show ((n.val * 8 + g.val) * 64 + d.val) / 512 = n.val; omega
  · show ((n.val * 8 + g.val) * 64 + d.val) % 512 = 64 * g.val + d.val; omega

end Ref

open Cert.Kernel8Ideal.Gen

variable (m : (ℓ : Loc Cert.Kernel8Ideal.nD Cert.Kernel8Ideal.τ Cert.Kernel8Ideal.sig) → Buf (Elt Ideal) ℓ) (c : Dev Cert.Kernel8Ideal.nD)

theorem dx_eq :
    (dats m 0 c).arrAt 6 Cert.Kernel8Ideal.cfg0.N = val_main_v86 (F := Ideal) (m (c, Cert.Kernel8Ideal.main_arg0)) (m (c, Cert.Kernel8Ideal.main_arg1)) (m (c, Cert.Kernel8Ideal.main_arg3)) (m (c, Cert.Kernel8Ideal.main_arg5)) :=
  funext fun i => by
    rw [eq_ix3 i]
    exact (fun g n d => (dx_array m c g n d).trans (ref_heads _ _ _ _ _ _ g n d).symm) (i 0) (i 1) (i 2)

theorem ds_eq :
    (dats m 0 c).arrAt 7 Cert.Kernel8Ideal.cfg0.N = val_main_v62 (F := Ideal) (m (c, Cert.Kernel8Ideal.main_arg0)) (m (c, Cert.Kernel8Ideal.main_arg2)) (m (c, Cert.Kernel8Ideal.main_arg4)) (m (c, Cert.Kernel8Ideal.main_arg5)) :=
  ext2 (e := .f32) fun n j => (ds_array m c n j).trans (ref_ds _ _ _ _ _ _ (ix2 n j)).symm

theorem dw_eq : (dats m 0 c).arrAt 8 Cert.Kernel8Ideal.cfg0.N
    = val_main_v39 (F := Ideal) (m (c, Cert.Kernel8Ideal.main_arg0)) (m (c, Cert.Kernel8Ideal.main_arg1)) (m (c, Cert.Kernel8Ideal.main_arg2)) (m (c, Cert.Kernel8Ideal.main_arg3)) (m (c, Cert.Kernel8Ideal.main_arg4)) :=
  ext2 (e := .f32) fun f d => (dw_array m c f d).trans (ref_dw _ _ _ _ _ (m (c, Cert.Kernel8Ideal.main_arg5)) f d).symm

theorem dgx_eq : (dats m 0 c).arrAt 9 Cert.Kernel8Ideal.cfg0.N = val_main_v84 (F := Ideal) (m (c, Cert.Kernel8Ideal.main_arg0)) (m (c, Cert.Kernel8Ideal.main_arg1)) (m (c, Cert.Kernel8Ideal.main_arg5)) :=
  ext2 (e := .f32) fun i j => match i with
    | ⟨0, _⟩ => (dgx_array m c j).trans (ref_dgx _ _ (m (c, Cert.Kernel8Ideal.main_arg2)) (m (c, Cert.Kernel8Ideal.main_arg3)) (m (c, Cert.Kernel8Ideal.main_arg4)) _ j).symm

theorem dgs_eq : (dats m 0 c).arrAt 10 Cert.Kernel8Ideal.cfg0.N = val_main_v63 (F := Ideal) (m (c, Cert.Kernel8Ideal.main_arg0)) (m (c, Cert.Kernel8Ideal.main_arg2)) (m (c, Cert.Kernel8Ideal.main_arg5)) :=
  ext2 (e := .f32) fun i j => match i with
    | ⟨0, _⟩ => (dgs_array m c j).trans (ref_dgs _ (m (c, Cert.Kernel8Ideal.main_arg1)) _ (m (c, Cert.Kernel8Ideal.main_arg3)) (m (c, Cert.Kernel8Ideal.main_arg4)) _ j).symm

end Cert.Mix.Bwd

end
-- ==== Proof.Post.lean ====
/- The norm behind a network, added to the rows before it, and the norm in front of the next part: the kernel's two arrays after
   the run, and the reference's. -/
module

public import proofs.«01_k».proof.Proof.Mix
public import proofs.«01_k».proof.Proof.Gen.Kernel9Ideal.Value
public import proofs.«01_k».proof.Proof.Gen.Reference9Ideal.Read

@[expose] public section

set_option maxRecDepth 16384

noncomputable section

namespace Cert.Post

open Finset Idealize.ShloMosaic Idealize.ShloMosaic.TcCoe Idealize.ShloMosaic.StableHlo Cert.FFN

/-- The row's length and one half, as the programs write them. -/
def wide : EReal := Ideal.ofBits .f32 0x44800000#32
def half : EReal := Ideal.ofBits .f32 0x3F000000#32

/-- A row of 1024, normalised. -/
def rstd (x : ℕ → EReal) : EReal := Ideal.rsqrt (Ideal.div (∑ k : Fin 1024, x k * x k) wide + Mix.tiny)
def normed (x g : ℕ → EReal) (j : ℕ) : EReal := x j * rstd x * g j

/-- The network's rows, the rows before it, and the two gains. -/
structure In where
  f : ℕ → ℕ → EReal
  h : ℕ → ℕ → EReal
  gp : ℕ → EReal
  gn : ℕ → EReal

/-- The rows after the network, and their norm. -/
def In.sum (A : In) (n j : ℕ) : EReal := A.h n j + half * normed (A.f n) A.gp j
def In.next (A : In) (n j : ℕ) : EReal := normed (A.sum n) A.gn j

/-- What the argument arrays give. -/
def inOf (A0 A1 : Vec Ideal ⟨2, ![2064, 1024]⟩ .f32) (A2 A3 : Vec Ideal ⟨2, ![1, 1024]⟩ .f32) : In where
  f n j := A0 (ix2 (Fin.ofNat 2064 n) (Fin.ofNat 1024 j))
  h n j := A1 (ix2 (Fin.ofNat 2064 n) (Fin.ofNat 1024 j))
  gp j := A2 (ix2 0 (Fin.ofNat 1024 j))
  gn j := A3 (ix2 0 (Fin.ofNat 1024 j))

section Point

open Cert.Kernel9Ideal Cert.Kernel9Ideal.Gen

section Tile

variable {A : In} {o : ℕ} {x0 x1 : Vec Ideal S688x1024 .f32} {x2 x3 : Vec Ideal S1x1024 .f32}

theorem pay1 (hf : ∀ (i : Fin 688) (j : Fin 1024), x0 (ix2 i j) = A.f (o + i) j) (hh : ∀ (i : Fin 688) (j : Fin 1024), x1 (ix2 i j) = A.h (o + i) j)
    (hp : ∀ j : Fin 1024, x2 (ix2 0 j) = A.gp j) (i : Fin 688) (j : Fin 1024) :
    k0_pay1 (F := Ideal) x0 x1 x2 (ix2 i j) = A.sum (o + i) j := by
  pointwise [k0_pay1]
  simp only [hf, hh, hp]
  rfl

theorem pay2 (hf : ∀ (i : Fin 688) (j : Fin 1024), x0 (ix2 i j) = A.f (o + i) j) (hh : ∀ (i : Fin 688) (j : Fin 1024), x1 (ix2 i j) = A.h (o + i) j)
    (hp : ∀ j : Fin 1024, x2 (ix2 0 j) = A.gp j) (hn : ∀ j : Fin 1024, x3 (ix2 0 j) = A.gn j) (i : Fin 688) (j : Fin 1024) :
    k0_pay2 (F := Ideal) x0 x1 x2 x3 (ix2 i j) = A.next (o + i) j := by
  have key := pay1 (x0 := x0) (x1 := x1) (x2 := x2) hf hh hp
  dsimp only [k0_pay2]
  generalize k0_pay1 (F := Ideal) x0 x1 x2 = C at key ⊢
  pointwise []
  simp only [key, hn]
  rfl

theorem tile_sum (hf : ∀ (i : Fin 688) (j : Fin 1024), x0 (ix2 i j) = A.f (o + i) j) (hh : ∀ (i : Fin 688) (j : Fin 1024), x1 (ix2 i j) = A.h (o + i) j)
    (hp : ∀ j : Fin 1024, x2 (ix2 0 j) = A.gp j) (i : Fin 688) (j : Fin 1024) :
    out0_4 (F := Ideal) x0 x1 x2 x3 (ix2 i j) = A.sum (o + i) j :=
  (hit 0 _ _ [] i j i (Nat.zero_add _).symm).trans
    (pay1 (fun i j => (Mix.all x0 _ i j).trans (hf i j)) (fun i j => (Mix.all x1 _ i j).trans (hh i j)) (fun j => (Mix.all x2 _ 0 j).trans (hp j)) i j)

theorem tile_next (hf : ∀ (i : Fin 688) (j : Fin 1024), x0 (ix2 i j) = A.f (o + i) j) (hh : ∀ (i : Fin 688) (j : Fin 1024), x1 (ix2 i j) = A.h (o + i) j)
    (hp : ∀ j : Fin 1024, x2 (ix2 0 j) = A.gp j) (hn : ∀ j : Fin 1024, x3 (ix2 0 j) = A.gn j) (i : Fin 688) (j : Fin 1024) :
    out0_5 (F := Ideal) x0 x1 x2 x3 (ix2 i j) = A.next (o + i) j :=
  (hit 0 _ _ [] i j i (Nat.zero_add _).symm).trans
    (pay2 (fun i j => (Mix.all x0 _ i j).trans (hf i j)) (fun i j => (Mix.all x1 _ i j).trans (hh i j)) (fun j => (Mix.all x2 _ 0 j).trans (hp j))
      (fun j => (Mix.all x3 _ 0 j).trans (hn j)) i j)

end Tile

variable (m : (ℓ : Loc nD τ sig) → Buf (Elt Ideal) ℓ)

/-- The rows and gains of a device. -/
def ins (c : Dev nD) : In := inOf (m (c, main_arg0)) (m (c, main_arg1)) (m (c, main_arg2)) (m (c, main_arg3))

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)

theorem emb0 (t : Fin cfg0.N) (i : Fin 688) (j : Fin 1024) : ((cfg0.win 0).blk t).view.emb (ix2 i j) = ix2 (Fin.ofNat 2064 (688 * t.val + i)) j := by
  obtain ⟨e0, e1⟩ := idx0 t
  have ht : t.val < 3 := t.isLt
  funext a; apply Fin.ext
  match a with
  | ⟨0, _⟩ =>
    show win0_0.index t (0 : Fin 2) * 688 + 1 * i.val = _
    show _ = (688 * t.val + i.val) % 2064; omega
  | ⟨1, _⟩ =>
    show win0_0.index t (1 : Fin 2) * 1024 + 1 * j.val = _
    show _ = j.val; omega
theorem emb1 (t : Fin cfg0.N) (i : Fin 688) (j : Fin 1024) : ((cfg0.win 1).blk t).view.emb (ix2 i j) = ix2 (Fin.ofNat 2064 (688 * t.val + i)) j := by
  obtain ⟨e0, e1⟩ := idx1 t
  have ht : t.val < 3 := t.isLt
  funext a; apply Fin.ext
  match a with
  | ⟨0, _⟩ =>
    show win0_1.index t (0 : Fin 2) * 688 + 1 * i.val = _
    show _ = (688 * t.val + i.val) % 2064; omega
  | ⟨1, _⟩ =>
    show win0_1.index t (1 : Fin 2) * 1024 + 1 * j.val = _
    show _ = j.val; omega
theorem emb2 (t : Fin cfg0.N) (i : Fin 1) (j : Fin 1024) : ((cfg0.win 2).blk t).view.emb (ix2 i j) = ix2 i j := by
  obtain ⟨e0, e1⟩ := idx2 t
  have ht : t.val < 3 := t.isLt
  funext a; apply Fin.ext
  match a with
  | ⟨0, _⟩ =>
    show win0_2.index t (0 : Fin 2) * 1 + 1 * i.val = _
    show _ = i.val; omega
  | ⟨1, _⟩ =>
    show win0_2.index t (1 : Fin 2) * 1024 + 1 * j.val = _
    show _ = j.val; omega
theorem emb3 (t : Fin cfg0.N) (i : Fin 1) (j : Fin 1024) : ((cfg0.win 3).blk t).view.emb (ix2 i j) = ix2 i j := by
  obtain ⟨e0, e1⟩ := idx3 t
  have ht : t.val < 3 := t.isLt
  funext a; apply Fin.ext
  match a with
  | ⟨0, _⟩ =>
    show win0_3.index t (0 : Fin 2) * 1 + 1 * i.val = _
    show _ = i.val; omega
  | ⟨1, _⟩ =>
    show win0_3.index t (1 : Fin 2) * 1024 + 1 * j.val = _
    show _ = j.val; omega
theorem emb4 (t : Fin cfg0.N) (i : Fin 688) (j : Fin 1024) : ((cfg0.win 4).blk t).view.emb (ix2 i j) = ix2 (Fin.ofNat 2064 (688 * t.val + i)) j := by
  obtain ⟨e0, e1⟩ := idx4 t
  have ht : t.val < 3 := t.isLt
  funext a; apply Fin.ext
  match a with
  | ⟨0, _⟩ =>
    show win0_4.index t (0 : Fin 2) * 688 + 1 * i.val = _
    show _ = (688 * t.val + i.val) % 2064; omega
  | ⟨1, _⟩ =>
    show win0_4.index t (1 : Fin 2) * 1024 + 1 * j.val = _
    show _ = j.val; omega
theorem emb5 (t : Fin cfg0.N) (i : Fin 688) (j : Fin 1024) : ((cfg0.win 5).blk t).view.emb (ix2 i j) = ix2 (Fin.ofNat 2064 (688 * t.val + i)) j := by
  obtain ⟨e0, e1⟩ := idx5 t
  have ht : t.val < 3 := t.isLt
  funext a; apply Fin.ext
  match a with
  | ⟨0, _⟩ =>
    show win0_5.index t (0 : Fin 2) * 688 + 1 * i.val = _
    show _ = (688 * t.val + i.val) % 2064; omega
  | ⟨1, _⟩ =>
    show win0_5.index t (1 : Fin 2) * 1024 + 1 * j.val = _
    show _ = j.val; omega

theorem staged_f (c : Dev nD) (t : Fin cfg0.N) (i : Fin 688) (j : Fin 1024) : iblk m c 0 t (ix2 i j) = (ins m c).f (688 * t.val + i) j := by
  show V m c main_arg0 (((cfg0.win 0).blk t).view.emb (ix2 i j)) = _
  rw [emb0, V_main_arg0]
  show _ = m (c, main_arg0) (ix2 _ (Fin.ofNat 1024 j))
  rw [ofNat_val]

theorem staged_h (c : Dev nD) (t : Fin cfg0.N) (i : Fin 688) (j : Fin 1024) : iblk m c 1 t (ix2 i j) = (ins m c).h (688 * t.val + i) j := by
  show V m c main_arg1 (((cfg0.win 1).blk t).view.emb (ix2 i j)) = _
  rw [emb1, V_main_arg1]
  show _ = m (c, main_arg1) (ix2 _ (Fin.ofNat 1024 j))
  rw [ofNat_val]

theorem staged_gp (c : Dev nD) (t : Fin cfg0.N) (j : Fin 1024) : iblk m c 2 t (ix2 0 j) = (ins m c).gp j := by
  show V m c main_arg2 (((cfg0.win 2).blk t).view.emb (ix2 0 j)) = _
  rw [emb2, V_main_arg2]
  show _ = m (c, main_arg2) (ix2 0 (Fin.ofNat 1024 j))
  rw [ofNat_val]

theorem staged_gn (c : Dev nD) (t : Fin cfg0.N) (j : Fin 1024) : iblk m c 3 t (ix2 0 j) = (ins m c).gn j := by
  show V m c main_arg3 (((cfg0.win 3).blk t).view.emb (ix2 0 j)) = _
  rw [emb3, V_main_arg3]
  show _ = m (c, main_arg3) (ix2 0 (Fin.ofNat 1024 j))
  rw [ofNat_val]

/-- Row `n` of the results: point `n / 688`, row `n % 688` of its tile. -/
def pt (n : Fin 2064) : Fin cfg0.N := ⟨n.val / 688, by show _ < 3; omega⟩
def row (n : Fin 2064) : Fin 688 := ⟨n.val % 688, by omega⟩
theorem pt_row (n : Fin 2064) : 688 * (pt n).val + (row n).val = n.val := by show 688 * (n.val / 688) + n.val % 688 = _; omega

/-- The two result arrays. -/
theorem array_sum (c : Dev nD) (n : Fin 2064) (d : Fin 1024) : (dats m 0 c).arrAt 4 cfg0.N (ix2 n d) = (ins m c).sum n d := by
  have key : (dats m 0 c).arrAt 4 cfg0.N (((cfg0.win 4).blk (pt n)).view.emb (ix2 (row n) d)) = (ins m c).sum (688 * (pt n).val + row n) d :=
    (congrFun ((Value.blocks4 m c (pt n) (flush0_4 _)).trans (Value.flushed4 m c (pt n))) (ix2 (row n) d)).trans
      (tile_sum (staged_f m c (pt n)) (staged_h m c (pt n)) (staged_gp m c (pt n)) (row n) d)
  rw [emb4, pt_row, ofNat_val] at key
  exact key

theorem array_next (c : Dev nD) (n : Fin 2064) (d : Fin 1024) : (dats m 0 c).arrAt 5 cfg0.N (ix2 n d) = (ins m c).next n d := by
  have key : (dats m 0 c).arrAt 5 cfg0.N (((cfg0.win 5).blk (pt n)).view.emb (ix2 (row n) d)) = (ins m c).next (688 * (pt n).val + row n) d :=
    (congrFun ((Value.blocks5 m c (pt n) (flush0_5 _)).trans (Value.flushed5 m c (pt n))) (ix2 (row n) d)).trans
      (tile_next (staged_f m c (pt n)) (staged_h m c (pt n)) (staged_gp m c (pt n)) (staged_gn m c (pt n)) (row n) d)
  rw [emb5, pt_row, ofNat_val] at key
  exact key

end Point

section Ref

open Cert.Reference9Ideal Cert.Reference9Ideal.Gen Cert.Reference9Ideal.Read

variable (x0 x1 : Vec Ideal S2064x1024 .f32) (x2 x3 : Vec Ideal S1x1024 .f32)

theorem ref_f (i : S2064x1024.Idx) : x0 i = (inOf x0 x1 x2 x3).f (i 0).val (i 1).val := by
  refine congrArg x0 ?_
  funext a; apply Fin.ext
  match a with
  | ⟨0, _⟩ => show (i 0).val = (i 0).val % 2064; exact (Nat.mod_eq_of_lt (i 0).isLt).symm
  | ⟨1, _⟩ => show (i 1).val = (i 1).val % 1024; exact (Nat.mod_eq_of_lt (i 1).isLt).symm

theorem ref_h (i : S2064x1024.Idx) : x1 i = (inOf x0 x1 x2 x3).h (i 0).val (i 1).val := ref_f x1 x0 x2 x3 i

theorem zero_bits : (FloatOps.ofBits .f32 0x00000000#32 : Ideal .f32) = 0 := Ideal.ofBits_zero_f32

theorem ref_gp (i : S2064x1024.Idx) : val_main_v12 (F := Ideal) x2 i = (inOf x0 x1 x2 x3).gp (i 1).val := by
  simp only [val_main_v12_apply, val_main_v11_apply, val_main_v0_apply]
  refine congrArg x2 ?_
  funext a; apply Fin.ext
  match a with
  | ⟨0, _⟩ => rfl
  | ⟨1, _⟩ => rfl

theorem ref_gn (i : S2064x1024.Idx) : val_main_v29 (F := Ideal) x3 i = (inOf x0 x1 x2 x3).gn (i 1).val := by
  simp only [val_main_v29_apply, val_main_v28_apply, val_main_v17_apply]
  refine congrArg x3 ?_
  funext a; apply Fin.ext
  match a with
  | ⟨0, _⟩ => rfl
  | ⟨1, _⟩ => rfl

theorem ref_rf (i : S2064x1.Idx) : val_main_v8 (F := Ideal) x0 i = rstd ((inOf x0 x1 x2 x3).f (i 0).val) := by
  simp only [val_main_v8_apply, val_main_v7_apply, val_main_v6_apply, val_main_v5_apply, val_main_v4_apply, val_main_v3_apply, val_main_v2_apply, val_main_v1_apply, val_main_cst_apply, val_main_cst_0_apply, val_main_cst_1_apply, ref_f x0 x1 x2 x3, zero_bits, zero_add]
  rfl

theorem ref_sum (i : S2064x1024.Idx) : val_main_v16 (F := Ideal) x0 x1 x2 i = (inOf x0 x1 x2 x3).sum (i 0).val (i 1).val := by
  simp only [val_main_v16_apply, val_main_v15_apply, val_main_v14_apply, val_main_v13_apply, val_main_v10_apply, val_main_v9_apply, val_main_cst_2_apply, ref_rf x0 x1 x2 x3, ref_gp x0 x1 x2 x3]
  rw [ref_f x0 x1 x2 x3, ref_h x0 x1 x2 x3]
  rfl

theorem ref_rs (i : S2064x1.Idx) : val_main_v25 (F := Ideal) x0 x1 x2 i = rstd ((inOf x0 x1 x2 x3).sum (i 0).val) := by
  simp only [val_main_v25_apply, val_main_v24_apply, val_main_v23_apply, val_main_v22_apply, val_main_v21_apply, val_main_v20_apply, val_main_v19_apply, val_main_v18_apply, val_main_cst_3_apply, val_main_cst_4_apply, val_main_cst_5_apply, ref_sum x0 x1 x2 x3, zero_bits, zero_add]
  rfl

theorem ref_next (i : S2064x1024.Idx) : val_main_v31 (F := Ideal) x0 x1 x2 x3 i = (inOf x0 x1 x2 x3).next (i 0).val (i 1).val := by
  simp only [val_main_v31_apply, val_main_v30_apply, val_main_v27_apply, val_main_v26_apply, ref_rs x0 x1 x2 x3, ref_gn x0 x1 x2 x3, ref_sum x0 x1 x2 x3]
  rfl

end Ref

open Cert.Kernel9Ideal.Gen

variable (m : (ℓ : Loc Cert.Kernel9Ideal.nD Cert.Kernel9Ideal.τ Cert.Kernel9Ideal.sig) → Buf (Elt Ideal) ℓ) (c : Dev Cert.Kernel9Ideal.nD)

theorem sum_eq : (dats m 0 c).arrAt 4 Cert.Kernel9Ideal.cfg0.N
    = Cert.Reference9Ideal.Read.val_main_v16 (F := Ideal) (m (c, Cert.Kernel9Ideal.main_arg0)) (m (c, Cert.Kernel9Ideal.main_arg1)) (m (c, Cert.Kernel9Ideal.main_arg2)) :=
  ext2 (e := .f32) fun n d => (array_sum m c n d).trans (ref_sum _ _ _ (m (c, Cert.Kernel9Ideal.main_arg3)) (ix2 n d)).symm

theorem next_eq : (dats m 0 c).arrAt 5 Cert.Kernel9Ideal.cfg0.N
    = Cert.Reference9Ideal.Read.val_main_v31 (F := Ideal) (m (c, Cert.Kernel9Ideal.main_arg0)) (m (c, Cert.Kernel9Ideal.main_arg1)) (m (c, Cert.Kernel9Ideal.main_arg2)) (m (c, Cert.Kernel9Ideal.main_arg3)) :=
  ext2 (e := .bf16) fun n d => (array_next m c n d).trans (ref_next _ _ _ _ (ix2 n d)).symm

end Cert.Post

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite2
public import proofs.«01_k».proof.Proof.FfnFwdRef
public import proofs.«01_k».proof.Proof.FfnBwdRef
public import proofs.«01_k».proof.Proof.ProjBwdRef
public import proofs.«01_k».proof.Proof.ProjHeads
public import proofs.«01_k».proof.Proof.ProjU
public import Idealize.ShloMosaic.Adequacy
public import Idealize.ShloMosaic.Init
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.MixFwd
public import proofs.«01_k».proof.Proof.MixBwdRef
public import proofs.«01_k».proof.Proof.Post

@[expose] public section

noncomputable section

namespace Cert.Proof

open Idealize.ShloMosaic Idealize.ShloMosaic.StableHlo Idealize.SL.Sem

theorem frame_kernel : Cert.quiescent_Kernel := fun m ρ _ => Cert.Kernel.Gen.frame m ρ

theorem frame_ideal : Cert.quiescent_KernelIdeal := fun m ρ _ => Cert.KernelIdeal.Gen.frame m ρ

/-- The reference declares no semaphore, and none of its operations writes an argument. -/
theorem frame_reference : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

theorem three {α β γ δ : Type} (f : α → β → γ → δ) {a a' : α} {b b' : β} {c c' : γ} (ha : a = a') (hb : b = b') (hc : c = c') :
    f a b c = f a' b' c' := by rw [ha, hb, hc]

/-- On arguments of real numbers the kernel's gradients of q, k, v and of the bias table are the reference's. -/
theorem algebraic : Cert.algebraic_KernelIdeal_ReferenceIdeal_pre_finite := by
  intro m g m' g' hpre hargs
  have hr := fun c => Cert.NA.allReal_of_finite _ _ _ (hpre c)
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, fun c => (Cert.KernelIdeal.Gen.dats m 0 c).arrAt 8 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨h0, h1, h2, h3, ha⟩ := h c
  obtain ⟨e0, e1, e2⟩ := hargs c
  obtain ⟨r0, r1, r2⟩ := hr c
  refine ⟨?_, ?_, ?_, ?_, ha⟩
  · refine Eq.trans ?_ (Cert.NA.dq_eq m c r0 r1 r2).symm
    exact (h0.trans (Cert.ReferenceIdeal.Read.val_main_v206_eq (launchContents m' c))).trans
      (three (Cert.ReferenceIdeal.Read.val_main_v206 (F := Ideal)) e0 e1 e2)
  · refine Eq.trans ?_ (Cert.NA.dk_eq m c r0 r1 r2).symm
    exact (h1.trans (Cert.ReferenceIdeal.Read.val_main_v202_eq (launchContents m' c))).trans
      (three (Cert.ReferenceIdeal.Read.val_main_v202 (F := Ideal)) e0 e1 e2)
  · refine Eq.trans ?_ (Cert.NA.dv_eq m c r0 r1 r2).symm
    exact (h2.trans (Cert.ReferenceIdeal.Read.val_main_v198_eq (launchContents m' c))).trans
      (three (Cert.ReferenceIdeal.Read.val_main_v198 (F := Ideal)) e0 e1 e2)
  · refine Eq.trans ?_ (Cert.NA.dS_eq m c r0 r1 r2).symm
    exact (h3.trans (Cert.ReferenceIdeal.Read.val_main_v194_eq (launchContents m' c))).trans
      (three (Cert.ReferenceIdeal.Read.val_main_v194 (F := Ideal)) e0 e1 e2)

/-! The backward call of the feed-forward network. -/

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono
    (fun r h => ⟨fun c => (h c).2.2.2.2, Idealize.ShloMosaic.sem_eq_zero_of_no_sems (by decide) r.2⟩)
    (Cert.Reference2Ideal.Value.run (F := Ideal) m ρ)

theorem four {α β γ δ ε : Type} (f : α → β → γ → δ → ε) {a a' : α} {b b' : β} {c c' : γ} {d d' : δ} (ha : a = a') (hb : b = b')
    (hc : c = c') (hd : d = d') : f a b c d = f a' b' c' d' := by rw [ha, hb, hc, hd]

theorem five {α β γ δ ε ζ : Type} (f : α → β → γ → δ → ε → ζ) {a a' : α} {b b' : β} {c c' : γ} {d d' : δ} {e e' : ε} (ha : a = a')
    (hb : b = b') (hc : c = c') (hd : d = d') (he : e = e') : f a b c d e = f a' b' c' d' e' := by rw [ha, hb, hc, hd, he]

/-- On rows, up and down weights and cotangent of real numbers the kernel's gradients of the rows and of the three weight
    matrices are the reference's. -/
theorem algebraic2 : Cert.algebraic_Kernel2Ideal_Reference2Ideal_pre_finite2 := by
  intro m g m' g' hpre hargs
  have hr := fun c => Cert.FFN.Bwd.allReal_of_finite2 _ _ _ _ _ (hpre c)
  refine ⟨fun c => (Cert.Kernel2Ideal.Gen.dats m 0 c).arrAt 7 Cert.Kernel2Ideal.cfg0.N, fun c => (Cert.Kernel2Ideal.Gen.dats m 0 c).arrAt 8 Cert.Kernel2Ideal.cfg0.N,
    fun c => (Cert.Kernel2Ideal.Gen.dats m 0 c).arrAt 9 Cert.Kernel2Ideal.cfg0.N, fun c => (Cert.Kernel2Ideal.Gen.dats m 0 c).arrAt 10 Cert.Kernel2Ideal.cfg0.N,
    Cert.Kernel2Ideal.Value.run_blocks m g, ?_⟩
  refine (θ_run Cert.Reference2Ideal.defs _ _).mono (fun r h c => ?_) (Cert.Reference2Ideal.Value.run (F := Ideal) m' g')
  obtain ⟨h0, h1, h2, h3, ha⟩ := h c
  obtain ⟨e0, e1, e2, e3, e4⟩ := hargs c
  obtain ⟨r0, r2, r3, r4⟩ := hr c
  refine ⟨?_, ?_, ?_, ?_, ha⟩
  · refine Eq.trans ?_ (Cert.FFN.Bwd.dx_eq m c r0 r2 r3 r4).symm
    exact (h0.trans (Cert.Reference2Ideal.Read.val_main_v17_eq _ _ _ _ _)).trans
      (five (Cert.Reference2Ideal.Read.val_main_v17 (F := Ideal)) e0 e1 e2 e3 e4)
  · refine Eq.trans ?_ (Cert.FFN.Bwd.dwg_eq m c r0 r2 r3 r4).symm
    exact (h1.trans (Cert.Reference2Ideal.Read.val_main_v19_eq _ _ _ _ _)).trans
      (five (Cert.Reference2Ideal.Read.val_main_v19 (F := Ideal)) e0 e1 e2 e3 e4)
  · refine Eq.trans ?_ (Cert.FFN.Bwd.dwu_eq m c).symm
    exact (h2.trans (Cert.Reference2Ideal.Read.val_main_v21_eq _ _ _ _)).trans
      (four (Cert.Reference2Ideal.Read.val_main_v21 (F := Ideal)) e0 e1 e3 e4)
  · refine Eq.trans ?_ (Cert.FFN.Bwd.dwd_eq m c).symm
    exact (h3.trans (Cert.Reference2Ideal.Read.val_main_v22_eq _ _ _ _)).trans
      (four (Cert.Reference2Ideal.Read.val_main_v22 (F := Ideal)) e0 e1 e2 e4)

/-! The forward call of the feed-forward network. -/

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono
    (fun r h => ⟨fun c => (h c).2.2.2, Idealize.ShloMosaic.sem_eq_zero_of_no_sems (by decide) r.2⟩)
    (Cert.Reference3Ideal.Value.run (F := Ideal) m ρ)

/-- On any arguments the kernel's gate, up projection and output are the reference's. -/
theorem algebraic3 : Cert.algebraic_Kernel3Ideal_Reference3Ideal := by
  intro m g m' g' hpre hargs
  refine ⟨fun c => (Cert.Kernel3Ideal.Gen.dats m 0 c).arrAt 4 Cert.Kernel3Ideal.cfg0.N, fun c => (Cert.Kernel3Ideal.Gen.dats m 0 c).arrAt 5 Cert.Kernel3Ideal.cfg0.N,
    fun c => (Cert.Kernel3Ideal.Gen.dats m 0 c).arrAt 6 Cert.Kernel3Ideal.cfg0.N, Cert.Kernel3Ideal.Value.run_blocks m g, ?_⟩
  refine (θ_run Cert.Reference3Ideal.defs _ _).mono (fun r h c => ?_) (Cert.Reference3Ideal.Value.run (F := Ideal) m' g')
  obtain ⟨h0, h1, h2, ha⟩ := h c
  obtain ⟨e0, e1, e2, e3⟩ := hargs c
  refine ⟨?_, ?_, ?_, ha⟩
  · refine Eq.trans ?_ (Cert.FFN.Fwd.gate_eq m c).symm
    exact (h0.trans (Cert.Reference3Ideal.Read.val_main_v1_eq _ _)).trans
      (congrArg₂ (Cert.Reference3Ideal.Read.val_main_v1 (F := Ideal)) e0 e1)
  · refine Eq.trans ?_ (Cert.FFN.Fwd.up_eq m c).symm
    exact (h1.trans (Cert.Reference3Ideal.Read.val_main_v3_eq _ _)).trans
      (congrArg₂ (Cert.Reference3Ideal.Read.val_main_v3 (F := Ideal)) e0 e2)
  · refine Eq.trans ?_ (Cert.FFN.Fwd.out_eq m c).symm
    exact (h2.trans (Cert.Reference3Ideal.Read.val_main_v8_eq _ _ _ _)).trans
      (four (Cert.Reference3Ideal.Read.val_main_v8 (F := Ideal)) e0 e1 e2 e3)

/-! The backward call of the mixer's input projection. -/

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono
    (fun r h => ⟨fun c => (h c).2.2, Idealize.ShloMosaic.sem_eq_zero_of_no_sems (by decide) r.2⟩)
    (Cert.Reference4Ideal.Value.run (F := Ideal) m ρ)

/-- On any arguments the kernel's gradients of the rows and of the weights are the reference's. -/
theorem algebraic4 : Cert.algebraic_Kernel4Ideal_Reference4Ideal := by
  intro m g m' g' hpre hargs
  refine ⟨fun c => (Cert.Kernel4Ideal.Gen.dats m 0 c).arrAt 6 Cert.Kernel4Ideal.cfg0.N, fun c => (Cert.Kernel4Ideal.Gen.dats m 0 c).arrAt 7 Cert.Kernel4Ideal.cfg0.N,
    Cert.Kernel4Ideal.Value.run_blocks m g, ?_⟩
  refine (θ_run Cert.Reference4Ideal.defs _ _).mono (fun r h c => ?_) (Cert.Reference4Ideal.Value.run (F := Ideal) m' g')
  obtain ⟨h0, h1, ha⟩ := h c
  obtain ⟨e0, e1, e2, e3, e4, e5⟩ := hargs c
  refine ⟨?_, ?_, ha⟩
  · refine Eq.trans ?_ (Cert.Proj.Bwd.da_eq m c).symm
    exact (h0.trans (Cert.Reference4Ideal.Read.val_main_v26_eq _ _ _ _ _)).trans
      (five (Cert.Reference4Ideal.Read.val_main_v26 (F := Ideal)) e1 e2 e3 e4 e5)
  · refine Eq.trans ?_ (Cert.Proj.Bwd.dw_eq m c).symm
    exact (h1.trans (Cert.Reference4Ideal.Read.val_main_v29_eq _ _ _ _ _)).trans
      (five (Cert.Reference4Ideal.Read.val_main_v29 (F := Ideal)) e0 e2 e3 e4 e5)

/-! The forward call that projects the heads. -/

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- On any arguments the heads of queries, keys and values are the reference's. -/
theorem algebraic5 : Cert.algebraic_Kernel5Ideal_Reference5Ideal := by
  intro m g m' g' hpre hargs
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ?_) (Cert.Reference5Ideal.Value.run (F := Ideal) m' g')
  obtain ⟨h0, ha⟩ := h c
  obtain ⟨e0, e1⟩ := hargs c
  refine ⟨?_, ha⟩
  refine Eq.trans ?_ (Cert.Proj.Heads.out_eq m c).symm
  exact (h0.trans (Cert.Reference5Ideal.Read.val_main_v11_eq _ _)).trans
    (congrArg₂ (Cert.Reference5Ideal.Read.val_main_v11 (F := Ideal)) e0 e1)

/-! The forward call that projects the last columns. -/

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- On any arguments the last 512 columns of the projection are the reference's. -/
theorem algebraic6 : Cert.algebraic_Kernel6Ideal_Reference6Ideal := by
  intro m g m' g' hpre hargs
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ?_) (Cert.Reference6Ideal.Value.run (F := Ideal) m' g')
  obtain ⟨h0, ha⟩ := h c
  obtain ⟨e0, e1⟩ := hargs c
  refine ⟨?_, ha⟩
  refine Eq.trans ?_ (Cert.Proj.U.out_eq m c).symm
  exact (h0.trans (Cert.Reference6Ideal.Read.val_main_v10_eq _ _)).trans
    (congrArg₂ (Cert.Reference6Ideal.Read.val_main_v10 (F := Ideal)) e0 e1)

/-! The forward call of the mixer's output. -/

theorem frame_kernel7 : Cert.quiescent_Kernel7 := fun m ρ _ => Cert.Kernel7.Gen.frame m ρ

theorem frame_ideal7 : Cert.quiescent_Kernel7Ideal := fun m ρ _ => Cert.Kernel7Ideal.Gen.frame m ρ

theorem frame_reference7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- On any arguments the mixer's output is the reference's. -/
theorem algebraic7 : Cert.algebraic_Kernel7Ideal_Reference7Ideal := by
  intro m g m' g' hpre hargs
  refine ⟨fun c => (Cert.Kernel7Ideal.Gen.dats m 0 c).arrAt 5 Cert.Kernel7Ideal.cfg0.N, Cert.Kernel7Ideal.Value.run_blocks m g, ?_⟩
  refine (θ_run Cert.Reference7Ideal.defs _ _).mono (fun r h c => ?_) (Cert.Reference7Ideal.Value.run (F := Ideal) m' g')
  obtain ⟨h0, ha⟩ := h c
  obtain ⟨e0, e1, e2, e3, e4⟩ := hargs c
  refine ⟨?_, ha⟩
  refine Eq.trans ?_ (Cert.Mix.Fwd.out_eq m c).symm
  exact (h0.trans (Cert.Reference7Ideal.Read.val_main_v31_eq _ _ _ _ _)).trans
    (five (Cert.Reference7Ideal.Read.val_main_v31 (F := Ideal)) e0 e1 e2 e3 e4)

/-! The backward call of the mixer's output. -/

theorem frame_kernel8 : Cert.quiescent_Kernel8 := fun m ρ _ => Cert.Kernel8.Gen.frame m ρ

theorem frame_ideal8 : Cert.quiescent_Kernel8Ideal := fun m ρ _ => Cert.Kernel8Ideal.Gen.frame m ρ

theorem frame_reference8 : Cert.quiescent_Reference8Ideal := fun m ρ _ =>
  (θ_run Cert.Reference8Ideal.defs _ _).mono
    (fun r h => ⟨fun c => (h c).2.2.2.2.2, Idealize.ShloMosaic.sem_eq_zero_of_no_sems (by decide) r.2⟩)
    (Cert.Reference8Ideal.Value.run (F := Ideal) m ρ)

/-- On any arguments the kernel's gradients of the heads, of the other rows, of the weights and of the two gains are
    the reference's. -/
theorem algebraic8 : Cert.algebraic_Kernel8Ideal_Reference8Ideal := by
  intro m g m' g' hpre hargs
  refine ⟨fun c => (Cert.Kernel8Ideal.Gen.dats m 0 c).arrAt 6 Cert.Kernel8Ideal.cfg0.N, fun c => (Cert.Kernel8Ideal.Gen.dats m 0 c).arrAt 7 Cert.Kernel8Ideal.cfg0.N,
    fun c => (Cert.Kernel8Ideal.Gen.dats m 0 c).arrAt 8 Cert.Kernel8Ideal.cfg0.N, fun c => (Cert.Kernel8Ideal.Gen.dats m 0 c).arrAt 9 Cert.Kernel8Ideal.cfg0.N,
    fun c => (Cert.Kernel8Ideal.Gen.dats m 0 c).arrAt 10 Cert.Kernel8Ideal.cfg0.N, Cert.Kernel8Ideal.Value.run_blocks m g, ?_⟩
  refine (θ_run Cert.Reference8Ideal.defs _ _).mono (fun r h c => ?_) (Cert.Reference8Ideal.Value.run (F := Ideal) m' g')
  obtain ⟨h0, h1, h2, h3, h4, ha⟩ := h c
  obtain ⟨e0, e1, e2, e3, e4, e5⟩ := hargs c
  refine ⟨?_, ?_, ?_, ?_, ?_, ha⟩
  · refine Eq.trans ?_ (Cert.Mix.Bwd.dx_eq m c).symm
    exact (h0.trans (Cert.Reference8Ideal.Read.val_main_v86_eq m' c)).trans
      (four (Cert.Reference8Ideal.Read.val_main_v86 (F := Ideal)) e0 e1 e3 e5)
  · refine Eq.trans ?_ (Cert.Mix.Bwd.ds_eq m c).symm
    exact (h1.trans (Cert.Reference8Ideal.Read.val_main_v62_eq m' c)).trans
      (four (Cert.Reference8Ideal.Read.val_main_v62 (F := Ideal)) e0 e2 e4 e5)
  · refine Eq.trans ?_ (Cert.Mix.Bwd.dw_eq m c).symm
    exact (h2.trans (Cert.Reference8Ideal.Read.val_main_v39_eq _ _ _ _ _)).trans
      (five (Cert.Reference8Ideal.Read.val_main_v39 (F := Ideal)) e0 e1 e2 e3 e4)
  · refine Eq.trans ?_ (Cert.Mix.Bwd.dgx_eq m c).symm
    exact (h3.trans (Cert.Reference8Ideal.Read.val_main_v84_eq _ _ _)).trans
      (three (Cert.Reference8Ideal.Read.val_main_v84 (F := Ideal)) e0 e1 e5)
  · refine Eq.trans ?_ (Cert.Mix.Bwd.dgs_eq m c).symm
    exact (h4.trans (Cert.Reference8Ideal.Read.val_main_v63_eq _ _ _)).trans
      (three (Cert.Reference8Ideal.Read.val_main_v63 (F := Ideal)) e0 e2 e5)

/-! The forward call of the norm behind a network and of the norm in front of the next part. -/

theorem frame_kernel9 : Cert.quiescent_Kernel9 := fun m ρ _ => Cert.Kernel9.Gen.frame m ρ

theorem frame_ideal9 : Cert.quiescent_Kernel9Ideal := fun m ρ _ => Cert.Kernel9Ideal.Gen.frame m ρ

theorem frame_reference9 : Cert.quiescent_Reference9Ideal := fun m ρ _ =>
  (θ_run Cert.Reference9Ideal.defs _ _).mono
    (fun r h => ⟨fun c => (h c).2.2, Idealize.ShloMosaic.sem_eq_zero_of_no_sems (by decide) r.2⟩)
    (Cert.Reference9Ideal.Value.run (F := Ideal) m ρ)

/-- On any arguments the rows after the network and their norm are the reference's. -/
theorem algebraic9 : Cert.algebraic_Kernel9Ideal_Reference9Ideal := by
  intro m g m' g' hpre hargs
  refine ⟨fun c => (Cert.Kernel9Ideal.Gen.dats m 0 c).arrAt 4 Cert.Kernel9Ideal.cfg0.N, fun c => (Cert.Kernel9Ideal.Gen.dats m 0 c).arrAt 5 Cert.Kernel9Ideal.cfg0.N,
    Cert.Kernel9Ideal.Value.run_blocks m g, ?_⟩
  refine (θ_run Cert.Reference9Ideal.defs _ _).mono (fun r h c => ?_) (Cert.Reference9Ideal.Value.run (F := Ideal) m' g')
  obtain ⟨h0, h1, ha⟩ := h c
  obtain ⟨e0, e1, e2, e3⟩ := hargs c
  refine ⟨?_, ?_, ha⟩
  · refine Eq.trans ?_ (Cert.Post.sum_eq m c).symm
    exact (h0.trans (Cert.Reference9Ideal.Read.val_main_v16_eq _ _ _)).trans
      (three (Cert.Reference9Ideal.Read.val_main_v16 (F := Ideal)) e0 e1 e2)
  · refine Eq.trans ?_ (Cert.Post.next_eq m c).symm
    exact (h1.trans (Cert.Reference9Ideal.Read.val_main_v31_eq _ _ _ _)).trans
      (four (Cert.Reference9Ideal.Read.val_main_v31 (F := Ideal)) e0 e1 e2 e3)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts,
    Cert.Kernel8Ideal.Gen.facts, Cert.Reference8Ideal.Gen.facts, Cert.Kernel9.Gen.facts, Cert.Kernel9Ideal.Gen.facts,
    Cert.Reference9Ideal.Gen.facts, Cert.NA.finite_facts, Cert.Pre_finite2.Gen.facts,
    frame_kernel, frame_ideal, fun m ρ _ => frame_ideal m ρ trivial, frame_reference, fun m ρ _ => frame_reference m ρ trivial,
    frame_kernel2, frame_ideal2, fun m ρ _ => frame_ideal2 m ρ trivial, frame_reference2, fun m ρ _ => frame_reference2 m ρ trivial,
    frame_kernel3, frame_ideal3, frame_reference3, frame_kernel4, frame_ideal4, frame_reference4, frame_kernel5, frame_ideal5,
    frame_reference5, frame_kernel6, frame_ideal6, frame_reference6,
    frame_kernel7, frame_ideal7, frame_reference7,
    frame_kernel8, frame_ideal8, frame_reference8, frame_kernel9, frame_ideal9, frame_reference9,
    preserves, algebraic, trivial, algebraic2, trivial, algebraic3, trivial, algebraic4, trivial, algebraic5, trivial, algebraic6, trivial, algebraic7, trivial,
    algebraic8, trivial, algebraic9⟩

end Cert.Proof

end
